-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v14)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v28)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v28) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v29) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v14)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v14) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v14_0)) (v1 : (c : Dev Cert.Kernel17Ideal.nD) → Buf (Elt Ideal) ((c.tc : Thread Cert.Kernel17Ideal.nD Cert.Kernel17Ideal.τ).loc Cert.Kernel17Ideal.main_v14_1)) (v2 : (c : Dev Cert.Kernel17Ideal.nD) → Buf (Elt Ideal) ((c.tc : Thread Cert.Kernel17Ideal.nD Cert.Kernel17Ideal.τ).loc Cert.Kernel17Ideal.main_v14_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v14_0) = v0 c
          ∧ r.2.mem ((c.tc : Thread Cert.Kernel17Ideal.nD Cert.Kernel17Ideal.τ).loc Cert.Kernel17Ideal.main_v14_1) = v1 c
          ∧ r.2.mem ((c.tc : Thread Cert.Kernel17Ideal.nD Cert.Kernel17Ideal.τ).loc Cert.Kernel17Ideal.main_v14_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v22) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v109) = v0 c
          ∧ r.2.mem ((c.tc : Thread Cert.Reference18Ideal.nD Cert.Reference18Ideal.τ).loc Cert.Reference18Ideal.main_v104) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v105) = v0 c
          ∧ r.2.mem ((c.tc : Thread Cert.Reference19Ideal.nD Cert.Reference19Ideal.τ).loc Cert.Reference19Ideal.main_v100) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v78) = v0 c
          ∧ r.2.mem ((c.tc : Thread Cert.Reference20Ideal.nD Cert.Reference20Ideal.τ).loc Cert.Reference20Ideal.main_v73) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v26) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v19) = v0 c
          ∧ r.2.mem ((c.tc : Thread Cert.Reference22Ideal.nD Cert.Reference22Ideal.τ).loc Cert.Reference22Ideal.main_v11) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v43) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v41) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v31) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg1) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel28 : Cert.Kernel28.Facts) (hKernel28Ideal : Cert.Kernel28Ideal.Facts) (hReference28Ideal : Cert.Reference28Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel28_Kernel28Ideal
    ∧ algebraic_Kernel28Ideal_Reference28Ideal (hKernel28Ideal := hKernel28Ideal) (hReference28Ideal := hReference28Ideal)
-- ==== Kernel.lean ====
abbrev S8x65x128x128 : Shape := ⟨4, ![8, 65, 128, 128]⟩
abbrev S8x65x64x64 : Shape := ⟨4, ![8, 65, 64, 64]⟩
abbrev S4160x1024 : Shape := ⟨2, ![4160, 1024]⟩
abbrev S4160x8 : Shape := ⟨2, ![4160, 8]⟩
abbrev S8x4160 : Shape := ⟨2, ![8, 4160]⟩
abbrev S8x65x1x64 : Shape := ⟨4, ![8, 65, 1, 64]⟩
abbrev S8x1x128x128 : Shape := ⟨4, ![8, 1, 128, 128]⟩
abbrev S8x1x64x64 : Shape := ⟨4, ![8, 1, 64, 64]⟩
abbrev S64x1024 : Shape := ⟨2, ![64, 1024]⟩
abbrev S8x1x1x64 : Shape := ⟨4, ![8, 1, 1, 64]⟩
abbrev S8x128x128 : Shape := ⟨3, ![8, 128, 128]⟩
abbrev S64x128 : Shape := ⟨2, ![64, 128]⟩
abbrev S1x1x1x64 : Shape := ⟨4, ![1, 1, 1, 64]⟩
abbrev S1x64 : Shape := ⟨2, ![1, 64]⟩
abbrev S1x64x128 : Shape := ⟨3, ![1, 64, 128]⟩
abbrev S8x64x128 : Shape := ⟨3, ![8, 64, 128]⟩
abbrev S1x1x64 : Shape := ⟨3, ![1, 1, 64]⟩
abbrev S8x1x64 : Shape := ⟨3, ![8, 1, 64]⟩
abbrev S8x64x64 : Shape := ⟨3, ![8, 64, 64]⟩
abbrev S64x64 : Shape := ⟨2, ![64, 64]⟩
abbrev S1x64x64 : Shape := ⟨3, ![1, 64, 64]⟩
abbrev S8x64 : Shape := ⟨2, ![8, 64]⟩
abbrev S8x64x1 : Shape := ⟨3, ![8, 64, 1]⟩
abbrev S8x1 : Shape := ⟨2, ![8, 1]⟩
abbrev S8x1x1 : Shape := ⟨3, ![8, 1, 1]⟩
abbrev S8 : Shape := ⟨1, ![8]⟩

abbrev nBuf : Space → Nat
  | .hbm => 17
  | .vmem => 27
  | .smem => 0
  | _ => 0

abbrev bufTy : (tb : Table) → Fin (tcTables nBuf tb) → BufTy
  | .hbm, ⟨0, _⟩ => ⟨S8x65x128x128, .f32⟩
  | .hbm, ⟨1, _⟩ => ⟨S8x65x64x64, .f32⟩
  | .hbm, ⟨2, _⟩ => ⟨S4160x1024, .f32⟩
  | .hbm, ⟨3, _⟩ => ⟨S4160x1024, .f32⟩
  | .hbm, ⟨4, _⟩ => ⟨S4160x1024, .f32⟩
  | .hbm, ⟨5, _⟩ => ⟨S4160x8, .f32⟩
  | .hbm, ⟨6, _⟩ => ⟨S4160x8, .f32⟩
  | .hbm, ⟨7, _⟩ => ⟨S4160x1024, .f32⟩
  | .hbm, ⟨8, _⟩ => ⟨S8x4160, .f32⟩
  | .hbm, ⟨9, _⟩ => ⟨S8x65x1x64, .f32⟩
  | .hbm, ⟨10, _⟩ => ⟨S8x4160, .f32⟩
  | .hbm, ⟨11, _⟩ => ⟨S8x65x1x64, .f32⟩
  | .hbm, ⟨12, _⟩ => ⟨S4160x1024, .f32⟩
  | .hbm, ⟨13, _⟩ => ⟨S4160x1024, .f32⟩
  | .hbm, ⟨14, _⟩ => ⟨S4160x1024, .f32⟩
  | .hbm, ⟨15, _⟩ => ⟨S8x65x1x64, .f32⟩
  | .hbm, ⟨16, _⟩ => ⟨S8x65x1x64, .f32⟩
  | .local _ .vmem, ⟨0, _⟩ => ⟨S8x1x128x128, .f32⟩
  | .local _ .vmem, ⟨1, _⟩ => ⟨S8x1x128x128, .f32⟩
  | .local _ .vmem, ⟨2, _⟩ => ⟨S8x1x64x64, .f32⟩
  | .local _ .vmem, ⟨3, _⟩ => ⟨S8x1x64x64, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x1x1x64, .f32⟩
  | .local _ .vmem, ⟨11, _⟩ => ⟨S8x1x1x64, .f32⟩
  | .local _ .vmem, ⟨12, _⟩ => ⟨S8x1x1x64, .f32⟩
  | .local _ .vmem, ⟨13, _⟩ => ⟨S8x1x1x64, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S8x1x1x64, .f32⟩
  | .local _ .vmem, ⟨23, _⟩ => ⟨S8x1x1x64, .f32⟩
  | .local _ .vmem, ⟨24, _⟩ => ⟨S8x1x1x64, .f32⟩
  | .local _ .vmem, ⟨25, _⟩ => ⟨S8x1x1x64, .f32⟩
  | .local _ .vmem, ⟨26, _⟩ => ⟨S8x128x128, .f32⟩
  | _, _ => ⟨S8x65x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![1, 65], ![false, false]⟩

def cc0_transform_0 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let v1 : BitVec 32 := Scalar.addi arg0 c0_i32
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let v1 : BitVec 32 := Scalar.addi arg0 c0_i32
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let v1 : BitVec 32 := Scalar.addi arg0 c0_i32
  let c0_i32_0 : BitVec 32 := 0#32
  ![v0.toNat, v1.toNat]

def cc0_transform_5 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_11 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S8x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x1x1x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1x1x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8x65x128x128 : Shape := ⟨4, ![8, 65, 128, 128]⟩
abbrev S8x65x64x64 : Shape := ⟨4, ![8, 65, 64, 64]⟩
abbrev S4160x1024 : Shape := ⟨2, ![4160, 1024]⟩
abbrev S4160x8 : Shape := ⟨2, ![4160, 8]⟩
abbrev S65x8x128x128 : Shape := ⟨4, ![65, 8, 128, 128]⟩
abbrev S65x8x64x64 : Shape := ⟨4, ![65, 8, 64, 64]⟩
abbrev S65x64x8x128 : Shape := ⟨4, ![65, 64, 8, 128]⟩
abbrev S65x8x64x128 : Shape := ⟨4, ![65, 8, 64, 128]⟩
abbrev S65x64x8 : Shape := ⟨3, ![65, 64, 8]⟩
abbrev S65x8x64 : Shape := ⟨3, ![65, 8, 64]⟩
abbrev S_ : Shape := ⟨0, ![]⟩
abbrev S8x128x128 : Shape := ⟨3, ![8, 128, 128]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S1x8x64x128 : Shape := ⟨4, ![1, 8, 64, 128]⟩
abbrev S8x64x128 : Shape := ⟨3, ![8, 64, 128]⟩
abbrev S1x8x64 : Shape := ⟨3, ![1, 8, 64]⟩
abbrev S8x64 : Shape := ⟨2, ![8, 64]⟩
abbrev S8x64x1 : Shape := ⟨3, ![8, 64, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x64 : Shape := ⟨3, ![8, 1, 64]⟩
abbrev S8x1 : Shape := ⟨2, ![8, 1]⟩
abbrev S8 : Shape := ⟨1, ![8]⟩
abbrev S8x1x1 : Shape := ⟨3, ![8, 1, 1]⟩
abbrev S8x128x64 : Shape := ⟨3, ![8, 128, 64]⟩
abbrev S8x65x64 : Shape := ⟨3, ![8, 65, 64]⟩
abbrev S8x65x1x64 : Shape := ⟨4, ![8, 65, 1, 64]⟩

abbrev nBuf : Space → Nat
  | .hbm => 345
  | .vmem => 0
  | .smem => 0
  | _ => 0

abbrev hbmTy0_0 (i : Nat) : BufTy := match i % 128 with
  | 0 => ⟨S8x65x128x128, .f32⟩
  | 1 => ⟨S8x65x64x64, .f32⟩
  | 2 => ⟨S4160x1024, .f32⟩
  | 3 => ⟨S4160x1024, .f32⟩
  | 4 => ⟨S4160x1024, .f32⟩
  | 5 => ⟨S4160x8, .f32⟩
  | 6 => ⟨S4160x8, .f32⟩
  | 7 => ⟨S4160x1024, .f32⟩
  | 8 => ⟨S65x8x128x128, .f32⟩
  | 9 => ⟨S65x8x64x64, .f32⟩
  | 10 => ⟨S65x64x8x128, .f32⟩
  | 11 => ⟨S65x8x64x128, .f32⟩
  | 12 => ⟨S65x64x8x128, .f32⟩
  | 13 => ⟨S65x8x64x128, .f32⟩
  | 14 => ⟨S65x64x8x128, .f32⟩
  | 15 => ⟨S65x8x64x128, .f32⟩
  | 16 => ⟨S65x64x8, .f32⟩
  | 17 => ⟨S65x8x64, .f32⟩
  | 18 => ⟨S65x64x8, .f32⟩
  | 19 => ⟨S65x8x64, .f32⟩
  | 20 => ⟨S65x64x8x128, .f32⟩
  | 21 => ⟨S65x8x64x128, .f32⟩
  | 22 => ⟨S_, .f32⟩
  | 23 => ⟨S8x128x128, .f32⟩
  | 24 => ⟨S_, .f32⟩
  | 25 => ⟨S65x8x64x128, .f32⟩
  | 26 => ⟨S_, .f32⟩
  | 27 => ⟨S65x8x64x128, .f32⟩
  | 28 => ⟨S_, .f32⟩
  | 29 => ⟨S65x8x64x128, .f32⟩
  | 30 => ⟨S_, .f32⟩
  | 31 => ⟨S65x8x64, .f32⟩
  | 32 => ⟨S_, .f32⟩
  | 33 => ⟨S65x8x64, .f32⟩
  | 34 => ⟨S_, .i32⟩
  | 35 => ⟨S65x8x128x128, .f32⟩
  | 36 => ⟨S65x8x64x64, .f32⟩
  | 37 => ⟨S65x8x64x128, .f32⟩
  | 38 => ⟨S65x8x64x128, .f32⟩
  | 39 => ⟨S65x8x64x128, .f32⟩
  | 40 => ⟨S65x8x64, .f32⟩
  | 41 => ⟨S65x8x64, .f32⟩
  | 42 => ⟨S65x8x64x128, .f32⟩
  | 43 => ⟨S_, .i32⟩
  | 44 => ⟨S8x128x128, .f32⟩
  | 45 => ⟨S65x8x64x128, .f32⟩
  | 46 => ⟨S65x8x64x128, .f32⟩
  | 47 => ⟨S65x8x64x128, .f32⟩
  | 48 => ⟨S65x8x64, .f32⟩
  | 49 => ⟨S65x8x64, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S1x8x128x128, .f32⟩
  | 60 => ⟨S8x128x128, .f32⟩
  | 61 => ⟨S_, .i32⟩
  | 62 => ⟨S_, .i32⟩
  | 63 => ⟨S_, .i32⟩
  | 64 => ⟨S1x8x64x64, .f32⟩
  | 65 => ⟨S8x64x64, .f32⟩
  | 66 => ⟨S_, .i32⟩
  | 67 => ⟨S_, .i32⟩
  | 68 => ⟨S_, .i32⟩
  | 69 => ⟨S1x8x64x128, .f32⟩
  | 70 => ⟨S8x64x128, .f32⟩
  | 71 => ⟨S_, .i32⟩
  | 72 => ⟨S_, .i32⟩
  | 73 => ⟨S_, .i32⟩
  | 74 => ⟨S1x8x64x128, .f32⟩
  | 75 => ⟨S8x64x128, .f32⟩
  | 76 => ⟨S_, .i32⟩
  | 77 => ⟨S_, .i32⟩
  | 78 => ⟨S_, .i32⟩
  | 79 => ⟨S1x8x64x128, .f32⟩
  | 80 => ⟨S8x64x128, .f32⟩
  | 81 => ⟨S_, .i32⟩
  | 82 => ⟨S_, .i32⟩
  | 83 => ⟨S1x8x64, .f32⟩
  | 84 => ⟨S8x64, .f32⟩
  | 85 => ⟨S_, .i32⟩
  | 86 => ⟨S_, .i32⟩
  | 87 => ⟨S1x8x64, .f32⟩
  | 88 => ⟨S8x64, .f32⟩
  | 89 => ⟨S_, .i32⟩
  | 90 => ⟨S_, .i32⟩
  | 91 => ⟨S_, .i32⟩
  | 92 => ⟨S1x8x64x128, .f32⟩
  | 93 => ⟨S8x64x128, .f32⟩
  | 94 => ⟨S_, .f32⟩
  | 95 => ⟨S_, .f32⟩
  | 96 => ⟨S8x64, .f32⟩
  | 97 => ⟨S8x64x1, .f32⟩
  | 98 => ⟨S8x64x128, .f32⟩
  | 99 => ⟨S8x64x128, .f32⟩
  | 100 => ⟨S8x64x1, .f32⟩
  | 101 => ⟨S8x64x128, .f32⟩
  | 102 => ⟨S8x64x128, .f32⟩
  | 103 => ⟨S64, .i32⟩
  | 104 => ⟨S64x1, .i32⟩
  | 105 => ⟨S1x64, .i32⟩
  | 106 => ⟨S64x64, .i32⟩
  | 107 => ⟨S64x64, .i32⟩
  | 108 => ⟨S64x64, .i1⟩
  | 109 => ⟨S64x1, .i32⟩
  | 110 => ⟨S1x64, .i32⟩
  | 111 => ⟨S64x64, .i32⟩
  | 112 => ⟨S64x64, .i32⟩
  | 113 => ⟨S64x64, .i1⟩
  | 114 => ⟨S8x64x1, .f32⟩
  | 115 => ⟨S8x1x64, .f32⟩
  | 116 => ⟨S8x64x64, .f32⟩
  | 117 => ⟨S8x64x64, .f32⟩
  | 118 => ⟨S8x64x64, .f32⟩
  | 119 => ⟨S_, .f32⟩
  | 120 => ⟨S_, .f32⟩
  | 121 => ⟨S8x64x64, .i1⟩
  | 122 => ⟨S8x64x64, .f32⟩
  | 123 => ⟨S8x64x64, .f32⟩
  | 124 => ⟨S_, .f32⟩
  | 125 => ⟨S8x64x64, .f32⟩
  | 126 => ⟨S8x64x64, .f32⟩
  | 127 => ⟨S_, .f32⟩
  | _ => ⟨S8x65x128x128, .f32⟩

abbrev hbmTy0_1 (i : Nat) : BufTy := match i % 128 with
  | 0 => ⟨S_, .f32⟩
  | 1 => ⟨S8x64x64, .i1⟩
  | 2 => ⟨S8x64x64, .f32⟩
  | 3 => ⟨S8x64x64, .f32⟩
  | 4 => ⟨S_, .f32⟩
  | 5 => ⟨S8x64x64, .f32⟩
  | 6 => ⟨S8x64x64, .f32⟩
  | 7 => ⟨S8x64x64, .f32⟩
  | 8 => ⟨S_, .f32⟩
  | 9 => ⟨S_, .f32⟩
  | 10 => ⟨S8x64x64, .i1⟩
  | 11 => ⟨S8x64x64, .f32⟩
  | 12 => ⟨S8x64x64, .f32⟩
  | 13 => ⟨S_, .f32⟩
  | 14 => ⟨S8x64x64, .f32⟩
  | 15 => ⟨S8x64x128, .f32⟩
  | 16 => ⟨S8x64, .f32⟩
  | 17 => ⟨S8x64x1, .f32⟩
  | 18 => ⟨S8x64x128, .f32⟩
  | 19 => ⟨S8x64x128, .f32⟩
  | 20 => ⟨S8x64x128, .f32⟩
  | 21 => ⟨S8x64x64, .f32⟩
  | 22 => ⟨S8x64x64, .f32⟩
  | 23 => ⟨S8x64, .f32⟩
  | 24 => ⟨S8x64x1, .f32⟩
  | 25 => ⟨S8x64x128, .f32⟩
  | 26 => ⟨S8x64x128, .f32⟩
  | 27 => ⟨S8x1, .f32⟩
  | 28 => ⟨S8, .f32⟩
  | 29 => ⟨S8x1, .f32⟩
  | 30 => ⟨S8x64, .f32⟩
  | 31 => ⟨S8x64, .f32⟩
  | 32 => ⟨S8x64, .f32⟩
  | 33 => ⟨S8x64x1, .f32⟩
  | 34 => ⟨S8x64x128, .f32⟩
  | 35 => ⟨S8x64x128, .f32⟩
  | 36 => ⟨S8x64x128, .f32⟩
  | 37 => ⟨S8x64x128, .f32⟩
  | 38 => ⟨S8x64x128, .f32⟩
  | 39 => ⟨S8x64x128, .f32⟩
  | 40 => ⟨S8x64x128, .f32⟩
  | 41 => ⟨S8, .f32⟩
  | 42 => ⟨S8x1x1, .f32⟩
  | 43 => ⟨S8x128x128, .f32⟩
  | 44 => ⟨S8x128x128, .f32⟩
  | 45 => ⟨S8x128x128, .f32⟩
  | 46 => ⟨S8x128x128, .f32⟩
  | 47 => ⟨S8x128x64, .f32⟩
  | 48 => ⟨S8x64x128, .f32⟩
  | 49 => ⟨S8x128x64, .f32⟩
  | 50 => ⟨S8x64x128, .f32⟩
  | 51 => ⟨S8x128x128, .f32⟩
  | 52 => ⟨S_, .f32⟩
  | 53 => ⟨S8, .f32⟩
  | 54 => ⟨S8x1x1, .f32⟩
  | 55 => ⟨S8x128x128, .f32⟩
  | 56 => ⟨S8x128x128, .f32⟩
  | 57 => ⟨S_, .f32⟩
  | 58 => ⟨S8, .f32⟩
  | 59 => ⟨S8, .f32⟩
  | 60 => ⟨S8x128x64, .f32⟩
  | 61 => ⟨S8x64x128, .f32⟩
  | 62 => ⟨S8x64x128, .f32⟩
  | 63 => ⟨S8x64x64, .f32⟩
  | 64 => ⟨S8x128x128, .f32⟩
  | 65 => ⟨S8x128x128, .f32⟩
  | 66 => ⟨S8x128x128, .f32⟩
  | 67 => ⟨S8x64x128, .f32⟩
  | 68 => ⟨S8x64x128, .f32⟩
  | 69 => ⟨S8x128x128, .f32⟩
  | 70 => ⟨S8x128x128, .f32⟩
  | 71 => ⟨S8x128x128, .f32⟩
  | 72 => ⟨S8x64x128, .f32⟩
  | 73 => ⟨S8x64x128, .f32⟩
  | 74 => ⟨S_, .f32⟩
  | 75 => ⟨S8x64, .f32⟩
  | 76 => ⟨S8x64x1, .f32⟩
  | 77 => ⟨S8x64x128, .f32⟩
  | 78 => ⟨S8x64x128, .f32⟩
  | 79 => ⟨S_, .f32⟩
  | 80 => ⟨S8x64, .f32⟩
  | 81 => ⟨S8x64, .f32⟩
  | 82 => ⟨S_, .f32⟩
  | 83 => ⟨S8, .f32⟩
  | 84 => ⟨S8x1, .f32⟩
  | 85 => ⟨S8x64, .f32⟩
  | 86 => ⟨S_, .f32⟩
  | 87 => ⟨S8, .f32⟩
  | 88 => ⟨S8, .f32⟩
  | 89 => ⟨S8x1, .f32⟩
  | 90 => ⟨S_, .f32⟩
  | 91 => ⟨S8x64, .f32⟩
  | 92 => ⟨S8x64, .f32⟩
  | 93 => ⟨S8x64x128, .f32⟩
  | 94 => ⟨S_, .f32⟩
  | 95 => ⟨S8x64, .f32⟩
  | 96 => ⟨S8x64x1, .f32⟩
  | 97 => ⟨S8x64x128, .f32⟩
  | 98 => ⟨S8x64x128, .f32⟩
  | 99 => ⟨S_, .f32⟩
  | 100 => ⟨S8x64, .f32⟩
  | 101 => ⟨S8x64, .f32⟩
  | 102 => ⟨S8x64, .f32⟩
  | 103 => ⟨S8x64x64, .f32⟩
  | 104 => ⟨S8x64x64, .f32⟩
  | 105 => ⟨S8x64x128, .f32⟩
  | 106 => ⟨S8x64x128, .f32⟩
  | 107 => ⟨S8x64x128, .f32⟩
  | 108 => ⟨S8x64x128, .f32⟩
  | 109 => ⟨S8x128x64, .f32⟩
  | 110 => ⟨S8x64x128, .f32⟩
  | 111 => ⟨S8x64x64, .f32⟩
  | 112 => ⟨S8x64x128, .f32⟩
  | 113 => ⟨S_, .f32⟩
  | 114 => ⟨S8x64, .f32⟩
  | 115 => ⟨S8x64x1, .f32⟩
  | 116 => ⟨S8x64x128, .f32⟩
  | 117 => ⟨S8x64x128, .f32⟩
  | 118 => ⟨S_, .f32⟩
  | 119 => ⟨S8x64, .f32⟩
  | 120 => ⟨S8x64, .f32⟩
  | 121 => ⟨S8x64, .f32⟩
  | 122 => ⟨S8x128x64, .f32⟩
  | 123 => ⟨S8x64x128, .f32⟩
  | 124 => ⟨S8x64x64, .f32⟩
  | 125 => ⟨S8x64x64, .f32⟩
  | 126 => ⟨S8x64x64, .f32⟩
  | 127 => ⟨S8x64x64, .f32⟩
  | _ => ⟨S8x65x128x128, .f32⟩

abbrev hbmTy0_2 (i : Nat) : BufTy := match i % 128 with
  | 0 => ⟨S8x64x64, .f32⟩
  | 1 => ⟨S_, .f32⟩
  | 2 => ⟨S8x64x64, .f32⟩
  | 3 => ⟨S_, .f32⟩
  | 4 => ⟨S8x64x64, .f32⟩
  | 5 => ⟨S8x64x64, .f32⟩
  | 6 => ⟨S8x64x64, .f32⟩
  | 7 => ⟨S8x64x64, .f32⟩
  | 8 => ⟨S8x64x64, .f32⟩
  | 9 => ⟨S8x64x128, .f32⟩
  | 10 => ⟨S8x64x128, .f32⟩
  | 11 => ⟨S8x64x128, .f32⟩
  | 12 => ⟨S8x64x128, .f32⟩
  | 13 => ⟨S_, .f32⟩
  | 14 => ⟨S8x64x64, .f32⟩
  | 15 => ⟨S8x64x64, .f32⟩
  | 16 => ⟨S8x64x64, .f32⟩
  | 17 => ⟨S_, .f32⟩
  | 18 => ⟨S8x64x64, .f32⟩
  | 19 => ⟨S8x64x64, .f32⟩
  | 20 => ⟨S_, .f32⟩
  | 21 => ⟨S8x64, .f32⟩
  | 22 => ⟨S8x64x1, .f32⟩
  | 23 => ⟨S8x64x64, .f32⟩
  | 24 => ⟨S_, .f32⟩
  | 25 => ⟨S8x64, .f32⟩
  | 26 => ⟨S8x1x64, .f32⟩
  | 27 => ⟨S_, .f32⟩
  | 28 => ⟨S8x64, .f32⟩
  | 29 => ⟨S8x64, .f32⟩
  | 30 => ⟨S_, .f32⟩
  | 31 => ⟨S8x64, .f32⟩
  | 32 => ⟨S8x64, .f32⟩
  | 33 => ⟨S8x64x128, .f32⟩
  | 34 => ⟨S_, .f32⟩
  | 35 => ⟨S8x64, .f32⟩
  | 36 => ⟨S8x64x1, .f32⟩
  | 37 => ⟨S8x64x128, .f32⟩
  | 38 => ⟨S8x64x128, .f32⟩
  | 39 => ⟨S_, .f32⟩
  | 40 => ⟨S8x64, .f32⟩
  | 41 => ⟨S8x64x128, .f32⟩
  | 42 => ⟨S_, .f32⟩
  | 43 => ⟨S8x64, .f32⟩
  | 44 => ⟨S8x64x1, .f32⟩
  | 45 => ⟨S8x64x128, .f32⟩
  | 46 => ⟨S8x64x128, .f32⟩
  | 47 => ⟨S8x64x128, .f32⟩
  | 48 => ⟨S_, .f32⟩
  | 49 => ⟨S8x64, .f32⟩
  | 50 => ⟨S8x64, .f32⟩
  | 51 => ⟨S_, .f32⟩
  | 52 => ⟨S_, .f32⟩
  | 53 => ⟨S8x64, .f32⟩
  | 54 => ⟨S1x8x64x128, .f32⟩
  | 55 => ⟨S_, .i32⟩
  | 56 => ⟨S_, .i32⟩
  | 57 => ⟨S_, .i32⟩
  | 58 => ⟨S65x8x64x128, .f32⟩
  | 59 => ⟨S1x8x64x128, .f32⟩
  | 60 => ⟨S_, .i32⟩
  | 61 => ⟨S_, .i32⟩
  | 62 => ⟨S_, .i32⟩
  | 63 => ⟨S65x8x64x128, .f32⟩
  | 64 => ⟨S1x8x64x128, .f32⟩
  | 65 => ⟨S_, .i32⟩
  | 66 => ⟨S_, .i32⟩
  | 67 => ⟨S_, .i32⟩
  | 68 => ⟨S65x8x64x128, .f32⟩
  | 69 => ⟨S1x8x64, .f32⟩
  | 70 => ⟨S_, .i32⟩
  | 71 => ⟨S_, .i32⟩
  | 72 => ⟨S65x8x64, .f32⟩
  | 73 => ⟨S1x8x64, .f32⟩
  | 74 => ⟨S_, .i32⟩
  | 75 => ⟨S_, .i32⟩
  | 76 => ⟨S65x8x64, .f32⟩
  | 77 => ⟨S_, .i32⟩
  | 78 => ⟨S_, .i32⟩
  | 79 => ⟨S65x64x8x128, .f32⟩
  | 80 => ⟨S4160x1024, .f32⟩
  | 81 => ⟨S65x64x8x128, .f32⟩
  | 82 => ⟨S4160x1024, .f32⟩
  | 83 => ⟨S65x64x8x128, .f32⟩
  | 84 => ⟨S4160x1024, .f32⟩
  | 85 => ⟨S8x65x64, .f32⟩
  | 86 => ⟨S8x65x1x64, .f32⟩
  | 87 => ⟨S8x65x64, .f32⟩
  | 88 => ⟨S8x65x1x64, .f32⟩
  | _ => ⟨S8x65x128x128, .f32⟩

abbrev hbmTy (i : Nat) : BufTy := match i / 128 with
  | 0 => hbmTy0_0 i
  | 1 => hbmTy0_1 i
  | 2 => hbmTy0_2 i
  | _ => ⟨S8x65x128x128, .f32⟩

abbrev bufTy : (tb : Table) → Fin (tcTables nBuf tb) → BufTy
  | .hbm, ⟨i, _⟩ => hbmTy i
  | _, _ => ⟨S8x65x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_c : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v20_3 : Ref sig .tc := ⟨.hbm, 38, rfl⟩
abbrev main_v20_4 : Ref sig .tc := ⟨.hbm, 39, rfl⟩
abbrev main_v20_5 : Ref sig .tc := ⟨.hbm, 40, rfl⟩
abbrev main_v20_6 : Ref sig .tc := ⟨.hbm, 41, rfl⟩
abbrev main_v20_7 : Ref sig .tc := ⟨.hbm, 42, rfl⟩
abbrev main_v20_8 : Ref sig .tc := ⟨.hbm, 43, rfl⟩
abbrev main_v20_9 : Ref sig .tc := ⟨.hbm, 44, rfl⟩
abbrev main_v20_10 : Ref sig .tc := ⟨.hbm, 45, rfl⟩
abbrev main_v20_11 : Ref sig .tc := ⟨.hbm, 46, rfl⟩
abbrev main_v20_12 : Ref sig .tc := ⟨.hbm, 47, rfl⟩
abbrev main_v20_13 : Ref sig .tc := ⟨.hbm, 48, rfl⟩
abbrev main_v20_14 : Ref sig .tc := ⟨.hbm, 49, rfl⟩
abbrev main_while0c_c_19 : Ref sig .tc := ⟨.hbm, 50, rfl⟩
abbrev main_while0c_v31 : Ref sig .tc := ⟨.hbm, 51, rfl⟩
abbrev main_while0b_c_19 : Ref sig .tc := ⟨.hbm, 52, rfl⟩
abbrev main_while0b_v31 : Ref sig .tc := ⟨.hbm, 53, rfl⟩
abbrev main_while0b_c_20 : Ref sig .tc := ⟨.hbm, 54, rfl⟩
abbrev main_while0b_v32 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_v0 : Ref sig .tc := ⟨.hbm, 59, rfl⟩
abbrev main_while0b_v33 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_v0 : Ref sig .tc := ⟨.hbm, 64, rfl⟩
abbrev main_while0b_v34 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_v0 : Ref sig .tc := ⟨.hbm, 69, rfl⟩
abbrev main_while0b_v35 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_v0 : Ref sig .tc := ⟨.hbm, 74, rfl⟩
abbrev main_while0b_v36 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_v0 : Ref sig .tc := ⟨.hbm, 79, rfl⟩
abbrev main_while0b_v37 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_v0 : Ref sig .tc := ⟨.hbm, 83, rfl⟩
abbrev main_while0b_v38 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_v0 : Ref sig .tc := ⟨.hbm, 87, rfl⟩
abbrev main_while0b_v39 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_call7_v0 : Ref sig .tc := ⟨.hbm, 92, rfl⟩
abbrev main_while0b_v40 : Ref sig .tc := ⟨.hbm, 93, rfl⟩
abbrev main_while0b_call8_call0_cst : Ref sig .tc := ⟨.hbm, 94, rfl⟩
abbrev main_while0b_call8_call0_v0 : Ref sig .tc := ⟨.hbm, 95, rfl⟩
abbrev main_while0b_v41 : Ref sig .tc := ⟨.hbm, 96, rfl⟩
abbrev main_while0b_v42 : Ref sig .tc := ⟨.hbm, 97, rfl⟩
abbrev main_while0b_v43 : Ref sig .tc := ⟨.hbm, 98, rfl⟩
abbrev main_while0b_v44 : Ref sig .tc := ⟨.hbm, 99, rfl⟩
abbrev main_while0b_v45 : Ref sig .tc := ⟨.hbm, 100, rfl⟩
abbrev main_while0b_v46 : Ref sig .tc := ⟨.hbm, 101, rfl⟩
abbrev main_while0b_v47 : Ref sig .tc := ⟨.hbm, 102, rfl⟩
abbrev main_while0b_v48 : Ref sig .tc := ⟨.hbm, 103, rfl⟩
abbrev main_while0b_v49 : Ref sig .tc := ⟨.hbm, 104, rfl⟩
abbrev main_while0b_v50 : Ref sig .tc := ⟨.hbm, 105, rfl⟩
abbrev main_while0b_v51 : Ref sig .tc := ⟨.hbm, 106, rfl⟩
abbrev main_while0b_v52 : Ref sig .tc := ⟨.hbm, 107, rfl⟩
abbrev main_while0b_v53 : Ref sig .tc := ⟨.hbm, 108, rfl⟩
abbrev main_while0b_v54 : Ref sig .tc := ⟨.hbm, 109, rfl⟩
abbrev main_while0b_v55 : Ref sig .tc := ⟨.hbm, 110, rfl⟩
abbrev main_while0b_v56 : Ref sig .tc := ⟨.hbm, 111, rfl⟩
abbrev main_while0b_v57 : Ref sig .tc := ⟨.hbm, 112, rfl⟩
abbrev main_while0b_v58 : Ref sig .tc := ⟨.hbm, 113, rfl⟩
abbrev main_while0b_v59 : Ref sig .tc := ⟨.hbm, 114, rfl⟩
abbrev main_while0b_v60 : Ref sig .tc := ⟨.hbm, 115, rfl⟩
abbrev main_while0b_v61 : Ref sig .tc := ⟨.hbm, 116, rfl⟩
abbrev main_while0b_v62 : Ref sig .tc := ⟨.hbm, 117, rfl⟩
abbrev main_while0b_v63 : Ref sig .tc := ⟨.hbm, 118, rfl⟩
abbrev main_while0b_cst_21 : Ref sig .tc := ⟨.hbm, 119, rfl⟩
abbrev main_while0b_call9_v0 : Ref sig .tc := ⟨.hbm, 120, rfl⟩
abbrev main_while0b_v64_1 : Ref sig .tc := ⟨.hbm, 121, rfl⟩
abbrev main_while0b_call9_v2 : Ref sig .tc := ⟨.hbm, 122, rfl⟩
abbrev main_while0b_v64_0 : Ref sig .tc := ⟨.hbm, 123, rfl⟩
abbrev main_while0b_call9_cst : Ref sig .tc := ⟨.hbm, 124, rfl⟩
abbrev main_while0b_v64_2 : Ref sig .tc := ⟨.hbm, 125, rfl⟩
abbrev main_while0b_v65 : Ref sig .tc := ⟨.hbm, 126, rfl⟩
abbrev main_while0b_cst_22 : Ref sig .tc := ⟨.hbm, 127, rfl⟩
abbrev main_while0b_call10_v0 : Ref sig .tc := ⟨.hbm, 128, rfl⟩
abbrev main_while0b_v66_1 : Ref sig .tc := ⟨.hbm, 129, rfl⟩
abbrev main_while0b_call10_v2 : Ref sig .tc := ⟨.hbm, 130, rfl⟩
abbrev main_while0b_v66_0 : Ref sig .tc := ⟨.hbm, 131, rfl⟩
abbrev main_while0b_call10_cst : Ref sig .tc := ⟨.hbm, 132, rfl⟩
abbrev main_while0b_v66_2 : Ref sig .tc := ⟨.hbm, 133, rfl⟩
abbrev main_while0b_v67 : Ref sig .tc := ⟨.hbm, 134, rfl⟩
abbrev main_while0b_v68 : Ref sig .tc := ⟨.hbm, 135, rfl⟩
abbrev main_while0b_cst_23 : Ref sig .tc := ⟨.hbm, 136, rfl⟩
abbrev main_while0b_call11_v0 : Ref sig .tc := ⟨.hbm, 137, rfl⟩
abbrev main_while0b_v69_1 : Ref sig .tc := ⟨.hbm, 138, rfl⟩
abbrev main_while0b_call11_v2 : Ref sig .tc := ⟨.hbm, 139, rfl⟩
abbrev main_while0b_v69_0 : Ref sig .tc := ⟨.hbm, 140, rfl⟩
abbrev main_while0b_call11_cst : Ref sig .tc := ⟨.hbm, 141, rfl⟩
abbrev main_while0b_v69_2 : Ref sig .tc := ⟨.hbm, 142, rfl⟩
abbrev main_while0b_v70 : Ref sig .tc := ⟨.hbm, 143, rfl⟩
abbrev main_while0b_v71 : Ref sig .tc := ⟨.hbm, 144, rfl⟩
abbrev main_while0b_v72 : Ref sig .tc := ⟨.hbm, 145, rfl⟩
abbrev main_while0b_v73 : Ref sig .tc := ⟨.hbm, 146, rfl⟩
abbrev main_while0b_v74 : Ref sig .tc := ⟨.hbm, 147, rfl⟩
abbrev main_while0b_v75 : Ref sig .tc := ⟨.hbm, 148, rfl⟩
abbrev main_while0b_v76 : Ref sig .tc := ⟨.hbm, 149, rfl⟩
abbrev main_while0b_v77 : Ref sig .tc := ⟨.hbm, 150, rfl⟩
abbrev main_while0b_v78 : Ref sig .tc := ⟨.hbm, 151, rfl⟩
abbrev main_while0b_v79 : Ref sig .tc := ⟨.hbm, 152, rfl⟩
abbrev main_while0b_v80 : Ref sig .tc := ⟨.hbm, 153, rfl⟩
abbrev main_while0b_v81 : Ref sig .tc := ⟨.hbm, 154, rfl⟩
abbrev main_while0b_v82 : Ref sig .tc := ⟨.hbm, 155, rfl⟩
abbrev main_while0b_v83 : Ref sig .tc := ⟨.hbm, 156, rfl⟩
abbrev main_while0b_v84 : Ref sig .tc := ⟨.hbm, 157, rfl⟩
abbrev main_while0b_v85 : Ref sig .tc := ⟨.hbm, 158, rfl⟩
abbrev main_while0b_v86 : Ref sig .tc := ⟨.hbm, 159, rfl⟩
abbrev main_while0b_v87 : Ref sig .tc := ⟨.hbm, 160, rfl⟩
abbrev main_while0b_v88 : Ref sig .tc := ⟨.hbm, 161, rfl⟩
abbrev main_while0b_v89 : Ref sig .tc := ⟨.hbm, 162, rfl⟩
abbrev main_while0b_v90 : Ref sig .tc := ⟨.hbm, 163, rfl⟩
abbrev main_while0b_v91 : Ref sig .tc := ⟨.hbm, 164, rfl⟩
abbrev main_while0b_v92 : Ref sig .tc := ⟨.hbm, 165, rfl⟩
abbrev main_while0b_v93 : Ref sig .tc := ⟨.hbm, 166, rfl⟩
abbrev main_while0b_v94 : Ref sig .tc := ⟨.hbm, 167, rfl⟩
abbrev main_while0b_v95 : Ref sig .tc := ⟨.hbm, 168, rfl⟩
abbrev main_while0b_v96 : Ref sig .tc := ⟨.hbm, 169, rfl⟩
abbrev main_while0b_v97 : Ref sig .tc := ⟨.hbm, 170, rfl⟩
abbrev main_while0b_v98 : Ref sig .tc := ⟨.hbm, 171, rfl⟩
abbrev main_while0b_v99 : Ref sig .tc := ⟨.hbm, 172, rfl⟩
abbrev main_while0b_v100 : Ref sig .tc := ⟨.hbm, 173, rfl⟩
abbrev main_while0b_v101 : Ref sig .tc := ⟨.hbm, 174, rfl⟩
abbrev main_while0b_v102 : Ref sig .tc := ⟨.hbm, 175, rfl⟩
abbrev main_while0b_v103 : Ref sig .tc := ⟨.hbm, 176, rfl⟩
abbrev main_while0b_v104 : Ref sig .tc := ⟨.hbm, 177, rfl⟩
abbrev main_while0b_v105 : Ref sig .tc := ⟨.hbm, 178, rfl⟩
abbrev main_while0b_v106 : Ref sig .tc := ⟨.hbm, 179, rfl⟩
abbrev main_while0b_cst_24 : Ref sig .tc := ⟨.hbm, 180, rfl⟩
abbrev main_while0b_v107 : Ref sig .tc := ⟨.hbm, 181, rfl⟩
abbrev main_while0b_v108 : Ref sig .tc := ⟨.hbm, 182, rfl⟩
abbrev main_while0b_v109 : Ref sig .tc := ⟨.hbm, 183, rfl⟩
abbrev main_while0b_v110 : Ref sig .tc := ⟨.hbm, 184, rfl⟩
abbrev main_while0b_cst_25 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_v114 : Ref sig .tc := ⟨.hbm, 189, rfl⟩
abbrev main_while0b_v115 : Ref sig .tc := ⟨.hbm, 190, rfl⟩
abbrev main_while0b_v116 : Ref sig .tc := ⟨.hbm, 191, rfl⟩
abbrev main_while0b_v117 : Ref sig .tc := ⟨.hbm, 192, rfl⟩
abbrev main_while0b_v118 : Ref sig .tc := ⟨.hbm, 193, rfl⟩
abbrev main_while0b_v119 : Ref sig .tc := ⟨.hbm, 194, rfl⟩
abbrev main_while0b_v120 : Ref sig .tc := ⟨.hbm, 195, rfl⟩
abbrev main_while0b_v121 : Ref sig .tc := ⟨.hbm, 196, rfl⟩
abbrev main_while0b_v122 : Ref sig .tc := ⟨.hbm, 197, rfl⟩
abbrev main_while0b_v123 : Ref sig .tc := ⟨.hbm, 198, rfl⟩
abbrev main_while0b_v124 : Ref sig .tc := ⟨.hbm, 199, rfl⟩
abbrev main_while0b_v125 : Ref sig .tc := ⟨.hbm, 200, rfl⟩
abbrev main_while0b_v126 : Ref sig .tc := ⟨.hbm, 201, rfl⟩
abbrev main_while0b_cst_26 : Ref sig .tc := ⟨.hbm, 202, rfl⟩
abbrev main_while0b_v127 : Ref sig .tc := ⟨.hbm, 203, rfl⟩
abbrev main_while0b_v128 : Ref sig .tc := ⟨.hbm, 204, rfl⟩
abbrev main_while0b_v129 : Ref sig .tc := ⟨.hbm, 205, rfl⟩
abbrev main_while0b_v130 : Ref sig .tc := ⟨.hbm, 206, rfl⟩
abbrev main_while0b_cst_27 : Ref sig .tc := ⟨.hbm, 207, rfl⟩
abbrev main_while0b_v131 : Ref sig .tc := ⟨.hbm, 208, rfl⟩
abbrev main_while0b_v132 : Ref sig .tc := ⟨.hbm, 209, rfl⟩
abbrev main_while0b_cst_28 : Ref sig .tc := ⟨.hbm, 210, rfl⟩
abbrev main_while0b_v133 : Ref sig .tc := ⟨.hbm, 211, rfl⟩
abbrev main_while0b_v134 : Ref sig .tc := ⟨.hbm, 212, rfl⟩
abbrev main_while0b_v135 : Ref sig .tc := ⟨.hbm, 213, rfl⟩
abbrev main_while0b_cst_29 : Ref sig .tc := ⟨.hbm, 214, rfl⟩
abbrev main_while0b_v136 : Ref sig .tc := ⟨.hbm, 215, rfl⟩
abbrev main_while0b_v137 : Ref sig .tc := ⟨.hbm, 216, rfl⟩
abbrev main_while0b_v138 : Ref sig .tc := ⟨.hbm, 217, rfl⟩
abbrev main_while0b_cst_30 : Ref sig .tc := ⟨.hbm, 218, rfl⟩
abbrev main_while0b_v139 : Ref sig .tc := ⟨.hbm, 219, rfl⟩
abbrev main_while0b_v140 : Ref sig .tc := ⟨.hbm, 220, rfl⟩
abbrev main_while0b_v141 : Ref sig .tc := ⟨.hbm, 221, rfl⟩
abbrev main_while0b_cst_31 : Ref sig .tc := ⟨.hbm, 222, rfl⟩
abbrev main_while0b_v142 : Ref sig .tc := ⟨.hbm, 223, rfl⟩
abbrev main_while0b_v143 : Ref sig .tc := ⟨.hbm, 224, rfl⟩
abbrev main_while0b_v144 : Ref sig .tc := ⟨.hbm, 225, rfl⟩
abbrev main_while0b_v145 : Ref sig .tc := ⟨.hbm, 226, rfl⟩
abbrev main_while0b_cst_32 : Ref sig .tc := ⟨.hbm, 227, rfl⟩
abbrev main_while0b_v146 : Ref sig .tc := ⟨.hbm, 228, rfl⟩
abbrev main_while0b_v147 : Ref sig .tc := ⟨.hbm, 229, rfl⟩
abbrev main_while0b_v148 : Ref sig .tc := ⟨.hbm, 230, rfl⟩
abbrev main_while0b_v149 : Ref sig .tc := ⟨.hbm, 231, rfl⟩
abbrev main_while0b_v150 : Ref sig .tc := ⟨.hbm, 232, rfl⟩
abbrev main_while0b_v151 : Ref sig .tc := ⟨.hbm, 233, rfl⟩
abbrev main_while0b_v152 : Ref sig .tc := ⟨.hbm, 234, rfl⟩
abbrev main_while0b_v153 : Ref sig .tc := ⟨.hbm, 235, rfl⟩
abbrev main_while0b_v154 : Ref sig .tc := ⟨.hbm, 236, rfl⟩
abbrev main_while0b_v155 : Ref sig .tc := ⟨.hbm, 237, rfl⟩
abbrev main_while0b_v156 : Ref sig .tc := ⟨.hbm, 238, rfl⟩
abbrev main_while0b_v157 : Ref sig .tc := ⟨.hbm, 239, rfl⟩
abbrev main_while0b_v158 : Ref sig .tc := ⟨.hbm, 240, rfl⟩
abbrev main_while0b_cst_33 : Ref sig .tc := ⟨.hbm, 241, rfl⟩
abbrev main_while0b_v159 : Ref sig .tc := ⟨.hbm, 242, rfl⟩
abbrev main_while0b_v160 : Ref sig .tc := ⟨.hbm, 243, rfl⟩
abbrev main_while0b_v161 : Ref sig .tc := ⟨.hbm, 244, rfl⟩
abbrev main_while0b_v162 : Ref sig .tc := ⟨.hbm, 245, rfl⟩
abbrev main_while0b_cst_34 : Ref sig .tc := ⟨.hbm, 246, rfl⟩
abbrev main_while0b_v163 : Ref sig .tc := ⟨.hbm, 247, rfl⟩
abbrev main_while0b_v164 : Ref sig .tc := ⟨.hbm, 248, rfl⟩
abbrev main_while0b_v165 : Ref sig .tc := ⟨.hbm, 249, rfl⟩
abbrev main_while0b_v166 : Ref sig .tc := ⟨.hbm, 250, rfl⟩
abbrev main_while0b_v167 : Ref sig .tc := ⟨.hbm, 251, rfl⟩
abbrev main_while0b_v168 : Ref sig .tc := ⟨.hbm, 252, rfl⟩
abbrev main_while0b_v169 : Ref sig .tc := ⟨.hbm, 253, rfl⟩
abbrev main_while0b_v170 : Ref sig .tc := ⟨.hbm, 254, rfl⟩
abbrev main_while0b_v171 : Ref sig .tc := ⟨.hbm, 255, rfl⟩
abbrev main_while0b_v172 : Ref sig .tc := ⟨.hbm, 256, rfl⟩
abbrev main_while0b_cst_35 : Ref sig .tc := ⟨.hbm, 257, rfl⟩
abbrev main_while0b_v173 : Ref sig .tc := ⟨.hbm, 258, rfl⟩
abbrev main_while0b_call12_cst : Ref sig .tc := ⟨.hbm, 259, rfl⟩
abbrev main_while0b_call12_v0 : Ref sig .tc := ⟨.hbm, 260, rfl⟩
abbrev main_while0b_v174 : Ref sig .tc := ⟨.hbm, 261, rfl⟩
abbrev main_while0b_v175 : Ref sig .tc := ⟨.hbm, 262, rfl⟩
abbrev main_while0b_v176 : Ref sig .tc := ⟨.hbm, 263, rfl⟩
abbrev main_while0b_v177 : Ref sig .tc := ⟨.hbm, 264, rfl⟩
abbrev main_while0b_v178 : Ref sig .tc := ⟨.hbm, 265, rfl⟩
abbrev main_while0b_v179 : Ref sig .tc := ⟨.hbm, 266, rfl⟩
abbrev main_while0b_v180 : Ref sig .tc := ⟨.hbm, 267, rfl⟩
abbrev main_while0b_v181 : Ref sig .tc := ⟨.hbm, 268, rfl⟩
abbrev main_while0b_call13_cst : Ref sig .tc := ⟨.hbm, 269, rfl⟩
abbrev main_while0b_call13_v0 : Ref sig .tc := ⟨.hbm, 270, rfl⟩
abbrev main_while0b_v182 : Ref sig .tc := ⟨.hbm, 271, rfl⟩
abbrev main_while0b_v183 : Ref sig .tc := ⟨.hbm, 272, rfl⟩
abbrev main_while0b_call14_cst : Ref sig .tc := ⟨.hbm, 273, rfl⟩
abbrev main_while0b_call14_v0 : Ref sig .tc := ⟨.hbm, 274, rfl⟩
abbrev main_while0b_v184 : Ref sig .tc := ⟨.hbm, 275, rfl⟩
abbrev main_while0b_cst_36 : Ref sig .tc := ⟨.hbm, 276, rfl⟩
abbrev main_while0b_v185 : Ref sig .tc := ⟨.hbm, 277, rfl⟩
abbrev main_while0b_v186 : Ref sig .tc := ⟨.hbm, 278, rfl⟩
abbrev main_while0b_v187 : Ref sig .tc := ⟨.hbm, 279, rfl⟩
abbrev main_while0b_cst_37 : Ref sig .tc := ⟨.hbm, 280, rfl⟩
abbrev main_while0b_v188 : Ref sig .tc := ⟨.hbm, 281, rfl⟩
abbrev main_while0b_v189 : Ref sig .tc := ⟨.hbm, 282, rfl⟩
abbrev main_while0b_cst_38 : Ref sig .tc := ⟨.hbm, 283, rfl⟩
abbrev main_while0b_v190 : Ref sig .tc := ⟨.hbm, 284, rfl⟩
abbrev main_while0b_v191 : Ref sig .tc := ⟨.hbm, 285, rfl⟩
abbrev main_while0b_cst_39 : Ref sig .tc := ⟨.hbm, 286, rfl⟩
abbrev main_while0b_v192 : Ref sig .tc := ⟨.hbm, 287, rfl⟩
abbrev main_while0b_v193 : Ref sig .tc := ⟨.hbm, 288, rfl⟩
abbrev main_while0b_v194 : Ref sig .tc := ⟨.hbm, 289, rfl⟩
abbrev main_while0b_cst_40 : Ref sig .tc := ⟨.hbm, 290, rfl⟩
abbrev main_while0b_v195 : Ref sig .tc := ⟨.hbm, 291, rfl⟩
abbrev main_while0b_v196 : Ref sig .tc := ⟨.hbm, 292, rfl⟩
abbrev main_while0b_v197 : Ref sig .tc := ⟨.hbm, 293, rfl⟩
abbrev main_while0b_v198 : Ref sig .tc := ⟨.hbm, 294, rfl⟩
abbrev main_while0b_cst_41 : Ref sig .tc := ⟨.hbm, 295, rfl⟩
abbrev main_while0b_v199 : Ref sig .tc := ⟨.hbm, 296, rfl⟩
abbrev main_while0b_v200 : Ref sig .tc := ⟨.hbm, 297, rfl⟩
abbrev main_while0b_cst_42 : Ref sig .tc := ⟨.hbm, 298, rfl⟩
abbrev main_while0b_v201 : Ref sig .tc := ⟨.hbm, 299, rfl⟩
abbrev main_while0b_v202 : Ref sig .tc := ⟨.hbm, 300, rfl⟩
abbrev main_while0b_v203 : Ref sig .tc := ⟨.hbm, 301, rfl⟩
abbrev main_while0b_v204 : Ref sig .tc := ⟨.hbm, 302, rfl⟩
abbrev main_while0b_v205 : Ref sig .tc := ⟨.hbm, 303, rfl⟩
abbrev main_while0b_cst_43 : Ref sig .tc := ⟨.hbm, 304, rfl⟩
abbrev main_while0b_v206 : Ref sig .tc := ⟨.hbm, 305, rfl⟩
abbrev main_while0b_v207 : Ref sig .tc := ⟨.hbm, 306, rfl⟩
abbrev main_while0b_call15_call0_cst : Ref sig .tc := ⟨.hbm, 307, rfl⟩
abbrev main_while0b_call15_call0_v0 : Ref sig .tc := ⟨.hbm, 308, rfl⟩
abbrev main_while0b_v208 : Ref sig .tc := ⟨.hbm, 309, rfl⟩
abbrev main_while0b_call16_v0 : Ref sig .tc := ⟨.hbm, 310, rfl⟩
abbrev main_while0b_call16_c : Ref sig .tc := ⟨.hbm, 311, rfl⟩
abbrev main_while0b_call16_c_0 : Ref sig .tc := ⟨.hbm, 312, rfl⟩
abbrev main_while0b_call16_c_1 : Ref sig .tc := ⟨.hbm, 313, rfl⟩
abbrev main_while0b_v209 : Ref sig .tc := ⟨.hbm, 314, rfl⟩
abbrev main_while0b_call17_v0 : Ref sig .tc := ⟨.hbm, 315, rfl⟩
abbrev main_while0b_call17_c : Ref sig .tc := ⟨.hbm, 316, rfl⟩
abbrev main_while0b_call17_c_0 : Ref sig .tc := ⟨.hbm, 317, rfl⟩
abbrev main_while0b_call17_c_1 : Ref sig .tc := ⟨.hbm, 318, rfl⟩
abbrev main_while0b_v210 : Ref sig .tc := ⟨.hbm, 319, rfl⟩
abbrev main_while0b_call18_v0 : Ref sig .tc := ⟨.hbm, 320, rfl⟩
abbrev main_while0b_call18_c : Ref sig .tc := ⟨.hbm, 321, rfl⟩
abbrev main_while0b_call18_c_0 : Ref sig .tc := ⟨.hbm, 322, rfl⟩
abbrev main_while0b_call18_c_1 : Ref sig .tc := ⟨.hbm, 323, rfl⟩
abbrev main_while0b_v211 : Ref sig .tc := ⟨.hbm, 324, rfl⟩
abbrev main_while0b_call19_v0 : Ref sig .tc := ⟨.hbm, 325, rfl⟩
abbrev main_while0b_call19_c : Ref sig .tc := ⟨.hbm, 326, rfl⟩
abbrev main_while0b_call19_c_0 : Ref sig .tc := ⟨.hbm, 327, rfl⟩
abbrev main_while0b_v212 : Ref sig .tc := ⟨.hbm, 328, rfl⟩
abbrev main_while0b_call20_v0 : Ref sig .tc := ⟨.hbm, 329, rfl⟩
abbrev main_while0b_call20_c : Ref sig .tc := ⟨.hbm, 330, rfl⟩
abbrev main_while0b_call20_c_0 : Ref sig .tc := ⟨.hbm, 331, rfl⟩
abbrev main_while0b_v213 : Ref sig .tc := ⟨.hbm, 332, rfl⟩
abbrev main_while0b_c_44 : Ref sig .tc := ⟨.hbm, 333, rfl⟩
abbrev main_while0b_v214 : Ref sig .tc := ⟨.hbm, 334, rfl⟩
abbrev main_v21 : Ref sig .tc := ⟨.hbm, 335, rfl⟩
abbrev main_v22 : Ref sig .tc := ⟨.hbm, 336, rfl⟩
abbrev main_v23 : Ref sig .tc := ⟨.hbm, 337, rfl⟩
abbrev main_v24 : Ref sig .tc := ⟨.hbm, 338, rfl⟩
abbrev main_v25 : Ref sig .tc := ⟨.hbm, 339, rfl⟩
abbrev main_v26 : Ref sig .tc := ⟨.hbm, 340, rfl⟩
abbrev main_v27 : Ref sig .tc := ⟨.hbm, 341, rfl⟩
abbrev main_v28 : Ref sig .tc := ⟨.hbm, 342, rfl⟩
abbrev main_v29 : Ref sig .tc := ⟨.hbm, 343, rfl⟩
abbrev main_v30 : Ref sig .tc := ⟨.hbm, 344, rfl⟩

abbrev nD : Nat := 1
abbrev τ : Topo := Topo.v7x

variable {F : FTy → Type} [FloatOps F]

abbrev main_while0_count : Scf.Loop 32 := ⟨0#32, 65#32, 1#32⟩
-- ==== Kernel2.lean ====
abbrev S4160x1024 : Shape := ⟨2, ![4160, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x5632 : Shape := ⟨2, ![1024, 5632]⟩
abbrev S4160x5632 : Shape := ⟨2, ![4160, 5632]⟩
abbrev S4160x2816 : Shape := ⟨2, ![4160, 2816]⟩
abbrev S416x1024 : Shape := ⟨2, ![416, 1024]⟩
abbrev S1408x1024 : Shape := ⟨2, ![1408, 1024]⟩
abbrev S416x1408 : Shape := ⟨2, ![416, 1408]⟩

abbrev nBuf : Space → Nat
  | .hbm => 35
  | .vmem => 12
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x1408, .f32⟩
  | .hbm, ⟨3, _⟩ => ⟨S2816x1024, .f32⟩
  | .hbm, ⟨4, _⟩ => ⟨S4160x1024, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S1x1024x1408, .f32⟩
  | .hbm, ⟨21, _⟩ => ⟨S1024x1408, .f32⟩
  | .hbm, ⟨22, _⟩ => ⟨S1x1024x1408, .f32⟩
  | .hbm, ⟨23, _⟩ => ⟨S1024x1408, .f32⟩
  | .hbm, ⟨24, _⟩ => ⟨S1x1024x1408, .f32⟩
  | .hbm, ⟨25, _⟩ => ⟨S1024x1408, .f32⟩
  | .hbm, ⟨26, _⟩ => ⟨S1x1024x1408, .f32⟩
  | .hbm, ⟨27, _⟩ => ⟨S1024x1408, .f32⟩
  | .hbm, ⟨28, _⟩ => ⟨S1024x5632, .f32⟩
  | .hbm, ⟨29, _⟩ => ⟨S4160x5632, .f32⟩
  | .hbm, ⟨30, _⟩ => ⟨S4160x2816, .f32⟩
  | .hbm, ⟨31, _⟩ => ⟨S4160x2816, .f32⟩
  | .hbm, ⟨32, _⟩ => ⟨S2816x1024, .bf16⟩
  | .hbm, ⟨33, _⟩ => ⟨S4160x2816, .bf16⟩
  | .hbm, ⟨34, _⟩ => ⟨S4160x2816, .bf16⟩
  | .local _ .vmem, ⟨0, _⟩ => ⟨S416x1024, .f32⟩
  | .local _ .vmem, ⟨1, _⟩ => ⟨S416x1024, .f32⟩
  | .local _ .vmem, ⟨2, _⟩ => ⟨S1408x1024, .bf16⟩
  | .local _ .vmem, ⟨3, _⟩ => ⟨S1408x1024, .bf16⟩
  | .local _ .vmem, ⟨4, _⟩ => ⟨S416x1408, .f32⟩
  | .local _ .vmem, ⟨5, _⟩ => ⟨S416x1408, .f32⟩
  | .local _ .vmem, ⟨6, _⟩ => ⟨S416x1408, .f32⟩
  | .local _ .vmem, ⟨7, _⟩ => ⟨S416x1408, .f32⟩
  | .local _ .vmem, ⟨8, _⟩ => ⟨S416x1408, .bf16⟩
  | .local _ .vmem, ⟨9, _⟩ => ⟨S416x1408, .bf16⟩
  | .local _ .vmem, ⟨10, _⟩ => ⟨S416x1408, .bf16⟩
  | .local _ .vmem, ⟨11, _⟩ => ⟨S416x1408, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S416x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S416x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S416x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S416x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4160x1024 : Shape := ⟨2, ![4160, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x5632 : Shape := ⟨2, ![1024, 5632]⟩
abbrev S4160x5632 : Shape := ⟨2, ![4160, 5632]⟩
abbrev S4160x2816 : Shape := ⟨2, ![4160, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x1408, .f32⟩
  | .hbm, ⟨3, _⟩ => ⟨S2816x1024, .f32⟩
  | .hbm, ⟨4, _⟩ => ⟨S4160x1024, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S1x1024x1408, .f32⟩
  | .hbm, ⟨21, _⟩ => ⟨S1024x1408, .f32⟩
  | .hbm, ⟨22, _⟩ => ⟨S1x1024x1408, .f32⟩
  | .hbm, ⟨23, _⟩ => ⟨S1024x1408, .f32⟩
  | .hbm, ⟨24, _⟩ => ⟨S1x1024x1408, .f32⟩
  | .hbm, ⟨25, _⟩ => ⟨S1024x1408, .f32⟩
  | .hbm, ⟨26, _⟩ => ⟨S1x1024x1408, .f32⟩
  | .hbm, ⟨27, _⟩ => ⟨S1024x1408, .f32⟩
  | .hbm, ⟨28, _⟩ => ⟨S1024x5632, .f32⟩
  | .hbm, ⟨29, _⟩ => ⟨S4160x5632, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S4160x2816, .f32⟩
  | .hbm, ⟨34, _⟩ => ⟨S_, .f32⟩
  | .hbm, ⟨35, _⟩ => ⟨S4160x2816, .f32⟩
  | .hbm, ⟨36, _⟩ => ⟨S4160x2816, .f32⟩
  | .hbm, ⟨37, _⟩ => ⟨S_, .f32⟩
  | .hbm, ⟨38, _⟩ => ⟨S4160x2816, .f32⟩
  | .hbm, ⟨39, _⟩ => ⟨S4160x2816, .f32⟩
  | .hbm, ⟨40, _⟩ => ⟨S_, .f32⟩
  | .hbm, ⟨41, _⟩ => ⟨S4160x2816, .f32⟩
  | .hbm, ⟨42, _⟩ => ⟨S4160x2816, .f32⟩
  | .hbm, ⟨43, _⟩ => ⟨S4160x2816, .f32⟩
  | .hbm, ⟨44, _⟩ => ⟨S4160x2816, .f32⟩
  | .hbm, ⟨45, _⟩ => ⟨S4160x2816, .f32⟩
  | .hbm, ⟨46, _⟩ => ⟨S4160x1024, .f32⟩
  | .hbm, ⟨47, _⟩ => ⟨S_, .f32⟩
  | .hbm, ⟨48, _⟩ => ⟨S4160x1024, .f32⟩
  | .hbm, ⟨49, _⟩ => ⟨S4160x1024, .f32⟩
  | .hbm, ⟨50, _⟩ => ⟨S4160x1024, .f32⟩
  | .hbm, ⟨51, _⟩ => ⟨S_, .f32⟩
  | .hbm, ⟨52, _⟩ => ⟨S4160x1024, .f32⟩
  | .hbm, ⟨53, _⟩ => ⟨S4160x1024, .f32⟩
  | .hbm, ⟨54, _⟩ => ⟨S4160x2816, .f32⟩
  | .hbm, ⟨55, _⟩ => ⟨S4160x2816, .f32⟩
  | .hbm, ⟨56, _⟩ => ⟨S4160x2816, .f32⟩
  | .hbm, ⟨57, _⟩ => ⟨S4160x2816, .f32⟩
  | .hbm, ⟨58, _⟩ => ⟨S4160x2816, .f32⟩
  | .hbm, ⟨59, _⟩ => ⟨S4160x2816, .f32⟩
  | .hbm, ⟨60, _⟩ => ⟨S4160x2816, .f32⟩
  | .hbm, ⟨61, _⟩ => ⟨S4160x2816, .bf16⟩
  | .hbm, ⟨62, _⟩ => ⟨S4160x2816, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v24_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v24_1 : Ref sig .tc := ⟨.hbm, 43, rfl⟩
abbrev main_v24_0 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Kernel3.lean ====
abbrev S4160x1024 : Shape := ⟨2, ![4160, 1024]⟩
abbrev S1x1024 : Shape := ⟨2, ![1, 1024]⟩
abbrev S4x1024x1408 : Shape := ⟨3, ![4, 1024, 1408]⟩
abbrev S_ : Shape := ⟨0, ![]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x5632 : Shape := ⟨2, ![1024, 5632]⟩
abbrev S4160x5632 : Shape := ⟨2, ![4160, 5632]⟩
abbrev S4160x2816 : Shape := ⟨2, ![4160, 2816]⟩
abbrev S2816x1024 : Shape := ⟨2, ![2816, 1024]⟩
abbrev S1040x1408 : Shape := ⟨2, ![1040, 1408]⟩
abbrev S1040x1024 : Shape := ⟨2, ![1040, 1024]⟩
abbrev S1408x1024 : Shape := ⟨2, ![1408, 1024]⟩

abbrev nBuf : Space → Nat
  | .hbm => 43
  | .vmem => 7
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x1408, .f32⟩
  | .hbm, ⟨3, _⟩ => ⟨S4160x1024, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S1x1024x1408, .f32⟩
  | .hbm, ⟨20, _⟩ => ⟨S1024x1408, .f32⟩
  | .hbm, ⟨21, _⟩ => ⟨S1x1024x1408, .f32⟩
  | .hbm, ⟨22, _⟩ => ⟨S1024x1408, .f32⟩
  | .hbm, ⟨23, _⟩ => ⟨S1x1024x1408, .f32⟩
  | .hbm, ⟨24, _⟩ => ⟨S1024x1408, .f32⟩
  | .hbm, ⟨25, _⟩ => ⟨S1x1024x1408, .f32⟩
  | .hbm, ⟨26, _⟩ => ⟨S1024x1408, .f32⟩
  | .hbm, ⟨27, _⟩ => ⟨S1024x5632, .f32⟩
  | .hbm, ⟨28, _⟩ => ⟨S4160x5632, .f32⟩
  | .hbm, ⟨29, _⟩ => ⟨S4160x2816, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S_, .f32⟩
  | .hbm, ⟨34, _⟩ => ⟨S4160x2816, .f32⟩
  | .hbm, ⟨35, _⟩ => ⟨S4160x2816, .f32⟩
  | .hbm, ⟨36, _⟩ => ⟨S_, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .bf16⟩
  | .hbm, ⟨42, _⟩ => ⟨S2816x1024, .f32⟩
  | .local _ .vmem, ⟨0, _⟩ => ⟨S1040x1408, .bf16⟩
  | .local _ .vmem, ⟨1, _⟩ => ⟨S1040x1408, .bf16⟩
  | .local _ .vmem, ⟨2, _⟩ => ⟨S1040x1024, .f32⟩
  | .local _ .vmem, ⟨3, _⟩ => ⟨S1040x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1040x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4160x1024 : Shape := ⟨2, ![4160, 1024]⟩
abbrev S1x1024 : Shape := ⟨2, ![1, 1024]⟩
abbrev S4x1024x1408 : Shape := ⟨3, ![4, 1024, 1408]⟩
abbrev S_ : Shape := ⟨0, ![]⟩
abbrev S2816x1024 : Shape := ⟨2, ![2816, 1024]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x5632 : Shape := ⟨2, ![1024, 5632]⟩
abbrev S4160x5632 : Shape := ⟨2, ![4160, 5632]⟩
abbrev S4160x2816 : Shape := ⟨2, ![4160, 2816]⟩
abbrev S1024x2816 : Shape := ⟨2, ![1024, 2816]⟩

abbrev nBuf : Space → Nat
  | .hbm => 53
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x1408, .f32⟩
  | .hbm, ⟨3, _⟩ => ⟨S4160x1024, .f32⟩
  | .hbm, ⟨4, _⟩ => ⟨S_, .f32⟩
  | .hbm, ⟨5, _⟩ => ⟨S2816x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S1x1024x1408, .f32⟩
  | .hbm, ⟨22, _⟩ => ⟨S1024x1408, .f32⟩
  | .hbm, ⟨23, _⟩ => ⟨S1x1024x1408, .f32⟩
  | .hbm, ⟨24, _⟩ => ⟨S1024x1408, .f32⟩
  | .hbm, ⟨25, _⟩ => ⟨S1x1024x1408, .f32⟩
  | .hbm, ⟨26, _⟩ => ⟨S1024x1408, .f32⟩
  | .hbm, ⟨27, _⟩ => ⟨S1x1024x1408, .f32⟩
  | .hbm, ⟨28, _⟩ => ⟨S1024x1408, .f32⟩
  | .hbm, ⟨29, _⟩ => ⟨S1024x5632, .f32⟩
  | .hbm, ⟨30, _⟩ => ⟨S4160x5632, .f32⟩
  | .hbm, ⟨31, _⟩ => ⟨S4160x2816, .f32⟩
  | .hbm, ⟨32, _⟩ => ⟨S4160x2816, .f32⟩
  | .hbm, ⟨33, _⟩ => ⟨S4160x2816, .f32⟩
  | .hbm, ⟨34, _⟩ => ⟨S4160x2816, .f32⟩
  | .hbm, ⟨35, _⟩ => ⟨S_, .f32⟩
  | .hbm, ⟨36, _⟩ => ⟨S4160x2816, .f32⟩
  | .hbm, ⟨37, _⟩ => ⟨S4160x2816, .f32⟩
  | .hbm, ⟨38, _⟩ => ⟨S_, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x2816, .f32⟩
  | .hbm, ⟨43, _⟩ => ⟨S4160x1024, .f32⟩
  | .hbm, ⟨44, _⟩ => ⟨S_, .f32⟩
  | .hbm, ⟨45, _⟩ => ⟨S4160x1024, .f32⟩
  | .hbm, ⟨46, _⟩ => ⟨S4160x1024, .f32⟩
  | .hbm, ⟨47, _⟩ => ⟨S4160x1024, .f32⟩
  | .hbm, ⟨48, _⟩ => ⟨S_, .f32⟩
  | .hbm, ⟨49, _⟩ => ⟨S4160x1024, .f32⟩
  | .hbm, ⟨50, _⟩ => ⟨S4160x1024, .f32⟩
  | .hbm, ⟨51, _⟩ => ⟨S1024x2816, .f32⟩
  | .hbm, ⟨52, _⟩ => ⟨S2816x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel4.lean ====
abbrev S4160x1024 : Shape := ⟨2, ![4160, 1024]⟩
abbrev S1x1024 : Shape := ⟨2, ![1, 1024]⟩
abbrev S4160x2816 : Shape := ⟨2, ![4160, 2816]⟩
abbrev S_ : Shape := ⟨0, ![]⟩
abbrev S4160 : Shape := ⟨1, ![4160]⟩
abbrev S4160x1 : Shape := ⟨2, ![4160, 1]⟩
abbrev S4x1024x1408 : Shape := ⟨3, ![4, 1024, 1408]⟩
abbrev S1040x1024 : Shape := ⟨2, ![1040, 1024]⟩
abbrev S1040x1408 : Shape := ⟨2, ![1040, 1408]⟩
abbrev S1x1024x1408 : Shape := ⟨3, ![1, 1024, 1408]⟩
abbrev S1024x1408 : Shape := ⟨2, ![1024, 1408]⟩
abbrev S2x1024x1408 : Shape := ⟨3, ![2, 1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x2816, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .bf16⟩
  | .hbm, ⟨19, _⟩ => ⟨S4160x2816, .bf16⟩
  | .hbm, ⟨20, _⟩ => ⟨S4x1024x1408, .f32⟩
  | .hbm, ⟨21, _⟩ => ⟨S2x1024x1408, .f32⟩
  | .local _ .vmem, ⟨0, _⟩ => ⟨S1040x1024, .bf16⟩
  | .local _ .vmem, ⟨1, _⟩ => ⟨S1040x1024, .bf16⟩
  | .local _ .vmem, ⟨2, _⟩ => ⟨S1040x1408, .bf16⟩
  | .local _ .vmem, ⟨3, _⟩ => ⟨S1040x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1040x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4160x1024 : Shape := ⟨2, ![4160, 1024]⟩
abbrev S1x1024 : Shape := ⟨2, ![1, 1024]⟩
abbrev S4160x2816 : Shape := ⟨2, ![4160, 2816]⟩
abbrev S_ : Shape := ⟨0, ![]⟩
abbrev S2x1024x1408 : Shape := ⟨3, ![2, 1024, 1408]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x2816 : Shape := ⟨2, ![1024, 2816]⟩
abbrev S2816x1024 : Shape := ⟨2, ![2816, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x2816, .f32⟩
  | .hbm, ⟨3, _⟩ => ⟨S_, .f32⟩
  | .hbm, ⟨4, _⟩ => ⟨S2x1024x1408, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S1x1024x1408, .f32⟩
  | .hbm, ⟨21, _⟩ => ⟨S1024x1408, .f32⟩
  | .hbm, ⟨22, _⟩ => ⟨S1x1024x1408, .f32⟩
  | .hbm, ⟨23, _⟩ => ⟨S1024x1408, .f32⟩
  | .hbm, ⟨24, _⟩ => ⟨S1024x2816, .f32⟩
  | .hbm, ⟨25, _⟩ => ⟨S4160x2816, .f32⟩
  | .hbm, ⟨26, _⟩ => ⟨S2816x1024, .f32⟩
  | .hbm, ⟨27, _⟩ => ⟨S1024x2816, .f32⟩
  | .hbm, ⟨28, _⟩ => ⟨S1024x1408, .f32⟩
  | .hbm, ⟨29, _⟩ => ⟨S1024x1408, .f32⟩
  | .hbm, ⟨30, _⟩ => ⟨S1x1024x1408, .f32⟩
  | .hbm, ⟨31, _⟩ => ⟨S_, .f32⟩
  | .hbm, ⟨32, _⟩ => ⟨S2x1024x1408, .f32⟩
  | .hbm, ⟨33, _⟩ => ⟨S1x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel5.lean ====
abbrev S4160x1024 : Shape := ⟨2, ![4160, 1024]⟩
abbrev S1x1024 : Shape := ⟨2, ![1, 1024]⟩
abbrev S4160x2816 : Shape := ⟨2, ![4160, 2816]⟩
abbrev S4x1024x1408 : Shape := ⟨3, ![4, 1024, 1408]⟩
abbrev S_ : Shape := ⟨0, ![]⟩
abbrev S4160 : Shape := ⟨1, ![4160]⟩
abbrev S4160x1 : Shape := ⟨2, ![4160, 1]⟩
abbrev S1040x1024 : Shape := ⟨2, ![1040, 1024]⟩
abbrev S1040x1408 : Shape := ⟨2, ![1040, 1408]⟩
abbrev S1x1024x1408 : Shape := ⟨3, ![1, 1024, 1408]⟩
abbrev S1024x1408 : Shape := ⟨2, ![1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x2816, .f32⟩
  | .hbm, ⟨3, _⟩ => ⟨S4x1024x1408, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .bf16⟩
  | .hbm, ⟨20, _⟩ => ⟨S4160x2816, .bf16⟩
  | .hbm, ⟨21, _⟩ => ⟨S4x1024x1408, .f32⟩
  | .local _ .vmem, ⟨0, _⟩ => ⟨S1040x1024, .bf16⟩
  | .local _ .vmem, ⟨1, _⟩ => ⟨S1040x1024, .bf16⟩
  | .local _ .vmem, ⟨2, _⟩ => ⟨S1040x1408, .bf16⟩
  | .local _ .vmem, ⟨3, _⟩ => ⟨S1040x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![v0.toNat, arg0.toNat, c0_i32.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1040x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4160x1024 : Shape := ⟨2, ![4160, 1024]⟩
abbrev S1x1024 : Shape := ⟨2, ![1, 1024]⟩
abbrev S4160x2816 : Shape := ⟨2, ![4160, 2816]⟩
abbrev S4x1024x1408 : Shape := ⟨3, ![4, 1024, 1408]⟩
abbrev S2x1024x1408 : Shape := ⟨3, ![2, 1024, 1408]⟩
abbrev S_ : Shape := ⟨0, ![]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x2816 : Shape := ⟨2, ![1024, 2816]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x2816, .f32⟩
  | .hbm, ⟨3, _⟩ => ⟨S4x1024x1408, .f32⟩
  | .hbm, ⟨4, _⟩ => ⟨S2x1024x1408, .f32⟩
  | .hbm, ⟨5, _⟩ => ⟨S_, .f32⟩
  | .hbm, ⟨6, _⟩ => ⟨S2x1024x1408, .f32⟩
  | .hbm, ⟨7, _⟩ => ⟨S4160x1024, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x1024, .f32⟩
  | .hbm, ⟨22, _⟩ => ⟨S1x1024x1408, .f32⟩
  | .hbm, ⟨23, _⟩ => ⟨S1024x1408, .f32⟩
  | .hbm, ⟨24, _⟩ => ⟨S1x1024x1408, .f32⟩
  | .hbm, ⟨25, _⟩ => ⟨S1024x1408, .f32⟩
  | .hbm, ⟨26, _⟩ => ⟨S1024x2816, .f32⟩
  | .hbm, ⟨27, _⟩ => ⟨S4160x2816, .f32⟩
  | .hbm, ⟨28, _⟩ => ⟨S2816x1024, .f32⟩
  | .hbm, ⟨29, _⟩ => ⟨S1024x2816, .f32⟩
  | .hbm, ⟨30, _⟩ => ⟨S1024x1408, .f32⟩
  | .hbm, ⟨31, _⟩ => ⟨S1024x1408, .f32⟩
  | .hbm, ⟨32, _⟩ => ⟨S1x1024x1408, .f32⟩
  | .hbm, ⟨33, _⟩ => ⟨S_, .f32⟩
  | .hbm, ⟨34, _⟩ => ⟨S2x1024x1408, .f32⟩
  | .hbm, ⟨35, _⟩ => ⟨S1x1024x1408, .f32⟩
  | .hbm, ⟨36, _⟩ => ⟨S_, .f32⟩
  | .hbm, ⟨37, _⟩ => ⟨S2x1024x1408, .f32⟩
  | .hbm, ⟨38, _⟩ => ⟨S2x1024x1408, .f32⟩
  | .hbm, ⟨39, _⟩ => ⟨S4x1024x1408, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel6.lean ====
abbrev S4x1024x1408 : Shape := ⟨3, ![4, 1024, 1408]⟩
abbrev S4160x2816 : Shape := ⟨2, ![4160, 2816]⟩
abbrev S4160x1024 : Shape := ⟨2, ![4160, 1024]⟩
abbrev S1040x1408 : Shape := ⟨2, ![1040, 1408]⟩
abbrev S1x1024x1408 : Shape := ⟨3, ![1, 1024, 1408]⟩
abbrev S1040x1024 : Shape := ⟨2, ![1040, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4x1024x1408, .f32⟩
  | .hbm, ⟨1, _⟩ => ⟨S4160x2816, .f32⟩
  | .hbm, ⟨2, _⟩ => ⟨S4160x2816, .bf16⟩
  | .hbm, ⟨3, _⟩ => ⟨S4x1024x1408, .bf16⟩
  | .hbm, ⟨4, _⟩ => ⟨S4160x1024, .f32⟩
  | .local _ .vmem, ⟨0, _⟩ => ⟨S1040x1408, .bf16⟩
  | .local _ .vmem, ⟨1, _⟩ => ⟨S1040x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4x1024x1408 : Shape := ⟨3, ![4, 1024, 1408]⟩
abbrev S4160x2816 : Shape := ⟨2, ![4160, 2816]⟩
abbrev S_ : Shape := ⟨0, ![]⟩
abbrev S4160x1024 : Shape := ⟨2, ![4160, 1024]⟩
abbrev S2x1024x1408 : Shape := ⟨3, ![2, 1024, 1408]⟩
abbrev S1x1024x1408 : Shape := ⟨3, ![1, 1024, 1408]⟩
abbrev S1024x1408 : Shape := ⟨2, ![1024, 1408]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4160x2816, .f32⟩
  | .hbm, ⟨2, _⟩ => ⟨S_, .f32⟩
  | .hbm, ⟨3, _⟩ => ⟨S4160x1024, .f32⟩
  | .hbm, ⟨4, _⟩ => ⟨S2x1024x1408, .f32⟩
  | .hbm, ⟨5, _⟩ => ⟨S1x1024x1408, .f32⟩
  | .hbm, ⟨6, _⟩ => ⟨S1024x1408, .f32⟩
  | .hbm, ⟨7, _⟩ => ⟨S1x1024x1408, .f32⟩
  | .hbm, ⟨8, _⟩ => ⟨S1024x1408, .f32⟩
  | .hbm, ⟨9, _⟩ => ⟨S1024x2816, .f32⟩
  | .hbm, ⟨10, _⟩ => ⟨S4160x2816, .f32⟩
  | .hbm, ⟨11, _⟩ => ⟨S4160x1024, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4x1024x1408 : Shape := ⟨3, ![4, 1024, 1408]⟩
abbrev S4160x2816 : Shape := ⟨2, ![4160, 2816]⟩
abbrev S4160x1024 : Shape := ⟨2, ![4160, 1024]⟩
abbrev S1040x1408 : Shape := ⟨2, ![1040, 1408]⟩
abbrev S1x1024x1408 : Shape := ⟨3, ![1, 1024, 1408]⟩
abbrev S1040x1024 : Shape := ⟨2, ![1040, 1024]⟩
abbrev S1024x1408 : Shape := ⟨2, ![1024, 1408]⟩

abbrev nBuf : Space → Nat
  | .hbm => 6
  | .vmem => 9
  | .smem => 0
  | _ => 0

abbrev bufTy : (tb : Table) → Fin (tcTables nBuf tb) → BufTy
  | .hbm, ⟨0, _⟩ => ⟨S4x1024x1408, .f32⟩
  | .hbm, ⟨1, _⟩ => ⟨S4160x2816, .f32⟩
  | .hbm, ⟨2, _⟩ => ⟨S4160x1024, .f32⟩
  | .hbm, ⟨3, _⟩ => ⟨S4160x2816, .bf16⟩
  | .hbm, ⟨4, _⟩ => ⟨S4x1024x1408, .bf16⟩
  | .hbm, ⟨5, _⟩ => ⟨S4160x1024, .f32⟩
  | .local _ .vmem, ⟨0, _⟩ => ⟨S1040x1408, .bf16⟩
  | .local _ .vmem, ⟨1, _⟩ => ⟨S1040x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4x1024x1408 : Shape := ⟨3, ![4, 1024, 1408]⟩
abbrev S4160x2816 : Shape := ⟨2, ![4160, 2816]⟩
abbrev S4160x1024 : Shape := ⟨2, ![4160, 1024]⟩
abbrev S_ : Shape := ⟨0, ![]⟩
abbrev S2x1024x1408 : Shape := ⟨3, ![2, 1024, 1408]⟩
abbrev S1x1024x1408 : Shape := ⟨3, ![1, 1024, 1408]⟩
abbrev S1024x1408 : Shape := ⟨2, ![1024, 1408]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4160x2816, .f32⟩
  | .hbm, ⟨2, _⟩ => ⟨S4160x1024, .f32⟩
  | .hbm, ⟨3, _⟩ => ⟨S_, .f32⟩
  | .hbm, ⟨4, _⟩ => ⟨S4160x1024, .f32⟩
  | .hbm, ⟨5, _⟩ => ⟨S2x1024x1408, .f32⟩
  | .hbm, ⟨6, _⟩ => ⟨S1x1024x1408, .f32⟩
  | .hbm, ⟨7, _⟩ => ⟨S1024x1408, .f32⟩
  | .hbm, ⟨8, _⟩ => ⟨S1x1024x1408, .f32⟩
  | .hbm, ⟨9, _⟩ => ⟨S1024x1408, .f32⟩
  | .hbm, ⟨10, _⟩ => ⟨S1024x2816, .f32⟩
  | .hbm, ⟨11, _⟩ => ⟨S4160x2816, .f32⟩
  | .hbm, ⟨12, _⟩ => ⟨S4160x1024, .f32⟩
  | .hbm, ⟨13, _⟩ => ⟨S4160x1024, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S4160x1024 : Shape := ⟨2, ![4160, 1024]⟩
abbrev S1x1024 : Shape := ⟨2, ![1, 1024]⟩
abbrev S416x1024 : Shape := ⟨2, ![416, 1024]⟩
abbrev S416 : Shape := ⟨1, ![416]⟩
abbrev S416x1 : Shape := ⟨2, ![416, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x1024, .f32⟩
  | .hbm, ⟨3, _⟩ => ⟨S4160x1024, .f32⟩
  | .hbm, ⟨4, _⟩ => ⟨S4160x1024, .f32⟩
  | .hbm, ⟨5, _⟩ => ⟨S1x1024, .f32⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v40 : BitVec 32 := Scalar.extui v36
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v42 : BitVec 1 := Scalar.xori v36 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S4160x1024 : Shape := ⟨2, ![4160, 1024]⟩
abbrev S1x1024 : Shape := ⟨2, ![1, 1024]⟩
abbrev S_ : Shape := ⟨0, ![]⟩
abbrev S4160 : Shape := ⟨1, ![4160]⟩
abbrev S4160x1 : Shape := ⟨2, ![4160, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x1024, .f32⟩
  | .hbm, ⟨3, _⟩ => ⟨S4160x1024, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S_, .f32⟩
  | .hbm, ⟨17, _⟩ => ⟨S4160x1, .f32⟩
  | .hbm, ⟨18, _⟩ => ⟨S4160x1, .f32⟩
  | .hbm, ⟨19, _⟩ => ⟨S4160x1024, .f32⟩
  | .hbm, ⟨20, _⟩ => ⟨S4160x1024, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4160x1024, .f32⟩
  | .hbm, ⟨28, _⟩ => ⟨S4160x1024, .f32⟩
  | .hbm, ⟨29, _⟩ => ⟨S4160x1024, .f32⟩
  | .hbm, ⟨30, _⟩ => ⟨S_, .f32⟩
  | .hbm, ⟨31, _⟩ => ⟨S4160, .f32⟩
  | .hbm, ⟨32, _⟩ => ⟨S4160x1, .f32⟩
  | .hbm, ⟨33, _⟩ => ⟨S4160x1024, .f32⟩
  | .hbm, ⟨34, _⟩ => ⟨S4160x1024, .f32⟩
  | .hbm, ⟨35, _⟩ => ⟨S4160x1024, .f32⟩
  | .hbm, ⟨36, _⟩ => ⟨S4160x1, .f32⟩
  | .hbm, ⟨37, _⟩ => ⟨S_, .f32⟩
  | .hbm, ⟨38, _⟩ => ⟨S4160x1, .f32⟩
  | .hbm, ⟨39, _⟩ => ⟨S4160x1, .f32⟩
  | .hbm, ⟨40, _⟩ => ⟨S_, .f32⟩
  | .hbm, ⟨41, _⟩ => ⟨S4160, .f32⟩
  | .hbm, ⟨42, _⟩ => ⟨S4160x1024, .f32⟩
  | .hbm, ⟨43, _⟩ => ⟨S4160x1024, .f32⟩
  | .hbm, ⟨44, _⟩ => ⟨S4160x1024, .f32⟩
  | .hbm, ⟨45, _⟩ => ⟨S4160x1024, .f32⟩
  | .hbm, ⟨46, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel9.lean ====
abbrev S4160x1024 : Shape := ⟨2, ![4160, 1024]⟩
abbrev S1x1024 : Shape := ⟨2, ![1, 1024]⟩
abbrev S4160x9600 : Shape := ⟨2, ![4160, 9600]⟩
abbrev S_ : Shape := ⟨0, ![]⟩
abbrev S4160 : Shape := ⟨1, ![4160]⟩
abbrev S4160x1 : Shape := ⟨2, ![4160, 1]⟩
abbrev S1024x9600 : Shape := ⟨2, ![1024, 9600]⟩
abbrev S1040x1024 : Shape := ⟨2, ![1040, 1024]⟩
abbrev S1040x1920 : Shape := ⟨2, ![1040, 1920]⟩
abbrev S1024x1920 : Shape := ⟨2, ![1024, 1920]⟩

abbrev nBuf : Space → Nat
  | .hbm => 21
  | .vmem => 7
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x9600, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .bf16⟩
  | .hbm, ⟨19, _⟩ => ⟨S4160x9600, .bf16⟩
  | .hbm, ⟨20, _⟩ => ⟨S1024x9600, .f32⟩
  | .local _ .vmem, ⟨0, _⟩ => ⟨S1040x1024, .bf16⟩
  | .local _ .vmem, ⟨1, _⟩ => ⟨S1040x1024, .bf16⟩
  | .local _ .vmem, ⟨2, _⟩ => ⟨S1040x1920, .bf16⟩
  | .local _ .vmem, ⟨3, _⟩ => ⟨S1040x1920, .bf16⟩
  | .local _ .vmem, ⟨4, _⟩ => ⟨S1024x1920, .f32⟩
  | .local _ .vmem, ⟨5, _⟩ => ⟨S1024x1920, .f32⟩
  | .local _ .vmem, ⟨6, _⟩ => ⟨S1024x1920, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1040x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4160x1024 : Shape := ⟨2, ![4160, 1024]⟩
abbrev S1x1024 : Shape := ⟨2, ![1, 1024]⟩
abbrev S4160x9600 : Shape := ⟨2, ![4160, 9600]⟩
abbrev S_ : Shape := ⟨0, ![]⟩
abbrev S1024x9600 : Shape := ⟨2, ![1024, 9600]⟩
abbrev S4160 : Shape := ⟨1, ![4160]⟩
abbrev S4160x1 : Shape := ⟨2, ![4160, 1]⟩
abbrev S9600x1024 : Shape := ⟨2, ![9600, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x9600, .f32⟩
  | .hbm, ⟨3, _⟩ => ⟨S_, .f32⟩
  | .hbm, ⟨4, _⟩ => ⟨S1024x9600, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x9600, .f32⟩
  | .hbm, ⟨21, _⟩ => ⟨S9600x1024, .f32⟩
  | .hbm, ⟨22, _⟩ => ⟨S1024x9600, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel10.lean ====
abbrev S1024x9600 : Shape := ⟨2, ![1024, 9600]⟩
abbrev S4160x9600 : Shape := ⟨2, ![4160, 9600]⟩
abbrev S4160x1024 : Shape := ⟨2, ![4160, 1024]⟩
abbrev S1040x1920 : Shape := ⟨2, ![1040, 1920]⟩
abbrev S1024x1920 : Shape := ⟨2, ![1024, 1920]⟩
abbrev S1040x1024 : Shape := ⟨2, ![1040, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x9600, .f32⟩
  | .hbm, ⟨1, _⟩ => ⟨S4160x9600, .f32⟩
  | .hbm, ⟨2, _⟩ => ⟨S4160x9600, .bf16⟩
  | .hbm, ⟨3, _⟩ => ⟨S1024x9600, .bf16⟩
  | .hbm, ⟨4, _⟩ => ⟨S4160x1024, .f32⟩
  | .local _ .vmem, ⟨0, _⟩ => ⟨S1040x1920, .bf16⟩
  | .local _ .vmem, ⟨1, _⟩ => ⟨S1040x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S1024x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S1024x9600 : Shape := ⟨2, ![1024, 9600]⟩
abbrev S4160x9600 : Shape := ⟨2, ![4160, 9600]⟩
abbrev S_ : Shape := ⟨0, ![]⟩
abbrev S4160x1024 : Shape := ⟨2, ![4160, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x9600, .f32⟩
  | .hbm, ⟨1, _⟩ => ⟨S4160x9600, .f32⟩
  | .hbm, ⟨2, _⟩ => ⟨S_, .f32⟩
  | .hbm, ⟨3, _⟩ => ⟨S4160x1024, .f32⟩
  | .hbm, ⟨4, _⟩ => ⟨S4160x9600, .f32⟩
  | .hbm, ⟨5, _⟩ => ⟨S4160x1024, .f32⟩
  | _, _ => ⟨S1024x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4160x1024 : Shape := ⟨2, ![4160, 1024]⟩
abbrev S1024x1024 : Shape := ⟨2, ![1024, 1024]⟩
abbrev S1040x1024 : Shape := ⟨2, ![1040, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S4160x1024, .bf16⟩
  | .hbm, ⟨3, _⟩ => ⟨S1024x1024, .f32⟩
  | .local _ .vmem, ⟨0, _⟩ => ⟨S1040x1024, .bf16⟩
  | .local _ .vmem, ⟨1, _⟩ => ⟨S1040x1024, .bf16⟩
  | .local _ .vmem, ⟨2, _⟩ => ⟨S1040x1024, .f32⟩
  | .local _ .vmem, ⟨3, _⟩ => ⟨S1040x1024, .f32⟩
  | .local _ .vmem, ⟨4, _⟩ => ⟨S1024x1024, .f32⟩
  | .local _ .vmem, ⟨5, _⟩ => ⟨S1024x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1040x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4160x1024 : Shape := ⟨2, ![4160, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S_, .f32⟩
  | .hbm, ⟨3, _⟩ => ⟨S1024x1024, .f32⟩
  | .hbm, ⟨4, _⟩ => ⟨S4160x1024, .f32⟩
  | .hbm, ⟨5, _⟩ => ⟨S1024x1024, .f32⟩
  | .hbm, ⟨6, _⟩ => ⟨S1024x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S1024x1024 : Shape := ⟨2, ![1024, 1024]⟩
abbrev S4160x1024 : Shape := ⟨2, ![4160, 1024]⟩
abbrev S1040x1024 : Shape := ⟨2, ![1040, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4160x1024, .f32⟩
  | .hbm, ⟨2, _⟩ => ⟨S1024x1024, .bf16⟩
  | .hbm, ⟨3, _⟩ => ⟨S4160x1024, .f32⟩
  | .local _ .vmem, ⟨0, _⟩ => ⟨S1040x1024, .f32⟩
  | .local _ .vmem, ⟨1, _⟩ => ⟨S1040x1024, .f32⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | .local _ .vmem, ⟨5, _⟩ => ⟨S1040x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x1024 : Shape := ⟨2, ![1024, 1024]⟩
abbrev S4160x1024 : Shape := ⟨2, ![4160, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4160x1024, .f32⟩
  | .hbm, ⟨2, _⟩ => ⟨S_, .f32⟩
  | .hbm, ⟨3, _⟩ => ⟨S4160x1024, .f32⟩
  | .hbm, ⟨4, _⟩ => ⟨S4160x1024, .f32⟩
  | .hbm, ⟨5, _⟩ => ⟨S4160x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4160x1024 : Shape := ⟨2, ![4160, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x5632 : Shape := ⟨2, ![1024, 5632]⟩
abbrev S4160x5632 : Shape := ⟨2, ![4160, 5632]⟩
abbrev S4160x2816 : Shape := ⟨2, ![4160, 2816]⟩
abbrev S1040x1408 : Shape := ⟨2, ![1040, 1408]⟩
abbrev S1408x1024 : Shape := ⟨2, ![1408, 1024]⟩
abbrev S1040x1024 : Shape := ⟨2, ![1040, 1024]⟩

abbrev nBuf : Space → Nat
  | .hbm => 44
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x1408, .f32⟩
  | .hbm, ⟨3, _⟩ => ⟨S2816x1024, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S1x1024x1408, .f32⟩
  | .hbm, ⟨20, _⟩ => ⟨S1024x1408, .f32⟩
  | .hbm, ⟨21, _⟩ => ⟨S1x1024x1408, .f32⟩
  | .hbm, ⟨22, _⟩ => ⟨S1024x1408, .f32⟩
  | .hbm, ⟨23, _⟩ => ⟨S1x1024x1408, .f32⟩
  | .hbm, ⟨24, _⟩ => ⟨S1024x1408, .f32⟩
  | .hbm, ⟨25, _⟩ => ⟨S1x1024x1408, .f32⟩
  | .hbm, ⟨26, _⟩ => ⟨S1024x1408, .f32⟩
  | .hbm, ⟨27, _⟩ => ⟨S1024x5632, .f32⟩
  | .hbm, ⟨28, _⟩ => ⟨S4160x5632, .f32⟩
  | .hbm, ⟨29, _⟩ => ⟨S4160x2816, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S_, .f32⟩
  | .hbm, ⟨34, _⟩ => ⟨S4160x2816, .f32⟩
  | .hbm, ⟨35, _⟩ => ⟨S4160x2816, .f32⟩
  | .hbm, ⟨36, _⟩ => ⟨S_, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .bf16⟩
  | .hbm, ⟨42, _⟩ => ⟨S2816x1024, .bf16⟩
  | .hbm, ⟨43, _⟩ => ⟨S4160x1024, .f32⟩
  | .local _ .vmem, ⟨0, _⟩ => ⟨S1040x1408, .bf16⟩
  | .local _ .vmem, ⟨1, _⟩ => ⟨S1040x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4160x1024 : Shape := ⟨2, ![4160, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x5632 : Shape := ⟨2, ![1024, 5632]⟩
abbrev S4160x5632 : Shape := ⟨2, ![4160, 5632]⟩
abbrev S4160x2816 : Shape := ⟨2, ![4160, 2816]⟩

abbrev nBuf : Space → Nat
  | .hbm => 46
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x1408, .f32⟩
  | .hbm, ⟨3, _⟩ => ⟨S2816x1024, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S1x1024x1408, .f32⟩
  | .hbm, ⟨20, _⟩ => ⟨S1024x1408, .f32⟩
  | .hbm, ⟨21, _⟩ => ⟨S1x1024x1408, .f32⟩
  | .hbm, ⟨22, _⟩ => ⟨S1024x1408, .f32⟩
  | .hbm, ⟨23, _⟩ => ⟨S1x1024x1408, .f32⟩
  | .hbm, ⟨24, _⟩ => ⟨S1024x1408, .f32⟩
  | .hbm, ⟨25, _⟩ => ⟨S1x1024x1408, .f32⟩
  | .hbm, ⟨26, _⟩ => ⟨S1024x1408, .f32⟩
  | .hbm, ⟨27, _⟩ => ⟨S1024x5632, .f32⟩
  | .hbm, ⟨28, _⟩ => ⟨S4160x5632, .f32⟩
  | .hbm, ⟨29, _⟩ => ⟨S4160x2816, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S_, .f32⟩
  | .hbm, ⟨34, _⟩ => ⟨S4160x2816, .f32⟩
  | .hbm, ⟨35, _⟩ => ⟨S4160x2816, .f32⟩
  | .hbm, ⟨36, _⟩ => ⟨S_, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x1024, .f32⟩
  | .hbm, ⟨42, _⟩ => ⟨S_, .f32⟩
  | .hbm, ⟨43, _⟩ => ⟨S4160x1024, .f32⟩
  | .hbm, ⟨44, _⟩ => ⟨S4160x1024, .f32⟩
  | .hbm, ⟨45, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel14.lean ====
abbrev S4160x1024 : Shape := ⟨2, ![4160, 1024]⟩
abbrev S1x1024 : Shape := ⟨2, ![1, 1024]⟩
abbrev S1024x9600 : Shape := ⟨2, ![1024, 9600]⟩
abbrev S_ : Shape := ⟨0, ![]⟩
abbrev S4160 : Shape := ⟨1, ![4160]⟩
abbrev S4160x1 : Shape := ⟨2, ![4160, 1]⟩
abbrev S4160x9600 : Shape := ⟨2, ![4160, 9600]⟩
abbrev S1040x1024 : Shape := ⟨2, ![1040, 1024]⟩
abbrev S1024x1920 : Shape := ⟨2, ![1024, 1920]⟩
abbrev S1040x1920 : Shape := ⟨2, ![1040, 1920]⟩

abbrev nBuf : Space → Nat
  | .hbm => 21
  | .vmem => 7
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x9600, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .bf16⟩
  | .hbm, ⟨19, _⟩ => ⟨S1024x9600, .bf16⟩
  | .hbm, ⟨20, _⟩ => ⟨S4160x9600, .f32⟩
  | .local _ .vmem, ⟨0, _⟩ => ⟨S1040x1024, .bf16⟩
  | .local _ .vmem, ⟨1, _⟩ => ⟨S1040x1024, .bf16⟩
  | .local _ .vmem, ⟨2, _⟩ => ⟨S1024x1920, .bf16⟩
  | .local _ .vmem, ⟨3, _⟩ => ⟨S1024x1920, .bf16⟩
  | .local _ .vmem, ⟨4, _⟩ => ⟨S1040x1920, .f32⟩
  | .local _ .vmem, ⟨5, _⟩ => ⟨S1040x1920, .f32⟩
  | .local _ .vmem, ⟨6, _⟩ => ⟨S1040x1920, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1040x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4160x1024 : Shape := ⟨2, ![4160, 1024]⟩
abbrev S1x1024 : Shape := ⟨2, ![1, 1024]⟩
abbrev S1024x9600 : Shape := ⟨2, ![1024, 9600]⟩
abbrev S_ : Shape := ⟨0, ![]⟩
abbrev S4160 : Shape := ⟨1, ![4160]⟩
abbrev S4160x1 : Shape := ⟨2, ![4160, 1]⟩
abbrev S4160x9600 : Shape := ⟨2, ![4160, 9600]⟩

abbrev nBuf : Space → Nat
  | .hbm => 19
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x9600, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x9600, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel15.lean ====
abbrev S4160x1024 : Shape := ⟨2, ![4160, 1024]⟩
abbrev S1024x1024 : Shape := ⟨2, ![1024, 1024]⟩
abbrev S1040x1024 : Shape := ⟨2, ![1040, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S4160x1024, .bf16⟩
  | .hbm, ⟨4, _⟩ => ⟨S1024x1024, .bf16⟩
  | .hbm, ⟨5, _⟩ => ⟨S4160x1024, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4160x1024 : Shape := ⟨2, ![4160, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S4160x1024, .f32⟩
  | .hbm, ⟨4, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S4160x1024 : Shape := ⟨2, ![4160, 1024]⟩
abbrev S1x1024 : Shape := ⟨2, ![1, 1024]⟩
abbrev S416x1024 : Shape := ⟨2, ![416, 1024]⟩
abbrev S416 : Shape := ⟨1, ![416]⟩
abbrev S416x1 : Shape := ⟨2, ![416, 1]⟩

abbrev nBuf : Space → Nat
  | .hbm => 3
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x1024, .bf16⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S416x1024, .bf16⟩
  | .local _ .vmem, ⟨4, _⟩ => ⟨S416x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4160x1024 : Shape := ⟨2, ![4160, 1024]⟩
abbrev S1x1024 : Shape := ⟨2, ![1, 1024]⟩
abbrev S_ : Shape := ⟨0, ![]⟩
abbrev S4160 : Shape := ⟨1, ![4160]⟩
abbrev S4160x1 : Shape := ⟨2, ![4160, 1]⟩

abbrev nBuf : Space → Nat
  | .hbm => 18
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4160x1024, .f32⟩
  | .hbm, ⟨3, _⟩ => ⟨S_, .f32⟩
  | .hbm, ⟨4, _⟩ => ⟨S4160, .f32⟩
  | .hbm, ⟨5, _⟩ => ⟨S4160x1, .f32⟩
  | .hbm, ⟨6, _⟩ => ⟨S_, .f32⟩
  | .hbm, ⟨7, _⟩ => ⟨S4160x1, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S4160x1, .f32⟩
  | .hbm, ⟨13, _⟩ => ⟨S4160x1024, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S4160x1024 : Shape := ⟨2, ![4160, 1024]⟩
abbrev S1x1024 : Shape := ⟨2, ![1, 1024]⟩
abbrev S4x1024x1408 : Shape := ⟨3, ![4, 1024, 1408]⟩
abbrev S_ : Shape := ⟨0, ![]⟩
abbrev S4160 : Shape := ⟨1, ![4160]⟩
abbrev S4160x1 : Shape := ⟨2, ![4160, 1]⟩
abbrev S4160x2816 : Shape := ⟨2, ![4160, 2816]⟩
abbrev S416x1024 : Shape := ⟨2, ![416, 1024]⟩
abbrev S1x1024x1408 : Shape := ⟨3, ![1, 1024, 1408]⟩
abbrev S416x1408 : Shape := ⟨2, ![416, 1408]⟩
abbrev S1024x1408 : Shape := ⟨2, ![1024, 1408]⟩

abbrev nBuf : Space → Nat
  | .hbm => 23
  | .vmem => 12
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x1408, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .bf16⟩
  | .hbm, ⟨19, _⟩ => ⟨S4x1024x1408, .bf16⟩
  | .hbm, ⟨20, _⟩ => ⟨S4160x2816, .f32⟩
  | .hbm, ⟨21, _⟩ => ⟨S4160x2816, .f32⟩
  | .hbm, ⟨22, _⟩ => ⟨S4160x2816, .bf16⟩
  | .local _ .vmem, ⟨0, _⟩ => ⟨S416x1024, .bf16⟩
  | .local _ .vmem, ⟨1, _⟩ => ⟨S416x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S416x1408, .f32⟩
  | .local _ .vmem, ⟨7, _⟩ => ⟨S416x1408, .f32⟩
  | .local _ .vmem, ⟨8, _⟩ => ⟨S416x1408, .f32⟩
  | .local _ .vmem, ⟨9, _⟩ => ⟨S416x1408, .f32⟩
  | .local _ .vmem, ⟨10, _⟩ => ⟨S416x1408, .bf16⟩
  | .local _ .vmem, ⟨11, _⟩ => ⟨S416x1408, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S416x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S416x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S416x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference17Ideal.lean ====
abbrev S4160x1024 : Shape := ⟨2, ![4160, 1024]⟩
abbrev S1x1024 : Shape := ⟨2, ![1, 1024]⟩
abbrev S4x1024x1408 : Shape := ⟨3, ![4, 1024, 1408]⟩
abbrev S_ : Shape := ⟨0, ![]⟩
abbrev S4160 : Shape := ⟨1, ![4160]⟩
abbrev S4160x1 : Shape := ⟨2, ![4160, 1]⟩
abbrev S1x1024x1408 : Shape := ⟨3, ![1, 1024, 1408]⟩
abbrev S1024x1408 : Shape := ⟨2, ![1024, 1408]⟩
abbrev S1024x5632 : Shape := ⟨2, ![1024, 5632]⟩
abbrev S4160x5632 : Shape := ⟨2, ![4160, 5632]⟩
abbrev S4160x2816 : Shape := ⟨2, ![4160, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x1408, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S1x1024x1408, .f32⟩
  | .hbm, ⟨19, _⟩ => ⟨S1024x1408, .f32⟩
  | .hbm, ⟨20, _⟩ => ⟨S1x1024x1408, .f32⟩
  | .hbm, ⟨21, _⟩ => ⟨S1024x1408, .f32⟩
  | .hbm, ⟨22, _⟩ => ⟨S1x1024x1408, .f32⟩
  | .hbm, ⟨23, _⟩ => ⟨S1024x1408, .f32⟩
  | .hbm, ⟨24, _⟩ => ⟨S1x1024x1408, .f32⟩
  | .hbm, ⟨25, _⟩ => ⟨S1024x1408, .f32⟩
  | .hbm, ⟨26, _⟩ => ⟨S1024x5632, .f32⟩
  | .hbm, ⟨27, _⟩ => ⟨S4160x5632, .f32⟩
  | .hbm, ⟨28, _⟩ => ⟨S4160x2816, .f32⟩
  | .hbm, ⟨29, _⟩ => ⟨S4160x2816, .f32⟩
  | .hbm, ⟨30, _⟩ => ⟨S4160x2816, .f32⟩
  | .hbm, ⟨31, _⟩ => ⟨S4160x2816, .f32⟩
  | .hbm, ⟨32, _⟩ => ⟨S_, .f32⟩
  | .hbm, ⟨33, _⟩ => ⟨S4160x2816, .f32⟩
  | .hbm, ⟨34, _⟩ => ⟨S4160x2816, .f32⟩
  | .hbm, ⟨35, _⟩ => ⟨S_, .f32⟩
  | .hbm, ⟨36, _⟩ => ⟨S4160x2816, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S4160x2816, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S4160x128 : Shape := ⟨2, ![4160, 128]⟩
abbrev S4x128 : Shape := ⟨2, ![4, 128]⟩
abbrev S1x128 : Shape := ⟨2, ![1, 128]⟩
abbrev S4160 : Shape := ⟨1, ![4160]⟩
abbrev S4160x1 : Shape := ⟨2, ![4160, 1]⟩
abbrev S128 : Shape := ⟨1, ![128]⟩
abbrev S3x128 : Shape := ⟨2, ![3, 128]⟩
abbrev S2x128 : Shape := ⟨2, ![2, 128]⟩

abbrev nBuf : Space → Nat
  | .hbm => 5
  | .vmem => 10
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .hbm, ⟨3, _⟩ => ⟨S4160x1024, .bf16⟩
  | .hbm, ⟨4, _⟩ => ⟨S4x1024, .f32⟩
  | .local _ .vmem, ⟨0, _⟩ => ⟨S4160x128, .f32⟩
  | .local _ .vmem, ⟨1, _⟩ => ⟨S4160x128, .f32⟩
  | .local _ .vmem, ⟨2, _⟩ => ⟨S4x128, .f32⟩
  | .local _ .vmem, ⟨3, _⟩ => ⟨S4x128, .f32⟩
  | .local _ .vmem, ⟨4, _⟩ => ⟨S4160x128, .f32⟩
  | .local _ .vmem, ⟨5, _⟩ => ⟨S4160x128, .f32⟩
  | .local _ .vmem, ⟨6, _⟩ => ⟨S4160x128, .bf16⟩
  | .local _ .vmem, ⟨7, _⟩ => ⟨S4160x128, .bf16⟩
  | .local _ .vmem, ⟨8, _⟩ => ⟨S4x128, .f32⟩
  | .local _ .vmem, ⟨9, _⟩ => ⟨S4x128, .f32⟩
  | _, _ => ⟨S4160x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4160x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S_ : Shape := ⟨0, ![]⟩
abbrev S3x1024 : Shape := ⟨2, ![3, 1024]⟩
abbrev S4163x1024 : Shape := ⟨2, ![4163, 1024]⟩
abbrev S1x1024 : Shape := ⟨2, ![1, 1024]⟩
abbrev S1024 : Shape := ⟨1, ![1024]⟩
abbrev S4160x8x128 : Shape := ⟨3, ![4160, 8, 128]⟩
abbrev S4160x8 : Shape := ⟨2, ![4160, 8]⟩
abbrev S4160x8x1 : Shape := ⟨3, ![4160, 8, 1]⟩

abbrev nBuf : Space → Nat
  | .hbm => 153
  | .vmem => 0
  | .smem => 0
  | _ => 0

abbrev hbmTy0_0 (i : Nat) : BufTy := match i % 128 with
  | 0 => ⟨S4160x9600, .f32⟩
  | 1 => ⟨S4x3072, .f32⟩
  | 2 => ⟨S4160x1024, .f32⟩
  | 3 => ⟨S4160x1024, .f32⟩
  | 4 => ⟨S4x1024, .f32⟩
  | 5 => ⟨S_, .f32⟩
  | 6 => ⟨S3x1024, .f32⟩
  | 7 => ⟨S4163x1024, .f32⟩
  | 8 => ⟨S_, .f32⟩
  | 9 => ⟨S3x1024, .f32⟩
  | 10 => ⟨S4160x1024, .f32⟩
  | 11 => ⟨S1x1024, .f32⟩
  | 12 => ⟨S1024, .f32⟩
  | 13 => ⟨S1x1024, .f32⟩
  | 14 => ⟨S4160x1024, .f32⟩
  | 15 => ⟨S4160x1024, .f32⟩
  | 16 => ⟨S4160x1024, .f32⟩
  | 17 => ⟨S1x1024, .f32⟩
  | 18 => ⟨S1024, .f32⟩
  | 19 => ⟨S1x1024, .f32⟩
  | 20 => ⟨S4160x1024, .f32⟩
  | 21 => ⟨S4160x1024, .f32⟩
  | 22 => ⟨S4160x1024, .f32⟩
  | 23 => ⟨S4160x1024, .f32⟩
  | 24 => ⟨S1x1024, .f32⟩
  | 25 => ⟨S1024, .f32⟩
  | 26 => ⟨S1x1024, .f32⟩
  | 27 => ⟨S4160x1024, .f32⟩
  | 28 => ⟨S4160x1024, .f32⟩
  | 29 => ⟨S4160x1024, .f32⟩
  | 30 => ⟨S4160x1024, .f32⟩
  | 31 => ⟨S1x1024, .f32⟩
  | 32 => ⟨S1024, .f32⟩
  | 33 => ⟨S1x1024, .f32⟩
  | 34 => ⟨S4160x1024, .f32⟩
  | 35 => ⟨S4160x1024, .f32⟩
  | 36 => ⟨S4160x1024, .f32⟩
  | 37 => ⟨S4160x1024, .f32⟩
  | 38 => ⟨S4160x1024, .f32⟩
  | 39 => ⟨S_, .f32⟩
  | 40 => ⟨S4160x1024, .f32⟩
  | 41 => ⟨S4160x1024, .f32⟩
  | 42 => ⟨S_, .f32⟩
  | 43 => ⟨S4160x1024, .f32⟩
  | 44 => ⟨S4160x1024, .f32⟩
  | 45 => ⟨S_, .f32⟩
  | 46 => ⟨S4160x1024, .f32⟩
  | 47 => ⟨S4160x1024, .f32⟩
  | 48 => ⟨S4160x1024, .f32⟩
  | 49 => ⟨S4160x1024, .f32⟩
  | 50 => ⟨S4160x8x128, .f32⟩
  | 51 => ⟨S4160x8x128, .f32⟩
  | 52 => ⟨S_, .f32⟩
  | 53 => ⟨S4160x8, .f32⟩
  | 54 => ⟨S4160x8x1, .f32⟩
  | 55 => ⟨S_, .f32⟩
  | 56 => ⟨S4160x8x1, .f32⟩
  | 57 => ⟨S4160x8x1, .f32⟩
  | 58 => ⟨S4160x8x1, .f32⟩
  | 59 => ⟨S4160x8x1, .f32⟩
  | 60 => ⟨S_, .f32⟩
  | 61 => ⟨S4160x8x1, .f32⟩
  | 62 => ⟨S4160x8x1, .f32⟩
  | 63 => ⟨S4160x8x128, .f32⟩
  | 64 => ⟨S4160x8x128, .f32⟩
  | 65 => ⟨S_, .f32⟩
  | 66 => ⟨S4160x8x128, .f32⟩
  | 67 => ⟨S4160x8x128, .f32⟩
  | 68 => ⟨S4160x1024, .f32⟩
  | 69 => ⟨S4160x8x128, .f32⟩
  | 70 => ⟨S_, .f32⟩
  | 71 => ⟨S4160x8x128, .f32⟩
  | 72 => ⟨S4160x8x128, .f32⟩
  | 73 => ⟨S4160x8x128, .f32⟩
  | 74 => ⟨S_, .f32⟩
  | 75 => ⟨S4160x8, .f32⟩
  | 76 => ⟨S4160x8x1, .f32⟩
  | 77 => ⟨S4160x8x128, .f32⟩
  | 78 => ⟨S4160x8x128, .f32⟩
  | 79 => ⟨S4160x8x1, .f32⟩
  | 80 => ⟨S_, .f32⟩
  | 81 => ⟨S4160x8, .f32⟩
  | 82 => ⟨S4160x8x128, .f32⟩
  | 83 => ⟨S4160x8x128, .f32⟩
  | 84 => ⟨S4160x8x128, .f32⟩
  | 85 => ⟨S4160x8x128, .f32⟩
  | 86 => ⟨S4160x8x128, .f32⟩
  | 87 => ⟨S4160x1024, .f32⟩
  | 88 => ⟨S4160x1024, .f32⟩
  | 89 => ⟨S4160x1024, .f32⟩
  | 90 => ⟨S4160x1024, .f32⟩
  | 91 => ⟨S4160x1024, .f32⟩
  | 92 => ⟨S4160x1024, .f32⟩
  | 93 => ⟨S_, .f32⟩
  | 94 => ⟨S1024, .f32⟩
  | 95 => ⟨S1x1024, .f32⟩
  | 96 => ⟨S4160x1024, .f32⟩
  | 97 => ⟨S4160x1024, .f32⟩
  | 98 => ⟨S_, .f32⟩
  | 99 => ⟨S1024, .f32⟩
  | 100 => ⟨S1x1024, .f32⟩
  | 101 => ⟨S_, .f32⟩
  | 102 => ⟨S4x1024, .f32⟩
  | 103 => ⟨S_, .f32⟩
  | 104 => ⟨S4163x1024, .f32⟩
  | 105 => ⟨S4160x1024, .f32⟩
  | 106 => ⟨S_, .f32⟩
  | 107 => ⟨S1024, .f32⟩
  | 108 => ⟨S1x1024, .f32⟩
  | 109 => ⟨S4160x1024, .f32⟩
  | 110 => ⟨S4160x1024, .f32⟩
  | 111 => ⟨S_, .f32⟩
  | 112 => ⟨S1024, .f32⟩
  | 113 => ⟨S1x1024, .f32⟩
  | 114 => ⟨S_, .f32⟩
  | 115 => ⟨S4x1024, .f32⟩
  | 116 => ⟨S4x1024, .f32⟩
  | 117 => ⟨S_, .f32⟩
  | 118 => ⟨S4163x1024, .f32⟩
  | 119 => ⟨S4163x1024, .f32⟩
  | 120 => ⟨S4160x1024, .f32⟩
  | 121 => ⟨S_, .f32⟩
  | 122 => ⟨S1024, .f32⟩
  | 123 => ⟨S1x1024, .f32⟩
  | 124 => ⟨S4160x1024, .f32⟩
  | 125 => ⟨S4160x1024, .f32⟩
  | 126 => ⟨S_, .f32⟩
  | 127 => ⟨S1024, .f32⟩
  | _ => ⟨S4160x9600, .f32⟩

abbrev hbmTy0_1 (i : Nat) : BufTy := match i % 128 with
  | 0 => ⟨S1x1024, .f32⟩
  | 1 => ⟨S_, .f32⟩
  | 2 => ⟨S4x1024, .f32⟩
  | 3 => ⟨S4x1024, .f32⟩
  | 4 => ⟨S_, .f32⟩
  | 5 => ⟨S4163x1024, .f32⟩
  | 6 => ⟨S4163x1024, .f32⟩
  | 7 => ⟨S4160x1024, .f32⟩
  | 8 => ⟨S_, .f32⟩
  | 9 => ⟨S1024, .f32⟩
  | 10 => ⟨S1x1024, .f32⟩
  | 11 => ⟨S4160x1024, .f32⟩
  | 12 => ⟨S4160x1024, .f32⟩
  | 13 => ⟨S_, .f32⟩
  | 14 => ⟨S1024, .f32⟩
  | 15 => ⟨S1x1024, .f32⟩
  | 16 => ⟨S_, .f32⟩
  | 17 => ⟨S4x1024, .f32⟩
  | 18 => ⟨S4x1024, .f32⟩
  | 19 => ⟨S_, .f32⟩
  | 20 => ⟨S4163x1024, .f32⟩
  | 21 => ⟨S4163x1024, .f32⟩
  | 22 => ⟨S3x1024, .f32⟩
  | 23 => ⟨S4160x1024, .f32⟩
  | 24 => ⟨S4160x1024, .bf16⟩
  | _ => ⟨S4160x9600, .f32⟩

abbrev hbmTy (i : Nat) : BufTy := match i / 128 with
  | 0 => hbmTy0_0 i
  | 1 => hbmTy0_1 i
  | _ => ⟨S4160x9600, .f32⟩

abbrev bufTy : (tb : Table) → Fin (tcTables nBuf tb) → BufTy
  | .hbm, ⟨i, _⟩ => hbmTy i
  | _, _ => ⟨S4160x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v32_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v32_1 : Ref sig .tc := ⟨.hbm, 48, rfl⟩
abbrev main_v32_0 : Ref sig .tc := ⟨.hbm, 49, rfl⟩
abbrev main_v33 : Ref sig .tc := ⟨.hbm, 50, rfl⟩
abbrev main_v34 : Ref sig .tc := ⟨.hbm, 51, rfl⟩
abbrev main_cst_1 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v64 : Ref sig .tc := ⟨.hbm, 91, rfl⟩
abbrev main_v65 : Ref sig .tc := ⟨.hbm, 92, rfl⟩
abbrev main_cst_8 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_9 : Ref sig .tc := ⟨.hbm, 98, rfl⟩
abbrev main_v70 : Ref sig .tc := ⟨.hbm, 99, rfl⟩
abbrev main_v71 : Ref sig .tc := ⟨.hbm, 100, rfl⟩
abbrev main_cst_10 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_17 : Ref sig .tc := ⟨.hbm, 126, rfl⟩
abbrev main_v90 : Ref sig .tc := ⟨.hbm, 127, rfl⟩
abbrev main_v91 : Ref sig .tc := ⟨.hbm, 128, rfl⟩
abbrev main_cst_18 : Ref sig .tc := ⟨.hbm, 129, rfl⟩
abbrev main_v92 : Ref sig .tc := ⟨.hbm, 130, rfl⟩
abbrev main_v93 : Ref sig .tc := ⟨.hbm, 131, rfl⟩
abbrev main_cst_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_20 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_21 : Ref sig .tc := ⟨.hbm, 141, rfl⟩
abbrev main_v101 : Ref sig .tc := ⟨.hbm, 142, rfl⟩
abbrev main_v102 : Ref sig .tc := ⟨.hbm, 143, rfl⟩
abbrev main_cst_22 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩

abbrev nD : Nat := 1
abbrev τ : Topo := Topo.v7x

variable {F : FTy → Type} [FloatOps F]
-- ==== Kernel19.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S4160x128 : Shape := ⟨2, ![4160, 128]⟩
abbrev S4x128 : Shape := ⟨2, ![4, 128]⟩
abbrev S1x128 : Shape := ⟨2, ![1, 128]⟩
abbrev S4160 : Shape := ⟨1, ![4160]⟩
abbrev S4160x1 : Shape := ⟨2, ![4160, 1]⟩
abbrev S128 : Shape := ⟨1, ![128]⟩
abbrev S3x128 : Shape := ⟨2, ![3, 128]⟩
abbrev S2x128 : Shape := ⟨2, ![2, 128]⟩

abbrev nBuf : Space → Nat
  | .hbm => 5
  | .vmem => 10
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .hbm, ⟨3, _⟩ => ⟨S4160x1024, .bf16⟩
  | .hbm, ⟨4, _⟩ => ⟨S4x1024, .f32⟩
  | .local _ .vmem, ⟨0, _⟩ => ⟨S4160x128, .f32⟩
  | .local _ .vmem, ⟨1, _⟩ => ⟨S4160x128, .f32⟩
  | .local _ .vmem, ⟨2, _⟩ => ⟨S4x128, .f32⟩
  | .local _ .vmem, ⟨3, _⟩ => ⟨S4x128, .f32⟩
  | .local _ .vmem, ⟨4, _⟩ => ⟨S4160x128, .f32⟩
  | .local _ .vmem, ⟨5, _⟩ => ⟨S4160x128, .f32⟩
  | .local _ .vmem, ⟨6, _⟩ => ⟨S4160x128, .bf16⟩
  | .local _ .vmem, ⟨7, _⟩ => ⟨S4160x128, .bf16⟩
  | .local _ .vmem, ⟨8, _⟩ => ⟨S4x128, .f32⟩
  | .local _ .vmem, ⟨9, _⟩ => ⟨S4x128, .f32⟩
  | _, _ => ⟨S4160x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4160x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S_ : Shape := ⟨0, ![]⟩
abbrev S3x1024 : Shape := ⟨2, ![3, 1024]⟩
abbrev S4163x1024 : Shape := ⟨2, ![4163, 1024]⟩
abbrev S1x1024 : Shape := ⟨2, ![1, 1024]⟩
abbrev S1024 : Shape := ⟨1, ![1024]⟩
abbrev S4160x8x128 : Shape := ⟨3, ![4160, 8, 128]⟩
abbrev S4160x8 : Shape := ⟨2, ![4160, 8]⟩
abbrev S4160x8x1 : Shape := ⟨3, ![4160, 8, 1]⟩

abbrev nBuf : Space → Nat
  | .hbm => 147
  | .vmem => 0
  | .smem => 0
  | _ => 0

abbrev hbmTy0_0 (i : Nat) : BufTy := match i % 128 with
  | 0 => ⟨S4160x9600, .f32⟩
  | 1 => ⟨S4x3072, .f32⟩
  | 2 => ⟨S4160x1024, .f32⟩
  | 3 => ⟨S4160x1024, .f32⟩
  | 4 => ⟨S4x1024, .f32⟩
  | 5 => ⟨S_, .f32⟩
  | 6 => ⟨S3x1024, .f32⟩
  | 7 => ⟨S4163x1024, .f32⟩
  | 8 => ⟨S_, .f32⟩
  | 9 => ⟨S3x1024, .f32⟩
  | 10 => ⟨S4160x1024, .f32⟩
  | 11 => ⟨S1x1024, .f32⟩
  | 12 => ⟨S1024, .f32⟩
  | 13 => ⟨S1x1024, .f32⟩
  | 14 => ⟨S4160x1024, .f32⟩
  | 15 => ⟨S4160x1024, .f32⟩
  | 16 => ⟨S4160x1024, .f32⟩
  | 17 => ⟨S1x1024, .f32⟩
  | 18 => ⟨S1024, .f32⟩
  | 19 => ⟨S1x1024, .f32⟩
  | 20 => ⟨S4160x1024, .f32⟩
  | 21 => ⟨S4160x1024, .f32⟩
  | 22 => ⟨S4160x1024, .f32⟩
  | 23 => ⟨S4160x1024, .f32⟩
  | 24 => ⟨S1x1024, .f32⟩
  | 25 => ⟨S1024, .f32⟩
  | 26 => ⟨S1x1024, .f32⟩
  | 27 => ⟨S4160x1024, .f32⟩
  | 28 => ⟨S4160x1024, .f32⟩
  | 29 => ⟨S4160x1024, .f32⟩
  | 30 => ⟨S4160x1024, .f32⟩
  | 31 => ⟨S1x1024, .f32⟩
  | 32 => ⟨S1024, .f32⟩
  | 33 => ⟨S1x1024, .f32⟩
  | 34 => ⟨S4160x1024, .f32⟩
  | 35 => ⟨S4160x1024, .f32⟩
  | 36 => ⟨S4160x1024, .f32⟩
  | 37 => ⟨S4160x1024, .f32⟩
  | 38 => ⟨S4160x1024, .f32⟩
  | 39 => ⟨S_, .f32⟩
  | 40 => ⟨S4160x1024, .f32⟩
  | 41 => ⟨S4160x1024, .f32⟩
  | 42 => ⟨S_, .f32⟩
  | 43 => ⟨S4160x1024, .f32⟩
  | 44 => ⟨S4160x1024, .f32⟩
  | 45 => ⟨S_, .f32⟩
  | 46 => ⟨S4160x1024, .f32⟩
  | 47 => ⟨S4160x1024, .f32⟩
  | 48 => ⟨S4160x1024, .f32⟩
  | 49 => ⟨S4160x1024, .f32⟩
  | 50 => ⟨S4160x8x128, .f32⟩
  | 51 => ⟨S4160x8x128, .f32⟩
  | 52 => ⟨S_, .f32⟩
  | 53 => ⟨S4160x8, .f32⟩
  | 54 => ⟨S4160x8x1, .f32⟩
  | 55 => ⟨S_, .f32⟩
  | 56 => ⟨S4160x8x1, .f32⟩
  | 57 => ⟨S4160x8x1, .f32⟩
  | 58 => ⟨S4160x8x1, .f32⟩
  | 59 => ⟨S4160x8x1, .f32⟩
  | 60 => ⟨S_, .f32⟩
  | 61 => ⟨S4160x8x1, .f32⟩
  | 62 => ⟨S4160x8x1, .f32⟩
  | 63 => ⟨S4160x8x128, .f32⟩
  | 64 => ⟨S4160x8x128, .f32⟩
  | 65 => ⟨S4160x1024, .f32⟩
  | 66 => ⟨S4160x8x128, .f32⟩
  | 67 => ⟨S4160x8x128, .f32⟩
  | 68 => ⟨S_, .f32⟩
  | 69 => ⟨S4160x8, .f32⟩
  | 70 => ⟨S4160x8x1, .f32⟩
  | 71 => ⟨S4160x8x128, .f32⟩
  | 72 => ⟨S4160x8x128, .f32⟩
  | 73 => ⟨S4160x8x1, .f32⟩
  | 74 => ⟨S_, .f32⟩
  | 75 => ⟨S4160x8, .f32⟩
  | 76 => ⟨S4160x8x128, .f32⟩
  | 77 => ⟨S4160x8x128, .f32⟩
  | 78 => ⟨S4160x8x128, .f32⟩
  | 79 => ⟨S4160x8x128, .f32⟩
  | 80 => ⟨S4160x8x128, .f32⟩
  | 81 => ⟨S4160x1024, .f32⟩
  | 82 => ⟨S4160x1024, .f32⟩
  | 83 => ⟨S4160x1024, .f32⟩
  | 84 => ⟨S4160x1024, .f32⟩
  | 85 => ⟨S4160x1024, .f32⟩
  | 86 => ⟨S4160x1024, .f32⟩
  | 87 => ⟨S_, .f32⟩
  | 88 => ⟨S1024, .f32⟩
  | 89 => ⟨S1x1024, .f32⟩
  | 90 => ⟨S4160x1024, .f32⟩
  | 91 => ⟨S4160x1024, .f32⟩
  | 92 => ⟨S_, .f32⟩
  | 93 => ⟨S1024, .f32⟩
  | 94 => ⟨S1x1024, .f32⟩
  | 95 => ⟨S_, .f32⟩
  | 96 => ⟨S4x1024, .f32⟩
  | 97 => ⟨S_, .f32⟩
  | 98 => ⟨S4163x1024, .f32⟩
  | 99 => ⟨S4160x1024, .f32⟩
  | 100 => ⟨S_, .f32⟩
  | 101 => ⟨S1024, .f32⟩
  | 102 => ⟨S1x1024, .f32⟩
  | 103 => ⟨S4160x1024, .f32⟩
  | 104 => ⟨S4160x1024, .f32⟩
  | 105 => ⟨S_, .f32⟩
  | 106 => ⟨S1024, .f32⟩
  | 107 => ⟨S1x1024, .f32⟩
  | 108 => ⟨S_, .f32⟩
  | 109 => ⟨S4x1024, .f32⟩
  | 110 => ⟨S4x1024, .f32⟩
  | 111 => ⟨S_, .f32⟩
  | 112 => ⟨S4163x1024, .f32⟩
  | 113 => ⟨S4163x1024, .f32⟩
  | 114 => ⟨S4160x1024, .f32⟩
  | 115 => ⟨S_, .f32⟩
  | 116 => ⟨S1024, .f32⟩
  | 117 => ⟨S1x1024, .f32⟩
  | 118 => ⟨S4160x1024, .f32⟩
  | 119 => ⟨S4160x1024, .f32⟩
  | 120 => ⟨S_, .f32⟩
  | 121 => ⟨S1024, .f32⟩
  | 122 => ⟨S1x1024, .f32⟩
  | 123 => ⟨S_, .f32⟩
  | 124 => ⟨S4x1024, .f32⟩
  | 125 => ⟨S4x1024, .f32⟩
  | 126 => ⟨S_, .f32⟩
  | 127 => ⟨S4163x1024, .f32⟩
  | _ => ⟨S4160x9600, .f32⟩

abbrev hbmTy0_1 (i : Nat) : BufTy := match i % 128 with
  | 0 => ⟨S4163x1024, .f32⟩
  | 1 => ⟨S4160x1024, .f32⟩
  | 2 => ⟨S_, .f32⟩
  | 3 => ⟨S1024, .f32⟩
  | 4 => ⟨S1x1024, .f32⟩
  | 5 => ⟨S4160x1024, .f32⟩
  | 6 => ⟨S4160x1024, .f32⟩
  | 7 => ⟨S_, .f32⟩
  | 8 => ⟨S1024, .f32⟩
  | 9 => ⟨S1x1024, .f32⟩
  | 10 => ⟨S_, .f32⟩
  | 11 => ⟨S4x1024, .f32⟩
  | 12 => ⟨S4x1024, .f32⟩
  | 13 => ⟨S_, .f32⟩
  | 14 => ⟨S4163x1024, .f32⟩
  | 15 => ⟨S4163x1024, .f32⟩
  | 16 => ⟨S3x1024, .f32⟩
  | 17 => ⟨S4160x1024, .f32⟩
  | 18 => ⟨S4160x1024, .bf16⟩
  | _ => ⟨S4160x9600, .f32⟩

abbrev hbmTy (i : Nat) : BufTy := match i / 128 with
  | 0 => hbmTy0_0 i
  | 1 => hbmTy0_1 i
  | _ => ⟨S4160x9600, .f32⟩

abbrev bufTy : (tb : Table) → Fin (tcTables nBuf tb) → BufTy
  | .hbm, ⟨i, _⟩ => hbmTy i
  | _, _ => ⟨S4160x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v32_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v32_1 : Ref sig .tc := ⟨.hbm, 48, rfl⟩
abbrev main_v32_0 : Ref sig .tc := ⟨.hbm, 49, rfl⟩
abbrev main_v33 : Ref sig .tc := ⟨.hbm, 50, rfl⟩
abbrev main_v34 : Ref sig .tc := ⟨.hbm, 51, rfl⟩
abbrev main_cst_1 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v60 : Ref sig .tc := ⟨.hbm, 85, rfl⟩
abbrev main_v61 : Ref sig .tc := ⟨.hbm, 86, rfl⟩
abbrev main_cst_6 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_15 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_cst_17 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_18 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_19 : Ref sig .tc := ⟨.hbm, 135, rfl⟩
abbrev main_v97 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_cst_21 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩

abbrev nD : Nat := 1
abbrev τ : Topo := Topo.v7x

variable {F : FTy → Type} [FloatOps F]
-- ==== Kernel20.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S4160x128 : Shape := ⟨2, ![4160, 128]⟩
abbrev S4x128 : Shape := ⟨2, ![4, 128]⟩
abbrev S1x128 : Shape := ⟨2, ![1, 128]⟩
abbrev S128 : Shape := ⟨1, ![128]⟩
abbrev S3x128 : Shape := ⟨2, ![3, 128]⟩
abbrev S2x128 : Shape := ⟨2, ![2, 128]⟩

abbrev nBuf : Space → Nat
  | .hbm => 5
  | .vmem => 10
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .hbm, ⟨3, _⟩ => ⟨S4160x1024, .bf16⟩
  | .hbm, ⟨4, _⟩ => ⟨S4x1024, .f32⟩
  | .local _ .vmem, ⟨0, _⟩ => ⟨S4160x128, .f32⟩
  | .local _ .vmem, ⟨1, _⟩ => ⟨S4160x128, .f32⟩
  | .local _ .vmem, ⟨2, _⟩ => ⟨S4x128, .f32⟩
  | .local _ .vmem, ⟨3, _⟩ => ⟨S4x128, .f32⟩
  | .local _ .vmem, ⟨4, _⟩ => ⟨S4160x128, .f32⟩
  | .local _ .vmem, ⟨5, _⟩ => ⟨S4160x128, .f32⟩
  | .local _ .vmem, ⟨6, _⟩ => ⟨S4160x128, .bf16⟩
  | .local _ .vmem, ⟨7, _⟩ => ⟨S4160x128, .bf16⟩
  | .local _ .vmem, ⟨8, _⟩ => ⟨S4x128, .f32⟩
  | .local _ .vmem, ⟨9, _⟩ => ⟨S4x128, .f32⟩
  | _, _ => ⟨S4160x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4160x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S_ : Shape := ⟨0, ![]⟩
abbrev S3x1024 : Shape := ⟨2, ![3, 1024]⟩
abbrev S4163x1024 : Shape := ⟨2, ![4163, 1024]⟩
abbrev S1x1024 : Shape := ⟨2, ![1, 1024]⟩
abbrev S1024 : Shape := ⟨1, ![1024]⟩

abbrev nBuf : Space → Nat
  | .hbm => 115
  | .vmem => 0
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .hbm, ⟨3, _⟩ => ⟨S4160x1024, .f32⟩
  | .hbm, ⟨4, _⟩ => ⟨S4x1024, .f32⟩
  | .hbm, ⟨5, _⟩ => ⟨S_, .f32⟩
  | .hbm, ⟨6, _⟩ => ⟨S3x1024, .f32⟩
  | .hbm, ⟨7, _⟩ => ⟨S4163x1024, .f32⟩
  | .hbm, ⟨8, _⟩ => ⟨S_, .f32⟩
  | .hbm, ⟨9, _⟩ => ⟨S3x1024, .f32⟩
  | .hbm, ⟨10, _⟩ => ⟨S4160x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S4160x1024, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S4160x1024, .f32⟩
  | .hbm, ⟨28, _⟩ => ⟨S4160x1024, .f32⟩
  | .hbm, ⟨29, _⟩ => ⟨S4160x1024, .f32⟩
  | .hbm, ⟨30, _⟩ => ⟨S4160x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S4160x1024, .f32⟩
  | .hbm, ⟨35, _⟩ => ⟨S4160x1024, .f32⟩
  | .hbm, ⟨36, _⟩ => ⟨S4160x1024, .f32⟩
  | .hbm, ⟨37, _⟩ => ⟨S4160x1024, .f32⟩
  | .hbm, ⟨38, _⟩ => ⟨S4160x1024, .f32⟩
  | .hbm, ⟨39, _⟩ => ⟨S_, .f32⟩
  | .hbm, ⟨40, _⟩ => ⟨S4160x1024, .f32⟩
  | .hbm, ⟨41, _⟩ => ⟨S4160x1024, .f32⟩
  | .hbm, ⟨42, _⟩ => ⟨S_, .f32⟩
  | .hbm, ⟨43, _⟩ => ⟨S4160x1024, .f32⟩
  | .hbm, ⟨44, _⟩ => ⟨S4160x1024, .f32⟩
  | .hbm, ⟨45, _⟩ => ⟨S_, .f32⟩
  | .hbm, ⟨46, _⟩ => ⟨S4160x1024, .f32⟩
  | .hbm, ⟨47, _⟩ => ⟨S4160x1024, .f32⟩
  | .hbm, ⟨48, _⟩ => ⟨S4160x1024, .f32⟩
  | .hbm, ⟨49, _⟩ => ⟨S4160x1024, .f32⟩
  | .hbm, ⟨50, _⟩ => ⟨S4160x1024, .f32⟩
  | .hbm, ⟨51, _⟩ => ⟨S4160x1024, .f32⟩
  | .hbm, ⟨52, _⟩ => ⟨S4160x1024, .f32⟩
  | .hbm, ⟨53, _⟩ => ⟨S4160x1024, .f32⟩
  | .hbm, ⟨54, _⟩ => ⟨S4160x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4160x1024, .f32⟩
  | .hbm, ⟨59, _⟩ => ⟨S4160x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S4x1024, .f32⟩
  | .hbm, ⟨65, _⟩ => ⟨S_, .f32⟩
  | .hbm, ⟨66, _⟩ => ⟨S4163x1024, .f32⟩
  | .hbm, ⟨67, _⟩ => ⟨S4160x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4160x1024, .f32⟩
  | .hbm, ⟨72, _⟩ => ⟨S4160x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S4x1024, .f32⟩
  | .hbm, ⟨78, _⟩ => ⟨S4x1024, .f32⟩
  | .hbm, ⟨79, _⟩ => ⟨S_, .f32⟩
  | .hbm, ⟨80, _⟩ => ⟨S4163x1024, .f32⟩
  | .hbm, ⟨81, _⟩ => ⟨S4163x1024, .f32⟩
  | .hbm, ⟨82, _⟩ => ⟨S4160x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4160x1024, .f32⟩
  | .hbm, ⟨87, _⟩ => ⟨S4160x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S_, .f32⟩
  | .hbm, ⟨92, _⟩ => ⟨S4x1024, .f32⟩
  | .hbm, ⟨93, _⟩ => ⟨S4x1024, .f32⟩
  | .hbm, ⟨94, _⟩ => ⟨S_, .f32⟩
  | .hbm, ⟨95, _⟩ => ⟨S4163x1024, .f32⟩
  | .hbm, ⟨96, _⟩ => ⟨S4163x1024, .f32⟩
  | .hbm, ⟨97, _⟩ => ⟨S4160x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S4160x1024, .f32⟩
  | .hbm, ⟨102, _⟩ => ⟨S4160x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S_, .f32⟩
  | .hbm, ⟨107, _⟩ => ⟨S4x1024, .f32⟩
  | .hbm, ⟨108, _⟩ => ⟨S4x1024, .f32⟩
  | .hbm, ⟨109, _⟩ => ⟨S_, .f32⟩
  | .hbm, ⟨110, _⟩ => ⟨S4163x1024, .f32⟩
  | .hbm, ⟨111, _⟩ => ⟨S4163x1024, .f32⟩
  | .hbm, ⟨112, _⟩ => ⟨S3x1024, .f32⟩
  | .hbm, ⟨113, _⟩ => ⟨S4160x1024, .f32⟩
  | .hbm, ⟨114, _⟩ => ⟨S4160x1024, .bf16⟩
  | _, _ => ⟨S4160x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v32_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v32_1 : Ref sig .tc := ⟨.hbm, 48, rfl⟩
abbrev main_v32_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== Kernel21.lean ====
abbrev S4160x9600 : Shape := ⟨2, ![4160, 9600]⟩
abbrev S1x3072 : Shape := ⟨2, ![1, 3072]⟩
abbrev S4160x1024 : Shape := ⟨2, ![4160, 1024]⟩
abbrev S4160x3072 : Shape := ⟨2, ![4160, 3072]⟩
abbrev S4160x128 : Shape := ⟨2, ![4160, 128]⟩
abbrev S1x128 : Shape := ⟨2, ![1, 128]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S4160x9600, .f32⟩
  | .hbm, ⟨1, _⟩ => ⟨S1x3072, .f32⟩
  | .hbm, ⟨2, _⟩ => ⟨S4160x1024, .f32⟩
  | .hbm, ⟨3, _⟩ => ⟨S4160x1024, .f32⟩
  | .hbm, ⟨4, _⟩ => ⟨S4160x1024, .f32⟩
  | .hbm, ⟨5, _⟩ => ⟨S4160x1024, .f32⟩
  | .hbm, ⟨6, _⟩ => ⟨S4160x1024, .f32⟩
  | .hbm, ⟨7, _⟩ => ⟨S4160x3072, .bf16⟩
  | .hbm, ⟨8, _⟩ => ⟨S1x3072, .f32⟩
  | .local _ .vmem, ⟨0, _⟩ => ⟨S4160x128, .f32⟩
  | .local _ .vmem, ⟨1, _⟩ => ⟨S4160x128, .f32⟩
  | .local _ .vmem, ⟨2, _⟩ => ⟨S1x128, .f32⟩
  | .local _ .vmem, ⟨3, _⟩ => ⟨S1x128, .f32⟩
  | .local _ .vmem, ⟨4, _⟩ => ⟨S4160x128, .f32⟩
  | .local _ .vmem, ⟨5, _⟩ => ⟨S4160x128, .f32⟩
  | .local _ .vmem, ⟨6, _⟩ => ⟨S4160x128, .f32⟩
  | .local _ .vmem, ⟨7, _⟩ => ⟨S4160x128, .f32⟩
  | .local _ .vmem, ⟨8, _⟩ => ⟨S4160x128, .f32⟩
  | .local _ .vmem, ⟨9, _⟩ => ⟨S4160x128, .f32⟩
  | .local _ .vmem, ⟨10, _⟩ => ⟨S4160x128, .f32⟩
  | .local _ .vmem, ⟨11, _⟩ => ⟨S4160x128, .f32⟩
  | .local _ .vmem, ⟨12, _⟩ => ⟨S4160x128, .f32⟩
  | .local _ .vmem, ⟨13, _⟩ => ⟨S4160x128, .f32⟩
  | .local _ .vmem, ⟨14, _⟩ => ⟨S4160x128, .bf16⟩
  | .local _ .vmem, ⟨15, _⟩ => ⟨S4160x128, .bf16⟩
  | .local _ .vmem, ⟨16, _⟩ => ⟨S1x128, .f32⟩
  | .local _ .vmem, ⟨17, _⟩ => ⟨S1x128, .f32⟩
  | _, _ => ⟨S4160x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4160x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4160x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4160x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4160x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4160x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S4160x9600 : Shape := ⟨2, ![4160, 9600]⟩
abbrev S1x3072 : Shape := ⟨2, ![1, 3072]⟩
abbrev S4160x1024 : Shape := ⟨2, ![4160, 1024]⟩
abbrev S4160x3072 : Shape := ⟨2, ![4160, 3072]⟩
abbrev S_ : Shape := ⟨0, ![]⟩
abbrev S4159x3072 : Shape := ⟨2, ![4159, 3072]⟩
abbrev S3072 : Shape := ⟨1, ![3072]⟩

abbrev nBuf : Space → Nat
  | .hbm => 38
  | .vmem => 0
  | .smem => 0
  | _ => 0

abbrev bufTy : (tb : Table) → Fin (tcTables nBuf tb) → BufTy
  | .hbm, ⟨0, _⟩ => ⟨S4160x9600, .f32⟩
  | .hbm, ⟨1, _⟩ => ⟨S1x3072, .f32⟩
  | .hbm, ⟨2, _⟩ => ⟨S4160x1024, .f32⟩
  | .hbm, ⟨3, _⟩ => ⟨S4160x1024, .f32⟩
  | .hbm, ⟨4, _⟩ => ⟨S4160x1024, .f32⟩
  | .hbm, ⟨5, _⟩ => ⟨S4160x1024, .f32⟩
  | .hbm, ⟨6, _⟩ => ⟨S4160x1024, .f32⟩
  | .hbm, ⟨7, _⟩ => ⟨S4160x3072, .f32⟩
  | .hbm, ⟨8, _⟩ => ⟨S_, .f32⟩
  | .hbm, ⟨9, _⟩ => ⟨S1x3072, .f32⟩
  | .hbm, ⟨10, _⟩ => ⟨S4159x3072, .f32⟩
  | .hbm, ⟨11, _⟩ => ⟨S4160x3072, .f32⟩
  | .hbm, ⟨12, _⟩ => ⟨S_, .f32⟩
  | .hbm, ⟨13, _⟩ => ⟨S1x3072, .f32⟩
  | .hbm, ⟨14, _⟩ => ⟨S4160x3072, .f32⟩
  | .hbm, ⟨15, _⟩ => ⟨S4160x3072, .f32⟩
  | .hbm, ⟨16, _⟩ => ⟨S4160x3072, .f32⟩
  | .hbm, ⟨17, _⟩ => ⟨S4160x3072, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x1024, .f32⟩
  | .hbm, ⟨22, _⟩ => ⟨S4160x1024, .f32⟩
  | .hbm, ⟨23, _⟩ => ⟨S4160x3072, .f32⟩
  | .hbm, ⟨24, _⟩ => ⟨S4160x3072, .f32⟩
  | .hbm, ⟨25, _⟩ => ⟨S_, .f32⟩
  | .hbm, ⟨26, _⟩ => ⟨S3072, .f32⟩
  | .hbm, ⟨27, _⟩ => ⟨S1x3072, .f32⟩
  | .hbm, ⟨28, _⟩ => ⟨S4160x3072, .f32⟩
  | .hbm, ⟨29, _⟩ => ⟨S4160x3072, .f32⟩
  | .hbm, ⟨30, _⟩ => ⟨S4160x3072, .f32⟩
  | .hbm, ⟨31, _⟩ => ⟨S4160x3072, .f32⟩
  | .hbm, ⟨32, _⟩ => ⟨S1x3072, .f32⟩
  | .hbm, ⟨33, _⟩ => ⟨S4159x3072, .f32⟩
  | .hbm, ⟨34, _⟩ => ⟨S_, .f32⟩
  | .hbm, ⟨35, _⟩ => ⟨S4160x3072, .f32⟩
  | .hbm, ⟨36, _⟩ => ⟨S4160x3072, .f32⟩
  | .hbm, ⟨37, _⟩ => ⟨S4160x3072, .bf16⟩
  | _, _ => ⟨S4160x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel22.lean ====
abbrev S4160x288 : Shape := ⟨2, ![4160, 288]⟩
abbrev S1x288 : Shape := ⟨2, ![1, 288]⟩
abbrev S288 : Shape := ⟨1, ![288]⟩

abbrev nBuf : Space → Nat
  | .hbm => 5
  | .vmem => 5
  | .smem => 0
  | _ => 0

abbrev bufTy : (tb : Table) → Fin (tcTables nBuf tb) → BufTy
  | .hbm, ⟨0, _⟩ => ⟨S4160x288, .f32⟩
  | .hbm, ⟨1, _⟩ => ⟨S1x288, .f32⟩
  | .hbm, ⟨2, _⟩ => ⟨S4160x288, .f32⟩
  | .hbm, ⟨3, _⟩ => ⟨S4160x288, .f32⟩
  | .hbm, ⟨4, _⟩ => ⟨S1x288, .f32⟩
  | .local _ .vmem, ⟨0, _⟩ => ⟨S4160x288, .f32⟩
  | .local _ .vmem, ⟨1, _⟩ => ⟨S1x288, .f32⟩
  | .local _ .vmem, ⟨2, _⟩ => ⟨S4160x288, .f32⟩
  | .local _ .vmem, ⟨3, _⟩ => ⟨S4160x288, .f32⟩
  | .local _ .vmem, ⟨4, _⟩ => ⟨S1x288, .f32⟩
  | _, _ => ⟨S4160x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4160x288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4160x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4160x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference22Ideal.lean ====
abbrev S4160x288 : Shape := ⟨2, ![4160, 288]⟩
abbrev S1x288 : Shape := ⟨2, ![1, 288]⟩
abbrev S_ : Shape := ⟨0, ![]⟩
abbrev S4159x288 : Shape := ⟨2, ![4159, 288]⟩
abbrev S288 : Shape := ⟨1, ![288]⟩

abbrev nBuf : Space → Nat
  | .hbm => 27
  | .vmem => 0
  | .smem => 0
  | _ => 0

abbrev bufTy : (tb : Table) → Fin (tcTables nBuf tb) → BufTy
  | .hbm, ⟨0, _⟩ => ⟨S4160x288, .f32⟩
  | .hbm, ⟨1, _⟩ => ⟨S1x288, .f32⟩
  | .hbm, ⟨2, _⟩ => ⟨S4160x288, .f32⟩
  | .hbm, ⟨3, _⟩ => ⟨S_, .f32⟩
  | .hbm, ⟨4, _⟩ => ⟨S1x288, .f32⟩
  | .hbm, ⟨5, _⟩ => ⟨S4159x288, .f32⟩
  | .hbm, ⟨6, _⟩ => ⟨S4160x288, .f32⟩
  | .hbm, ⟨7, _⟩ => ⟨S_, .f32⟩
  | .hbm, ⟨8, _⟩ => ⟨S1x288, .f32⟩
  | .hbm, ⟨9, _⟩ => ⟨S4160x288, .f32⟩
  | .hbm, ⟨10, _⟩ => ⟨S4160x288, .f32⟩
  | .hbm, ⟨11, _⟩ => ⟨S4160x288, .f32⟩
  | .hbm, ⟨12, _⟩ => ⟨S4160x288, .f32⟩
  | .hbm, ⟨13, _⟩ => ⟨S4160x288, .f32⟩
  | .hbm, ⟨14, _⟩ => ⟨S4160x288, .f32⟩
  | .hbm, ⟨15, _⟩ => ⟨S_, .f32⟩
  | .hbm, ⟨16, _⟩ => ⟨S288, .f32⟩
  | .hbm, ⟨17, _⟩ => ⟨S1x288, .f32⟩
  | .hbm, ⟨18, _⟩ => ⟨S4160x288, .f32⟩
  | .hbm, ⟨19, _⟩ => ⟨S4160x288, .f32⟩
  | .hbm, ⟨20, _⟩ => ⟨S4160x288, .f32⟩
  | .hbm, ⟨21, _⟩ => ⟨S4160x288, .f32⟩
  | .hbm, ⟨22, _⟩ => ⟨S1x288, .f32⟩
  | .hbm, ⟨23, _⟩ => ⟨S4159x288, .f32⟩
  | .hbm, ⟨24, _⟩ => ⟨S_, .f32⟩
  | .hbm, ⟨25, _⟩ => ⟨S4160x288, .f32⟩
  | .hbm, ⟨26, _⟩ => ⟨S4160x288, .f32⟩
  | _, _ => ⟨S4160x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel23.lean ====
abbrev S4160x9600 : Shape := ⟨2, ![4160, 9600]⟩
abbrev S4x3072 : Shape := ⟨2, ![4, 3072]⟩
abbrev S4160x1024 : Shape := ⟨2, ![4160, 1024]⟩
abbrev S4160x128 : Shape := ⟨2, ![4160, 128]⟩
abbrev S4x128 : Shape := ⟨2, ![4, 128]⟩
abbrev S1x128 : Shape := ⟨2, ![1, 128]⟩
abbrev S4160 : Shape := ⟨1, ![4160]⟩
abbrev S4160x1 : Shape := ⟨2, ![4160, 1]⟩

abbrev nBuf : Space → Nat
  | .hbm => 3
  | .vmem => 6
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .local _ .vmem, ⟨0, _⟩ => ⟨S4160x128, .f32⟩
  | .local _ .vmem, ⟨1, _⟩ => ⟨S4160x128, .f32⟩
  | .local _ .vmem, ⟨2, _⟩ => ⟨S4x128, .f32⟩
  | .local _ .vmem, ⟨3, _⟩ => ⟨S4x128, .f32⟩
  | .local _ .vmem, ⟨4, _⟩ => ⟨S4160x128, .f32⟩
  | .local _ .vmem, ⟨5, _⟩ => ⟨S4160x128, .f32⟩
  | _, _ => ⟨S4160x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S_ : Shape := ⟨0, ![]⟩
abbrev S3x1024 : Shape := ⟨2, ![3, 1024]⟩
abbrev S4163x1024 : Shape := ⟨2, ![4163, 1024]⟩
abbrev S1x1024 : Shape := ⟨2, ![1, 1024]⟩
abbrev S1024 : Shape := ⟨1, ![1024]⟩
abbrev S4160x8x128 : Shape := ⟨3, ![4160, 8, 128]⟩
abbrev S4160x8 : Shape := ⟨2, ![4160, 8]⟩
abbrev S4160x8x1 : Shape := ⟨3, ![4160, 8, 1]⟩

abbrev nBuf : Space → Nat
  | .hbm => 58
  | .vmem => 0
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .hbm, ⟨3, _⟩ => ⟨S4x1024, .f32⟩
  | .hbm, ⟨4, _⟩ => ⟨S_, .f32⟩
  | .hbm, ⟨5, _⟩ => ⟨S3x1024, .f32⟩
  | .hbm, ⟨6, _⟩ => ⟨S4163x1024, .f32⟩
  | .hbm, ⟨7, _⟩ => ⟨S4160x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4160x1024, .f32⟩
  | .hbm, ⟨12, _⟩ => ⟨S4160x1024, .f32⟩
  | .hbm, ⟨13, _⟩ => ⟨S4160x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4160x1024, .f32⟩
  | .hbm, ⟨25, _⟩ => ⟨S4160x1024, .f32⟩
  | .hbm, ⟨26, _⟩ => ⟨S4160x1024, .f32⟩
  | .hbm, ⟨27, _⟩ => ⟨S4160x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4160x1024, .f32⟩
  | .hbm, ⟨32, _⟩ => ⟨S4160x1024, .f32⟩
  | .hbm, ⟨33, _⟩ => ⟨S4160x1024, .f32⟩
  | .hbm, ⟨34, _⟩ => ⟨S4160x1024, .f32⟩
  | .hbm, ⟨35, _⟩ => ⟨S4160x1024, .f32⟩
  | .hbm, ⟨36, _⟩ => ⟨S_, .f32⟩
  | .hbm, ⟨37, _⟩ => ⟨S4160x1024, .f32⟩
  | .hbm, ⟨38, _⟩ => ⟨S4160x1024, .f32⟩
  | .hbm, ⟨39, _⟩ => ⟨S_, .f32⟩
  | .hbm, ⟨40, _⟩ => ⟨S4160x1024, .f32⟩
  | .hbm, ⟨41, _⟩ => ⟨S4160x1024, .f32⟩
  | .hbm, ⟨42, _⟩ => ⟨S4160x1024, .f32⟩
  | .hbm, ⟨43, _⟩ => ⟨S4160x8x128, .f32⟩
  | .hbm, ⟨44, _⟩ => ⟨S4160x8x128, .f32⟩
  | .hbm, ⟨45, _⟩ => ⟨S_, .f32⟩
  | .hbm, ⟨46, _⟩ => ⟨S4160x8, .f32⟩
  | .hbm, ⟨47, _⟩ => ⟨S4160x8x1, .f32⟩
  | .hbm, ⟨48, _⟩ => ⟨S_, .f32⟩
  | .hbm, ⟨49, _⟩ => ⟨S4160x8x1, .f32⟩
  | .hbm, ⟨50, _⟩ => ⟨S4160x8x1, .f32⟩
  | .hbm, ⟨51, _⟩ => ⟨S4160x8x1, .f32⟩
  | .hbm, ⟨52, _⟩ => ⟨S4160x8x128, .f32⟩
  | .hbm, ⟨53, _⟩ => ⟨S4160x8x128, .f32⟩
  | .hbm, ⟨54, _⟩ => ⟨S_, .f32⟩
  | .hbm, ⟨55, _⟩ => ⟨S4160x8x128, .f32⟩
  | .hbm, ⟨56, _⟩ => ⟨S4160x8x128, .f32⟩
  | .hbm, ⟨57, _⟩ => ⟨S4160x1024, .f32⟩
  | _, _ => ⟨S4160x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel24.lean ====
abbrev S4160x9600 : Shape := ⟨2, ![4160, 9600]⟩
abbrev S4x3072 : Shape := ⟨2, ![4, 3072]⟩
abbrev S4160x1024 : Shape := ⟨2, ![4160, 1024]⟩
abbrev S4160x128 : Shape := ⟨2, ![4160, 128]⟩
abbrev S4x128 : Shape := ⟨2, ![4, 128]⟩
abbrev S1x128 : Shape := ⟨2, ![1, 128]⟩
abbrev S4160 : Shape := ⟨1, ![4160]⟩
abbrev S4160x1 : Shape := ⟨2, ![4160, 1]⟩

abbrev nBuf : Space → Nat
  | .hbm => 3
  | .vmem => 6
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .local _ .vmem, ⟨0, _⟩ => ⟨S4160x128, .f32⟩
  | .local _ .vmem, ⟨1, _⟩ => ⟨S4160x128, .f32⟩
  | .local _ .vmem, ⟨2, _⟩ => ⟨S4x128, .f32⟩
  | .local _ .vmem, ⟨3, _⟩ => ⟨S4x128, .f32⟩
  | .local _ .vmem, ⟨4, _⟩ => ⟨S4160x128, .f32⟩
  | .local _ .vmem, ⟨5, _⟩ => ⟨S4160x128, .f32⟩
  | _, _ => ⟨S4160x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S_ : Shape := ⟨0, ![]⟩
abbrev S3x1024 : Shape := ⟨2, ![3, 1024]⟩
abbrev S4163x1024 : Shape := ⟨2, ![4163, 1024]⟩
abbrev S1x1024 : Shape := ⟨2, ![1, 1024]⟩
abbrev S1024 : Shape := ⟨1, ![1024]⟩
abbrev S4160x8x128 : Shape := ⟨3, ![4160, 8, 128]⟩
abbrev S4160x8 : Shape := ⟨2, ![4160, 8]⟩
abbrev S4160x8x1 : Shape := ⟨3, ![4160, 8, 1]⟩

abbrev nBuf : Space → Nat
  | .hbm => 55
  | .vmem => 0
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .hbm, ⟨3, _⟩ => ⟨S4x1024, .f32⟩
  | .hbm, ⟨4, _⟩ => ⟨S_, .f32⟩
  | .hbm, ⟨5, _⟩ => ⟨S3x1024, .f32⟩
  | .hbm, ⟨6, _⟩ => ⟨S4163x1024, .f32⟩
  | .hbm, ⟨7, _⟩ => ⟨S4160x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4160x1024, .f32⟩
  | .hbm, ⟨12, _⟩ => ⟨S4160x1024, .f32⟩
  | .hbm, ⟨13, _⟩ => ⟨S4160x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4160x1024, .f32⟩
  | .hbm, ⟨25, _⟩ => ⟨S4160x1024, .f32⟩
  | .hbm, ⟨26, _⟩ => ⟨S4160x1024, .f32⟩
  | .hbm, ⟨27, _⟩ => ⟨S4160x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4160x1024, .f32⟩
  | .hbm, ⟨32, _⟩ => ⟨S4160x1024, .f32⟩
  | .hbm, ⟨33, _⟩ => ⟨S4160x1024, .f32⟩
  | .hbm, ⟨34, _⟩ => ⟨S4160x1024, .f32⟩
  | .hbm, ⟨35, _⟩ => ⟨S4160x1024, .f32⟩
  | .hbm, ⟨36, _⟩ => ⟨S_, .f32⟩
  | .hbm, ⟨37, _⟩ => ⟨S4160x1024, .f32⟩
  | .hbm, ⟨38, _⟩ => ⟨S4160x1024, .f32⟩
  | .hbm, ⟨39, _⟩ => ⟨S_, .f32⟩
  | .hbm, ⟨40, _⟩ => ⟨S4160x1024, .f32⟩
  | .hbm, ⟨41, _⟩ => ⟨S4160x1024, .f32⟩
  | .hbm, ⟨42, _⟩ => ⟨S4160x1024, .f32⟩
  | .hbm, ⟨43, _⟩ => ⟨S4160x8x128, .f32⟩
  | .hbm, ⟨44, _⟩ => ⟨S4160x8x128, .f32⟩
  | .hbm, ⟨45, _⟩ => ⟨S_, .f32⟩
  | .hbm, ⟨46, _⟩ => ⟨S4160x8, .f32⟩
  | .hbm, ⟨47, _⟩ => ⟨S4160x8x1, .f32⟩
  | .hbm, ⟨48, _⟩ => ⟨S_, .f32⟩
  | .hbm, ⟨49, _⟩ => ⟨S4160x8x1, .f32⟩
  | .hbm, ⟨50, _⟩ => ⟨S4160x8x1, .f32⟩
  | .hbm, ⟨51, _⟩ => ⟨S4160x8x1, .f32⟩
  | .hbm, ⟨52, _⟩ => ⟨S4160x8x128, .f32⟩
  | .hbm, ⟨53, _⟩ => ⟨S4160x8x128, .f32⟩
  | .hbm, ⟨54, _⟩ => ⟨S4160x1024, .f32⟩
  | _, _ => ⟨S4160x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel25.lean ====
abbrev S4160x9600 : Shape := ⟨2, ![4160, 9600]⟩
abbrev S4x3072 : Shape := ⟨2, ![4, 3072]⟩
abbrev S4160x1024 : Shape := ⟨2, ![4160, 1024]⟩
abbrev S4160x128 : Shape := ⟨2, ![4160, 128]⟩
abbrev S4x128 : Shape := ⟨2, ![4, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .local _ .vmem, ⟨0, _⟩ => ⟨S4160x128, .f32⟩
  | .local _ .vmem, ⟨1, _⟩ => ⟨S4160x128, .f32⟩
  | .local _ .vmem, ⟨2, _⟩ => ⟨S4x128, .f32⟩
  | .local _ .vmem, ⟨3, _⟩ => ⟨S4x128, .f32⟩
  | .local _ .vmem, ⟨4, _⟩ => ⟨S4160x128, .f32⟩
  | .local _ .vmem, ⟨5, _⟩ => ⟨S4160x128, .f32⟩
  | _, _ => ⟨S4160x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S4160x9600 : Shape := ⟨2, ![4160, 9600]⟩
abbrev S4x3072 : Shape := ⟨2, ![4, 3072]⟩
abbrev S4160x1024 : Shape := ⟨2, ![4160, 1024]⟩
abbrev S4x1024 : Shape := ⟨2, ![4, 1024]⟩
abbrev S_ : Shape := ⟨0, ![]⟩
abbrev S3x1024 : Shape := ⟨2, ![3, 1024]⟩
abbrev S4163x1024 : Shape := ⟨2, ![4163, 1024]⟩
abbrev S1x1024 : Shape := ⟨2, ![1, 1024]⟩
abbrev S1024 : Shape := ⟨1, ![1024]⟩

abbrev nBuf : Space → Nat
  | .hbm => 43
  | .vmem => 0
  | .smem => 0
  | _ => 0

abbrev bufTy : (tb : Table) → Fin (tcTables nBuf tb) → BufTy
  | .hbm, ⟨0, _⟩ => ⟨S4160x9600, .f32⟩
  | .hbm, ⟨1, _⟩ => ⟨S4x3072, .f32⟩
  | .hbm, ⟨2, _⟩ => ⟨S4160x1024, .f32⟩
  | .hbm, ⟨3, _⟩ => ⟨S4x1024, .f32⟩
  | .hbm, ⟨4, _⟩ => ⟨S_, .f32⟩
  | .hbm, ⟨5, _⟩ => ⟨S3x1024, .f32⟩
  | .hbm, ⟨6, _⟩ => ⟨S4163x1024, .f32⟩
  | .hbm, ⟨7, _⟩ => ⟨S4160x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4160x1024, .f32⟩
  | .hbm, ⟨12, _⟩ => ⟨S4160x1024, .f32⟩
  | .hbm, ⟨13, _⟩ => ⟨S4160x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4160x1024, .f32⟩
  | .hbm, ⟨25, _⟩ => ⟨S4160x1024, .f32⟩
  | .hbm, ⟨26, _⟩ => ⟨S4160x1024, .f32⟩
  | .hbm, ⟨27, _⟩ => ⟨S4160x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4160x1024, .f32⟩
  | .hbm, ⟨32, _⟩ => ⟨S4160x1024, .f32⟩
  | .hbm, ⟨33, _⟩ => ⟨S4160x1024, .f32⟩
  | .hbm, ⟨34, _⟩ => ⟨S4160x1024, .f32⟩
  | .hbm, ⟨35, _⟩ => ⟨S4160x1024, .f32⟩
  | .hbm, ⟨36, _⟩ => ⟨S_, .f32⟩
  | .hbm, ⟨37, _⟩ => ⟨S4160x1024, .f32⟩
  | .hbm, ⟨38, _⟩ => ⟨S4160x1024, .f32⟩
  | .hbm, ⟨39, _⟩ => ⟨S_, .f32⟩
  | .hbm, ⟨40, _⟩ => ⟨S4160x1024, .f32⟩
  | .hbm, ⟨41, _⟩ => ⟨S4160x1024, .f32⟩
  | .hbm, ⟨42, _⟩ => ⟨S4160x1024, .f32⟩
  | _, _ => ⟨S4160x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel26.lean ====
abbrev S4160x9600 : Shape := ⟨2, ![4160, 9600]⟩
abbrev S1x3072 : Shape := ⟨2, ![1, 3072]⟩
abbrev S4160x3072 : Shape := ⟨2, ![4160, 3072]⟩
abbrev S4160x128 : Shape := ⟨2, ![4160, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4160x9600, .f32⟩
  | .hbm, ⟨1, _⟩ => ⟨S1x3072, .f32⟩
  | .hbm, ⟨2, _⟩ => ⟨S4160x3072, .f32⟩
  | .local _ .vmem, ⟨0, _⟩ => ⟨S4160x128, .f32⟩
  | .local _ .vmem, ⟨1, _⟩ => ⟨S4160x128, .f32⟩
  | .local _ .vmem, ⟨2, _⟩ => ⟨S1x128, .f32⟩
  | .local _ .vmem, ⟨3, _⟩ => ⟨S1x128, .f32⟩
  | .local _ .vmem, ⟨4, _⟩ => ⟨S4160x128, .f32⟩
  | .local _ .vmem, ⟨5, _⟩ => ⟨S4160x128, .f32⟩
  | _, _ => ⟨S4160x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4160x9600 : Shape := ⟨2, ![4160, 9600]⟩
abbrev S1x3072 : Shape := ⟨2, ![1, 3072]⟩
abbrev S4160x3072 : Shape := ⟨2, ![4160, 3072]⟩
abbrev S_ : Shape := ⟨0, ![]⟩
abbrev S4159x3072 : Shape := ⟨2, ![4159, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4160x9600, .f32⟩
  | .hbm, ⟨1, _⟩ => ⟨S1x3072, .f32⟩
  | .hbm, ⟨2, _⟩ => ⟨S4160x3072, .f32⟩
  | .hbm, ⟨3, _⟩ => ⟨S_, .f32⟩
  | .hbm, ⟨4, _⟩ => ⟨S1x3072, .f32⟩
  | .hbm, ⟨5, _⟩ => ⟨S4159x3072, .f32⟩
  | .hbm, ⟨6, _⟩ => ⟨S4160x3072, .f32⟩
  | .hbm, ⟨7, _⟩ => ⟨S4160x3072, .f32⟩
  | .hbm, ⟨8, _⟩ => ⟨S4160x3072, .f32⟩
  | .hbm, ⟨9, _⟩ => ⟨S4160x3072, .f32⟩
  | .hbm, ⟨10, _⟩ => ⟨S4160x3072, .f32⟩
  | _, _ => ⟨S4160x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel28.lean ====
abbrev S1x1024x2380 : Shape := ⟨3, ![1, 1024, 2380]⟩
abbrev S1x64x2380 : Shape := ⟨3, ![1, 64, 2380]⟩
abbrev S64x2380 : Shape := ⟨2, ![64, 2380]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x2380, .f32⟩
  | .hbm, ⟨1, _⟩ => ⟨S1x1024x2380, .f32⟩
  | .hbm, ⟨2, _⟩ => ⟨S1x1024x2380, .f32⟩
  | .hbm, ⟨3, _⟩ => ⟨S1x1024x2380, .f32⟩
  | .hbm, ⟨4, _⟩ => ⟨S1x1024x2380, .f32⟩
  | .hbm, ⟨5, _⟩ => ⟨S1x1024x2380, .f32⟩
  | .hbm, ⟨6, _⟩ => ⟨S1x1024x2380, .f32⟩
  | .hbm, ⟨7, _⟩ => ⟨S1x1024x2380, .f32⟩
  | .local _ .vmem, ⟨0, _⟩ => ⟨S1x64x2380, .f32⟩
  | .local _ .vmem, ⟨1, _⟩ => ⟨S1x64x2380, .f32⟩
  | .local _ .vmem, ⟨2, _⟩ => ⟨S1x64x2380, .f32⟩
  | .local _ .vmem, ⟨3, _⟩ => ⟨S1x64x2380, .f32⟩
  | .local _ .vmem, ⟨4, _⟩ => ⟨S1x64x2380, .f32⟩
  | .local _ .vmem, ⟨5, _⟩ => ⟨S1x64x2380, .f32⟩
  | .local _ .vmem, ⟨6, _⟩ => ⟨S1x64x2380, .f32⟩
  | .local _ .vmem, ⟨7, _⟩ => ⟨S1x64x2380, .f32⟩
  | .local _ .vmem, ⟨8, _⟩ => ⟨S1x64x2380, .f32⟩
  | .local _ .vmem, ⟨9, _⟩ => ⟨S1x64x2380, .f32⟩
  | .local _ .vmem, ⟨10, _⟩ => ⟨S1x64x2380, .f32⟩
  | .local _ .vmem, ⟨11, _⟩ => ⟨S1x64x2380, .f32⟩
  | .local _ .vmem, ⟨12, _⟩ => ⟨S1x64x2380, .f32⟩
  | .local _ .vmem, ⟨13, _⟩ => ⟨S1x64x2380, .f32⟩
  | .local _ .vmem, ⟨14, _⟩ => ⟨S1x64x2380, .f32⟩
  | .local _ .vmem, ⟨15, _⟩ => ⟨S1x64x2380, .f32⟩
  | _, _ => ⟨S1x1024x2380, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x2380 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2380 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2380 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2380 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2380 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2380 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2380 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2380 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S1x1024x2380 : Shape := ⟨3, ![1, 1024, 2380]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x2380, .f32⟩
  | .hbm, ⟨1, _⟩ => ⟨S1x1024x2380, .f32⟩
  | .hbm, ⟨2, _⟩ => ⟨S1x1024x2380, .f32⟩
  | .hbm, ⟨3, _⟩ => ⟨S1x1024x2380, .f32⟩
  | .hbm, ⟨4, _⟩ => ⟨S_, .f32⟩
  | .hbm, ⟨5, _⟩ => ⟨S1x1024x2380, .f32⟩
  | .hbm, ⟨6, _⟩ => ⟨S1x1024x2380, .f32⟩
  | .hbm, ⟨7, _⟩ => ⟨S_, .f32⟩
  | .hbm, ⟨8, _⟩ => ⟨S1x1024x2380, .f32⟩
  | .hbm, ⟨9, _⟩ => ⟨S1x1024x2380, .f32⟩
  | .hbm, ⟨10, _⟩ => ⟨S1x1024x2380, .f32⟩
  | .hbm, ⟨11, _⟩ => ⟨S_, .f32⟩
  | .hbm, ⟨12, _⟩ => ⟨S1x1024x2380, .f32⟩
  | .hbm, ⟨13, _⟩ => ⟨S1x1024x2380, .f32⟩
  | .hbm, ⟨14, _⟩ => ⟨S1x1024x2380, .f32⟩
  | .hbm, ⟨15, _⟩ => ⟨S_, .f32⟩
  | .hbm, ⟨16, _⟩ => ⟨S1x1024x2380, .f32⟩
  | .hbm, ⟨17, _⟩ => ⟨S1x1024x2380, .f32⟩
  | .hbm, ⟨18, _⟩ => ⟨S1x1024x2380, .f32⟩
  | .hbm, ⟨19, _⟩ => ⟨S_, .f32⟩
  | .hbm, ⟨20, _⟩ => ⟨S1x1024x2380, .f32⟩
  | .hbm, ⟨21, _⟩ => ⟨S1x1024x2380, .f32⟩
  | .hbm, ⟨22, _⟩ => ⟨S_, .f32⟩
  | .hbm, ⟨23, _⟩ => ⟨S1x1024x2380, .f32⟩
  | .hbm, ⟨24, _⟩ => ⟨S1x1024x2380, .f32⟩
  | .hbm, ⟨25, _⟩ => ⟨S1x1024x2380, .f32⟩
  | .hbm, ⟨26, _⟩ => ⟨S_, .f32⟩
  | .hbm, ⟨27, _⟩ => ⟨S1x1024x2380, .f32⟩
  | .hbm, ⟨28, _⟩ => ⟨S1x1024x2380, .f32⟩
  | .hbm, ⟨29, _⟩ => ⟨S1x1024x2380, .f32⟩
  | .hbm, ⟨30, _⟩ => ⟨S_, .f32⟩
  | .hbm, ⟨31, _⟩ => ⟨S1x1024x2380, .f32⟩
  | .hbm, ⟨32, _⟩ => ⟨S1x1024x2380, .f32⟩
  | .hbm, ⟨33, _⟩ => ⟨S1x1024x2380, .f32⟩
  | .hbm, ⟨34, _⟩ => ⟨S_, .f32⟩
  | .hbm, ⟨35, _⟩ => ⟨S1x1024x2380, .f32⟩
  | .hbm, ⟨36, _⟩ => ⟨S1x1024x2380, .f32⟩
  | _, _ => ⟨S1x1024x2380, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Products.Spec.lean ====
/- What the products of the training step are products of, in plain numbers: a normalised row, and the gated hidden row of a
   feed-forward block. -/
module

public import Idealize.ShloMosaic.Lib.Pointwise
public import Idealize.ShloMosaic.Lib.IdealHost

@[expose] public section

noncomputable section

namespace Cert.Products

open Idealize.ShloMosaic Idealize.ShloMosaic.Pointwise

abbrev Tokens : Type := (⟨2, ![4160, 1024]⟩ : Shape).Idx → EReal
abbrev Gain : Type := (⟨2, ![1, 1024]⟩ : Shape).Idx → EReal
abbrev Shards : Type := (⟨3, ![4, 1024, 1408]⟩ : Shape).Idx → EReal

/-- Lane `d` of a row, divided by the root of the row's mean square (and a little more), times the gain. -/
def rowRms (x gain : Fin 1024 → EReal) (d : Fin 1024) : EReal :=
  x d * Ideal.rsqrt (Ideal.div (∑ e : Fin 1024, x e * x e) (Ideal.ofBits .f32 0x44800000#32) + Ideal.ofBits .f32 0x358637BD#32) * gain d

/-- Lane `d` of token `i`, normalised. -/
def rms (h : Tokens) (gain : Gain) (i : Fin 4160) (d : Fin 1024) : EReal :=
  rowRms (fun e => h (ix2 i e)) (fun e => gain (ix2 0 e)) d

/-- Column `n` of a feed-forward block's hidden rows before the gate, of token `i`: the gate is the product by the first two
    shards (`first = 0`), what it lets through the product by the other two (`first = 2`). -/
def hidden (x : Tokens) (w : Shards) (first : ℕ) (small : first ≤ 2) (i : Fin 4160) (n : Fin 2816) : EReal :=
  ∑ d : Fin 1024, x (ix2 i d) * w (ix3 ⟨n.val / 1408 + first, by omega⟩ d ⟨n.val % 1408, by omega⟩)

/-- The word of one half denotes one half. -/
theorem half_value : Ideal.ofBits .f32 0x3F000000#32 = (((1 : ℝ) / 2 : ℝ) : EReal) := by
  simp [Ideal.ofBits, Ideal.ieee]
  rw [← EReal.coe_mul]
  norm_num

/-- Half of a finite sum is the sum of the halves, also where terms are infinite. -/
theorem sum_half {n : ℕ} (f : Fin n → EReal) :
    ∑ k, f k * Ideal.ofBits .f32 0x3F000000#32 = (∑ k, f k) * Ideal.ofBits .f32 0x3F000000#32 := by
  have nonneg : (0 : EReal) ≤ Ideal.ofBits .f32 0x3F000000#32 := by
    rw [half_value]; exact_mod_cast (by norm_num : (0 : ℝ) ≤ 1 / 2)
  have finite : Ideal.ofBits .f32 0x3F000000#32 ≠ ⊤ := by
    rw [half_value]; exact EReal.coe_ne_top _
  have all (s : Finset (Fin n)) : ∑ k ∈ s, f k * Ideal.ofBits .f32 0x3F000000#32 = (∑ k ∈ s, f k) * Ideal.ofBits .f32 0x3F000000#32 := by
    induction s using Finset.induction_on with
    | empty => rw [Finset.sum_empty, Finset.sum_empty, zero_mul]
    | insert a s fresh ih =>
      rw [Finset.sum_insert fresh, Finset.sum_insert fresh, ih, EReal.right_distrib_of_nonneg_of_ne_top nonneg finite]
  exact all Finset.univ

end Cert.Products
-- ==== Proof.Products.DAct.lean ====
/- The gradients of a feed-forward block's gate and of what it lets through: the kernel's two arrays. -/
module

public import proofs.«01_k».proof.Proof.Gen.Kernel2Ideal.Value
public import proofs.«01_k».proof.Proof.Products.Spec
public import Idealize.ShloMosaic.Lib.Pipeline.ValueKit
public import Idealize.ShloMosaic.Lib.Pipeline.ReadBack

@[expose] public section

set_option maxRecDepth 16384

noncomputable section

namespace Cert.Products.DAct

open Idealize.ShloMosaic Idealize.ShloMosaic.Pointwise Idealize.SL.Sem Cert.Kernel2Ideal Cert.Kernel2Ideal.Gen

variable (m : (ℓ : Loc nD τ sig) → Buf (Elt Ideal) ℓ)

theorem idx : ∀ t : Fin cfg0.N, win0_0.index t = ![t.val % 10, 0] ∧ win0_1.index t = ![t.val / 10, 0]
    ∧ win0_2.index t = ![t.val % 10, t.val / 10] ∧ win0_3.index t = ![t.val % 10, t.val / 10]
    ∧ win0_4.index t = ![t.val % 10, t.val / 10] ∧ win0_5.index t = ![t.val % 10, t.val / 10] :=
  (by decide +kernel : ∀ t : Fin grid0.N, _)

/-- The gradient of the activation, of one point's rows and columns. -/
def rows (d : Vec Ideal S416x1024 .f32) (w : Vec Ideal S1408x1024 .bf16) (j : S416x1408.Idx) : EReal :=
  ∑ e : Fin 1024, d (ix2 (j 0) e) * w (ix2 (j 1) e)

/-- The gradient of the activation, of token `i` and column `n`. -/
def d_act (c : Dev nD) (i : S4160x2816.Idx) : EReal :=
  Ideal.ofBits .f32 0x3F000000#32 * ∑ e : Fin 1024, (show FVec Ideal S4160x1024 .f32 from V m c main_arg4) (ix2 (i 0) e)
    * (show FVec Ideal S2816x1024 .bf16 from V m c main_v24) (ix2 (i 1) e)

/-- The gradient of the gate, from the gradient `d` of the activation, the gate `g` and what it lets through `u`. -/
def d_gate (d g u : EReal) : EReal :=
  d * u * Ideal.logistic g + g * (d * u) * (Ideal.logistic g * (1 - Ideal.logistic g))

/-- The gradient of what the gate lets through. -/
def d_up (d g : EReal) : EReal := g * Ideal.logistic g * d

theorem block (d : Vec Ideal S416x1024 .f32) (w : Vec Ideal S1408x1024 .bf16) (j : S416x1408.Idx) :
    (k0_pay1 d w j : EReal) = Ideal.ofBits .f32 0x3F000000#32 * rows d w j := by
  unfold rows
  pointwise [k0_pay1]

theorem block_gate (d : Vec Ideal S416x1024 .f32) (w : Vec Ideal S1408x1024 .bf16) (g u : Vec Ideal S416x1408 .f32) (j : S416x1408.Idx) :
    (k0_pay4 d w g u j : EReal) = d_gate (Ideal.ofBits .f32 0x3F000000#32 * rows d w j) (g j) (u j) := by
  rw [← block]
  unfold d_gate
  pointwise [k0_pay4, k0_pay2, k0_pay3]

theorem block_up (d : Vec Ideal S416x1024 .f32) (w : Vec Ideal S1408x1024 .bf16) (g : Vec Ideal S416x1408 .f32) (j : S416x1408.Idx) :
    (k0_pay5 d w g j : EReal) = d_up (Ideal.ofBits .f32 0x3F000000#32 * rows d w j) (g j) := by
  rw [← block]
  unfold d_up
  pointwise [k0_pay5, k0_pay2, k0_pay3]

/-- The place in the arrays of index `j` of point `t`'s block. -/
def place (t : Fin cfg0.N) (j : S416x1408.Idx) : S4160x2816.Idx :=
  ix2 (⟨t.val % 10 * 416 + (j 0).val, by have := (j 0).isLt; change (j 0).val < 416 at this; omega⟩ : Fin 4160)
    (⟨t.val / 10 * 1408 + (j 1).val, by have := (j 1).isLt; have : t.val < 20 := t.isLt; change (j 1).val < 1408 at *; omega⟩ : Fin 2816)

theorem rows_eq (c : Dev nD) (t : Fin cfg0.N) (j : S416x1408.Idx) :
    Ideal.ofBits .f32 0x3F000000#32 * rows (iblk m c 0 t) (iblk m c 1 t) j = d_act m c (place t j) := by
  unfold rows d_act place
  refine congrArg (fun a : EReal => Ideal.ofBits .f32 0x3F000000#32 * a) (Finset.sum_congr rfl fun e _ => ?_)
  refine congrArg₂ (fun a b : EReal => a * b) ?_ ?_ <;> blk_ext [iblk, idx t]

theorem gate_eq (c : Dev nD) (t : Fin cfg0.N) (j : S416x1408.Idx) :
    (iblk m c 2 t : S416x1408.Idx → EReal) j = (V m c main_v22 : S4160x2816.Idx → EReal) (place t j) := by
  unfold place
  blk_ext [iblk, idx t]

theorem up_eq (c : Dev nD) (t : Fin cfg0.N) (j : S416x1408.Idx) :
    (iblk m c 3 t : S416x1408.Idx → EReal) j = (V m c main_v23 : S4160x2816.Idx → EReal) (place t j) := by
  unfold place
  blk_ext [iblk, idx t]

/-- The gate's gradient, after the run. -/
theorem array_gate (c : Dev nD) : (dats m 0 c).arrAt 4 cfg0.N
    = (fun i => d_gate (d_act m c i) ((V m c main_v22 : S4160x2816.Idx → EReal) i) ((V m c main_v23 : S4160x2816.Idx → EReal) i) : S4160x2816.Idx → EReal) := by
  refine (dats m 0 c).arrAt_eq_of_covers 4 _ (by decide +kernel) fun t _ y => ?_
  have here : ((cfg0.win 4).blk t).view.emb y = place t y := by
    unfold place
    blk_ext [idx t]
  rw [here]
  blk_simp
  rw [after0_4]
  frame_out
  refine (block_gate _ _ _ _ _).trans ?_
  rw [rows_eq, gate_eq, up_eq]

/-- The gradient of what the gate lets through, after the run. -/
theorem array_up (c : Dev nD) : (dats m 0 c).arrAt 5 cfg0.N
    = (fun i => d_up (d_act m c i) ((V m c main_v22 : S4160x2816.Idx → EReal) i) : S4160x2816.Idx → EReal) := by
  refine (dats m 0 c).arrAt_eq_of_covers 5 _ (by decide +kernel) fun t _ y => ?_
  have here : ((cfg0.win 5).blk t).view.emb y = place t y := by
    unfold place
    blk_ext [idx t]
  rw [here]
  blk_simp
  rw [after0_5]
  frame_out
  refine (block_up _ _ _ _).trans ?_
  rw [rows_eq, gate_eq]

end Cert.Products.DAct
-- ==== Proof.Products.Hidden.lean ====
/- The reference's gate and what it lets through: two halves of one product by the four weight shards laid side by side. -/
module

public import proofs.«01_k».proof.Proof.Gen.Reference17Ideal.Run
public import proofs.«01_k».proof.Proof.Products.Spec

@[expose] public section

set_option maxRecDepth 16384

noncomputable section

namespace Cert.Products

open Idealize.ShloMosaic Idealize.ShloMosaic.Pointwise Cert.Reference17Ideal Cert.Reference17Ideal.Gen

/-- The four shards side by side. -/
def wide (w : Vec Ideal S4x1024x1408 .f32) : Vec Ideal S1024x5632 .f32 :=
  concatenate S1024x5632 1
    [⟨S1024x1408, (shapeCast _ (extractStridedSlice S1x1024x1408 ![0, 0, 0] w slices_S4x1024x1408_S1x1024x1408_0_0_0) shapeCasts_S1x1024x1408_S1024x1408 : (⟨S1024x1408, .f32⟩ : BufTy).Contents (Elt Ideal))⟩,
     ⟨S1024x1408, (shapeCast _ (extractStridedSlice S1x1024x1408 ![1, 0, 0] w slices_S4x1024x1408_S1x1024x1408_1_0_0) shapeCasts_S1x1024x1408_S1024x1408 : (⟨S1024x1408, .f32⟩ : BufTy).Contents (Elt Ideal))⟩,
     ⟨S1024x1408, (shapeCast _ (extractStridedSlice S1x1024x1408 ![2, 0, 0] w slices_S4x1024x1408_S1x1024x1408_2_0_0) shapeCasts_S1x1024x1408_S1024x1408 : (⟨S1024x1408, .f32⟩ : BufTy).Contents (Elt Ideal))⟩,
     ⟨S1024x1408, (shapeCast _ (extractStridedSlice S1x1024x1408 ![3, 0, 0] w slices_S4x1024x1408_S1x1024x1408_3_0_0) shapeCasts_S1x1024x1408_S1024x1408 : (⟨S1024x1408, .f32⟩ : BufTy).Contents (Elt Ideal))⟩]
    concatenates_S1024x1408_S1024x1408_S1024x1408_S1024x1408_S1024x5632_d1

/-- Column `n` of the shards side by side is a column of shard `n / 1408`. -/
theorem wide_apply (w : Vec Ideal S4x1024x1408 .f32) (d : Fin 1024) (n : Fin 5632) :
    (wide w (ix2 d n) : EReal) = w (ix3 ⟨n.val / 1408, by omega⟩ d ⟨n.val % 1408, by omega⟩) := by
  unfold wide
  pointwise
  split_ifs <;> refine congrArg₂ (fun (a : Fin 4) (b : Fin 1408) => (w (ix3 a d b) : EReal)) (Fin.ext ?_) (Fin.ext ?_) <;> dsimp <;> omega

theorem gate_apply (x : Vec Ideal S4160x1024 .f32) (w : Vec Ideal S4x1024x1408 .f32) (j : S4160x2816.Idx) :
    ((extractStridedSlice S4160x2816 ![0, 0] (Host.dotGeneral (φ₁ := .f32) (φ₂ := .f32) dot_S4160x1024_S1024x5632_S4160x5632_1_0_0_1_n_n none x (wide w))
      slices_S4160x5632_S4160x2816_0_0 : FVec Ideal S4160x2816 .f32) j : EReal) = hidden x w 0 (by omega) (j 0) (j 1) := by
  unfold hidden
  pointwise
  simp only [wide_apply]

theorem up_apply (x : Vec Ideal S4160x1024 .f32) (w : Vec Ideal S4x1024x1408 .f32) (j : S4160x2816.Idx) :
    ((extractStridedSlice S4160x2816 ![0, 2816] (Host.dotGeneral (φ₁ := .f32) (φ₂ := .f32) dot_S4160x1024_S1024x5632_S4160x5632_1_0_0_1_n_n none x (wide w))
      slices_S4160x5632_S4160x2816_0_2816 : FVec Ideal S4160x2816 .f32) j : EReal) = hidden x w 2 (by omega) (j 0) (j 1) := by
  unfold hidden
  pointwise
  simp only [wide_apply]
  exact Finset.sum_congr rfl fun d _ => congrArg (fun b : EReal => (x (ix2 (j 0) d) : EReal) * b)
    (congrArg₂ (fun (a : Fin 4) (b : Fin 1408) => (w (ix3 a d b) : EReal)) (Fin.ext (by dsimp; omega)) (Fin.ext (by dsimp; omega)))

/-- The reference's activation of any gate and any values it lets through. -/
theorem act_apply (g u : Vec Ideal S4160x2816 .f32) (j : S4160x2816.Idx) :
    ((mulf (mulf g (Host.divf (broadcastInDim S4160x2816 ![] bcast_S_S4160x2816 (constant S_ .f32 0x3F800000#32))
      (addf (broadcastInDim S4160x2816 ![] bcast_S_S4160x2816 (constant S_ .f32 0x3F800000#32)) (Host.exp (Host.negf g))))) u : FVec Ideal S4160x2816 .f32) j : EReal)
      = g j * Ideal.logistic (g j) * u j := by
  unfold Ideal.logistic
  pointwise

/-- The reference's normalised rows. -/
theorem rms_apply (h : Vec Ideal S4160x1024 .f32) (gain : Vec Ideal S1x1024 .f32) (j : S4160x1024.Idx) :
    ((mulf (mulf h (broadcastInDim S4160x1024 ![0, 1] bcast_S4160x1_S4160x1024_0_1 (Host.rsqrt (addf (Host.divf (broadcastInDim S4160x1 ![0] bcast_S4160_S4160x1_0
      (Host.reduceAdd (mulf h h) (constant S_ .f32 0x00000000#32) reducesTo_S4160x1024_S4160_d1 h_S_)) (broadcastInDim S4160x1 ![] bcast_S_S4160x1 (constant S_ .f32 0x44800000#32)))
      (broadcastInDim S4160x1 ![] bcast_S_S4160x1 (constant S_ .f32 0x358637BD#32)))))) (broadcastInDim S4160x1024 ![0, 1] bcast_S1x1024_S4160x1024_0_1 gain) : FVec Ideal S4160x1024 .f32) j : EReal)
      = rms h gain (j 0) (j 1) := by
  unfold rms rowRms
  pointwise

end Cert.Products
-- ==== Proof.Equations.DAct.lean ====
/- The gradients of a feed-forward block's gate and of what it lets through: the kernel and the reference end with the same array. -/
module

public import proofs.«01_k».proof.Defs
public import proofs.«01_k».proof.Proof.Products.DAct
public import proofs.«01_k».proof.Proof.Products.Hidden
public import proofs.«01_k».proof.Proof.Gen.Reference2Ideal.Run
public import Idealize.ShloMosaic.Adequacy
public import Idealize.ShloMosaic.Init

@[expose] public section

set_option maxRecDepth 16384

noncomputable section

namespace Cert.Products.DAct

open Idealize.ShloMosaic Idealize.ShloMosaic.Pointwise Idealize.SL.Sem Cert.Kernel2Ideal Cert.Kernel2Ideal.Gen

variable (m : (ℓ : Loc nD τ sig) → Buf (Elt Ideal) ℓ)

theorem weight (c : Dev nD) : (V m c main_v24 : S2816x1024.Idx → EReal) = m ((c.tc : Thread nD τ).loc main_arg3) := by
  funext j
  entry_read
  pointwise

/-- The kernel's gate. -/
theorem gate_entry (c : Dev nD) (j : S4160x2816.Idx) : (V m c main_v22 : S4160x2816.Idx → EReal) j
    = hidden (fun i => rms (m ((c.tc : Thread nD τ).loc main_arg0)) (m ((c.tc : Thread nD τ).loc main_arg1)) (i 0) (i 1))
        (m ((c.tc : Thread nD τ).loc main_arg2)) 0 (by omega) (j 0) (j 1) := by
  refine Eq.trans ?_ ((gate_apply _ _ j).trans (congrArg (fun x : Tokens => hidden x (m ((c.tc : Thread nD τ).loc main_arg2)) 0 (by omega) (j 0) (j 1)) (funext fun i => rms_apply _ _ i)))
  refine congrFun (a := j) ?_
  after_results
  rfl

/-- The kernel's values that the gate lets through. -/
theorem up_entry (c : Dev nD) (j : S4160x2816.Idx) : (V m c main_v23 : S4160x2816.Idx → EReal) j
    = hidden (fun i => rms (m ((c.tc : Thread nD τ).loc main_arg0)) (m ((c.tc : Thread nD τ).loc main_arg1)) (i 0) (i 1))
        (m ((c.tc : Thread nD τ).loc main_arg2)) 2 (by omega) (j 0) (j 1) := by
  refine Eq.trans ?_ ((up_apply _ _ j).trans (congrArg (fun x : Tokens => hidden x (m ((c.tc : Thread nD τ).loc main_arg2)) 2 (by omega) (j 0) (j 1)) (funext fun i => rms_apply _ _ i)))
  refine congrFun (a := j) ?_
  after_results
  rfl

/-- The reference's gradient of the activation. -/
theorem activation (d : Vec Ideal S4160x1024 .f32) (w : Vec Ideal S2816x1024 .f32) (j : S4160x2816.Idx) :
    ((Host.dotGeneral (φ₁ := .f32) (φ₂ := .f32) Cert.Reference2Ideal.dot_S4160x1024_S2816x1024_S4160x2816_1_1_0_0_n_n none
      (mulf (broadcastInDim Cert.Reference2Ideal.S4160x1024 ![] Cert.Reference2Ideal.Gen.bcast_S_S4160x1024 (constant Cert.Reference2Ideal.S_ .f32 0x3F000000#32)) d) w : FVec Ideal S4160x2816 .f32) j : EReal)
      = Ideal.ofBits .f32 0x3F000000#32 * ∑ e : Fin 1024, d (ix2 (j 0) e) * w (ix2 (j 1) e) := by
  pointwise
  rw [mul_comm, ← sum_half]
  refine Finset.sum_congr rfl fun e _ => ?_
  rw [mul_comm (Ideal.ofBits .f32 0x3F000000#32), mul_assoc, mul_assoc, mul_comm (Ideal.ofBits .f32 0x3F000000#32)]

/-- The reference's gradient of the gate, from any gradient of the activation. -/
theorem gate (d g u : Vec Ideal S4160x2816 .f32) (j : S4160x2816.Idx) :
    ((truncf .bf16 (addf (mulf (mulf d u) (Host.divf (broadcastInDim Cert.Reference2Ideal.S4160x2816 ![] Cert.Reference2Ideal.Gen.bcast_S_S4160x2816 (constant Cert.Reference2Ideal.S_ .f32 0x3F800000#32)) (addf (broadcastInDim Cert.Reference2Ideal.S4160x2816 ![] Cert.Reference2Ideal.Gen.bcast_S_S4160x2816 (constant Cert.Reference2Ideal.S_ .f32 0x3F800000#32)) (Host.exp (Host.negf g)))))
      (mulf (mulf g (mulf d u)) (mulf (Host.divf (broadcastInDim Cert.Reference2Ideal.S4160x2816 ![] Cert.Reference2Ideal.Gen.bcast_S_S4160x2816 (constant Cert.Reference2Ideal.S_ .f32 0x3F800000#32)) (addf (broadcastInDim Cert.Reference2Ideal.S4160x2816 ![] Cert.Reference2Ideal.Gen.bcast_S_S4160x2816 (constant Cert.Reference2Ideal.S_ .f32 0x3F800000#32)) (Host.exp (Host.negf g))))
        (subf (broadcastInDim Cert.Reference2Ideal.S4160x2816 ![] Cert.Reference2Ideal.Gen.bcast_S_S4160x2816 (constant Cert.Reference2Ideal.S_ .f32 0x3F800000#32)) (Host.divf (broadcastInDim Cert.Reference2Ideal.S4160x2816 ![] Cert.Reference2Ideal.Gen.bcast_S_S4160x2816 (constant Cert.Reference2Ideal.S_ .f32 0x3F800000#32)) (addf (broadcastInDim Cert.Reference2Ideal.S4160x2816 ![] Cert.Reference2Ideal.Gen.bcast_S_S4160x2816 (constant Cert.Reference2Ideal.S_ .f32 0x3F800000#32)) (Host.exp (Host.negf g)))))))) Cert.Reference2Ideal.Gen.bitsLt_bf16_f32 : FVec Ideal S4160x2816 .bf16) j : EReal) = d_gate (d j) (g j) (u j) := by
  unfold d_gate Ideal.logistic
  pointwise

/-- The reference's gradient of what the gate lets through, from any gradient of the activation. -/
theorem up (d g : Vec Ideal S4160x2816 .f32) (j : S4160x2816.Idx) :
    ((truncf .bf16 (mulf (mulf g (Host.divf (broadcastInDim Cert.Reference2Ideal.S4160x2816 ![] Cert.Reference2Ideal.Gen.bcast_S_S4160x2816 (constant Cert.Reference2Ideal.S_ .f32 0x3F800000#32)) (addf (broadcastInDim Cert.Reference2Ideal.S4160x2816 ![] Cert.Reference2Ideal.Gen.bcast_S_S4160x2816 (constant Cert.Reference2Ideal.S_ .f32 0x3F800000#32)) (Host.exp (Host.negf g))))) d)
      Cert.Reference2Ideal.Gen.bitsLt_bf16_f32 : FVec Ideal S4160x2816 .bf16) j : EReal) = d_up (d j) (g j) := by
  unfold d_up Ideal.logistic
  pointwise

/-- The reference declares no semaphore, and its run ends with its arguments as they were. -/
theorem frame_reference : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- Both runs end with the same array. -/
theorem equation : Cert.algebraic_Kernel2Ideal_Reference2Ideal := by
  intro m g m' g' _ hargs
  refine ⟨fun c => (dats m 0 c).arrAt 4 cfg0.N, fun c => (dats m 0 c).arrAt 5 cfg0.N,
    Cert.Kernel2Ideal.Value.run_blocks m g,
    (θ_run Cert.Reference2Ideal.defs _ _).mono (fun r h c => ?_) (Cert.Reference2Ideal.Value.run (F := Ideal) m' g')⟩
  obtain ⟨r0, r1, rest⟩ := h c
  obtain ⟨h0, h1, h2, h3, h4⟩ := hargs c
  refine ⟨r0.trans (Eq.trans ?_ (array_gate m c).symm), r1.trans (Eq.trans ?_ (array_up m c).symm), rest⟩
  · clear h r0 r1 rest
    unfold Cert.Reference2Ideal.Value.res_main_v36
    funext j
    refine (gate _ _ _ j).trans ?_
    rw [h0, h1, h2, h3, h4]
    have three {d d' g g' u u' : EReal} (a : d = d') (b : g = g') (e : u = u') : d_gate d g u = d_gate d' g' u' := by rw [a, b, e]
    refine three ?_ ?_ ?_
    · exact (activation _ _ j).trans (congrArg (fun a : EReal => Ideal.ofBits .f32 0x3F000000#32 * a) (Finset.sum_congr rfl fun e _ =>
        congrArg₂ (fun a b : EReal => a * b) (congrFun (V_main_arg4 m c) _).symm (congrFun (weight m c) _).symm))
    · exact ((gate_apply _ _ j).trans (congrArg (fun x : Tokens => hidden x (m ((c.tc : Thread nD τ).loc main_arg2)) 0 (by omega) (j 0) (j 1)) (funext fun i => rms_apply _ _ i))).trans (gate_entry m c j).symm
    · exact ((up_apply _ _ j).trans (congrArg (fun x : Tokens => hidden x (m ((c.tc : Thread nD τ).loc main_arg2)) 2 (by omega) (j 0) (j 1)) (funext fun i => rms_apply _ _ i))).trans (up_entry m c j).symm
  · clear h r0 r1 rest
    unfold Cert.Reference2Ideal.Value.res_main_v37
    funext j
    refine (up _ _ j).trans ?_
    rw [h0, h1, h2, h3, h4]
    refine congrArg₂ d_up ?_ ?_
    · exact (activation _ _ j).trans (congrArg (fun a : EReal => Ideal.ofBits .f32 0x3F000000#32 * a) (Finset.sum_congr rfl fun e _ =>
        congrArg₂ (fun a b : EReal => a * b) (congrFun (V_main_arg4 m c) _).symm (congrFun (weight m c) _).symm))
    · exact ((gate_apply _ _ j).trans (congrArg (fun x : Tokens => hidden x (m ((c.tc : Thread nD τ).loc main_arg2)) 0 (by omega) (j 0) (j 1)) (funext fun i => rms_apply _ _ i))).trans (gate_entry m c j).symm

end Cert.Products.DAct
-- ==== Proof.Products.DWDown.lean ====
/- The gradient of a feed-forward block's second weight: what the kernel's array holds is a product of the kernel's operands. -/
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DWDown

open Idealize.ShloMosaic Idealize.ShloMosaic.Pointwise Idealize.SL.Sem Cert.Kernel3Ideal Cert.Kernel3Ideal.Gen
open Cert.Kernel3Ideal.Value

variable (m : (ℓ : Loc nD τ sig) → Buf (Elt Ideal) ℓ)

/-- The blocks a grid point works on. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The first point of a run clears the accumulator. -/
theorem clear (j : S1408x1024.Idx) : k0_pay1 (F := Ideal) j = 0 := by
  pointwise [k0_pay1]

/-- A point adds the product of its two blocks. -/
theorem step (acc : Vec Ideal S1408x1024 .f32) (x : Vec Ideal S1040x1408 .bf16) (y : Vec Ideal S1040x1024 .f32) (j : S1408x1024.Idx) :
    (k0_pay2 acc x y j : EReal) = acc j + ∑ k : Fin 1040, x (ix2 k (j 0)) * y (ix2 k (j 1)) := by
  pointwise [k0_pay2]

/-- What the last point of a run writes. -/
theorem last (acc : Vec Ideal S1408x1024 .f32) (j : S1408x1024.Idx) : (k0_pay3 acc j : EReal) = acc j * Scalar.ofBits (F := Ideal) .f32 0x3F000000#32 := by
  pointwise [k0_pay3]

/-- What point `t` adds at an index. -/
def term (c : Dev nD) (t : Fin cfg0.N) (j : S1408x1024.Idx) : EReal :=
  ∑ k : Fin 1040, (show FVec Ideal S1040x1408 .bf16 from iblk m c 0 t) (ix2 k (j 0)) * (show FVec Ideal S1040x1024 .f32 from iblk m c 1 t) (ix2 k (j 1))

theorem reset (c : Dev nD) (t : Fin cfg0.N) (h : t.val % 4 = 0) (j : S1408x1024.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 4 = 0) (j : S1408x1024.Idx) :
    ((outsAt0 m c t.val t.isLt).2 j : EReal)
      = (outsAt0 m c (t.val - 1) (Nat.lt_of_le_of_lt (Nat.sub_le _ _) t.isLt)).2 j + term m c t j := by
  by_cases h1 : t.val % 4 = 3
  · rw [outsAt0_C m c t h h1]
    frame_out
    rw [step]
    simp only [read_unread_whole]
    rfl
  · rw [outsAt0_B m c t h h1]
    frame_out
    rw [step]
    simp only [read_unread_whole]
    rfl

/-- What the last point of a run writes, from the accumulator it leaves. -/
theorem out (c : Dev nD) (t : Fin cfg0.N) (h : t.val % 4 = 3) (j : S1408x1024.Idx) :
    ((outsAt0 m c t.val t.isLt).1 j : EReal) = (outsAt0 m c t.val t.isLt).2 j * Scalar.ofBits (F := Ideal) .f32 0x3F000000#32 := by
  rw [outsAt0_C m c t (by omega) h]
  frame_out
  rw [last]

/-- The product of the kernel's operands, at an index. -/
def product (c : Dev nD) (j : S2816x1024.Idx) : EReal :=
  ∑ l : Fin 4160, (show FVec Ideal S4160x2816 .bf16 from V m c main_v26) (ix2 l (j 0)) * (show FVec Ideal S4160x1024 .f32 from V m c main_arg3) (ix2 l (j 1))

/-- The array after the run. -/
theorem array (c : Dev nD) : (dats m 0 c).arrAt 2 cfg0.N
    = (fun j => product m c j * Scalar.ofBits (F := Ideal) .f32 0x3F000000#32 : S2816x1024.Idx → EReal) := by
  refine (dats m 0 c).arrAt_eq_of_covers 2 _ (by decide +kernel) fun t hf y => ?_
  blk_simp
  rw [after0_2, out m c t ((flush0_2 t).mp hf)]
  refine congrArg (fun b : EReal => b * Scalar.ofBits (F := Ideal) .f32 0x3F000000#32) ?_
  rw [Pipeline.eq_sum_fin_of_reset_step_apply_of_flush (fun n h => (outsAt0 m c n h).2) 4 (fun _ => 0) (term m c)
    (reset m c) (add m c) t ((flush0_2 t).mp hf) _, zero_add]
  unfold term product
  refine Fin.sum_mul_add_congr fun s k hl => ?_
  refine congrArg₂ (fun a b : EReal => a * b) ?_ ?_ <;>
    blk_ext [iblk, idx t, idx ⟨_, Pipeline.run_point_lt_of_flush t ((flush0_2 t).mp hf) s⟩]

end Cert.Products.DWDown
-- ==== Proof.Equations.DWDown.lean ====
/- The gradient of a feed-forward block's last weight: the kernel and the reference end with the same array. -/
module

public import proofs.«01_k».proof.Defs
public import proofs.«01_k».proof.Proof.Products.DWDown
public import proofs.«01_k».proof.Proof.Products.Spec
public import proofs.«01_k».proof.Proof.Gen.Reference3Ideal.Run
public import Idealize.ShloMosaic.Adequacy
public import Idealize.ShloMosaic.Init

@[expose] public section

set_option maxRecDepth 16384

noncomputable section

namespace Cert.Products.DWDown

open Idealize.ShloMosaic Idealize.ShloMosaic.Pointwise Idealize.SL.Sem Cert.Kernel3Ideal Cert.Kernel3Ideal.Gen

variable (m : (ℓ : Loc nD τ sig) → Buf (Elt Ideal) ℓ)

/-- The reference's last step, of any hidden rows. -/
theorem reference (a : Vec Ideal S4160x2816 .f32) (d : Vec Ideal S4160x1024 .f32) (j : S2816x1024.Idx) :
    ((transpose Cert.Reference3Ideal.S2816x1024 [1, 0] (Host.dotGeneral (φ₁ := .f32) (φ₂ := .f32) Cert.Reference3Ideal.dot_S4160x1024_S4160x2816_S1024x2816_0_0_1_1_n_n none
      (mulf (broadcastInDim Cert.Reference3Ideal.S4160x1024 ![] Cert.Reference3Ideal.Gen.bcast_S_S4160x1024 (constant Cert.Reference3Ideal.S_ .f32 0x3F000000#32)) d) a)
      Cert.Reference3Ideal.Gen.transposes_S1024x2816_S2816x1024_1_0 : FVec Ideal S2816x1024 .f32) j : EReal)
      = (∑ l : Fin 4160, a (ix2 l (j 0)) * d (ix2 l (j 1))) * Ideal.ofBits .f32 0x3F000000#32 := by
  pointwise
  rw [← sum_half]
  refine Fin.sum_fin_congr fun l => ?_
  rw [mul_comm, mul_comm (Ideal.ofBits .f32 0x3F000000#32), mul_assoc]

/-- The reference declares no semaphore, and its run ends with its arguments as they were. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Both runs end with the same array. -/
theorem equation : Cert.algebraic_Kernel3Ideal_Reference3Ideal := by
  intro m g m' g' _ hargs
  refine ⟨fun c => (dats m 0 c).arrAt 2 cfg0.N, Cert.Kernel3Ideal.Value.run_blocks m g,
    (θ_run Cert.Reference3Ideal.defs _ _).mono (fun r h c => ?_) (Cert.Reference3Ideal.Value.run (F := Ideal) m' g')⟩
  obtain ⟨r0, rest⟩ := h c
  obtain ⟨h0, h1, h2, h3⟩ := hargs c
  refine ⟨r0.trans (Eq.trans ?_ (array m c).symm), rest⟩
  clear h r0 rest
  funext j
  unfold Cert.Reference3Ideal.Value.res_main_v34
  refine (reference _ _ j).trans ?_
  rw [h0, h1, h2, h3]
  refine congrArg (fun a : EReal => a * Ideal.ofBits .f32 0x3F000000#32) ?_
  refine Fin.sum_fin_congr fun k => congrArg₂ (fun a b : EReal => a * b) ?_ (congrFun (V_main_arg3 m c) _).symm
  show _ = (V m c main_v26 : S4160x2816.Idx → EReal) _
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

end Cert.Products.DWDown
-- ==== Proof.Products.DWGate.lean ====
/- The gradient of a feed-forward block's first weight, the two shards of the gate: the kernel's array holds there a product of its
   operands. -/
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DWGate

open Idealize.ShloMosaic Idealize.ShloMosaic.Pointwise Idealize.SL.Sem Cert.Kernel4Ideal Cert.Kernel4Ideal.Gen

variable (m : (ℓ : Loc nD τ sig) → Buf (Elt Ideal) ℓ)

/-- The blocks a grid point works on. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The first point of a run clears the accumulator. -/
theorem clear (j : S1024x1408.Idx) : k0_pay1 (F := Ideal) j = 0 := by
  pointwise [k0_pay1]

/-- A point adds the product of its two blocks. -/
theorem step (acc : Vec Ideal S1024x1408 .f32) (x : Vec Ideal S1040x1024 .bf16) (y : Vec Ideal S1040x1408 .bf16) (j : S1024x1408.Idx) :
    (k0_pay2 acc x y j : EReal) = acc j + ∑ k : Fin 1040, x (ix2 k (j 0)) * y (ix2 k (j 1)) := by
  pointwise [k0_pay2]

/-- What the last point of a run writes. -/
theorem last (acc : Vec Ideal S1024x1408 .f32) (j : S1x1024x1408.Idx) : (k0_pay3 acc j : EReal) = acc (ix2 (j 1) (j 2)) := by
  pointwise [k0_pay3]

/-- What point `t` adds at an index. -/
def term (c : Dev nD) (t : Fin cfg0.N) (j : S1024x1408.Idx) : EReal :=
  ∑ k : Fin 1040, (show FVec Ideal S1040x1024 .bf16 from iblk m c 0 t) (ix2 k (j 0)) * (show FVec Ideal S1040x1408 .bf16 from iblk m c 1 t) (ix2 k (j 1))

theorem reset (c : Dev nD) (t : Fin cfg0.N) (h : t.val % 4 = 0) (j : S1024x1408.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 4 = 0) (j : S1024x1408.Idx) :
    ((outsAt0 m c t.val t.isLt).2 j : EReal)
      = (outsAt0 m c (t.val - 1) (Nat.lt_of_le_of_lt (Nat.sub_le _ _) t.isLt)).2 j + term m c t j := by
  by_cases h1 : t.val % 4 = 3
  · rw [outsAt0_C m c t h h1]
    frame_out
    rw [step]
    simp only [read_unread_whole]
    rfl
  · rw [outsAt0_B m c t h h1]
    frame_out
    rw [step]
    simp only [read_unread_whole]
    rfl

/-- What the last point of a run writes, from the accumulator it leaves. -/
theorem out (c : Dev nD) (t : Fin cfg0.N) (h : t.val % 4 = 3) (j : S1x1024x1408.Idx) :
    ((outsAt0 m c t.val t.isLt).1 j : EReal) = (outsAt0 m c t.val t.isLt).2 (ix2 (j 1) (j 2)) := by
  rw [outsAt0_C m c t (by omega) h]
  frame_out
  rw [last]

/-- The product of the kernel's operands: row `d` and column `n` of shard `s`. -/
def product (c : Dev nD) (s : Fin 2) (d : Fin 1024) (n : Fin 1408) : EReal :=
  ∑ l : Fin 4160, (show FVec Ideal S4160x1024 .bf16 from V m c main_v12) (ix2 l d)
    * (show FVec Ideal S4160x2816 .bf16 from V m c main_v13) (ix2 l ⟨s.val * 1408 + n.val, by omega⟩)

/-- The array after the run. -/
theorem array (c : Dev nD) : (dats m 0 c).arrAt 2 cfg0.N
    = (fun i => if (i 0).val < 2 then product m c ⟨(i 0).val % 2, by omega⟩ (i 1) (i 2) else (V m c main_v14 : S4x1024x1408.Idx → EReal) i : S4x1024x1408.Idx → EReal) := by
  refine (dats m 0 c).arrAt_eq_of_coversWhere 2 _ (fun β => β 0 < 2) (by decide +kernel) (fun t hf y => ?_)
    (fun j => by blk_simp [Pipeline.Window.cell_apply]; try omega)
  blk_simp
  rw [after0_2, out m c t ((flush0_2 t).mp hf)]
  rw [Pipeline.eq_sum_fin_of_reset_step_apply_of_flush (fun n h => (outsAt0 m c n h).2) 4 (fun _ => 0) (term m c)
    (reset m c) (add m c) t ((flush0_2 t).mp hf) _, zero_add]
  unfold term product
  refine Fin.sum_mul_add_congr fun s k hl => ?_
  have bound : t.val < 8 := t.isLt
  have first : (y 0).val = 0 := by have := (y 0).isLt; change (y 0).val < 1 at this; omega
  refine congrArg₂ (fun a b : EReal => a * b) ?_ ?_ <;>
    blk_ext [iblk, idx t, idx ⟨_, Pipeline.run_point_lt_of_flush t ((flush0_2 t).mp hf) s⟩]

end Cert.Products.DWGate
-- ==== Proof.Products.Stacked.lean ====
/- The reference's gradient of two shards of a weight, from any rows and any gradient. -/
module

public import proofs.«01_k».proof.Proof.Gen.Reference4Ideal.Run
public import proofs.«01_k».proof.Proof.Products.Spec
public import Idealize.ShloMosaic.Lib.Pointwise

@[expose] public section

set_option maxRecDepth 16384

noncomputable section

namespace Cert.Products

open Idealize.ShloMosaic Idealize.ShloMosaic.Pointwise Cert.Reference4Ideal Cert.Reference4Ideal.Gen

/-- The gradient of the two shards side by side, transposed as the reference takes it. -/
def beside (x : Vec Ideal S4160x1024 .f32) (g : Vec Ideal S4160x2816 .f32) : Vec Ideal S1024x2816 .f32 :=
  transpose S1024x2816 [1, 0] (Host.dotGeneral (φ₁ := .f32) (φ₂ := .f32) dot_S4160x2816_S4160x1024_S2816x1024_0_0_1_1_n_n none g x : FVec Ideal S2816x1024 .f32) transposes_S2816x1024_S1024x2816_1_0

theorem beside_apply (x : Vec Ideal S4160x1024 .f32) (g : Vec Ideal S4160x2816 .f32) (d : Fin 1024) (n : Fin 2816) :
    (beside x g (ix2 d n) : EReal) = ∑ l : Fin 4160, x (ix2 l d) * g (ix2 l n) := by
  unfold beside
  pointwise
  exact Finset.sum_congr rfl fun l _ => mul_comm (G := EReal) _ _

/-- The gradient of the two shards: each shard's padded with zeros where the other lies, and the two added. -/
theorem stacked_apply (x : Vec Ideal S4160x1024 .f32) (g : Vec Ideal S4160x2816 .f32) (j : S2x1024x1408.Idx) :
    ((addf (pad S2x1024x1408 ![1, 0, 0] ![0, 0, 0] ![0, 0, 0] (broadcastInDim S1x1024x1408 ![1, 2] bcast_S1024x1408_S1x1024x1408_1_2
        (extractStridedSlice S1024x1408 ![0, 1408] (beside x g) slices_S1024x2816_S1024x1408_0_1408)) (constant S_ .f32 0x00000000#32) pads_S1x1024x1408_S2x1024x1408_100_000_000 h_S_)
      (pad S2x1024x1408 ![0, 0, 0] ![1, 0, 0] ![0, 0, 0] (broadcastInDim S1x1024x1408 ![1, 2] bcast_S1024x1408_S1x1024x1408_1_2
        (extractStridedSlice S1024x1408 ![0, 0] (beside x g) slices_S1024x2816_S1024x1408_0_0)) (constant S_ .f32 0x00000000#32) pads_S1x1024x1408_S2x1024x1408_010_000_000 h_S_)
        : FVec Ideal S2x1024x1408 .f32) j : EReal)
      = beside x g (ix2 (j 1) ⟨(j 0).val * 1408 + (j 2).val, by
          have := (j 0).isLt; have := (j 2).isLt; change (j 0).val < 2 at *; change (j 2).val < 1408 at *; omega⟩) := by
  pointwise
  have bound : (j 0).val < 2 := (j 0).isLt
  by_cases h : (j 0).val < 1
  · rw [dif_neg (by omega), dif_pos h, zero_add]
    exact congrArg (fun n => (beside x g (ix2 (j 1) n) : EReal)) (Fin.ext (by dsimp; omega))
  · rw [dif_pos (by omega), dif_neg h, add_zero]
    exact congrArg (fun n => (beside x g (ix2 (j 1) n) : EReal)) (Fin.ext (by dsimp; omega))

end Cert.Products
-- ==== Proof.Equations.DWGate.lean ====
/- The gradient of a feed-forward block's first weight, the two shards of the gate: the kernel and the reference end with the same
   array. -/
module

public import proofs.«01_k».proof.Defs
public import proofs.«01_k».proof.Proof.Products.DWGate
public import proofs.«01_k».proof.Proof.Products.Hidden
public import proofs.«01_k».proof.Proof.Products.Stacked
public import proofs.«01_k».proof.Proof.Gen.Reference4Ideal.Run
public import Idealize.ShloMosaic.Adequacy
public import Idealize.ShloMosaic.Init

@[expose] public section

set_option maxRecDepth 16384

noncomputable section

namespace Cert.Products.DWGate

open Idealize.ShloMosaic Idealize.ShloMosaic.Pointwise Idealize.SL.Sem Cert.Kernel4Ideal Cert.Kernel4Ideal.Gen

variable (m : (ℓ : Loc nD τ sig) → Buf (Elt Ideal) ℓ)

/-- The normalised rows, as the kernel is given them. -/
theorem normal (c : Dev nD) (i : Fin 4160) (d : Fin 1024) : (V m c main_v12 : S4160x1024.Idx → EReal) (ix2 i d)
    = rms (m ((c.tc : Thread nD τ).loc main_arg0)) (m ((c.tc : Thread nD τ).loc main_arg1)) i d := by
  refine Eq.trans ?_ (rms_apply _ _ (ix2 i d))
  refine congrFun (a := ix2 i d) ?_
  simp only [V, V0, hostOps0, List.flatten_cons, List.flatten_nil, List.append_nil]
  after_results
  rfl

theorem gradient (c : Dev nD) : (V m c main_v13 : S4160x2816.Idx → EReal) = m ((c.tc : Thread nD τ).loc main_arg2) := by
  funext j
  simp only [V, V0, hostOps0, List.flatten_cons, List.flatten_nil, List.append_nil]
  after_results
  pointwise

/-- The kernel's result: the first two shards of the array. -/
def result (c : Dev nD) : Vec Ideal S2x1024x1408 .f32 :=
  extractStridedSlice S2x1024x1408 ![0, 0, 0] ((dats m 0 c).arrAt 2 cfg0.N : Vec Ideal S4x1024x1408 .f32) slices_S4x1024x1408_S2x1024x1408_0_0_0

/-- What the line after the kernel leaves. -/
theorem tail (c : Dev nD) : Pipeline.afterTail₀ cfgs (dats m) 0 (V0 m) [hostOps1] c main_v15 = result m c := by
  unfold Pipeline.afterTail₀ result
  simp only [hostOps1, List.flatten_cons, List.flatten_nil, List.append_nil]
  after_results
  exact congrArg (fun a : Vec Ideal S4x1024x1408 .f32 => extractStridedSlice S2x1024x1408 ![0, 0, 0] a slices_S4x1024x1408_S2x1024x1408_0_0_0)
    (Pipeline.withArrays_arr spec0 (by decide) c _ _ 2)

theorem result_apply (c : Dev nD) (j : S2x1024x1408.Idx) : (result m c j : EReal) = product m c (j 0) (j 1) (j 2) := by
  unfold result
  rw [array]
  pointwise
  have bound : (j 0).val < 2 := (j 0).isLt
  exact congrArg (fun s => product m c s (j 1) (j 2)) (Fin.ext (Nat.mod_eq_of_lt bound))

/-- The reference declares no semaphore, and its run ends with its arguments as they were. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- Both runs end with the same array. -/
theorem equation : Cert.algebraic_Kernel4Ideal_Reference4Ideal := by
  intro m g m' g' _ hargs
  refine ⟨fun c => result m c, (θ_run defs _ _).mono (fun r h c => ⟨?_, h.2 c⟩)
      (θ_run_and (run_main m g) (unchanged m g)),
    (θ_run Cert.Reference4Ideal.defs _ _).mono (fun r h c => ?_) (Cert.Reference4Ideal.Value.run (F := Ideal) m' g')⟩
  · exact ((h.1 c).2 main_v15 (Pipeline.mem_restRefs_of main_v15 (by decide) (by decide))).trans (tail m c)
  obtain ⟨r0, rest⟩ := h c
  obtain ⟨h0, h1, h2⟩ := hargs c
  refine ⟨r0.trans ?_, rest⟩
  clear h r0 rest
  rw [h0, h1, h2]
  funext j
  refine Eq.trans ?_ (result_apply m c j).symm
  refine (stacked_apply _ _ _).trans ((beside_apply _ _ _ _).trans ?_)
  exact Finset.sum_congr rfl fun l _ => congrArg₂ (fun a b : EReal => a * b)
    ((rms_apply _ _ _).trans (normal m c l (j 1)).symm) (congrFun (gradient m c) _).symm

end Cert.Products.DWGate
-- ==== Proof.Products.DWUp.lean ====
/- The gradient of a feed-forward block's first weight, the two shards of what the gate lets through: the kernel's array holds there a product of its
   operands. -/
module

public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DWUp

open Idealize.ShloMosaic Idealize.ShloMosaic.Pointwise Idealize.SL.Sem Cert.Kernel5Ideal Cert.Kernel5Ideal.Gen

variable (m : (ℓ : Loc nD τ sig) → Buf (Elt Ideal) ℓ)

/-- The blocks a grid point works on. -/
theorem idx : ∀ t : Fin cfg0.N, win0_0.index t = ![t.val % 4, 0] ∧ win0_1.index t = ![t.val % 4, t.val / 4] ∧ win0_2.index t = ![t.val / 4 + 2, 0, 0] :=
  (by decide +kernel : ∀ t : Fin grid0.N, _)

/-- The first point of a run clears the accumulator. -/
theorem clear (j : S1024x1408.Idx) : k0_pay1 (F := Ideal) j = 0 := by
  pointwise [k0_pay1]

/-- A point adds the product of its two blocks. -/
theorem step (acc : Vec Ideal S1024x1408 .f32) (x : Vec Ideal S1040x1024 .bf16) (y : Vec Ideal S1040x1408 .bf16) (j : S1024x1408.Idx) :
    (k0_pay2 acc x y j : EReal) = acc j + ∑ k : Fin 1040, x (ix2 k (j 0)) * y (ix2 k (j 1)) := by
  pointwise [k0_pay2]

/-- What the last point of a run writes. -/
theorem last (acc : Vec Ideal S1024x1408 .f32) (j : S1x1024x1408.Idx) : (k0_pay3 acc j : EReal) = acc (ix2 (j 1) (j 2)) := by
  pointwise [k0_pay3]

/-- What point `t` adds at an index. -/
def term (c : Dev nD) (t : Fin cfg0.N) (j : S1024x1408.Idx) : EReal :=
  ∑ k : Fin 1040, (show FVec Ideal S1040x1024 .bf16 from iblk m c 0 t) (ix2 k (j 0)) * (show FVec Ideal S1040x1408 .bf16 from iblk m c 1 t) (ix2 k (j 1))

theorem reset (c : Dev nD) (t : Fin cfg0.N) (h : t.val % 4 = 0) (j : S1024x1408.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 4 = 0) (j : S1024x1408.Idx) :
    ((outsAt0 m c t.val t.isLt).2 j : EReal)
      = (outsAt0 m c (t.val - 1) (Nat.lt_of_le_of_lt (Nat.sub_le _ _) t.isLt)).2 j + term m c t j := by
  by_cases h1 : t.val % 4 = 3
  · rw [outsAt0_C m c t h h1]
    frame_out
    rw [step]
    simp only [read_unread_whole]
    rfl
  · rw [outsAt0_B m c t h h1]
    frame_out
    rw [step]
    simp only [read_unread_whole]
    rfl

/-- What the last point of a run writes, from the accumulator it leaves. -/
theorem out (c : Dev nD) (t : Fin cfg0.N) (h : t.val % 4 = 3) (j : S1x1024x1408.Idx) :
    ((outsAt0 m c t.val t.isLt).1 j : EReal) = (outsAt0 m c t.val t.isLt).2 (ix2 (j 1) (j 2)) := by
  rw [outsAt0_C m c t (by omega) h]
  frame_out
  rw [last]

/-- The product of the kernel's operands: row `d` and column `n` of shard `s`. -/
def product (c : Dev nD) (s : Fin 2) (d : Fin 1024) (n : Fin 1408) : EReal :=
  ∑ l : Fin 4160, (show FVec Ideal S4160x1024 .bf16 from V m c main_v12) (ix2 l d)
    * (show FVec Ideal S4160x2816 .bf16 from V m c main_v13) (ix2 l ⟨s.val * 1408 + n.val, by omega⟩)

/-- The array after the run. -/
theorem array (c : Dev nD) : (dats m 0 c).arrAt 2 cfg0.N
    = (fun i => if 2 ≤ (i 0).val then product m c ⟨(i 0).val % 2, by omega⟩ (i 1) (i 2) else (V m c main_v14 : S4x1024x1408.Idx → EReal) i : S4x1024x1408.Idx → EReal) := by
  refine (dats m 0 c).arrAt_eq_of_coversWhere 2 _ (fun β => 2 ≤ β 0) (by decide +kernel) (fun t hf y => ?_)
    (fun j => by blk_simp [Pipeline.Window.cell_apply]; try omega)
  blk_simp
  rw [after0_2, out m c t ((flush0_2 t).mp hf)]
  rw [Pipeline.eq_sum_fin_of_reset_step_apply_of_flush (fun n h => (outsAt0 m c n h).2) 4 (fun _ => 0) (term m c)
    (reset m c) (add m c) t ((flush0_2 t).mp hf) _, zero_add]
  unfold term product
  refine Fin.sum_mul_add_congr fun s k hl => ?_
  have bound : t.val < 8 := t.isLt
  have first : (y 0).val = 0 := by have := (y 0).isLt; change (y 0).val < 1 at this; omega
  refine congrArg₂ (fun a b : EReal => a * b) ?_ ?_ <;>
    blk_ext [iblk, idx t, idx ⟨_, Pipeline.run_point_lt_of_flush t ((flush0_2 t).mp hf) s⟩]

end Cert.Products.DWUp
-- ==== Proof.Equations.DWUp.lean ====
/- The gradient of a feed-forward block's first weight, the two shards of what the gate lets through: the kernel and the reference
   end with the same array. -/
module

public import proofs.«01_k».proof.Defs
public import proofs.«01_k».proof.Proof.Products.DWUp
public import proofs.«01_k».proof.Proof.Products.Hidden
public import proofs.«01_k».proof.Proof.Products.Stacked
public import proofs.«01_k».proof.Proof.Gen.Reference5Ideal.Run
public import Idealize.ShloMosaic.Adequacy
public import Idealize.ShloMosaic.Init

@[expose] public section

set_option maxRecDepth 16384

noncomputable section

namespace Cert.Products.DWUp

open Idealize.ShloMosaic Idealize.ShloMosaic.Pointwise Idealize.SL.Sem Cert.Kernel5Ideal Cert.Kernel5Ideal.Gen

variable (m : (ℓ : Loc nD τ sig) → Buf (Elt Ideal) ℓ)

/-- The normalised rows, as the kernel is given them. -/
theorem normal (c : Dev nD) (i : Fin 4160) (d : Fin 1024) : (V m c main_v12 : S4160x1024.Idx → EReal) (ix2 i d)
    = rms (m ((c.tc : Thread nD τ).loc main_arg0)) (m ((c.tc : Thread nD τ).loc main_arg1)) i d := by
  unfold rms rowRms
  entry_read
  pointwise

theorem gradient (c : Dev nD) : (V m c main_v13 : S4160x2816.Idx → EReal) = m ((c.tc : Thread nD τ).loc main_arg2) := by
  funext j
  entry_read
  pointwise

/-- What the array holds before the call. -/
theorem before (c : Dev nD) : (V m c main_v14 : S4x1024x1408.Idx → EReal) = m ((c.tc : Thread nD τ).loc main_arg3) := by
  funext j
  entry_read
  rfl

/-- The reference's array: the first two shards as they were, the others new. -/
theorem joined (a : Vec Ideal S4x1024x1408 .f32) (b : Vec Ideal Cert.Reference5Ideal.S2x1024x1408 .f32) (j : S4x1024x1408.Idx) :
    ((concatenate Cert.Reference5Ideal.S4x1024x1408 0 [⟨Cert.Reference5Ideal.S2x1024x1408, (extractStridedSlice Cert.Reference5Ideal.S2x1024x1408 ![0, 0, 0] a
        Cert.Reference5Ideal.Gen.slices_S4x1024x1408_S2x1024x1408_0_0_0)⟩, ⟨Cert.Reference5Ideal.S2x1024x1408, b⟩]
        Cert.Reference5Ideal.Gen.concatenates_S2x1024x1408_S2x1024x1408_S4x1024x1408_d0 : FVec Ideal S4x1024x1408 .f32) j : EReal)
      = if 2 ≤ (j 0).val then b (ix3 ⟨(j 0).val % 2, by omega⟩ (j 1) (j 2)) else a j := by
  pointwise
  have bound : (j 0).val < 4 := (j 0).isLt
  by_cases h : (j 0).val < 2
  · exact (dif_pos h).trans (if_neg (by omega)).symm
  · refine (dif_neg h).trans (Eq.trans ?_ (if_pos (by omega)).symm)
    exact congrArg (fun s => (b (ix3 s (j 1) (j 2)) : EReal)) (Fin.ext (by dsimp; omega))

/-- The reference declares no semaphore, and its run ends with its arguments as they were. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- Both runs end with the same array. -/
theorem equation : Cert.algebraic_Kernel5Ideal_Reference5Ideal := by
  intro m g m' g' _ hargs
  refine ⟨fun c => (dats m 0 c).arrAt 2 cfg0.N, Cert.Kernel5Ideal.Value.run_blocks m g,
    (θ_run Cert.Reference5Ideal.defs _ _).mono (fun r h c => ?_) (Cert.Reference5Ideal.Value.run (F := Ideal) m' g')⟩
  obtain ⟨r0, rest⟩ := h c
  obtain ⟨h0, h1, h2, h3⟩ := hargs c
  refine ⟨r0.trans (Eq.trans ?_ (array m c).symm), rest⟩
  clear h r0 rest
  rw [h0, h1, h2, h3]
  funext j
  refine (joined _ _ j).trans ?_
  by_cases h : 2 ≤ (j 0).val
  · rw [if_pos h, if_pos h]
    refine (stacked_apply _ _ _).trans ((beside_apply _ _ _ _).trans ?_)
    exact Finset.sum_congr rfl fun l _ => congrArg₂ (fun a b : EReal => a * b)
      ((rms_apply _ _ _).trans (normal m c l (j 1)).symm) (congrFun (gradient m c) _).symm
  · rw [if_neg h, if_neg h]
    exact (congrFun (before m c) j).symm

end Cert.Products.DWUp
-- ==== Proof.Products.DXnGate.lean ====
/- The gradient of the normalised input through the gate: what the kernel's array holds is a product of the kernel's operands. -/
module

public import proofs.«01_k».proof.Proof.Gen.Kernel6Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DXnGate

open Idealize.ShloMosaic Idealize.ShloMosaic.Pointwise Idealize.SL.Sem Cert.Kernel6Ideal Cert.Kernel6Ideal.Gen
open Cert.Kernel6Ideal.Value

variable (m : (ℓ : Loc nD τ sig) → Buf (Elt Ideal) ℓ)

/-- The blocks a grid point works on. -/
theorem idx : ∀ t : Fin cfg0.N, win0_0.index t = ![t.val / 2, t.val % 2] ∧ win0_1.index t = ![t.val % 2, 0, 0] ∧ win0_2.index t = ![t.val / 2, 0] :=
  (by decide +kernel : ∀ t : Fin grid0.N, _)

/-- The first point of a run clears the accumulator. -/
theorem clear (j : S1040x1024.Idx) : k0_pay1 (F := Ideal) j = 0 := by
  pointwise [k0_pay1]

/-- A point adds the product of its two blocks. -/
theorem step (acc : Vec Ideal S1040x1024 .f32) (x : Vec Ideal S1040x1408 .bf16) (y : Vec Ideal S1x1024x1408 .bf16) (j : S1040x1024.Idx) :
    (k0_pay2 acc x y j : EReal) = acc j + ∑ k : Fin 1408, x (ix2 (j 0) k) * y (ix3 0 (j 1) k) := by
  pointwise [k0_pay2]

/-- What point `t` adds at an index. -/
def term (c : Dev nD) (t : Fin cfg0.N) (j : S1040x1024.Idx) : EReal :=
  ∑ k : Fin 1408, (show FVec Ideal S1040x1408 .bf16 from iblk m c 0 t) (ix2 (j 0) k) * (show FVec Ideal S1x1024x1408 .bf16 from iblk m c 1 t) (ix3 0 (j 1) k)

theorem reset (c : Dev nD) (t : Fin cfg0.N) (h : t.val % 2 = 0) (j : S1040x1024.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 2 = 0) (j : S1040x1024.Idx) :
    ((outsAt0 m c t.val t.isLt).2 j : EReal)
      = (outsAt0 m c (t.val - 1) (Nat.lt_of_le_of_lt (Nat.sub_le _ _) t.isLt)).2 j + term m c t j := by
  rw [outsAt0_B m c t h (by omega)]
  frame_out
  rw [step]
  simp only [read_unread_whole]
  rfl

/-- What the last point of a run writes, from the accumulator it leaves. -/
theorem out (c : Dev nD) (t : Fin cfg0.N) (h : t.val % 2 = 1) (j : S1040x1024.Idx) :
    ((outsAt0 m c t.val t.isLt).1 j : EReal) = (outsAt0 m c t.val t.isLt).2 j := by
  rw [outsAt0_B m c t (by omega) h]
  frame_out

/-- The product of the kernel's operands, at an index. -/
def product (c : Dev nD) (j : S4160x1024.Idx) : EReal :=
  ∑ s : Fin 2, ∑ k : Fin 1408, (show FVec Ideal S4160x2816 .bf16 from V m c main_v0) (ix2 (j 0) ⟨s.val * 1408 + k.val, by omega⟩) * (show FVec Ideal S4x1024x1408 .bf16 from V m c main_v1) (ix3 ⟨s.val + 0, by omega⟩ (j 1) k)

/-- The array after the run. -/
theorem array (c : Dev nD) : (dats m 0 c).arrAt 2 cfg0.N
    = (fun j => product m c j : S4160x1024.Idx → EReal) := by
  refine (dats m 0 c).arrAt_eq_of_covers 2 _ (by decide +kernel) fun t hf y => ?_
  blk_simp
  rw [after0_2, out m c t ((flush0_2 t).mp hf)]
  rw [Pipeline.eq_sum_fin_of_reset_step_apply_of_flush (fun n h => (outsAt0 m c n h).2) 2 (fun _ => 0) (term m c)
    (reset m c) (add m c) t ((flush0_2 t).mp hf) _, zero_add]
  unfold term product
  refine Fin.sum_fin_congr fun s => Fin.sum_fin_congr fun k => ?_
  refine congrArg₂ (fun a b : EReal => a * b) ?_ ?_ <;>
    blk_ext [iblk, idx t, idx ⟨_, Pipeline.run_point_lt_of_flush t ((flush0_2 t).mp hf) s⟩]

end Cert.Products.DXnGate
-- ==== Proof.Equations.DXnGate.lean ====
/- The gradient of the normalised input through the gate: the kernel and the reference end with the same array. -/
module

public import proofs.«01_k».proof.Defs
public import proofs.«01_k».proof.Proof.Products.DXnGate
public import proofs.«01_k».proof.Proof.Products.Spec
public import proofs.«01_k».proof.Proof.Gen.Reference6Ideal.Run
public import Idealize.ShloMosaic.Adequacy
public import Idealize.ShloMosaic.Init

@[expose] public section

set_option maxRecDepth 16384

noncomputable section

namespace Cert.Products.DXnGate

open Idealize.ShloMosaic Idealize.ShloMosaic.Pointwise Idealize.SL.Sem Cert.Kernel6Ideal Cert.Kernel6Ideal.Gen

variable (m : (ℓ : Loc nD τ sig) → Buf (Elt Ideal) ℓ)

theorem weight (c : Dev nD) : (V m c main_v1 : S4x1024x1408.Idx → EReal) = m ((c.tc : Thread nD τ).loc main_arg0) := by
  funext j
  entry_read
  pointwise

theorem gradient (c : Dev nD) : (V m c main_v0 : S4160x2816.Idx → EReal) = m ((c.tc : Thread nD τ).loc main_arg1) := by
  funext j
  entry_read
  pointwise

/-- The reference declares no semaphore, and its run ends with its arguments as they were. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Both runs end with the same array. -/
theorem equation : Cert.algebraic_Kernel6Ideal_Reference6Ideal := by
  intro m g m' g' _ hargs
  refine ⟨fun c => (dats m 0 c).arrAt 2 cfg0.N, Cert.Kernel6Ideal.Value.run_blocks m g,
    (θ_run Cert.Reference6Ideal.defs _ _).mono (fun r h c => ?_) (Cert.Reference6Ideal.Value.run (F := Ideal) m' g')⟩
  obtain ⟨r0, rest⟩ := h c
  obtain ⟨h0, h1⟩ := hargs c
  refine ⟨r0.trans (Eq.trans ?_ (array m c).symm), rest⟩
  clear h r0 rest
  rw [h0, h1]
  funext j
  refine Eq.trans ?_ (Fin.sum_univ_two _).symm
  pointwise
  refine congrArg₂ (fun a b : EReal => a + b) ?_ ?_ <;>
    refine Fin.sum_fin_congr fun k => congrArg₂ (fun a b : EReal => a * b) ?_ ?_
  · exact congrArg _ (by ext a; fin_cases a <;> simp) |>.trans (congrFun (gradient m c) _).symm
  · exact congrArg _ (by ext a; fin_cases a <;> simp) |>.trans (congrFun (weight m c) _).symm
  · exact congrArg _ (by ext a; fin_cases a <;> simp) |>.trans (congrFun (gradient m c) _).symm
  · exact congrArg _ (by ext a; fin_cases a <;> simp) |>.trans (congrFun (weight m c) _).symm

end Cert.Products.DXnGate
-- ==== Proof.Products.DXnUp.lean ====
/- The gradient of the normalised input, with what the second projection adds: what the kernel's array holds is a product of the kernel's operands. -/
module

public import proofs.«01_k».proof.Proof.Gen.Kernel7Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DXnUp

open Idealize.ShloMosaic Idealize.ShloMosaic.Pointwise Idealize.SL.Sem Cert.Kernel7Ideal Cert.Kernel7Ideal.Gen
open Cert.Kernel7Ideal.Value

variable (m : (ℓ : Loc nD τ sig) → Buf (Elt Ideal) ℓ)

/-- The blocks a grid point works on. -/
theorem idx : ∀ t : Fin cfg0.N, win0_0.index t = ![t.val / 2, t.val % 2] ∧ win0_1.index t = ![t.val % 2 + 2, 0, 0] ∧ win0_2.index t = ![t.val / 2, 0] ∧ win0_3.index t = ![t.val / 2, 0] :=
  (by decide +kernel : ∀ t : Fin grid0.N, _)

/-- The first point of a run clears the accumulator. -/
theorem clear (j : S1040x1024.Idx) : k0_pay1 (F := Ideal) j = 0 := by
  pointwise [k0_pay1]

/-- A point adds the product of its two blocks. -/
theorem step (acc : Vec Ideal S1040x1024 .f32) (x : Vec Ideal S1040x1408 .bf16) (y : Vec Ideal S1x1024x1408 .bf16) (j : S1040x1024.Idx) :
    (k0_pay2 acc x y j : EReal) = acc j + ∑ k : Fin 1408, x (ix2 (j 0) k) * y (ix3 0 (j 1) k) := by
  pointwise [k0_pay2]

/-- What the last point of a run writes. -/
theorem last (acc x : Vec Ideal S1040x1024 .f32) (j : S1040x1024.Idx) : (k0_pay3 acc x j : EReal) = x j + acc j := by
  pointwise [k0_pay3]

/-- What point `t` adds at an index. -/
def term (c : Dev nD) (t : Fin cfg0.N) (j : S1040x1024.Idx) : EReal :=
  ∑ k : Fin 1408, (show FVec Ideal S1040x1408 .bf16 from iblk m c 0 t) (ix2 (j 0) k) * (show FVec Ideal S1x1024x1408 .bf16 from iblk m c 1 t) (ix3 0 (j 1) k)

theorem reset (c : Dev nD) (t : Fin cfg0.N) (h : t.val % 2 = 0) (j : S1040x1024.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 2 = 0) (j : S1040x1024.Idx) :
    ((outsAt0 m c t.val t.isLt).2 j : EReal)
      = (outsAt0 m c (t.val - 1) (Nat.lt_of_le_of_lt (Nat.sub_le _ _) t.isLt)).2 j + term m c t j := by
  rw [outsAt0_B m c t h (by omega)]
  frame_out
  rw [step]
  simp only [read_unread_whole]
  rfl

/-- What the last point of a run writes, from the accumulator it leaves. -/
theorem out (c : Dev nD) (t : Fin cfg0.N) (h : t.val % 2 = 1) (j : S1040x1024.Idx) :
    ((outsAt0 m c t.val t.isLt).1 j : EReal) = (show FVec Ideal S1040x1024 .f32 from iblk m c 2 t) j + (outsAt0 m c t.val t.isLt).2 j := by
  rw [outsAt0_B m c t (by omega) h]
  frame_out
  rw [last]

/-- The product of the kernel's operands, at an index. -/
def product (c : Dev nD) (j : S4160x1024.Idx) : EReal :=
  ∑ s : Fin 2, ∑ k : Fin 1408, (show FVec Ideal S4160x2816 .bf16 from V m c main_v0) (ix2 (j 0) ⟨s.val * 1408 + k.val, by omega⟩) * (show FVec Ideal S4x1024x1408 .bf16 from V m c main_v1) (ix3 ⟨s.val + 2, by omega⟩ (j 1) k)

/-- The array after the run. -/
theorem array (c : Dev nD) : (dats m 0 c).arrAt 3 cfg0.N
    = (fun j => (show FVec Ideal S4160x1024 .f32 from V m c main_arg2) j + product m c j : S4160x1024.Idx → EReal) := by
  refine (dats m 0 c).arrAt_eq_of_covers 3 _ (by decide +kernel) fun t hf y => ?_
  blk_simp
  rw [after0_3, out m c t ((flush0_3 t).mp hf)]
  refine congrArg₂ (fun a b : EReal => a + b) (by blk_ext [iblk, idx t]) ?_
  rw [Pipeline.eq_sum_fin_of_reset_step_apply_of_flush (fun n h => (outsAt0 m c n h).2) 2 (fun _ => 0) (term m c)
    (reset m c) (add m c) t ((flush0_3 t).mp hf) _, zero_add]
  unfold term product
  refine Fin.sum_fin_congr fun s => Fin.sum_fin_congr fun k => ?_
  refine congrArg₂ (fun a b : EReal => a * b) ?_ ?_ <;>
    blk_ext [iblk, idx t, idx ⟨_, Pipeline.run_point_lt_of_flush t ((flush0_3 t).mp hf) s⟩]

end Cert.Products.DXnUp
-- ==== Proof.Equations.DXnUp.lean ====
/- The gradient of the normalised input through the other half: the kernel and the reference end with the same array. -/
module

public import proofs.«01_k».proof.Defs
public import proofs.«01_k».proof.Proof.Products.DXnUp
public import proofs.«01_k».proof.Proof.Products.Spec
public import proofs.«01_k».proof.Proof.Gen.Reference7Ideal.Run
public import Idealize.ShloMosaic.Adequacy
public import Idealize.ShloMosaic.Init

@[expose] public section

set_option maxRecDepth 16384

noncomputable section

namespace Cert.Products.DXnUp

open Idealize.ShloMosaic Idealize.ShloMosaic.Pointwise Idealize.SL.Sem Cert.Kernel7Ideal Cert.Kernel7Ideal.Gen

variable (m : (ℓ : Loc nD τ sig) → Buf (Elt Ideal) ℓ)

theorem weight (c : Dev nD) : (V m c main_v1 : S4x1024x1408.Idx → EReal) = m ((c.tc : Thread nD τ).loc main_arg0) := by
  funext j
  entry_read
  pointwise

theorem gradient (c : Dev nD) : (V m c main_v0 : S4160x2816.Idx → EReal) = m ((c.tc : Thread nD τ).loc main_arg1) := by
  funext j
  entry_read
  pointwise

/-- The reference declares no semaphore, and its run ends with its arguments as they were. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- Both runs end with the same array. -/
theorem equation : Cert.algebraic_Kernel7Ideal_Reference7Ideal := by
  intro m g m' g' _ hargs
  refine ⟨fun c => (dats m 0 c).arrAt 3 cfg0.N, Cert.Kernel7Ideal.Value.run_blocks m g,
    (θ_run Cert.Reference7Ideal.defs _ _).mono (fun r h c => ?_) (Cert.Reference7Ideal.Value.run (F := Ideal) m' g')⟩
  obtain ⟨r0, rest⟩ := h c
  obtain ⟨h0, h1, h2⟩ := hargs c
  refine ⟨r0.trans (Eq.trans ?_ (array m c).symm), rest⟩
  clear h r0 rest
  rw [h0, h1, h2]
  funext j
  refine Eq.trans ?_ (congrArg₂ (fun a b : EReal => a + b) (congrFun (V_main_arg2 m c) j).symm (Fin.sum_univ_two _).symm)
  pointwise
  refine congrArg₂ (fun a b : EReal => a + b) rfl ?_
  refine congrArg₂ (fun a b : EReal => a + b) ?_ ?_ <;>
    refine Fin.sum_fin_congr fun k => congrArg₂ (fun a b : EReal => a * b) ?_ ?_
  · exact congrArg _ (by ext a; fin_cases a <;> simp) |>.trans (congrFun (gradient m c) _).symm
  · exact congrArg _ (by ext a; fin_cases a <;> simp) |>.trans (congrFun (weight m c) _).symm
  · exact congrArg _ (by ext a; fin_cases a <;> simp) |>.trans (congrFun (gradient m c) _).symm
  · exact congrArg _ (by ext a; fin_cases a <;> simp) |>.trans (congrFun (weight m c) _).symm

end Cert.Products.DXnUp
-- ==== Proof.Products.DRms.lean ====
/- A normalisation's gradients: what the kernel's two arrays hold. -/
module

public import proofs.«01_k».proof.Proof.Gen.Kernel8Ideal.Value
public import proofs.«01_k».proof.Proof.Products.Spec
public import Idealize.ShloMosaic.Lib.Pipeline.ValueKit
public import Idealize.ShloMosaic.Lib.Pipeline.ReadBack

@[expose] public section

set_option maxRecDepth 16384

noncomputable section

namespace Cert.Products.DRms

open Idealize.ShloMosaic Idealize.ShloMosaic.Pointwise Idealize.SL.Sem Cert.Kernel8Ideal Cert.Kernel8Ideal.Gen

variable (m : (ℓ : Loc nD τ sig) → Buf (Elt Ideal) ℓ)

/-- A row's mean square, and a little more. -/
def meanSquare (x : Fin 1024 → EReal) : EReal :=
  Ideal.div (∑ e : Fin 1024, x e * x e) (Ideal.ofBits .f32 0x44800000#32) + Ideal.ofBits .f32 0x358637BD#32

/-- The gradient of the sum of a row's squares. -/
def pull (x gain dy : Fin 1024 → EReal) : EReal :=
  ∑ _k : Fin 1, Ideal.div ((∑ e : Fin 1024, x e * (dy e * gain e))
    * (Ideal.ofBits .f32 0xBF000000#32 * Ideal.div (Ideal.rsqrt (meanSquare x)) (meanSquare x))) (Ideal.ofBits .f32 0x44800000#32)

/-- Lane `e` of the gradient of a row, through the normalisation and beside it. -/
def rowGradient (x gain dy res : Fin 1024 → EReal) (e : Fin 1024) : EReal :=
  res e + (dy e * gain e * Ideal.rsqrt (meanSquare x) + x e * pull x gain dy + pull x gain dy * x e)

/-- What a row adds to lane `e` of the gain's gradient. -/
def gainTerm (x dy : Fin 1024 → EReal) (e : Fin 1024) : EReal :=
  x e * Ideal.rsqrt (meanSquare x) * dy e

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The rows one point stores. -/
theorem rows (x : Vec Ideal S416x1024 .f32) (gain : Vec Ideal S1x1024 .f32) (dy res : Vec Ideal S416x1024 .f32) (j : S416x1024.Idx) :
    (k0_pay5 x gain dy res j : EReal) = rowGradient (fun e => x (ix2 (j 0) e)) (fun e => gain (ix2 0 e)) (fun e => dy (ix2 (j 0) e))
      (fun e => res (ix2 (j 0) e)) (j 1) := by
  unfold rowGradient pull meanSquare
  pointwise [k0_pay5, k0_pay3, k0_pay2]

/-- What one point adds to the gain's gradient. -/
theorem cols (x : Vec Ideal S416x1024 .f32) (dy : Vec Ideal S416x1024 .f32) (j : S1x1024.Idx) :
    (k0_pay4 x dy j : EReal) = ∑ k : Fin 416, gainTerm (fun e => x (ix2 k e)) (fun e => dy (ix2 k e)) (j 1) := by
  unfold gainTerm meanSquare
  pointwise [k0_pay4, k0_pay3, k0_pay2]

theorem add (x y : Vec Ideal S1x1024 .f32) (j : S1x1024.Idx) : (k0_pay1 x y j : EReal) = y j + x j := by
  pointwise [k0_pay1]

/-- The gradient of the rows, of the arguments. -/
def gradient (c : Dev nD) (i : S4160x1024.Idx) : EReal :=
  rowGradient (fun e => (show FVec Ideal S4160x1024 .f32 from m ((c.tc : Thread nD τ).loc main_arg0)) (ix2 (i 0) e))
    (fun e => (show FVec Ideal S1x1024 .f32 from m ((c.tc : Thread nD τ).loc main_arg1)) (ix2 0 e))
    (fun e => (show FVec Ideal S4160x1024 .f32 from m ((c.tc : Thread nD τ).loc main_arg2)) (ix2 (i 0) e))
    (fun e => (show FVec Ideal S4160x1024 .f32 from m ((c.tc : Thread nD τ).loc main_arg3)) (ix2 (i 0) e)) (i 1)

/-- The gradient of the gain, of the arguments. -/
def gainGradient (c : Dev nD) (i : S1x1024.Idx) : EReal :=
  ∑ l : Fin 4160, gainTerm (fun e => (show FVec Ideal S4160x1024 .f32 from m ((c.tc : Thread nD τ).loc main_arg0)) (ix2 l e))
    (fun e => (show FVec Ideal S4160x1024 .f32 from m ((c.tc : Thread nD τ).loc main_arg2)) (ix2 l e)) (i 1)

/-- What point `t` stores of the rows. -/
theorem rows_at (c : Dev nD) (t : Fin cfg0.N) (j : S416x1024.Idx) :
    ((outsAt0 m c t.val t.isLt).1 j : EReal) = k0_pay5 (F := Ideal) (iblk m c 0 t) (iblk m c 1 t) (iblk m c 2 t) (iblk m c 3 t) j := by
  by_cases h : t.val % 10 = 0
  · have h' : ¬ 1 ≤ t.val := by have := t.isLt; change t.val < 10 at this; omega
    rw [outsAt0_A m c t h h']
    frame_out
  · rw [outsAt0_B m c t h (by omega)]
    frame_out

/-- The rows' gradient after the run. -/
theorem array_rows (c : Dev nD) : (dats m 0 c).arrAt 4 cfg0.N = (gradient m c : S4160x1024.Idx → EReal) := by
  refine (dats m 0 c).arrAt_eq_of_covers 4 _ (by decide +kernel) fun t _ y => ?_
  blk_simp
  rw [after0_4, rows_at, rows]
  have bound : t.val < 10 := t.isLt
  have place : ((cfg0.win 4).blk t).view.emb y
      = (ix2 (⟨t.val * 416 + (y 0).val, by have := (y 0).isLt; change (y 0).val < 416 at this; omega⟩ : Fin 4160) (y 1) : S4160x1024.Idx) := by
    blk_ext [idx t]
  refine Eq.trans ?_ (congrArg (gradient m c) place).symm
  unfold gradient
  have four {a a' b b' d d' r r' : Fin 1024 → EReal} (e : Fin 1024) (ha : a = a') (hb : b = b') (hd : d = d') (hr : r = r') :
      rowGradient a b d r e = rowGradient a' b' d' r' e := by rw [ha, hb, hd, hr]
  refine four _ ?_ ?_ ?_ ?_ <;> funext e <;> blk_ext [iblk, V, idx t]

/-- What point `t` adds to the gain's gradient. -/
def term (c : Dev nD) (t : Fin cfg0.N) (j : S1x1024.Idx) : EReal :=
  ∑ k : Fin 416, gainTerm (fun e => (show FVec Ideal S416x1024 .f32 from iblk m c 0 t) (ix2 k e))
    (fun e => (show FVec Ideal S416x1024 .f32 from iblk m c 2 t) (ix2 k e)) (j 1)

/-- The first point starts the gain's gradient. -/
theorem start (c : Dev nD) (t : Fin cfg0.N) (h : t.val % 10 = 0) (j : S1x1024.Idx) :
    ((outsAt0 m c t.val t.isLt).2 j : EReal) = 0 + term m c t j := by
  have h' : ¬ 1 ≤ t.val := by have := t.isLt; change t.val < 10 at this; omega
  rw [outsAt0_A m c t h h', zero_add]
  frame_out
  rw [cols]
  rfl

/-- Every other point adds to it. -/
theorem more (c : Dev nD) (t : Fin cfg0.N) (h : ¬ t.val % 10 = 0) (j : S1x1024.Idx) :
    ((outsAt0 m c t.val t.isLt).2 j : EReal)
      = (outsAt0 m c (t.val - 1) (Nat.lt_of_le_of_lt (Nat.sub_le _ _) t.isLt)).2 j + term m c t j := by
  rw [outsAt0_B m c t h (by omega)]
  frame_out
  rw [add, cols]
  rfl

/-- The gain's gradient after the run. -/
theorem array_gain (c : Dev nD) : (dats m 0 c).arrAt 5 cfg0.N = (gainGradient m c : S1x1024.Idx → EReal) := by
  refine (dats m 0 c).arrAt_eq_of_covers 5 _ (by decide +kernel) fun t hf y => ?_
  blk_simp
  rw [after0_5]
  rw [Pipeline.eq_sum_fin_of_reset_step_apply_of_flush (fun n h => (outsAt0 m c n h).2) 10 (fun _ => 0) (term m c)
    (start m c) (more m c) t ((flush0_5 t).mp hf) _, zero_add]
  unfold term gainGradient
  refine Fin.sum_mul_add_congr fun s k hl => ?_
  have place : ((cfg0.win 5).blk t).view.emb y = (ix2 (0 : Fin 1) (y 1) : S1x1024.Idx) := by
    blk_ext [idx t]
  have three {a a' d d' : Fin 1024 → EReal} {e e' : Fin 1024} (ha : a = a') (hd : d = d') (he : e = e') :
      gainTerm a d e = gainTerm a' d' e' := by rw [ha, hd, he]
  refine three ?_ ?_ (congrArg (fun i : S1x1024.Idx => i 1) place).symm <;> funext e <;>
    blk_ext [iblk, V, idx t, idx ⟨_, Pipeline.run_point_lt_of_flush t ((flush0_5 t).mp hf) s⟩]

end Cert.Products.DRms
-- ==== Proof.Equations.DRms.lean ====
/- A normalisation's gradients: the kernel and the reference end with the same arrays. -/
module

public import proofs.«01_k».proof.Defs
public import proofs.«01_k».proof.Proof.Products.DRms
public import proofs.«01_k».proof.Proof.Gen.Reference8Ideal.Run
public import Idealize.ShloMosaic.Adequacy
public import Idealize.ShloMosaic.Init

@[expose] public section

set_option maxRecDepth 16384

noncomputable section

namespace Cert.Products.DRms

open Idealize.ShloMosaic Idealize.ShloMosaic.Pointwise Idealize.SL.Sem Cert.Kernel8Ideal Cert.Kernel8Ideal.Gen

variable (m : (ℓ : Loc nD τ sig) → Buf (Elt Ideal) ℓ)

/-- The reference declares no semaphore, and its run ends with its arguments as they were. -/
theorem frame_reference : Cert.quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

/-- Both runs end with the same arrays. -/
theorem equation : Cert.algebraic_Kernel8Ideal_Reference8Ideal := by
  intro m g m' g' _ hargs
  refine ⟨fun c => (dats m 0 c).arrAt 4 cfg0.N, fun c => (dats m 0 c).arrAt 5 cfg0.N, Cert.Kernel8Ideal.Value.run_blocks m g,
    (θ_run Cert.Reference8Ideal.defs _ _).mono (fun r h c => ?_) (Cert.Reference8Ideal.Value.run (F := Ideal) m' g')⟩
  obtain ⟨r0, r1, rest⟩ := h c
  obtain ⟨h0, h1, h2, h3⟩ := hargs c
  refine ⟨r0.trans (Eq.trans ?_ (array_rows m c).symm), r1.trans (Eq.trans ?_ (array_gain m c).symm), rest⟩
  · clear h r0 r1 rest
    rw [h0, h1, h2, h3]
    funext j
    unfold gradient rowGradient
    rw [← add_assoc, ← add_assoc]
    unfold pull meanSquare
    pointwise
  · clear h r0 r1 rest
    rw [h0, h2]
    funext j
    unfold gainGradient gainTerm meanSquare
    pointwise

end Cert.Products.DRms
-- ==== Proof.Products.DWIn.lean ====
/- The gradient of the input projection's weight: what the kernel's array holds is a product of the kernel's operands. -/
module

public import proofs.«01_k».proof.Proof.Gen.Kernel9Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DWIn

open Idealize.ShloMosaic Idealize.ShloMosaic.Pointwise Idealize.SL.Sem Cert.Kernel9Ideal Cert.Kernel9Ideal.Gen
open Cert.Kernel9Ideal.Value

variable (m : (ℓ : Loc nD τ sig) → Buf (Elt Ideal) ℓ)

/-- The blocks a grid point works on. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The first point of a run clears the accumulator. -/
theorem clear (j : S1024x1920.Idx) : k0_pay1 (F := Ideal) j = 0 := by
  pointwise [k0_pay1]

/-- A point adds the product of its two blocks. -/
theorem step (acc : Vec Ideal S1024x1920 .f32) (x : Vec Ideal S1040x1024 .bf16) (y : Vec Ideal S1040x1920 .bf16) (j : S1024x1920.Idx) :
    (k0_pay2 acc x y j : EReal) = acc j + ∑ k : Fin 1040, x (ix2 k (j 0)) * y (ix2 k (j 1)) := by
  pointwise [k0_pay2]

/-- What point `t` adds at an index. -/
def term (c : Dev nD) (t : Fin cfg0.N) (j : S1024x1920.Idx) : EReal :=
  ∑ k : Fin 1040, (show FVec Ideal S1040x1024 .bf16 from iblk m c 0 t) (ix2 k (j 0)) * (show FVec Ideal S1040x1920 .bf16 from iblk m c 1 t) (ix2 k (j 1))

theorem reset (c : Dev nD) (t : Fin cfg0.N) (h : t.val % 4 = 0) (j : S1024x1920.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 4 = 0) (j : S1024x1920.Idx) :
    ((outsAt0 m c t.val t.isLt).2 j : EReal)
      = (outsAt0 m c (t.val - 1) (Nat.lt_of_le_of_lt (Nat.sub_le _ _) t.isLt)).2 j + term m c t j := by
  by_cases h1 : t.val % 4 = 3
  · rw [outsAt0_C m c t h h1]
    frame_out
    rw [step]
    simp only [read_unread_whole]
    rfl
  · rw [outsAt0_B m c t h h1]
    frame_out
    rw [step]
    simp only [read_unread_whole]
    rfl

/-- What the last point of a run writes, from the accumulator it leaves. -/
theorem out (c : Dev nD) (t : Fin cfg0.N) (h : t.val % 4 = 3) (j : S1024x1920.Idx) :
    ((outsAt0 m c t.val t.isLt).1 j : EReal) = (outsAt0 m c t.val t.isLt).2 j := by
  rw [outsAt0_C m c t (by omega) h]
  frame_out

/-- The product of the kernel's operands, at an index. -/
def product (c : Dev nD) (j : S1024x9600.Idx) : EReal :=
  ∑ l : Fin 4160, (show FVec Ideal S4160x1024 .bf16 from V m c main_v12) (ix2 l (j 0)) * (show FVec Ideal S4160x9600 .bf16 from V m c main_v13) (ix2 l (j 1))

/-- The array after the run. -/
theorem array (c : Dev nD) : (dats m 0 c).arrAt 2 cfg0.N
    = (fun j => product m c j : S1024x9600.Idx → EReal) := by
  refine (dats m 0 c).arrAt_eq_of_covers 2 _ (by decide +kernel) fun t hf y => ?_
  blk_simp
  rw [after0_2, out m c t ((flush0_2 t).mp hf)]
  rw [Pipeline.eq_sum_fin_of_reset_step_apply_of_flush (fun n h => (outsAt0 m c n h).2) 4 (fun _ => 0) (term m c)
    (reset m c) (add m c) t ((flush0_2 t).mp hf) _, zero_add]
  unfold term product
  refine Fin.sum_mul_add_congr fun s k hl => ?_
  refine congrArg₂ (fun a b : EReal => a * b) ?_ ?_ <;>
    blk_ext [iblk, idx t, idx ⟨_, Pipeline.run_point_lt_of_flush t ((flush0_2 t).mp hf) s⟩]

end Cert.Products.DWIn
-- ==== Proof.Equations.DWIn.lean ====
/- The gradient of the input projection's weight: the kernel and the reference end with the same array. -/
module

public import proofs.«01_k».proof.Defs
public import proofs.«01_k».proof.Proof.Products.DWIn
public import proofs.«01_k».proof.Proof.Products.Spec
public import proofs.«01_k».proof.Proof.Gen.Reference9Ideal.Run
public import Idealize.ShloMosaic.Adequacy
public import Idealize.ShloMosaic.Init

@[expose] public section

set_option maxRecDepth 16384

noncomputable section

namespace Cert.Products.DWIn

open Idealize.ShloMosaic Idealize.ShloMosaic.Pointwise Idealize.SL.Sem Cert.Kernel9Ideal Cert.Kernel9Ideal.Gen

variable (m : (ℓ : Loc nD τ sig) → Buf (Elt Ideal) ℓ)

/-- The normalised rows, as the kernel is given them. -/
theorem normal (c : Dev nD) (i : Fin 4160) (d : Fin 1024) : (V m c main_v12 : S4160x1024.Idx → EReal) (ix2 i d)
    = rms (m ((c.tc : Thread nD τ).loc main_arg0)) (m ((c.tc : Thread nD τ).loc main_arg1)) i d := by
  unfold rms rowRms
  entry_read
  pointwise

theorem gradient (c : Dev nD) : (V m c main_v13 : S4160x9600.Idx → EReal) = m ((c.tc : Thread nD τ).loc main_arg2) := by
  funext j
  entry_read
  pointwise

/-- The reference declares no semaphore, and its run ends with its arguments as they were. -/
theorem frame_reference : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

/-- Both runs end with the same array. -/
theorem equation : Cert.algebraic_Kernel9Ideal_Reference9Ideal := by
  intro m g m' g' _ hargs
  refine ⟨fun c => (dats m 0 c).arrAt 2 cfg0.N, Cert.Kernel9Ideal.Value.run_blocks m g,
    (θ_run Cert.Reference9Ideal.defs _ _).mono (fun r h c => ?_) (Cert.Reference9Ideal.Value.run (F := Ideal) m' g')⟩
  obtain ⟨r0, rest⟩ := h c
  obtain ⟨h0, h1, h2⟩ := hargs c
  refine ⟨r0.trans (Eq.trans ?_ (array m c).symm), rest⟩
  clear h r0 rest
  rw [h0, h1, h2]
  funext j
  refine Eq.trans (b := ∑ l : Fin 4160, rms (m ((c.tc : Thread nD τ).loc main_arg0)) (m ((c.tc : Thread nD τ).loc main_arg1)) l (j 0)
    * (m ((c.tc : Thread nD τ).loc main_arg2) : S4160x9600.Idx → EReal) (ix2 l (j 1))) ?_ ?_
  · pointwise
    exact Fin.sum_fin_congr fun l => mul_comm _ _
  · exact Fin.sum_fin_congr fun l => congrArg₂ (fun a b : EReal => a * b) (normal m c l (j 0)).symm (congrFun (gradient m c) _).symm

end Cert.Products.DWIn
-- ==== Proof.Products.DU.lean ====
/- The gradient of the input projection's input: what the kernel's array holds is a product of the kernel's operands. -/
module

public import proofs.«01_k».proof.Proof.Gen.Kernel10Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DU

open Idealize.ShloMosaic Idealize.ShloMosaic.Pointwise Idealize.SL.Sem Cert.Kernel10Ideal Cert.Kernel10Ideal.Gen
open Cert.Kernel10Ideal.Value

variable (m : (ℓ : Loc nD τ sig) → Buf (Elt Ideal) ℓ)

/-- The blocks a grid point works on. -/
theorem idx : ∀ t : Fin cfg0.N, win0_0.index t = ![t.val / 5, t.val % 5] ∧ win0_1.index t = ![0, t.val % 5] ∧ win0_2.index t = ![t.val / 5, 0] :=
  (by decide +kernel : ∀ t : Fin grid0.N, _)

/-- The first point of a run clears the accumulator. -/
theorem clear (j : S1040x1024.Idx) : k0_pay1 (F := Ideal) j = 0 := by
  pointwise [k0_pay1]

/-- A point adds the product of its two blocks. -/
theorem step (acc : Vec Ideal S1040x1024 .f32) (x : Vec Ideal S1040x1920 .bf16) (y : Vec Ideal S1024x1920 .bf16) (j : S1040x1024.Idx) :
    (k0_pay2 acc x y j : EReal) = acc j + ∑ k : Fin 1920, x (ix2 (j 0) k) * y (ix2 (j 1) k) := by
  pointwise [k0_pay2]

/-- What point `t` adds at an index. -/
def term (c : Dev nD) (t : Fin cfg0.N) (j : S1040x1024.Idx) : EReal :=
  ∑ k : Fin 1920, (show FVec Ideal S1040x1920 .bf16 from iblk m c 0 t) (ix2 (j 0) k) * (show FVec Ideal S1024x1920 .bf16 from iblk m c 1 t) (ix2 (j 1) k)

theorem reset (c : Dev nD) (t : Fin cfg0.N) (h : t.val % 5 = 0) (j : S1040x1024.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 5 = 0) (j : S1040x1024.Idx) :
    ((outsAt0 m c t.val t.isLt).2 j : EReal)
      = (outsAt0 m c (t.val - 1) (Nat.lt_of_le_of_lt (Nat.sub_le _ _) t.isLt)).2 j + term m c t j := by
  by_cases h1 : t.val % 5 = 4
  · rw [outsAt0_C m c t h h1]
    frame_out
    rw [step]
    simp only [read_unread_whole]
    rfl
  · rw [outsAt0_B m c t h h1]
    frame_out
    rw [step]
    simp only [read_unread_whole]
    rfl

/-- What the last point of a run writes, from the accumulator it leaves. -/
theorem out (c : Dev nD) (t : Fin cfg0.N) (h : t.val % 5 = 4) (j : S1040x1024.Idx) :
    ((outsAt0 m c t.val t.isLt).1 j : EReal) = (outsAt0 m c t.val t.isLt).2 j := by
  rw [outsAt0_C m c t (by omega) h]
  frame_out

/-- The product of the kernel's operands, at an index. -/
def product (c : Dev nD) (j : S4160x1024.Idx) : EReal :=
  ∑ l : Fin 9600, (show FVec Ideal S4160x9600 .bf16 from V m c main_v0) (ix2 (j 0) l) * (show FVec Ideal S1024x9600 .bf16 from V m c main_v1) (ix2 (j 1) l)

/-- The array after the run. -/
theorem array (c : Dev nD) : (dats m 0 c).arrAt 2 cfg0.N
    = (fun j => product m c j : S4160x1024.Idx → EReal) := by
  refine (dats m 0 c).arrAt_eq_of_covers 2 _ (by decide +kernel) fun t hf y => ?_
  blk_simp
  rw [after0_2, out m c t ((flush0_2 t).mp hf)]
  rw [Pipeline.eq_sum_fin_of_reset_step_apply_of_flush (fun n h => (outsAt0 m c n h).2) 5 (fun _ => 0) (term m c)
    (reset m c) (add m c) t ((flush0_2 t).mp hf) _, zero_add]
  unfold term product
  refine Fin.sum_mul_add_congr fun s k hl => ?_
  refine congrArg₂ (fun a b : EReal => a * b) ?_ ?_ <;>
    blk_ext [iblk, idx t, idx ⟨_, Pipeline.run_point_lt_of_flush t ((flush0_2 t).mp hf) s⟩]

end Cert.Products.DU
-- ==== Proof.Equations.DU.lean ====
/- The gradient of the input projection's input: the kernel and the reference end with the same array. -/
module

public import proofs.«01_k».proof.Defs
public import proofs.«01_k».proof.Proof.Products.DU
public import proofs.«01_k».proof.Proof.Gen.Reference10Ideal.Run
public import Idealize.ShloMosaic.Adequacy
public import Idealize.ShloMosaic.Init

@[expose] public section

set_option maxRecDepth 16384

noncomputable section

namespace Cert.Products.DU

open Idealize.ShloMosaic Idealize.ShloMosaic.Pointwise Idealize.SL.Sem Cert.Kernel10Ideal Cert.Kernel10Ideal.Gen

variable (m : (ℓ : Loc nD τ sig) → Buf (Elt Ideal) ℓ)

theorem weight (c : Dev nD) : (V m c main_v1 : S1024x9600.Idx → EReal) = m ((c.tc : Thread nD τ).loc main_arg0) := by
  funext j
  entry_read
  pointwise

theorem gradient (c : Dev nD) : (V m c main_v0 : S4160x9600.Idx → EReal) = m ((c.tc : Thread nD τ).loc main_arg1) := by
  funext j
  entry_read
  pointwise

/-- The reference declares no semaphore, and its run ends with its arguments as they were. -/
theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- Both runs end with the same array. -/
theorem equation : Cert.algebraic_Kernel10Ideal_Reference10Ideal := by
  intro m g m' g' _ hargs
  refine ⟨fun c => (dats m 0 c).arrAt 2 cfg0.N, Cert.Kernel10Ideal.Value.run_blocks m g,
    (θ_run Cert.Reference10Ideal.defs _ _).mono (fun r h c => ?_) (Cert.Reference10Ideal.Value.run (F := Ideal) m' g')⟩
  obtain ⟨r0, rest⟩ := h c
  obtain ⟨h0, h1⟩ := hargs c
  refine ⟨r0.trans (Eq.trans ?_ (array m c).symm), rest⟩
  clear h r0 rest
  rw [h0, h1]
  funext j
  unfold product
  simp only [weight, gradient]
  pointwise
  rfl

end Cert.Products.DU
-- ==== Proof.Products.DWOut.lean ====
/- The gradient of the output projection's weight: what the kernel's array holds is the product the reference computes. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DWOut

open Idealize.ShloMosaic Idealize.ShloMosaic.Pointwise Idealize.SL.Sem Cert.Kernel11Ideal Cert.Kernel11Ideal.Gen
open Cert.Kernel11Ideal.Value

variable (m : (ℓ : Loc nD τ sig) → Buf (Elt Ideal) ℓ)

theorem idx : ∀ t : Fin cfg0.N, win0_0.index t = ![t.val % 4, 0] ∧ win0_1.index t = ![t.val % 4, 0] ∧ win0_2.index t = ![0, 0] :=
  (by decide +kernel : ∀ t : Fin grid0.N, _)

/-- The first point of a run clears the accumulator. -/
theorem clear (j : S1024x1024.Idx) : k0_pay1 (F := Ideal) j = 0 := by
  pointwise [k0_pay1]

/-- A point adds the product of its two blocks. -/
theorem step (acc : Vec Ideal S1024x1024 .f32) (x : Vec Ideal S1040x1024 .bf16) (y : Vec Ideal S1040x1024 .f32) (j : S1024x1024.Idx) :
    (k0_pay2 acc x y j : EReal) = acc j + ∑ k : Fin 1040, x (ix2 k (j 0)) * y (ix2 k (j 1)) := by
  pointwise [k0_pay2]

/-- What point `t` adds at an index. -/
def term (c : Dev nD) (t : Fin cfg0.N) (j : S1024x1024.Idx) : EReal :=
  ∑ k : Fin 1040, (show FVec Ideal S1040x1024 .bf16 from iblk m c 0 t) (ix2 k (j 0))
    * (show FVec Ideal S1040x1024 .f32 from iblk m c 1 t) (ix2 k (j 1))

theorem reset (c : Dev nD) (t : Fin cfg0.N) (h : t.val % 4 = 0) (j : S1024x1024.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 4 = 0) (j : S1024x1024.Idx) :
    ((outsAt0 m c t.val t.isLt).2 j : EReal)
      = (outsAt0 m c (t.val - 1) (Nat.lt_of_le_of_lt (Nat.sub_le _ _) t.isLt)).2 j + term m c t j := by
  by_cases h1 : t.val % 4 = 3
  · rw [outsAt0_C m c t h h1]
    frame_out
    rw [step]
    simp only [read_unread_whole]
    rfl
  · rw [outsAt0_B m c t h h1]
    frame_out
    rw [step]
    simp only [read_unread_whole]
    rfl

/-- The last point of a run writes the accumulator out. -/
theorem out (c : Dev nD) (t : Fin cfg0.N) (h : t.val % 4 = 3) (j : S1024x1024.Idx) :
    ((outsAt0 m c t.val t.isLt).1 j : EReal) = (outsAt0 m c t.val t.isLt).2 j := by
  rw [outsAt0_C m c t (by omega) h]
  frame_out

/-- The array after the run: entry `(i, j)` is the product of column `i` of the first operand and column `j` of the second. -/
theorem array (c : Dev nD) : (dats m 0 c).arrAt 2 cfg0.N
    = (fun j => ∑ l : Fin 4160, (show FVec Ideal S4160x1024 .bf16 from V m c main_v0) (ix2 l (j 0))
        * (show FVec Ideal S4160x1024 .f32 from V m c main_arg1) (ix2 l (j 1)) : S1024x1024.Idx → EReal) := by
  refine (dats m 0 c).arrAt_eq_of_covers 2 _ (by decide +kernel) fun t hf y => ?_
  blk_simp
  rw [after0_2, out m c t ((flush0_2 t).mp hf), Pipeline.eq_sum_fin_of_reset_step_apply_of_flush (fun n h => (outsAt0 m c n h).2) 4 (fun _ => 0) (term m c)
    (reset m c) (add m c) t ((flush0_2 t).mp hf) _, zero_add]
  unfold term
  refine Fin.sum_mul_add_congr fun s k hl => ?_
  refine congrArg₂ (fun a b : EReal => a * b) ?_ ?_ <;>
    blk_ext [iblk, idx t, idx ⟨_, Pipeline.run_point_lt_of_flush t ((flush0_2 t).mp hf) s⟩]

theorem merged (c : Dev nD) : (V m c main_v0 : S4160x1024.Idx → EReal) = m ((c.tc : Thread nD τ).loc main_arg0) := by
  funext j
  entry_read
  pointwise

theorem d_h (c : Dev nD) : (V m c main_arg1 : S4160x1024.Idx → EReal) = m ((c.tc : Thread nD τ).loc main_arg1) := by
  funext j
  entry_read
  rfl

/-- The reference, read at an index. -/
theorem reference (x y : Vec Ideal S4160x1024 .f32) (j : S1024x1024.Idx) :
    ((transpose Cert.Reference11Ideal.S1024x1024 [1, 0] (Host.dotGeneral (φ₁ := .f32) (φ₂ := .f32) Cert.Reference11Ideal.dot_S4160x1024_S4160x1024_S1024x1024_0_0_1_1_n_n none y x)
      Cert.Reference11Ideal.Gen.transposes_S1024x1024_S1024x1024_1_0 : FVec Ideal S1024x1024 .f32) j : EReal)
      = ∑ l : Fin 4160, x (ix2 l (j 0)) * y (ix2 l (j 1)) := by
  pointwise
  refine Fin.sum_fin_congr fun l => ?_
  rw [mul_comm]

end Cert.Products.DWOut
-- ==== Proof.Equations.DWOut.lean ====
/- The gradient of the output projection's weight: the kernel and the reference end with the same array. -/
module

public import proofs.«01_k».proof.Defs
public import proofs.«01_k».proof.Proof.Products.DWOut
public import proofs.«01_k».proof.Proof.Products.Spec
public import proofs.«01_k».proof.Proof.Gen.Reference11Ideal.Run
public import Idealize.ShloMosaic.Adequacy
public import Idealize.ShloMosaic.Init

@[expose] public section

set_option maxRecDepth 16384

noncomputable section

namespace Cert.Products.DWOut

open Idealize.ShloMosaic Idealize.ShloMosaic.Pointwise Idealize.SL.Sem Cert.Kernel11Ideal Cert.Kernel11Ideal.Gen

variable (m : (ℓ : Loc nD τ sig) → Buf (Elt Ideal) ℓ)

/-- The reference declares no semaphore, and its run ends with its arguments as they were. -/
theorem frame_reference : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- Both runs end with the same array. -/
theorem equation : Cert.algebraic_Kernel11Ideal_Reference11Ideal := by
  intro m g m' g' _ hargs
  refine ⟨fun c => (dats m 0 c).arrAt 2 cfg0.N, Cert.Kernel11Ideal.Value.run_blocks m g,
    (θ_run Cert.Reference11Ideal.defs _ _).mono (fun r h c => ?_) (Cert.Reference11Ideal.Value.run (F := Ideal) m' g')⟩
  obtain ⟨r0, rest⟩ := h c
  obtain ⟨h0, h1⟩ := hargs c
  refine ⟨r0.trans (Eq.trans ?_ (array m c).symm), rest⟩
  clear h r0 rest
  rw [h0, h1]
  funext j
  refine (reference _ _ j).trans ?_
  refine Fin.sum_fin_congr fun l => congrArg₂ (fun a b : EReal => a * b) ?_ ?_
  · exact (congrFun (merged m c) _).symm
  · exact (congrFun (d_h m c) _).symm

end Cert.Products.DWOut
-- ==== Proof.Products.DMerged.lean ====
/- The gradient of the output projection's input: what the kernel's array holds is a product of the kernel's operands. -/
module

public import proofs.«01_k».proof.Proof.Gen.Kernel12Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.DMerged

open Idealize.ShloMosaic Idealize.ShloMosaic.Pointwise Idealize.SL.Sem Cert.Kernel12Ideal Cert.Kernel12Ideal.Gen
open Cert.Kernel12Ideal.Value

variable (m : (ℓ : Loc nD τ sig) → Buf (Elt Ideal) ℓ)

/-- The blocks a grid point works on. -/
theorem idx : ∀ t : Fin cfg0.N, win0_0.index t = ![t.val, 0] ∧ win0_1.index t = ![0, 0] ∧ win0_2.index t = ![t.val, 0] :=
  (by decide +kernel : ∀ t : Fin grid0.N, _)

/-- The first point of a run clears the accumulator. -/
theorem clear (j : S1040x1024.Idx) : k0_pay1 (F := Ideal) j = 0 := by
  pointwise [k0_pay1]

/-- A point adds the product of its two blocks. -/
theorem step (acc : Vec Ideal S1040x1024 .f32) (x : Vec Ideal S1040x1024 .f32) (y : Vec Ideal S1024x1024 .bf16) (j : S1040x1024.Idx) :
    (k0_pay2 acc x y j : EReal) = acc j + ∑ k : Fin 1024, x (ix2 (j 0) k) * y (ix2 (j 1) k) := by
  pointwise [k0_pay2]

/-- What point `t` adds at an index. -/
def term (c : Dev nD) (t : Fin cfg0.N) (j : S1040x1024.Idx) : EReal :=
  ∑ k : Fin 1024, (show FVec Ideal S1040x1024 .f32 from iblk m c 0 t) (ix2 (j 0) k) * (show FVec Ideal S1024x1024 .bf16 from iblk m c 1 t) (ix2 (j 1) k)

/-- What a point writes. -/
theorem out (c : Dev nD) (t : Fin cfg0.N) (j : S1040x1024.Idx) :
    (outsAt0 m c t j : EReal) = term m c t j := by
  unfold outsAt0
  frame_out
  rw [step, clear, zero_add]
  rfl

/-- The product of the kernel's operands, at an index. -/
def product (c : Dev nD) (j : S4160x1024.Idx) : EReal :=
  ∑ l : Fin 1024, (show FVec Ideal S4160x1024 .f32 from V m c main_arg1) (ix2 (j 0) l) * (show FVec Ideal S1024x1024 .bf16 from V m c main_v0) (ix2 (j 1) l)

/-- The array after the run. -/
theorem array (c : Dev nD) : (dats m 0 c).arrAt 2 cfg0.N
    = (fun j => product m c j : S4160x1024.Idx → EReal) := by
  refine (dats m 0 c).arrAt_eq_of_covers 2 _ (by decide +kernel) fun t hf y => ?_
  blk_simp
  rw [after0_2, out m c t]
  unfold term product
  refine Fin.sum_fin_congr fun k => ?_
  refine congrArg₂ (fun a b : EReal => a * b) ?_ ?_ <;> blk_ext [iblk, idx t]

end Cert.Products.DMerged
-- ==== Proof.Equations.DMerged.lean ====
/- The gradient of the output projection's input: the kernel and the reference end with the same array. -/
module

public import proofs.«01_k».proof.Defs
public import proofs.«01_k».proof.Proof.Products.DMerged
public import proofs.«01_k».proof.Proof.Gen.Reference12Ideal.Run
public import Idealize.ShloMosaic.Adequacy
public import Idealize.ShloMosaic.Init

@[expose] public section

set_option maxRecDepth 16384

noncomputable section

namespace Cert.Products.DMerged

open Idealize.ShloMosaic Idealize.ShloMosaic.Pointwise Idealize.SL.Sem Cert.Kernel12Ideal Cert.Kernel12Ideal.Gen

variable (m : (ℓ : Loc nD τ sig) → Buf (Elt Ideal) ℓ)

theorem weight (c : Dev nD) : (V m c main_v0 : S1024x1024.Idx → EReal) = m ((c.tc : Thread nD τ).loc main_arg0) := by
  funext j
  entry_read
  pointwise

theorem gradient (c : Dev nD) : (V m c main_arg1 : S4160x1024.Idx → EReal) = m ((c.tc : Thread nD τ).loc main_arg1) := by
  funext j
  entry_read
  rfl

/-- The reference declares no semaphore, and its run ends with its arguments as they were. -/
theorem frame_reference : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

/-- Both runs end with the same array. -/
theorem equation : Cert.algebraic_Kernel12Ideal_Reference12Ideal := by
  intro m g m' g' _ hargs
  refine ⟨fun c => (dats m 0 c).arrAt 2 cfg0.N, Cert.Kernel12Ideal.Value.run_blocks m g,
    (θ_run Cert.Reference12Ideal.defs _ _).mono (fun r h c => ?_) (Cert.Reference12Ideal.Value.run (F := Ideal) m' g')⟩
  obtain ⟨r0, rest⟩ := h c
  obtain ⟨h0, h1⟩ := hargs c
  refine ⟨r0.trans (Eq.trans ?_ (array m c).symm), rest⟩
  clear h r0 rest
  rw [h0, h1]
  funext j
  unfold product
  simp only [weight, gradient]
  pointwise
  rfl

end Cert.Products.DMerged
-- ==== Proof.Products.Down.lean ====
/- A feed-forward block's output: what the kernel's array holds is a product of the kernel's operands. -/
module

public import proofs.«01_k».proof.Proof.Gen.Kernel13Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.Down

open Idealize.ShloMosaic Idealize.ShloMosaic.Pointwise Idealize.SL.Sem Cert.Kernel13Ideal Cert.Kernel13Ideal.Gen
open Cert.Kernel13Ideal.Value

variable (m : (ℓ : Loc nD τ sig) → Buf (Elt Ideal) ℓ)

/-- The blocks a grid point works on. -/
theorem idx : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- The first point of a run clears the accumulator. -/
theorem clear (j : S1040x1024.Idx) : k0_pay1 (F := Ideal) j = 0 := by
  pointwise [k0_pay1]

/-- A point adds the product of its two blocks. -/
theorem step (acc : Vec Ideal S1040x1024 .f32) (x : Vec Ideal S1040x1408 .bf16) (y : Vec Ideal S1408x1024 .bf16) (j : S1040x1024.Idx) :
    (k0_pay2 acc x y j : EReal) = acc j + ∑ k : Fin 1408, x (ix2 (j 0) k) * y (ix2 k (j 1)) := by
  pointwise [k0_pay2]

/-- What the last point of a run writes. -/
theorem last (acc x : Vec Ideal S1040x1024 .f32) (j : S1040x1024.Idx) : (k0_pay3 acc x j : EReal) = x j + acc j * Scalar.ofBits (F := Ideal) .f32 0x3F000000#32 := by
  pointwise [k0_pay3]

/-- What point `t` adds at an index. -/
def term (c : Dev nD) (t : Fin cfg0.N) (j : S1040x1024.Idx) : EReal :=
  ∑ k : Fin 1408, (show FVec Ideal S1040x1408 .bf16 from iblk m c 0 t) (ix2 (j 0) k) * (show FVec Ideal S1408x1024 .bf16 from iblk m c 1 t) (ix2 k (j 1))

theorem reset (c : Dev nD) (t : Fin cfg0.N) (h : t.val % 2 = 0) (j : S1040x1024.Idx) :
    ((outsAt0 m c t.val t.isLt).2 j : EReal) = 0 + term m c t j := by
  rw [outsAt0_A m c t h (by omega)]
  frame_out
  rw [step, clear]
  rfl

theorem add (c : Dev nD) (t : Fin cfg0.N) (h : ¬ t.val % 2 = 0) (j : S1040x1024.Idx) :
    ((outsAt0 m c t.val t.isLt).2 j : EReal)
      = (outsAt0 m c (t.val - 1) (Nat.lt_of_le_of_lt (Nat.sub_le _ _) t.isLt)).2 j + term m c t j := by
  rw [outsAt0_B m c t h (by omega)]
  frame_out
  rw [step]
  simp only [read_unread_whole]
  rfl

/-- What the last point of a run writes, from the accumulator it leaves. -/
theorem out (c : Dev nD) (t : Fin cfg0.N) (h : t.val % 2 = 1) (j : S1040x1024.Idx) :
    ((outsAt0 m c t.val t.isLt).1 j : EReal) = (show FVec Ideal S1040x1024 .f32 from iblk m c 2 t) j + (outsAt0 m c t.val t.isLt).2 j * Scalar.ofBits (F := Ideal) .f32 0x3F000000#32 := by
  rw [outsAt0_B m c t (by omega) h]
  frame_out
  rw [last]

/-- The product of the kernel's operands, at an index. -/
def product (c : Dev nD) (j : S4160x1024.Idx) : EReal :=
  ∑ l : Fin 2816, (show FVec Ideal S4160x2816 .bf16 from V m c main_v26) (ix2 (j 0) l) * (show FVec Ideal S2816x1024 .bf16 from V m c main_v27) (ix2 l (j 1))

/-- The array after the run. -/
theorem array (c : Dev nD) : (dats m 0 c).arrAt 3 cfg0.N
    = (fun j => (show FVec Ideal S4160x1024 .f32 from V m c main_arg0) j + product m c j * Scalar.ofBits (F := Ideal) .f32 0x3F000000#32 : S4160x1024.Idx → EReal) := by
  refine (dats m 0 c).arrAt_eq_of_covers 3 _ (by decide +kernel) fun t hf y => ?_
  blk_simp
  rw [after0_3, out m c t ((flush0_3 t).mp hf)]
  refine congrArg₂ (fun a b : EReal => a + b * Scalar.ofBits (F := Ideal) .f32 0x3F000000#32) (by blk_ext [iblk, idx t]) ?_
  rw [Pipeline.eq_sum_fin_of_reset_step_apply_of_flush (fun n h => (outsAt0 m c n h).2) 2 (fun _ => 0) (term m c)
    (reset m c) (add m c) t ((flush0_3 t).mp hf) _, zero_add]
  unfold term product
  refine Fin.sum_mul_add_congr fun s k hl => ?_
  refine congrArg₂ (fun a b : EReal => a * b) ?_ ?_ <;>
    blk_ext [iblk, idx t, idx ⟨_, Pipeline.run_point_lt_of_flush t ((flush0_3 t).mp hf) s⟩]

end Cert.Products.Down
-- ==== Proof.Equations.Down.lean ====
/- A feed-forward block's output: the kernel and the reference end with the same array. -/
module

public import proofs.«01_k».proof.Defs
public import proofs.«01_k».proof.Proof.Products.Down
public import proofs.«01_k».proof.Proof.Products.Spec
public import proofs.«01_k».proof.Proof.Gen.Reference13Ideal.Run
public import Idealize.ShloMosaic.Adequacy
public import Idealize.ShloMosaic.Init

@[expose] public section

set_option maxRecDepth 16384

noncomputable section

namespace Cert.Products.Down

open Idealize.ShloMosaic Idealize.ShloMosaic.Pointwise Idealize.SL.Sem Cert.Kernel13Ideal Cert.Kernel13Ideal.Gen

variable (m : (ℓ : Loc nD τ sig) → Buf (Elt Ideal) ℓ)

theorem weight (c : Dev nD) : (V m c main_v27 : S2816x1024.Idx → EReal) = m ((c.tc : Thread nD τ).loc main_arg3) := by
  funext j
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

/-- The reference's last step, of any hidden rows. -/
theorem reference (h : Vec Ideal S4160x1024 .f32) (a : Vec Ideal S4160x2816 .f32) (w : Vec Ideal S2816x1024 .f32) (j : S4160x1024.Idx) :
    ((addf h (mulf (broadcastInDim Cert.Reference13Ideal.S4160x1024 ![] Cert.Reference13Ideal.Gen.bcast_S_S4160x1024 (constant Cert.Reference13Ideal.S_ .f32 0x3F000000#32))
      (Host.dotGeneral (φ₁ := .f32) (φ₂ := .f32) Cert.Reference13Ideal.dot_S4160x2816_S2816x1024_S4160x1024_1_0_0_1_n_n none a w)) : FVec Ideal S4160x1024 .f32) j : EReal)
      = h j + (∑ l : Fin 2816, a (ix2 (j 0) l) * w (ix2 l (j 1))) * Ideal.ofBits .f32 0x3F000000#32 := by
  pointwise
  exact congrArg (h j + ·) (mul_comm _ _)

/-- The reference declares no semaphore, and its run ends with its arguments as they were. -/
theorem frame_reference : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

/-- Both runs end with the same array. -/
theorem equation : Cert.algebraic_Kernel13Ideal_Reference13Ideal := by
  intro m g m' g' _ hargs
  refine ⟨fun c => (dats m 0 c).arrAt 3 cfg0.N, Cert.Kernel13Ideal.Value.run_blocks m g,
    (θ_run Cert.Reference13Ideal.defs _ _).mono (fun r h c => ?_) (Cert.Reference13Ideal.Value.run (F := Ideal) m' g')⟩
  obtain ⟨r0, rest⟩ := h c
  obtain ⟨h0, h1, h2, h3⟩ := hargs c
  refine ⟨r0.trans (Eq.trans ?_ (array m c).symm), rest⟩
  clear h r0 rest
  funext j
  unfold Cert.Reference13Ideal.Value.res_main_v29
  refine (reference _ _ _ j).trans ?_
  rw [h0, h1, h2, h3]
  refine congrArg₂ (fun a b : EReal => a + b) ?_ (congrArg (fun a : EReal => a * Ideal.ofBits .f32 0x3F000000#32) ?_)
  · exact (congrFun (V_main_arg0 m c) j).symm
  refine Fin.sum_fin_congr fun k => congrArg₂ (fun a b : EReal => a * b) ?_ (congrFun (weight m c) _).symm
  show _ = (V m c main_v26 : S4160x2816.Idx → EReal) _
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

end Cert.Products.Down
-- ==== Proof.Products.InProj.lean ====
/- The input projection: what the kernel's array holds is a product of the kernel's operands. -/
module

public import proofs.«01_k».proof.Proof.Gen.Kernel14Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.InProj

open Idealize.ShloMosaic Idealize.ShloMosaic.Pointwise Idealize.SL.Sem Cert.Kernel14Ideal Cert.Kernel14Ideal.Gen
open Cert.Kernel14Ideal.Value

variable (m : (ℓ : Loc nD τ sig) → Buf (Elt Ideal) ℓ)

/-- The blocks a grid point works on. -/
theorem idx : ∀ t : Fin cfg0.N, win0_0.index t = ![t.val % 4, 0] ∧ win0_1.index t = ![0, t.val / 4] ∧ win0_2.index t = ![t.val % 4, t.val / 4] :=
  (by decide +kernel : ∀ t : Fin grid0.N, _)

/-- The first point of a run clears the accumulator. -/
theorem clear (j : S1040x1920.Idx) : k0_pay1 (F := Ideal) j = 0 := by
  pointwise [k0_pay1]

/-- A point adds the product of its two blocks. -/
theorem step (acc : Vec Ideal S1040x1920 .f32) (x : Vec Ideal S1040x1024 .bf16) (y : Vec Ideal S1024x1920 .bf16) (j : S1040x1920.Idx) :
    (k0_pay2 acc x y j : EReal) = acc j + ∑ k : Fin 1024, x (ix2 (j 0) k) * y (ix2 k (j 1)) := by
  pointwise [k0_pay2]

/-- What point `t` adds at an index. -/
def term (c : Dev nD) (t : Fin cfg0.N) (j : S1040x1920.Idx) : EReal :=
  ∑ k : Fin 1024, (show FVec Ideal S1040x1024 .bf16 from iblk m c 0 t) (ix2 (j 0) k) * (show FVec Ideal S1024x1920 .bf16 from iblk m c 1 t) (ix2 k (j 1))

/-- What a point writes. -/
theorem out (c : Dev nD) (t : Fin cfg0.N) (j : S1040x1920.Idx) :
    (outsAt0 m c t j : EReal) = term m c t j := by
  unfold outsAt0
  frame_out
  rw [step, clear, zero_add]
  rfl

/-- The product of the kernel's operands, at an index. -/
def product (c : Dev nD) (j : S4160x9600.Idx) : EReal :=
  ∑ l : Fin 1024, (show FVec Ideal S4160x1024 .bf16 from V m c main_v12) (ix2 (j 0) l) * (show FVec Ideal S1024x9600 .bf16 from V m c main_v13) (ix2 l (j 1))

/-- The array after the run. -/
theorem array (c : Dev nD) : (dats m 0 c).arrAt 2 cfg0.N
    = (fun j => product m c j : S4160x9600.Idx → EReal) := by
  refine (dats m 0 c).arrAt_eq_of_covers 2 _ (by decide +kernel) fun t hf y => ?_
  blk_simp
  rw [after0_2, out m c t]
  unfold term product
  refine Fin.sum_fin_congr fun k => ?_
  refine congrArg₂ (fun a b : EReal => a * b) ?_ ?_ <;> blk_ext [iblk, idx t]

end Cert.Products.InProj
-- ==== Proof.Equations.InProj.lean ====
/- The input projection: the kernel and the reference end with the same array. -/
module

public import proofs.«01_k».proof.Defs
public import proofs.«01_k».proof.Proof.Products.InProj
public import proofs.«01_k».proof.Proof.Products.Spec
public import proofs.«01_k».proof.Proof.Gen.Reference14Ideal.Run
public import Idealize.ShloMosaic.Adequacy
public import Idealize.ShloMosaic.Init

@[expose] public section

set_option maxRecDepth 16384

noncomputable section

namespace Cert.Products.InProj

open Idealize.ShloMosaic Idealize.ShloMosaic.Pointwise Idealize.SL.Sem Cert.Kernel14Ideal Cert.Kernel14Ideal.Gen

variable (m : (ℓ : Loc nD τ sig) → Buf (Elt Ideal) ℓ)

/-- The normalised rows, as the kernel is given them. -/
theorem normal (c : Dev nD) (i : Fin 4160) (d : Fin 1024) : (V m c main_v12 : S4160x1024.Idx → EReal) (ix2 i d)
    = rms (m ((c.tc : Thread nD τ).loc main_arg0)) (m ((c.tc : Thread nD τ).loc main_arg1)) i d := by
  unfold rms rowRms
  entry_read
  pointwise

theorem weight (c : Dev nD) : (V m c main_v13 : S1024x9600.Idx → EReal) = m ((c.tc : Thread nD τ).loc main_arg2) := by
  funext j
  entry_read
  pointwise

/-- The reference declares no semaphore, and its run ends with its arguments as they were. -/
theorem frame_reference : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

/-- Both runs end with the same array. -/
theorem equation : Cert.algebraic_Kernel14Ideal_Reference14Ideal := by
  intro m g m' g' _ hargs
  refine ⟨fun c => (dats m 0 c).arrAt 2 cfg0.N, Cert.Kernel14Ideal.Value.run_blocks m g,
    (θ_run Cert.Reference14Ideal.defs _ _).mono (fun r h c => ?_) (Cert.Reference14Ideal.Value.run (F := Ideal) m' g')⟩
  obtain ⟨r0, rest⟩ := h c
  obtain ⟨h0, h1, h2⟩ := hargs c
  refine ⟨r0.trans (Eq.trans ?_ (array m c).symm), rest⟩
  clear h r0 rest
  rw [h0, h1, h2]
  funext j
  refine Eq.trans (b := ∑ l : Fin 1024, rms (m ((c.tc : Thread nD τ).loc main_arg0)) (m ((c.tc : Thread nD τ).loc main_arg1)) (j 0) l
    * (m ((c.tc : Thread nD τ).loc main_arg2) : S1024x9600.Idx → EReal) (ix2 l (j 1))) ?_ ?_
  · pointwise
    rfl
  · exact Fin.sum_fin_congr fun l => congrArg₂ (fun a b : EReal => a * b) (normal m c (j 0) l).symm (congrFun (weight m c) _).symm

end Cert.Products.InProj
-- ==== Proof.Products.OutProj.lean ====
/- The output projection beside the residual stream: what the kernel's array holds is a product of the kernel's operands. -/
module

public import proofs.«01_k».proof.Proof.Gen.Kernel15Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products.OutProj

open Idealize.ShloMosaic Idealize.ShloMosaic.Pointwise Idealize.SL.Sem Cert.Kernel15Ideal Cert.Kernel15Ideal.Gen
open Cert.Kernel15Ideal.Value

variable (m : (ℓ : Loc nD τ sig) → Buf (Elt Ideal) ℓ)

/-- The blocks a grid point works on. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The first point of a run clears the accumulator. -/
theorem clear (j : S1040x1024.Idx) : k0_pay1 (F := Ideal) j = 0 := by
  pointwise [k0_pay1]

/-- A point adds the product of its two blocks. -/
theorem step (acc : Vec Ideal S1040x1024 .f32) (x : Vec Ideal S1040x1024 .bf16) (y : Vec Ideal S1024x1024 .bf16) (j : S1040x1024.Idx) :
    (k0_pay2 acc x y j : EReal) = acc j + ∑ k : Fin 1024, x (ix2 (j 0) k) * y (ix2 k (j 1)) := by
  pointwise [k0_pay2]

/-- What the last point of a run writes. -/
theorem last (acc x : Vec Ideal S1040x1024 .f32) (j : S1040x1024.Idx) : (k0_pay3 acc x j : EReal) = x j + acc j := by
  pointwise [k0_pay3]

/-- What point `t` adds at an index. -/
def term (c : Dev nD) (t : Fin cfg0.N) (j : S1040x1024.Idx) : EReal :=
  ∑ k : Fin 1024, (show FVec Ideal S1040x1024 .bf16 from iblk m c 0 t) (ix2 (j 0) k) * (show FVec Ideal S1024x1024 .bf16 from iblk m c 1 t) (ix2 k (j 1))

/-- What a point writes. -/
theorem out (c : Dev nD) (t : Fin cfg0.N) (j : S1040x1024.Idx) :
    (outsAt0 m c t j : EReal) = (show FVec Ideal S1040x1024 .f32 from iblk m c 2 t) j + term m c t j := by
  unfold outsAt0
  frame_out
  rw [last, step, clear, zero_add]
  rfl

/-- The product of the kernel's operands, at an index. -/
def product (c : Dev nD) (j : S4160x1024.Idx) : EReal :=
  ∑ l : Fin 1024, (show FVec Ideal S4160x1024 .bf16 from V m c main_v0) (ix2 (j 0) l) * (show FVec Ideal S1024x1024 .bf16 from V m c main_v1) (ix2 l (j 1))

/-- The array after the run. -/
theorem array (c : Dev nD) : (dats m 0 c).arrAt 3 cfg0.N
    = (fun j => (show FVec Ideal S4160x1024 .f32 from V m c main_arg0) j + product m c j : S4160x1024.Idx → EReal) := by
  refine (dats m 0 c).arrAt_eq_of_covers 3 _ (by decide +kernel) fun t hf y => ?_
  blk_simp
  rw [after0_3, out m c t]
  refine congrArg₂ (fun a b : EReal => a + b) (by blk_ext [iblk, idx t]) ?_
  unfold term product
  refine Fin.sum_fin_congr fun k => ?_
  refine congrArg₂ (fun a b : EReal => a * b) ?_ ?_ <;> blk_ext [iblk, idx t]

end Cert.Products.OutProj
-- ==== Proof.Equations.OutProj.lean ====
/- The output projection beside the residual stream: the kernel and the reference end with the same array. -/
module

public import proofs.«01_k».proof.Defs
public import proofs.«01_k».proof.Proof.Products.OutProj
public import proofs.«01_k».proof.Proof.Gen.Reference15Ideal.Run
public import Idealize.ShloMosaic.Adequacy
public import Idealize.ShloMosaic.Init

@[expose] public section

set_option maxRecDepth 16384

noncomputable section

namespace Cert.Products.OutProj

open Idealize.ShloMosaic Idealize.ShloMosaic.Pointwise Idealize.SL.Sem Cert.Kernel15Ideal Cert.Kernel15Ideal.Gen

variable (m : (ℓ : Loc nD τ sig) → Buf (Elt Ideal) ℓ)

theorem weight (c : Dev nD) : (V m c main_v1 : S1024x1024.Idx → EReal) = m ((c.tc : Thread nD τ).loc main_arg2) := by
  funext j
  entry_read
  pointwise

theorem merged (c : Dev nD) : (V m c main_v0 : S4160x1024.Idx → EReal) = m ((c.tc : Thread nD τ).loc main_arg1) := by
  funext j
  entry_read
  pointwise

theorem residual (c : Dev nD) : (V m c main_arg0 : S4160x1024.Idx → EReal) = m ((c.tc : Thread nD τ).loc main_arg0) := by
  funext j
  entry_read
  rfl

/-- The reference declares no semaphore, and its run ends with its arguments as they were. -/
theorem frame_reference : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

/-- Both runs end with the same array. -/
theorem equation : Cert.algebraic_Kernel15Ideal_Reference15Ideal := by
  intro m g m' g' _ hargs
  refine ⟨fun c => (dats m 0 c).arrAt 3 cfg0.N, Cert.Kernel15Ideal.Value.run_blocks m g,
    (θ_run Cert.Reference15Ideal.defs _ _).mono (fun r h c => ?_) (Cert.Reference15Ideal.Value.run (F := Ideal) m' g')⟩
  obtain ⟨r0, rest⟩ := h c
  obtain ⟨h0, h1, h2⟩ := hargs c
  refine ⟨r0.trans (Eq.trans ?_ (array m c).symm), rest⟩
  clear h r0 rest
  rw [h0, h1, h2]
  funext j
  unfold product
  simp only [weight, merged, residual]
  pointwise
  rfl

end Cert.Products.OutProj
-- ==== Proof.Products.Rms.lean ====
/- A normalisation: the kernel's array holds the normalised rows. -/
module

public import proofs.«01_k».proof.Proof.Gen.Kernel16Ideal.Value
public import proofs.«01_k».proof.Proof.Products.Spec
public import Idealize.ShloMosaic.Lib.Pipeline.ValueKit
public import Idealize.ShloMosaic.Lib.Pipeline.ReadBack

@[expose] public section

set_option maxRecDepth 16384

noncomputable section

namespace Cert.Products.Rms

open Idealize.ShloMosaic Idealize.ShloMosaic.Pointwise Idealize.SL.Sem Cert.Kernel16Ideal Cert.Kernel16Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The rows one point normalises. -/
theorem block (x : Vec Ideal S416x1024 .f32) (gain : Vec Ideal S1x1024 .f32) (j : S416x1024.Idx) :
    (k0_pay1 x gain j : EReal) = rowRms (fun e => x (ix2 (j 0) e)) (fun e => gain (ix2 0 e)) (j 1) := by
  unfold rowRms
  pointwise [k0_pay1]

/-- What point `t` stores is the normalised row of the token its block row sits at. -/
theorem point (c : Dev nD) (t : Fin cfg0.N) (j : S416x1024.Idx) :
    (k0_pay1 (iblk m c 0 t) (iblk m c 1 t) j : EReal)
      = (fun i => rms (m ((c.tc : Thread nD τ).loc main_arg0)) (m ((c.tc : Thread nD τ).loc main_arg1)) (i 0) (i 1) : S4160x1024.Idx → EReal)
          (((cfg0.win 2).blk t).view.emb j) := by
  rw [block]
  have bound : t.val < 10 := t.isLt
  have place : ((cfg0.win 2).blk t).view.emb j
      = (ix2 (⟨t.val * 416 + (j 0).val, by have := (j 0).isLt; change (j 0).val < 416 at this; omega⟩ : Fin 4160) (j 1) : S4160x1024.Idx) := by
    blk_ext [idx t]
  refine Eq.trans ?_ (congrArg (fun i : S4160x1024.Idx => rms (m ((c.tc : Thread nD τ).loc main_arg0)) (m ((c.tc : Thread nD τ).loc main_arg1)) (i 0) (i 1)) place).symm
  refine congrArg₂ (fun x g : Fin 1024 → EReal => rowRms x g (j 1)) ?_ ?_ <;> funext e <;> blk_ext [iblk, V, idx t]

/-- The result after the run. -/
theorem array (c : Dev nD) : (dats m 0 c).arrAt 2 cfg0.N
    = (fun i => rms (m ((c.tc : Thread nD τ).loc main_arg0)) (m ((c.tc : Thread nD τ).loc main_arg1)) (i 0) (i 1) : S4160x1024.Idx → EReal) := by
  refine (dats m 0 c).arrAt_eq_of_covers 2 _ (by decide +kernel) fun t _ y => ?_
  blk_simp
  rw [after0_2]
  frame_out
  exact point m c t y

end Cert.Products.Rms
-- ==== Proof.Equations.Rms.lean ====
/- A normalisation: the kernel and the reference end with the same array. -/
module

public import proofs.«01_k».proof.Defs
public import proofs.«01_k».proof.Proof.Products.Rms
public import proofs.«01_k».proof.Proof.Products.Spec
public import proofs.«01_k».proof.Proof.Gen.Reference16Ideal.Run
public import Idealize.ShloMosaic.Adequacy
public import Idealize.ShloMosaic.Init

@[expose] public section

set_option maxRecDepth 16384

noncomputable section

namespace Cert.Products.Rms

open Idealize.ShloMosaic Idealize.ShloMosaic.Pointwise Idealize.SL.Sem Cert.Kernel16Ideal Cert.Kernel16Ideal.Gen

variable (m : (ℓ : Loc nD τ sig) → Buf (Elt Ideal) ℓ)

/-- The reference declares no semaphore, and its run ends with its arguments as they were. -/
theorem frame_reference : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run (F := Ideal) m ρ)

/-- Both runs end with the same array. -/
theorem equation : Cert.algebraic_Kernel16Ideal_Reference16Ideal := by
  intro m g m' g' _ hargs
  refine ⟨fun c => (dats m 0 c).arrAt 2 cfg0.N, Cert.Kernel16Ideal.Value.run_blocks m g,
    (θ_run Cert.Reference16Ideal.defs _ _).mono (fun r h c => ?_) (Cert.Reference16Ideal.Value.run (F := Ideal) m' g')⟩
  obtain ⟨r0, rest⟩ := h c
  obtain ⟨h0, h1⟩ := hargs c
  refine ⟨r0.trans (Eq.trans ?_ (array m c).symm), rest⟩
  clear h r0 rest
  rw [h0, h1]
  funext j
  unfold rms rowRms
  pointwise

end Cert.Products.Rms
-- ==== Proof.Products.GateUp.lean ====
/- A feed-forward block's gate, what it lets through, and their gated product: the kernel's three arrays. -/
module

public import proofs.«01_k».proof.Proof.Gen.Kernel17Ideal.Value
public import proofs.«01_k».proof.Proof.Products.Spec
public import Idealize.ShloMosaic.Lib.Pipeline.ValueKit
public import Idealize.ShloMosaic.Lib.Pipeline.ReadBack

@[expose] public section

set_option maxRecDepth 16384

noncomputable section

namespace Cert.Products.GateUp

open Idealize.ShloMosaic Idealize.ShloMosaic.Pointwise Idealize.SL.Sem Cert.Kernel17Ideal Cert.Kernel17Ideal.Gen

variable (m : (ℓ : Loc nD τ sig) → Buf (Elt Ideal) ℓ)

theorem idx : ∀ t : Fin cfg0.N, win0_0.index t = ![t.val % 10, 0] ∧ win0_1.index t = ![t.val / 10, 0, 0]
    ∧ win0_2.index t = ![t.val / 10 + 2, 0, 0] ∧ win0_3.index t = ![t.val % 10, t.val / 10]
    ∧ win0_4.index t = ![t.val % 10, t.val / 10] ∧ win0_5.index t = ![t.val % 10, t.val / 10] :=
  (by decide +kernel : ∀ t : Fin grid0.N, _)

/-- One point's product of a block of rows and a shard's block. -/
def product (x : Vec Ideal S416x1024 .bf16) (w : Vec Ideal S1x1024x1408 .bf16) (j : S416x1408.Idx) : EReal :=
  ∑ d : Fin 1024, x (ix2 (j 0) d) * w (ix3 0 d (j 1))

theorem block_gate (x : Vec Ideal S416x1024 .bf16) (w : Vec Ideal S1x1024x1408 .bf16) (j : S416x1408.Idx) :
    (k0_pay2 x w j : EReal) = product x w j := by
  unfold product
  pointwise [k0_pay2, k0_pay1]

theorem block_up (x : Vec Ideal S416x1024 .bf16) (w : Vec Ideal S1x1024x1408 .bf16) (j : S416x1408.Idx) :
    (k0_pay3 x w j : EReal) = product x w j := by
  unfold product
  pointwise [k0_pay3, k0_pay1]

theorem block_act (x : Vec Ideal S416x1024 .bf16) (w u : Vec Ideal S1x1024x1408 .bf16) (j : S416x1408.Idx) :
    (k0_pay4 x w u j : EReal) = product x w j * Ideal.logistic (product x w j) * product x u j := by
  rw [← block_gate, ← block_up]
  pointwise [k0_pay4]

/-- The hidden column that block column `j 1` of point `t` is. -/
def at_ (t : Fin cfg0.N) (j : S416x1408.Idx) : S4160x2816.Idx :=
  ix2 (⟨t.val % 10 * 416 + (j 0).val, by have := (j 0).isLt; change (j 0).val < 416 at this; omega⟩ : Fin 4160)
    (⟨t.val / 10 * 1408 + (j 1).val, by have := (j 1).isLt; have : t.val < 20 := t.isLt; change (j 1).val < 1408 at *; omega⟩ : Fin 2816)

theorem gate (c : Dev nD) (t : Fin cfg0.N) (j : S416x1408.Idx) : product (iblk m c 0 t) (iblk m c 1 t) j
    = hidden (V m c main_v12) (V m c main_v13) 0 (by omega) (at_ t j 0) (at_ t j 1) := by
  unfold product hidden at_
  refine Fin.sum_fin_congr fun d => ?_
  refine congrArg₂ (fun a b : EReal => a * b) ?_ ?_ <;> blk_ext [iblk, idx t]

theorem up (c : Dev nD) (t : Fin cfg0.N) (j : S416x1408.Idx) : product (iblk m c 0 t) (iblk m c 2 t) j
    = hidden (V m c main_v12) (V m c main_v13) 2 (by omega) (at_ t j 0) (at_ t j 1) := by
  unfold product hidden at_
  refine Fin.sum_fin_congr fun d => ?_
  refine congrArg₂ (fun a b : EReal => a * b) ?_ ?_ <;> blk_ext [iblk, idx t]

/-- The gate, after the run. -/
theorem array_gate (c : Dev nD) : (dats m 0 c).arrAt 3 cfg0.N
    = (fun i => hidden (V m c main_v12) (V m c main_v13) 0 (by omega) (i 0) (i 1) : S4160x2816.Idx → EReal) := by
  refine (dats m 0 c).arrAt_eq_of_covers 3 _ (by decide +kernel) fun t _ y => ?_
  have place : ((cfg0.win 3).blk t).view.emb y = at_ t y := by
    unfold at_
    blk_ext [idx t]
  rw [place]
  blk_simp
  rw [after0_3]
  frame_out
  refine (block_gate _ _ _).trans (gate m c t y)

/-- What the gate lets through, after the run. -/
theorem array_up (c : Dev nD) : (dats m 0 c).arrAt 4 cfg0.N
    = (fun i => hidden (V m c main_v12) (V m c main_v13) 2 (by omega) (i 0) (i 1) : S4160x2816.Idx → EReal) := by
  refine (dats m 0 c).arrAt_eq_of_covers 4 _ (by decide +kernel) fun t _ y => ?_
  have place : ((cfg0.win 4).blk t).view.emb y = at_ t y := by
    unfold at_
    blk_ext [idx t]
  rw [place]
  blk_simp
  rw [after0_4]
  frame_out
  refine (block_up _ _ _).trans (up m c t y)

/-- The gated product, after the run. -/
theorem array_act (c : Dev nD) : (dats m 0 c).arrAt 5 cfg0.N
    = (fun i => hidden (V m c main_v12) (V m c main_v13) 0 (by omega) (i 0) (i 1) * Ideal.logistic (hidden (V m c main_v12) (V m c main_v13) 0 (by omega) (i 0) (i 1))
      * hidden (V m c main_v12) (V m c main_v13) 2 (by omega) (i 0) (i 1) : S4160x2816.Idx → EReal) := by
  refine (dats m 0 c).arrAt_eq_of_covers 5 _ (by decide +kernel) fun t _ y => ?_
  have place : ((cfg0.win 5).blk t).view.emb y = at_ t y := by
    unfold at_
    blk_ext [idx t]
  rw [place]
  blk_simp
  rw [after0_5]
  frame_out
  refine (block_act _ _ _ _).trans ?_
  rw [gate, up]

end Cert.Products.GateUp
-- ==== Proof.Equations.GateUp.lean ====
/- A feed-forward block's gate, what it lets through, and its activation: the kernel and the reference end with the same array. -/
module

public import proofs.«01_k».proof.Defs
public import proofs.«01_k».proof.Proof.Products.GateUp
public import proofs.«01_k».proof.Proof.Products.Hidden
public import proofs.«01_k».proof.Proof.Gen.Reference17Ideal.Run
public import Idealize.ShloMosaic.Adequacy
public import Idealize.ShloMosaic.Init

@[expose] public section

set_option maxRecDepth 16384

noncomputable section

namespace Cert.Products.GateUp

open Idealize.ShloMosaic Idealize.ShloMosaic.Pointwise Idealize.SL.Sem Cert.Kernel17Ideal Cert.Kernel17Ideal.Gen

variable (m : (ℓ : Loc nD τ sig) → Buf (Elt Ideal) ℓ)

/-- The normalised rows, as the kernel is given them. -/
theorem normal (c : Dev nD) (j : S4160x1024.Idx) : (V m c main_v12 : S4160x1024.Idx → EReal) j
    = rms (m ((c.tc : Thread nD τ).loc main_arg0)) (m ((c.tc : Thread nD τ).loc main_arg1)) (j 0) (j 1) := by
  unfold rms rowRms
  entry_read
  pointwise

theorem weight (c : Dev nD) : (V m c main_v13 : S4x1024x1408.Idx → EReal) = m ((c.tc : Thread nD τ).loc main_arg2) := by
  funext j
  entry_read
  pointwise

/-- The reference declares no semaphore, and its run ends with its arguments as they were. -/
theorem frame_reference : Cert.quiescent_Reference17Ideal := fun m ρ _ =>
  (θ_run Cert.Reference17Ideal.defs _ _).mono
    (fun r h => ⟨fun c => (h c).2.2.2, sem_eq_zero_of_no_sems (by decide) r.2⟩)
    (Cert.Reference17Ideal.Value.run (F := Ideal) m ρ)

/-- Both runs end with the same array. -/
theorem equation : Cert.algebraic_Kernel17Ideal_Reference17Ideal := by
  intro m g m' g' _ hargs
  refine ⟨fun c => (dats m 0 c).arrAt 3 cfg0.N, fun c => (dats m 0 c).arrAt 4 cfg0.N, fun c => (dats m 0 c).arrAt 5 cfg0.N,
    Cert.Kernel17Ideal.Value.run_blocks m g,
    (θ_run Cert.Reference17Ideal.defs _ _).mono (fun r h c => ?_) (Cert.Reference17Ideal.Value.run (F := Ideal) m' g')⟩
  obtain ⟨r0, r1, r2, rest⟩ := h c
  obtain ⟨h0, h1, h2⟩ := hargs c
  refine ⟨r0.trans (Eq.trans ?_ (array_gate m c).symm), r1.trans (Eq.trans ?_ (array_up m c).symm),
    r2.trans (Eq.trans ?_ (array_act m c).symm), rest⟩
  · clear h r0 r1 r2 rest
    rw [h0, h1, h2]
    funext j
    exact (gate_apply _ _ j).trans
      (congrArg₂ (fun (x : Tokens) (w : Shards) => hidden x w 0 (by omega) (j 0) (j 1)) (funext fun i => (rms_apply _ _ i).trans (normal m c i).symm) (weight m c).symm)
  · clear h r0 r1 r2 rest
    rw [h0, h1, h2]
    funext j
    exact (up_apply _ _ j).trans
      (congrArg₂ (fun (x : Tokens) (w : Shards) => hidden x w 2 (by omega) (j 0) (j 1)) (funext fun i => (rms_apply _ _ i).trans (normal m c i).symm) (weight m c).symm)
  · clear h r0 r1 r2 rest
    unfold Cert.Reference17Ideal.Value.res_main_v26
    funext j
    refine (act_apply _ _ j).trans ?_
    rw [h0, h1, h2]
    refine congrArg₂ (fun a b : EReal => a * Ideal.logistic a * b) ?_ ?_
    · exact (gate_apply _ _ j).trans
        (congrArg₂ (fun (x : Tokens) (w : Shards) => hidden x w 0 (by omega) (j 0) (j 1)) (funext fun i => (rms_apply _ _ i).trans (normal m c i).symm) (weight m c).symm)
    · exact (up_apply _ _ j).trans
        (congrArg₂ (fun (x : Tokens) (w : Shards) => hidden x w 2 (by omega) (j 0) (j 1)) (funext fun i => (rms_apply _ _ i).trans (normal m c i).symm) (weight m c).symm)

end Cert.Products.GateUp
-- ==== Proof.Convolution.Spec.lean ====
/- A short causal convolution of one column, the activation and the heads' normalisation after it, and their gradients, in plain
   numbers; and the rotations of rows that compute the shifted columns. -/
module

public import Idealize.ShloMosaic.Lib.Pointwise
public import Idealize.ShloMosaic.Lib.IdealHost
public import Idealize.ShloMosaic.Lib.KernelVsHost
public import Idealize.ShloMosaic.Lib.WordCmp

@[expose] public section

set_option maxRecDepth 16384

noncomputable section

namespace Cert.Convolution

open Idealize.ShloMosaic Idealize.ShloMosaic.Pointwise

abbrev Column : Type := Fin 4160 → EReal

/-- A column `s` rows earlier: nothing before its first row. -/
def behind (s : ℕ) (x : Column) (t : Fin 4160) : EReal :=
  if s ≤ t.val then x ⟨t.val - s, by omega⟩ else 0

/-- A column `s` rows later: nothing after its last row. -/
def ahead (s : ℕ) (x : Column) (t : Fin 4160) : EReal :=
  if h : t.val + s < 4160 then x ⟨t.val + s, h⟩ else 0

/-- The convolution of a column with four taps. -/
def conv (x : Column) (w : Fin 4 → EReal) (t : Fin 4160) : EReal :=
  x t * w 3 + behind 1 x t * w 2 + behind 2 x t * w 1 + behind 3 x t * w 0

/-- The activation. -/
def act (y : EReal) : EReal := y * Ideal.logistic y

/-- The gradient through the activation. -/
def d_act (y g : EReal) : EReal :=
  g * Ideal.logistic y + y * g * (Ideal.logistic y * (1 - Ideal.logistic y))

/-- The gradient of the convolution's column. -/
def d_column (g : Column) (w : Fin 4 → EReal) (t : Fin 4160) : EReal :=
  ahead 3 (fun i => g i * w 0) t + ahead 2 (fun i => g i * w 1) t + ahead 1 (fun i => g i * w 2) t + g t * w 3

/-- The gradient of tap `k`. -/
def d_tap (x g : Column) (k : Fin 4) : EReal := ∑ t : Fin 4160, behind (3 - k.val) x t * g t

/-- The sum of a head's squares, and a little more. -/
def square (a : Fin 128 → EReal) : EReal := ∑ e : Fin 128, a e * a e + Ideal.ofBits .f32 0x358637BD#32

/-- Lane `e` of a head, at length `s`. -/
def unit (s : EReal) (a : Fin 128 → EReal) (e : Fin 128) : EReal := a e * Ideal.rsqrt (square a) * s

/-- The gradient of the sum of a head's squares. -/
def pull (a ct : Fin 128 → EReal) : EReal :=
  ∑ _k : Fin 1, (∑ e : Fin 128, a e * ct e)
    * (Ideal.ofBits .f32 0xBF000000#32 * Ideal.div (Ideal.rsqrt (square a)) (square a))

/-- The gradient of lane `e` of a head through its normalisation. -/
def d_unit (a ct : Fin 128 → EReal) (e : Fin 128) : EReal :=
  ct e * Ideal.rsqrt (square a) + a e * pull a ct + pull a ct * a e

/-- Column `e` of head `h`. -/
def lane (h : Fin 8) (e : Fin 128) : Fin 1024 := ⟨h.val * 128 + e.val, by omega⟩

/-- Column `e` of head `h` in part `o` of the taps' columns. -/
def place (o : Fin 3) (h : Fin 8) (e : Fin 128) : Fin 3072 := ⟨o.val * 1024 + (h.val * 128 + e.val), by omega⟩

/-- Column `e` of head `h` in part `o` of the projection's columns. -/
def wide (o : Fin 3) (h : Fin 8) (e : Fin 128) : Fin 9600 := ⟨o.val * 1024 + (h.val * 128 + e.val), by omega⟩

/-- The head a column belongs to. -/
def head (c : Fin 1024) : Fin 8 := ⟨c.val / 128, by omega⟩

/-- A column's lane within its head. -/
def sub (c : Fin 1024) : Fin 128 := ⟨c.val % 128, Nat.mod_lt _ (by decide)⟩

theorem head_lane (h : Fin 8) (e : Fin 128) : head (lane h e) = h := Fin.ext (by simp only [head, lane]; omega)

theorem sub_lane (h : Fin 8) (e : Fin 128) : sub (lane h e) = e := Fin.ext (by simp only [sub, lane]; omega)

theorem lane_head_sub (c : Fin 1024) : lane (head c) (sub c) = c := Fin.ext (by simp only [head, sub, lane]; omega)

/-- Column `c` of part `o` of the projection's columns, and of the taps'. -/
def wideCol (o : Fin 3) (c : Fin 1024) : Fin 9600 := ⟨o.val * 1024 + c.val, by omega⟩

def tapCol (o : Fin 3) (c : Fin 1024) : Fin 3072 := ⟨o.val * 1024 + c.val, by omega⟩

theorem wideCol_lane (o : Fin 3) (h : Fin 8) (e : Fin 128) : wideCol o (lane h e) = wide o h e := rfl

theorem tapCol_lane (o : Fin 3) (h : Fin 8) (e : Fin 128) : tapCol o (lane h e) = place o h e := rfl

/-- The gradient of lane `e` of a head of the convolution through the activation, the normalisation and the length `s`. -/
def d_head (s : EReal) (y ct : Fin 128 → EReal) (e : Fin 128) : EReal :=
  d_act (y e) (d_unit (fun e => act (y e)) (fun e => ct e * s) e)

/-- The gradient of lane `e` of a head of the convolution through the activation alone. -/
def d_plain (y ct : Fin 128 → EReal) (e : Fin 128) : EReal := d_act (y e) (ct e)

/-- A rule that takes a head of the convolution and its result's gradient to the gradient of the convolution. -/
abbrev Rule : Type := (Fin 128 → EReal) → (Fin 128 → EReal) → Fin 128 → EReal

/-- The gradient of a column of the convolution. -/
def slope (f : Rule) (x : Fin 128 → Column) (w : Fin 128 → Fin 4 → EReal) (ct : Fin 128 → Column) (e : Fin 128) : Column :=
  fun t => f (fun e => conv (x e) (w e) t) (fun e => ct e t) e

abbrev Rows (n : ℕ) : Shape := ⟨2, ![4160, n]⟩

abbrev Taps (n : ℕ) : Shape := ⟨2, ![4, n]⟩

/-- The gradient of a column of the convolution of part `o`, from whole arrays. -/
def slopes (f : Rule) (o : Fin 3) (X : (Rows 9600).Idx → EReal) (W : (Taps 3072).Idx → EReal) (D : (Rows 1024).Idx → EReal)
    (h : Fin 8) (e : Fin 128) : Column :=
  slope f (fun e t => X (ix2 t (wide o h e))) (fun e k => W (ix2 k (place o h e))) (fun e t => D (ix2 t (lane h e))) e

/-- The gradient of the columns of part `o`. -/
def d_columns (f : Rule) (o : Fin 3) (X : (Rows 9600).Idx → EReal) (W : (Taps 3072).Idx → EReal) (D : (Rows 1024).Idx → EReal)
    (i : (Rows 1024).Idx) : EReal :=
  d_column (slopes f o X W D (head (i 1)) (sub (i 1))) (fun k => W (ix2 k (place o (head (i 1)) (sub (i 1))))) (i 0)

/-- The gradient of the taps of part `o`. -/
def d_taps (f : Rule) (o : Fin 3) (X : (Rows 9600).Idx → EReal) (W : (Taps 3072).Idx → EReal) (D : (Rows 1024).Idx → EReal)
    (i : (Taps 1024).Idx) : EReal :=
  d_tap (fun t => X (ix2 t (wide o (head (i 1)) (sub (i 1))))) (slopes f o X W D (head (i 1)) (sub (i 1))) (i 0)

theorem behind_zero (x : Column) (t : Fin 4160) : behind 0 x t = x t := if_pos (Nat.zero_le _)

/-- Rows rotated forward, without those that went around the end, are the columns some rows earlier. -/
theorem rotate_behind {n : ℕ} (s : ℕ) (hs : s < 4160) (v : (Rows n).Idx → EReal) (hi : (Rows n).Iotas .tc 32 [0]) (hr : (Rows n).Rotates 0 none)
    (j : (Rows n).Idx) :
    (select (cmpi .sge (iota .tc (Rows n) 32 [0] hi) (broadcast (Rows n) (BitVec.ofNat 32 s))) (dynamicRotate 0 (BitVec.ofNat 32 s) none v hr)
      (broadcast (Rows n) (Scalar.ofBits (F := Ideal) .f32 0x00000000#32)) j : EReal) = behind s (fun t => v (ix2 t (j 1))) (j 0) := by
  have hj : (j 0).val < 4160 := (j 0).isLt
  have e : IntOp.cmpi .sge (BitVec.ofNat 32 (0 * 4160 + (j 0).val)) (BitVec.ofNat 32 s) = BitVec.ofBool (decide (s ≤ (j 0).val)) := by
    rw [WordCmp.cmpi_sge_ofNat (by omega) (by omega), Nat.zero_mul, Nat.zero_add]
  have z : (Scalar.ofBits (F := Ideal) .f32 0x00000000#32 : EReal) = 0 := Ideal.ofBits_zero_f32
  change Scalar.select (IntOp.cmpi .sge (BitVec.ofNat 32 (0 * 4160 + (j 0).val)) (BitVec.ofNat 32 s)) (dynamicRotate 0 (BitVec.ofNat 32 s) none v hr j)
    (Scalar.ofBits (F := Ideal) .f32 0x00000000#32 : EReal) = _
  rw [e, WordCmp.select_ofBool, z]
  unfold behind
  by_cases h : s ≤ (j 0).val
  · rw [if_pos (decide_eq_true h), if_pos h]
    refine dynamicRotate_apply 0 _ v hr j _ fun b => ?_
    have hn : (BitVec.ofNat 32 s).toNat = s := by rw [BitVec.toNat_ofNat]; omega
    fin_cases b
    · change (j 0).val - s = ((j 0).val + 4160 - (BitVec.ofNat 32 s).toNat % 4160) % 4160
      rw [hn]
      omega
    · rfl
  · rw [if_neg (by simpa using h), if_neg h]

/-- Rows rotated back, without those that went around the end, are the columns some rows later. -/
theorem rotate_ahead {n : ℕ} (s r : ℕ) (hs : 0 < s) (hr' : r + s = 4160) (v : (Rows n).Idx → EReal) (hi : (Rows n).Iotas .tc 32 [0])
    (hr : (Rows n).Rotates 0 none) (j : (Rows n).Idx) :
    (select (cmpi .slt (iota .tc (Rows n) 32 [0] hi) (broadcast (Rows n) (BitVec.ofNat 32 r))) (dynamicRotate 0 (BitVec.ofNat 32 r) none v hr)
      (broadcast (Rows n) (Scalar.ofBits (F := Ideal) .f32 0x00000000#32)) j : EReal) = ahead s (fun t => v (ix2 t (j 1))) (j 0) := by
  have hj : (j 0).val < 4160 := (j 0).isLt
  have e : IntOp.cmpi .slt (BitVec.ofNat 32 (0 * 4160 + (j 0).val)) (BitVec.ofNat 32 r) = BitVec.ofBool (decide ((j 0).val < r)) := by
    rw [WordCmp.cmpi_slt_ofNat (by omega) (by omega), Nat.zero_mul, Nat.zero_add]
  have z : (Scalar.ofBits (F := Ideal) .f32 0x00000000#32 : EReal) = 0 := Ideal.ofBits_zero_f32
  change Scalar.select (IntOp.cmpi .slt (BitVec.ofNat 32 (0 * 4160 + (j 0).val)) (BitVec.ofNat 32 r)) (dynamicRotate 0 (BitVec.ofNat 32 r) none v hr j)
    (Scalar.ofBits (F := Ideal) .f32 0x00000000#32 : EReal) = _
  rw [e, WordCmp.select_ofBool, z]
  unfold ahead
  by_cases h : (j 0).val < r
  · have h' : (j 0).val + s < 4160 := by omega
    rw [if_pos (decide_eq_true h), dif_pos h']
    refine dynamicRotate_apply 0 _ v hr j _ fun b => ?_
    have hn : (BitVec.ofNat 32 r).toNat = r := by rw [BitVec.toNat_ofNat]; omega
    fin_cases b
    · change (j 0).val + s = ((j 0).val + 4160 - (BitVec.ofNat 32 r).toNat % 4160) % 4160
      rw [hn]
      omega
    · rfl
  · rw [if_neg (by simpa using h), dif_neg (by omega)]

/-- Rows with some rows of padding before and after, read from the fourth row on, are the columns some rows later. -/
theorem padded_rows {n : ℕ} (lo hi s : ℕ) (hs : lo + s = 3) (v : (Rows n).Idx → EReal) {u : Shape} (z : u.Idx → EReal)
    (h : (Rows n).Pads ![lo, 0] ![hi, 0] ![0, 0] (⟨2, ![4163, n]⟩ : Shape)) (hu : 0 < u.numel) (hz : z (Shape.Idx.first hu) = 0)
    (i : (⟨2, ![4163, n]⟩ : Shape).Idx) (r : Fin 4160) (c : Fin n) (h0 : (i 0).val = 3 + r.val) (h1 : (i 1).val = c.val) :
    pad (⟨2, ![4163, n]⟩ : Shape) ![lo, 0] ![hi, 0] ![0, 0] v z h hu i = ahead s (fun t => v (ix2 t c)) r := by
  unfold ahead
  by_cases hr : r.val + s < 4160
  · rw [dif_pos hr]
    refine pad_apply_of_inside _ _ _ v z h hu i (ix2 ⟨r.val + s, hr⟩ c) fun a => ?_
    fin_cases a
    · change (i 0).val = lo + (r.val + s) * 1
      omega
    · change (i 1).val = 0 + c.val * 1
      omega
  · rw [dif_neg hr, ← hz]
    refine pad_apply_of_not_inside _ _ _ v z h hu i 0 fun hin => hr ?_
    have last : ((i 0).val - lo) / 1 < 4160 := hin.2.2
    rw [Nat.div_one] at last
    omega

/-- One row with some rows of padding before and after. -/
theorem padded_row {n : ℕ} (lo hi : ℕ) (v : (⟨2, ![1, n]⟩ : Shape).Idx → EReal) {u : Shape} (z : u.Idx → EReal)
    (h : (⟨2, ![1, n]⟩ : Shape).Pads ![lo, 0] ![hi, 0] ![0, 0] (Taps n)) (hu : 0 < u.numel) (hz : z (Shape.Idx.first hu) = 0)
    (i : (Taps n).Idx) : pad (Taps n) ![lo, 0] ![hi, 0] ![0, 0] v z h hu i = if (i 0).val = lo then v (ix2 0 (i 1)) else 0 := by
  by_cases hr : (i 0).val = lo
  · rw [if_pos hr]
    refine pad_apply_of_inside _ _ _ v z h hu i (ix2 0 (i 1)) fun a => ?_
    fin_cases a
    · change (i 0).val = lo + 0 * 1
      omega
    · change (i 1).val = 0 + (i 1).val * 1
      omega
  · rw [if_neg hr, ← hz]
    refine pad_apply_of_not_inside _ _ _ v z h hu i 0 fun hin => hr ?_
    have low : lo ≤ (i 0).val := hin.1
    have last : ((i 0).val - lo) / 1 < 1 := hin.2.2
    rw [Nat.div_one] at last
    omega

theorem ahead_zero (x : Column) (t : Fin 4160) : ahead 0 x t = x t := dif_pos (by omega)

end Cert.Convolution
-- ==== Proof.Convolution.DQuery.lean ====
/- The gradients of the queries' convolution: the kernel's two arrays. -/
module

public import proofs.«01_k».proof.Proof.Gen.Kernel18Ideal.Value
public import proofs.«01_k».proof.Proof.Convolution.Spec
public import Idealize.ShloMosaic.Lib.Pipeline.ValueKit
public import Idealize.ShloMosaic.Lib.Pipeline.ReadBack

@[expose] public section

set_option maxRecDepth 16384

noncomputable section

namespace Cert.Convolution.DQuery

open Idealize.ShloMosaic Idealize.ShloMosaic.Pointwise Idealize.SL.Sem Cert.Kernel18Ideal Cert.Kernel18Ideal.Gen

variable (m : (ℓ : Loc nD τ sig) → Buf (Elt Ideal) ℓ)

theorem idx : ∀ t : Fin cfg0.N, win0_0.index t = ![0, t.val + 0] ∧ win0_1.index t = ![0, t.val + 0] ∧ win0_2.index t = ![0, t.val]
    ∧ win0_3.index t = ![0, t.val] ∧ win0_4.index t = ![0, t.val] :=
  (by decide +kernel : ∀ t : Fin grid0.N, _)

/-- A block's convolved column. -/
def conved (x : Vec Ideal S4160x128 .f32) (w : Vec Ideal S4x128 .f32) (t : Fin 4160) (e : Fin 128) : EReal :=
  conv (fun i => x (ix2 i e)) (fun k => w (ix2 k e)) t

/-- The rule of the queries' heads. -/
abbrev rule : Rule := d_head (Ideal.ofBits .f32 0x3DB504F3#32)

/-- A block's gradient of the convolved column. -/
def pulled (x : Vec Ideal S4160x128 .f32) (w : Vec Ideal S4x128 .f32) (ct : Vec Ideal S4160x128 .f32) (t : Fin 4160) (e : Fin 128) : EReal :=
  slope rule (fun e t => x (ix2 t e)) (fun e k => w (ix2 k e)) (fun e t => ct (ix2 t e)) e t

theorem behind1 (x : Vec Ideal S4160x128 .f32) (j : S4160x128.Idx) : (k0_pay4 x j : EReal) = behind 1 (fun t => x (ix2 t (j 1))) (j 0) :=
  rotate_behind 1 (by omega) x _ _ j

theorem behind2 (x : Vec Ideal S4160x128 .f32) (j : S4160x128.Idx) : (k0_pay6 x j : EReal) = behind 2 (fun t => x (ix2 t (j 1))) (j 0) :=
  rotate_behind 2 (by omega) x _ _ j

theorem behind3 (x : Vec Ideal S4160x128 .f32) (j : S4160x128.Idx) : (k0_pay8 x j : EReal) = behind 3 (fun t => x (ix2 t (j 1))) (j 0) :=
  rotate_behind 3 (by omega) x _ _ j

/-- The convolution. -/
theorem forward (x : Vec Ideal S4160x128 .f32) (w : Vec Ideal S4x128 .f32) (j : S4160x128.Idx) :
    (k0_pay10 x w j : EReal) = conved x w (j 0) (j 1) := by
  unfold conved conv
  pointwise [k0_pay10, k0_pay3, k0_pay5, k0_pay7, k0_pay9, behind1, behind2, behind3]

/-- The gradient through the activation and the normalisation. -/
theorem backward (y l r a : FVec Ideal S4160x128 .f32) (n : FVec Ideal S4160x1 .f32) (ct : Vec Ideal S4160x128 .f32)
    (hl : ∀ j, (l j : EReal) = Ideal.logistic (y j)) (hr : ∀ j, (r j : EReal) = Ideal.logistic (y j) * (1 - Ideal.logistic (y j)))
    (ha : ∀ j, (a j : EReal) = act (y j)) (hn : ∀ j, (n j : EReal) = ∑ e : Fin 128, a (ix2 (j 0) e) * a (ix2 (j 0) e)) (j : S4160x128.Idx) :
    (k0_pay15 y l r a n (Scalar.ofBits .f32 0x358637BD#32) ct j : EReal)
      = rule (fun e => y (ix2 (j 0) e)) (fun e => ct (ix2 (j 0) e)) (j 1) := by
  have y1 : y (ix2 (j 0) (j 1)) = y j := congrArg y (ix2_eta j)
  unfold rule d_head d_act d_unit pull square
  simp only [y1]
  simp only [← ha, ← hr]
  simp only [← hl]
  pointwise [k0_pay15, hn]

theorem pulled_eq (x : Vec Ideal S4160x128 .f32) (w : Vec Ideal S4x128 .f32) (ct : Vec Ideal S4160x128 .f32) (j : S4160x128.Idx) :
    (k0_pay15 (k0_pay10 x w) (k0_pay11 x w) (k0_pay12 x w) (k0_pay13 x w) (k0_pay14 x w) (Scalar.ofBits .f32 0x358637BD#32) ct j : EReal)
      = pulled x w ct (j 0) (j 1) := by
  refine (backward _ _ _ _ _ _ (fun j => ?_) (fun j => ?_) (fun j => ?_) (fun j => ?_) j).trans ?_
  · pointwise [k0_pay11]
  · pointwise [k0_pay12, k0_pay11]
  · unfold act
    pointwise [k0_pay13, k0_pay11]
  · pointwise [k0_pay14]
  · unfold pulled slope
    simp only [forward]
    rfl

/-- The gradient of the block's columns, from the gradient of the convolution. -/
theorem column (w3 w2 : FVec Ideal S1x128 .f32) (g a b : FVec Ideal S4160x128 .f32) (j : S4160x128.Idx) :
    (k0_pay2 w3 w2 g a b j : EReal) = a j + ahead 2 (fun t => b (ix2 t (j 1))) (j 0)
      + ahead 1 (fun t => g (ix2 t (j 1)) * w2 (ix2 0 (j 1))) (j 0) + g j * w3 (ix2 0 (j 1)) := by
  refine congrArg₂ (fun a b : EReal => a + b) (congrArg₂ (fun a b : EReal => a + b) (congrArg₂ (fun a b : EReal => a + b) rfl ?_) ?_) ?_
  · exact rotate_ahead 2 4158 (by omega) rfl b _ _ j
  · refine (rotate_ahead 1 4159 (by omega) rfl _ _ _ j).trans (congrArg (fun f : Column => ahead 1 f (j 0)) (funext fun t => ?_))
    pointwise
  · pointwise

/-- The gradient of the block's taps, from the gradient of the convolution. -/
theorem taps (x x1 g : FVec Ideal S4160x128 .f32) (a : FVec Ideal S4x128 .f32) (b c : FVec Ideal S2x128 .f32) (j : S4x128.Idx) :
    (k0_pay1 x x1 g a b c j : EReal) = a j + (if h : (j 0).val < 2 then b (ix2 (⟨(j 0).val, h⟩ : Fin 2) (j 1)) else c (ix2 (⟨(j 0).val - 2, by have : (j 0).val < 4 := (j 0).isLt; show (j 0).val - 2 < 2; omega⟩ : Fin 2) (j 1)))
      + (if (j 0).val = 2 then ∑ t : Fin 4160, x1 (ix2 t (j 1)) * g (ix2 t (j 1)) else 0)
      + (if (j 0).val = 3 then ∑ t : Fin 4160, x (ix2 t (j 1)) * g (ix2 t (j 1)) else 0) := by
  have bound : (j 0).val < 4 := (j 0).isLt
  pointwise [k0_pay1]
  refine congrArg₂ (fun a b : EReal => a + b) (congrArg₂ (fun a b : EReal => a + b) ?_ ?_) ?_ <;>
    split_ifs <;> first | rfl | omega

/-- The row of tap 0. -/
theorem tap0 (x3 y l r a : FVec Ideal S4160x128 .f32) (n : FVec Ideal S4160x1 .f32) (z : Ideal .f32) (ct : Vec Ideal S4160x128 .f32) (j : S4x128.Idx) :
    (k0_pay16 x3 y l r a n z ct j : EReal)
      = if (j 0).val = 0 then ∑ t : Fin 4160, x3 (ix2 t (j 1)) * k0_pay15 y l r a n z ct (ix2 t (j 1)) else 0 := by
  have bound : (j 0).val < 4 := (j 0).isLt
  pointwise [k0_pay16]
  split_ifs <;> first | rfl | omega

/-- The row of tap 1. -/
theorem tap1 (x2 y l r a : FVec Ideal S4160x128 .f32) (n : FVec Ideal S4160x1 .f32) (z : Ideal .f32) (ct : Vec Ideal S4160x128 .f32) (j : S2x128.Idx) :
    (k0_pay19 x2 y l r a n z ct j : EReal)
      = if (j 0).val = 1 then ∑ t : Fin 4160, x2 (ix2 t (j 1)) * k0_pay15 y l r a n z ct (ix2 t (j 1)) else 0 := by
  have bound : (j 0).val < 2 := (j 0).isLt
  pointwise [k0_pay19]
  split_ifs <;> first | rfl | omega

theorem no_tap (j : S2x128.Idx) : (k0_pay20 (F := Ideal) j : EReal) = 0 := by
  pointwise [k0_pay20]

/-- What a point stores of the columns' gradient. -/
theorem columns_block (x : Vec Ideal S4160x128 .f32) (w : Vec Ideal S4x128 .f32) (ct : Vec Ideal S4160x128 .f32) (j : S4160x128.Idx) :
    (out0_3 x w ct j : EReal) = d_column (fun t => pulled x w ct t (j 1)) (fun k => w (ix2 k (j 1))) (j 0) := by
  have g (j : S4160x128.Idx) := pulled_eq x w ct j
  unfold_out out0_3
  frame_out
  refine (column _ _ _ _ _ j).trans ?_
  unfold d_column
  refine congrArg₂ (fun a b : EReal => a + b) (congrArg₂ (fun a b : EReal => a + b) (congrArg₂ (fun a b : EReal => a + b) ?_ ?_) ?_) ?_
  · refine (rotate_ahead 3 4157 (by omega) rfl _ _ _ j).trans (congrArg (fun f : Column => ahead 3 f (j 0)) (funext fun t => ?_))
    pointwise [k0_pay9]
    exact congrArg (fun a : EReal => a * _) (g _)
  · refine congrArg (fun f : Column => ahead 2 f (j 0)) (funext fun t => ?_)
    pointwise [k0_pay18, k0_pay7]
    exact congrArg (fun a : EReal => a * _) (g _)
  · refine congrArg (fun f : Column => ahead 1 f (j 0)) (funext fun t => ?_)
    pointwise [k0_pay5]
    exact congrArg (fun a : EReal => a * _) (g _)
  · pointwise [k0_pay3]
    exact congrArg (fun a : EReal => a * _) (g _)

/-- What a point stores of the taps' gradient. -/
theorem taps_block (x : Vec Ideal S4160x128 .f32) (w : Vec Ideal S4x128 .f32) (ct : Vec Ideal S4160x128 .f32) (j : S4x128.Idx) :
    (out0_4 x w ct j : EReal) = d_tap (fun t => x (ix2 t (j 1))) (fun t => pulled x w ct t (j 1)) (j 0) := by
  have g (j : S4160x128.Idx) := pulled_eq x w ct j
  unfold_out out0_4
  frame_out
  refine (taps _ _ _ _ _ _ j).trans ?_
  simp only [tap0, tap1, no_tap, g, behind1, behind2, behind3]
  unfold d_tap
  have bound : (j 0).val < 4 := (j 0).isLt
  have cases : (j 0).val = 0 ∨ (j 0).val = 1 ∨ (j 0).val = 2 ∨ (j 0).val = 3 := by omega
  rcases cases with h | h | h | h
  all_goals
    simp only [h, behind_zero]
    simp
    try exact Finset.sum_congr rfl fun t _ => by rw [behind_zero]

/-- The projection's rows. -/
def xs (c : Dev nD) : (Rows 9600).Idx → EReal := m ((c.tc : Thread nD τ).loc main_arg0)

/-- The taps. -/
def ws (c : Dev nD) : (Taps 3072).Idx → EReal := m ((c.tc : Thread nD τ).loc main_arg1)

/-- The gradient of the result. -/
def ds (c : Dev nD) : (Rows 1024).Idx → EReal := m ((c.tc : Thread nD τ).loc main_arg2)

/-- The arrays' blocks at a point, as columns of the whole arrays. -/
theorem slopes_at (c : Dev nD) (t : Fin cfg0.N) (e : Fin 128) :
    (fun r => pulled (iblk m c 0 t) (iblk m c 1 t) (iblk m c 2 t) r e)
      = slopes rule 0 (xs m c) (ws m c) (ds m c) (⟨t.val, t.isLt⟩ : Fin 8) e := by
  unfold pulled slopes
  have three {x x' : Fin 128 → Column} {w w' : Fin 128 → Fin 4 → EReal} {d d' : Fin 128 → Column} (hx : x = x') (hw : w = w') (hd : d = d') :
      slope rule x w d e = slope rule x' w' d' e := by rw [hx, hw, hd]
  refine three ?_ ?_ ?_ <;> funext e r
  · blk_ext [iblk, V, xs, wide, idx t]
  · blk_ext [iblk, V, ws, place, idx t]
  · blk_ext [iblk, V, ds, lane, idx t]

theorem taps_at (c : Dev nD) (t : Fin cfg0.N) (e : Fin 128) (k : Fin 4) :
    ((iblk m c 1 t : S4x128.Idx → EReal) (ix2 k e)) = (ws m c) (ix2 k (place 0 (⟨t.val, t.isLt⟩ : Fin 8) e)) := by
  blk_ext [iblk, V, ws, place, idx t]

theorem rows_at (c : Dev nD) (t : Fin cfg0.N) (e : Fin 128) (r : Fin 4160) :
    ((iblk m c 0 t : S4160x128.Idx → EReal) (ix2 r e)) = (xs m c) (ix2 r (wide 0 (⟨t.val, t.isLt⟩ : Fin 8) e)) := by
  blk_ext [iblk, V, xs, wide, idx t]

/-- What point `t` stores of the columns' gradient, from whole arrays. -/
theorem columns_at (c : Dev nD) (t : Fin cfg0.N) (j : S4160x128.Idx) :
    (out0_3 (iblk m c 0 t) (iblk m c 1 t) (iblk m c 2 t) j : EReal)
      = d_columns rule 0 (xs m c) (ws m c) (ds m c) (ix2 (j 0) (lane (⟨t.val, t.isLt⟩ : Fin 8) (j 1))) := by
  refine (columns_block _ _ _ j).trans ?_
  have spot (h : Fin 8) (e : Fin 128) (r : Fin 4160) : d_columns rule 0 (xs m c) (ws m c) (ds m c) (ix2 r (lane h e))
      = d_column (slopes rule 0 (xs m c) (ws m c) (ds m c) h e) (fun k => ws m c (ix2 k (place 0 h e))) r := by
    unfold d_columns
    change d_column (slopes _ _ _ _ _ (head (lane h e)) (sub (lane h e))) (fun k => ws m c (ix2 k (place 0 (head (lane h e)) (sub (lane h e))))) r = _
    rw [head_lane, sub_lane]
  exact (congrArg₂ (fun f g => d_column f g (j 0)) (slopes_at m c t (j 1)) (funext fun k => taps_at m c t (j 1) k)).trans (spot _ _ _).symm

/-- What point `t` stores of the taps' gradient, from whole arrays. -/
theorem tap_at (c : Dev nD) (t : Fin cfg0.N) (j : S4x128.Idx) :
    (out0_4 (iblk m c 0 t) (iblk m c 1 t) (iblk m c 2 t) j : EReal)
      = d_taps rule 0 (xs m c) (ws m c) (ds m c) (ix2 (j 0) (lane (⟨t.val, t.isLt⟩ : Fin 8) (j 1))) := by
  refine (taps_block _ _ _ j).trans ?_
  have spot (h : Fin 8) (e : Fin 128) (k : Fin 4) : d_taps rule 0 (xs m c) (ws m c) (ds m c) (ix2 k (lane h e))
      = d_tap (fun r => xs m c (ix2 r (wide 0 h e))) (slopes rule 0 (xs m c) (ws m c) (ds m c) h e) k := by
    unfold d_taps
    change d_tap (fun r => xs m c (ix2 r (wide 0 (head (lane h e)) (sub (lane h e))))) (slopes _ _ _ _ _ (head (lane h e)) (sub (lane h e))) k = _
    rw [head_lane, sub_lane]
  exact (congrArg₂ (fun f g => d_tap f g (j 0)) (funext fun r => rows_at m c t (j 1) r) (slopes_at m c t (j 1))).trans (spot _ _ _).symm

/-- The columns' gradient after the run. -/
theorem array_columns (c : Dev nD) : (dats m 0 c).arrAt 3 cfg0.N
    = (d_columns rule 0 (xs m c) (ws m c) (ds m c) : S4160x1024.Idx → EReal) := by
  refine (dats m 0 c).arrAt_eq_of_covers 3 _ (by decide +kernel) fun t _ y => ?_
  blk_simp
  rw [after0_3]
  have spot : ((cfg0.win 3).blk t).view.emb y = (ix2 (y 0) (lane (⟨t.val, t.isLt⟩ : Fin 8) (y 1)) : S4160x1024.Idx) := by
    blk_ext [lane, idx t]
  exact (columns_at m c t y).trans (congrArg (d_columns _ _ _ _ _) spot).symm

/-- The taps' gradient after the run. -/
theorem array_taps (c : Dev nD) : (dats m 0 c).arrAt 4 cfg0.N
    = (d_taps rule 0 (xs m c) (ws m c) (ds m c) : S4x1024.Idx → EReal) := by
  refine (dats m 0 c).arrAt_eq_of_covers 4 _ (by decide +kernel) fun t _ y => ?_
  blk_simp
  rw [after0_4]
  have spot : ((cfg0.win 4).blk t).view.emb y = (ix2 (y 0) (lane (⟨t.val, t.isLt⟩ : Fin 8) (y 1)) : S4x1024.Idx) := by
    blk_ext [lane, idx t]
  exact (tap_at m c t y).trans (congrArg (d_taps _ _ _ _ _) spot).symm

end Cert.Convolution.DQuery
-- ==== Proof.Equations.DQuery.lean ====
/- The gradients of the queries' convolution: the kernel and the reference end with the same arrays. -/
module

public import proofs.«01_k».proof.Defs
public import proofs.«01_k».proof.Proof.Convolution.DQuery
public import proofs.«01_k».proof.Proof.Gen.Reference18Ideal.Run
public import Idealize.ShloMosaic.Adequacy
public import Idealize.ShloMosaic.Init

@[expose] public section

set_option maxRecDepth 16384

noncomputable section

namespace Cert.Convolution.DQuery

open Idealize.ShloMosaic Idealize.ShloMosaic.Pointwise Idealize.SL.Sem

section Reference

open Cert.Reference18Ideal Cert.Reference18Ideal.Gen Cert.Reference18Ideal.Value

variable (V0 : Valuation τ sig (Elt Ideal))

/-- The reference's projection's rows, taps, and the gradient of its result. -/
def rx : (Rows 9600).Idx → EReal := V0 (Proc.devRef .tc main_arg0)

def rw' : (Taps 3072).Idx → EReal := V0 (Proc.devRef .tc main_arg1)

def rd : (Rows 1024).Idx → EReal := V0 (Proc.devRef .tc main_arg2)

theorem r5 (j : S4160x1024.Idx) : (res_main_v5 V0 j : EReal) = behind 3 (fun t => rx V0 (ix2 t (wideCol 0 (j 1)))) (j 0) := by
  have bound : (j 0).val < 4160 := (j 0).isLt
  unfold behind rx
  pointwise [res_main_v5, res_main_v3]
  by_cases h : 3 ≤ (j 0).val
  · rw [dif_neg (by omega), if_pos h]
    refine congrArg _ (congrArg₂ ix2 (Fin.ext ?_) (Fin.ext ?_))
    · change (j 0).val - 3 = (j 0).val - 3
      omega
    · change (j 1).val = 0 * 1024 + (j 1).val
      omega
  · rw [dif_pos (by omega), if_neg h]

theorem r11 (j : S4160x1024.Idx) : (res_main_v11 V0 j : EReal) = behind 2 (fun t => rx V0 (ix2 t (wideCol 0 (j 1)))) (j 0) := by
  have bound : (j 0).val < 4160 := (j 0).isLt
  unfold behind rx
  pointwise [res_main_v11, res_main_v3]
  by_cases h : 2 ≤ (j 0).val
  · rw [dif_neg (by omega), if_pos h]
    refine congrArg _ (congrArg₂ ix2 (Fin.ext ?_) (Fin.ext ?_))
    · change 1 + (j 0).val - 3 = (j 0).val - 2
      omega
    · change (j 1).val = 0 * 1024 + (j 1).val
      omega
  · rw [dif_pos (by omega), if_neg h]

theorem r18 (j : S4160x1024.Idx) : (res_main_v18 V0 j : EReal) = behind 1 (fun t => rx V0 (ix2 t (wideCol 0 (j 1)))) (j 0) := by
  have bound : (j 0).val < 4160 := (j 0).isLt
  unfold behind rx
  pointwise [res_main_v18, res_main_v3]
  by_cases h : 1 ≤ (j 0).val
  · rw [dif_neg (by omega), if_pos h]
    refine congrArg _ (congrArg₂ ix2 (Fin.ext ?_) (Fin.ext ?_))
    · change 2 + (j 0).val - 3 = (j 0).val - 1
      omega
    · change (j 1).val = 0 * 1024 + (j 1).val
      omega
  · rw [dif_pos (by omega), if_neg h]

theorem r25 (j : S4160x1024.Idx) : (res_main_v25 V0 j : EReal) = rx V0 (ix2 (j 0) (wideCol 0 (j 1))) := by
  unfold rx
  pointwise [res_main_v25, res_main_v3]
  refine congrArg _ (congrArg₂ ix2 rfl (Fin.ext ?_))
  change (j 1).val = 0 * 1024 + (j 1).val
  omega

theorem r8 (j : S1x1024.Idx) : (res_main_v8 V0 j : EReal) = rw' V0 (ix2 0 (tapCol 0 (j 1))) := by
  unfold rw'
  pointwise [res_main_v8, res_main_v1]
  exact congrArg _ (congrArg₂ ix2 rfl (Fin.ext (by simp [tapCol])))

theorem r14 (j : S1x1024.Idx) : (res_main_v14 V0 j : EReal) = rw' V0 (ix2 1 (tapCol 0 (j 1))) := by
  unfold rw'
  pointwise [res_main_v14, res_main_v1]
  exact congrArg _ (congrArg₂ ix2 rfl (Fin.ext (by simp [tapCol])))

theorem r21 (j : S1x1024.Idx) : (res_main_v21 V0 j : EReal) = rw' V0 (ix2 2 (tapCol 0 (j 1))) := by
  unfold rw'
  pointwise [res_main_v21, res_main_v1]
  exact congrArg _ (congrArg₂ ix2 rfl (Fin.ext (by simp [tapCol])))

theorem r28 (j : S1x1024.Idx) : (res_main_v28 V0 j : EReal) = rw' V0 (ix2 3 (tapCol 0 (j 1))) := by
  unfold rw'
  pointwise [res_main_v28, res_main_v1]
  exact congrArg _ (congrArg₂ ix2 rfl (Fin.ext (by simp [tapCol])))

/-- The convolution. -/
theorem r31 (j : S4160x1024.Idx) : (res_main_v31 V0 j : EReal)
    = conv (fun t => rx V0 (ix2 t (wideCol 0 (j 1)))) (fun k => rw' V0 (ix2 k (tapCol 0 (j 1)))) (j 0) := by
  unfold conv
  pointwise [res_main_v31, r5, r8, r11, r14, r18, r21, r25, r28]
  have turn (a b c d : EReal) : a + b + c + d = d + c + b + a := by abel
  exact turn _ _ _ _

theorem r32 (j : S4160x1024.Idx) : (res_main_v32_2 V0 j : EReal) = Ideal.logistic (res_main_v31 V0 j) := by
  unfold Ideal.logistic
  pointwise [res_main_v32_2]

theorem r33 (j : S4160x8x128.Idx) : (res_main_v33 V0 j : EReal) = act (res_main_v31 V0 (ix2 (j 0) (lane (j 1) (j 2)))) := by
  unfold act
  pointwise [res_main_v33, r32]
  rfl

theorem r38 (j : S4160x8x1.Idx) : (res_main_v38 V0 j : EReal) = square (fun e => res_main_v33 V0 (ix3 (j 0) (j 1) e)) := by
  unfold square
  pointwise [res_main_v38]

theorem r50 (j : S4160x8x128.Idx) : (res_main_v50 V0 j : EReal) = rd V0 (ix2 (j 0) (lane (j 1) (j 2))) * Ideal.ofBits .f32 0x3DB504F3#32 := by
  unfold rd
  pointwise [res_main_v50]
  rfl

theorem r58 (j : S4160x8x128.Idx) : (res_main_v58 V0 j : EReal)
    = pull (fun e => res_main_v33 V0 (ix3 (j 0) (j 1) e)) (fun e => res_main_v50 V0 (ix3 (j 0) (j 1) e)) := by
  unfold pull
  pointwise [res_main_v58, res_main_v39, r38]

theorem r63 (j : S4160x1024.Idx) : (res_main_v63 V0 j : EReal)
    = d_unit (fun e => res_main_v33 V0 (ix3 (j 0) (head (j 1)) e)) (fun e => res_main_v50 V0 (ix3 (j 0) (head (j 1)) e)) (sub (j 1)) := by
  unfold d_unit
  pointwise [res_main_v63, res_main_v39, r38, r58]
  rfl

theorem r64 (j : S4160x1024.Idx) : (res_main_v64 V0 j : EReal) = d_act (res_main_v31 V0 j) (res_main_v63 V0 j) := by
  unfold d_act
  pointwise [res_main_v64, r32]

/-- The gradient of the convolution. -/
theorem slope_reference (h : Fin 8) (e : Fin 128) (t : Fin 4160) :
    (res_main_v64 V0 (ix2 t (lane h e)) : EReal) = slopes rule 0 (rx V0) (rw' V0) (rd V0) h e t := by
  have hh : head (ix2 t (lane h e) 1) = h := head_lane h e
  rw [r64, r63, hh]
  unfold slopes slope rule d_head
  simp only [r33, r50, r31]
  change d_act _ (d_unit _ _ (sub (lane h e))) = _
  rw [sub_lane]
  rfl

theorem slope_at (j : S4160x1024.Idx) :
    (res_main_v64 V0 j : EReal) = slopes rule 0 (rx V0) (rw' V0) (rd V0) (head (j 1)) (sub (j 1)) (j 0) := by
  have spot : j = ix2 (j 0) (lane (head (j 1)) (sub (j 1))) :=
    (ix2_eta j).symm.trans (congrArg (ix2 (j 0)) (lane_head_sub (j 1)).symm)
  exact (congrArg (res_main_v64 V0) spot).trans (slope_reference V0 _ _ _)

theorem tapCol_head (j : Fin 1024) : tapCol 0 j = place 0 (head j) (sub j) :=
  (congrArg (tapCol 0) (lane_head_sub j)).symm

theorem wideCol_head (j : Fin 1024) : wideCol 0 j = wide 0 (head j) (sub j) :=
  (congrArg (wideCol 0) (lane_head_sub j)).symm

theorem zero_first : (constant (F := Ideal) S_ .f32 0x00000000#32 (Shape.Idx.first h_S_) : EReal) = 0 := Ideal.ofBits_zero_f32

/-- The reference's gradient of the columns. -/
theorem columns_reference (j : S4160x1024.Idx) :
    (truncf .bf16 (extractStridedSlice S4160x1024 ![3, 0] (res_main_v106 V0) slices_S4163x1024_S4160x1024_3_0) bitsLt_bf16_f32 j : EReal)
      = d_columns rule 0 (rx V0) (rw' V0) (rd V0) j := by
  have turn (a b c d : EReal) : a + b + c + d = d + c + b + a := by abel
  have tap (k : Fin 4) : rw' V0 (ix2 k (tapCol 0 (j 1))) = rw' V0 (ix2 k (place 0 (head (j 1)) (sub (j 1)))) :=
    congrArg (fun c => rw' V0 (ix2 k c)) (tapCol_head (j 1))
  unfold d_columns d_column
  refine Eq.trans ?_ (turn _ _ _ _)
  refine congrArg₂ (fun a b : EReal => a + b) (congrArg₂ (fun a b : EReal => a + b) (congrArg₂ (fun a b : EReal => a + b) ?_ ?_) ?_) ?_
  · refine (padded_rows 3 0 0 rfl _ _ _ _ zero_first _ (j 0) (j 1) rfl (Nat.zero_add _)).trans ((ahead_zero _ _).trans ?_)
    pointwise [slope_at, r28]
    exact congrArg (fun a : EReal => _ * a) (tap 3)
  · refine (padded_rows 2 1 1 rfl _ _ _ _ zero_first _ (j 0) (j 1) rfl (Nat.zero_add _)).trans (congrArg (fun f : Column => ahead 1 f (j 0)) (funext fun t => ?_))
    pointwise [slope_at, r21]
    exact congrArg (fun a : EReal => _ * a) (tap 2)
  · refine (padded_rows 1 2 2 rfl _ _ _ _ zero_first _ (j 0) (j 1) rfl (Nat.zero_add _)).trans (congrArg (fun f : Column => ahead 2 f (j 0)) (funext fun t => ?_))
    pointwise [slope_at, r14]
    exact congrArg (fun a : EReal => _ * a) (tap 1)
  · refine (padded_rows 0 3 3 rfl _ _ _ _ zero_first _ (j 0) (j 1) rfl (Nat.zero_add _)).trans (congrArg (fun f : Column => ahead 3 f (j 0)) (funext fun t => ?_))
    pointwise [slope_at, r8]
    exact congrArg (fun a : EReal => _ * a) (tap 0)

/-- One row of the taps' gradient, as the reference computes it. -/
theorem row_reference (f g : FVec Ideal S4160x1024 .f32) (j : S1x1024.Idx) :
    (broadcastInDim S1x1024 ![1] bcast_S1024_S1x1024_1 (Host.reduceAdd (shapeCast _ (Host.reduceAdd (mulf f g) (constant S_ .f32 0x00000000#32)
      reducesTo_S4160x1024_S1024_d0 h_S_) shapeCasts_S1024_S1x1024) (constant S_ .f32 0x00000000#32) reducesTo_S1x1024_S1024_d0 h_S_) j : EReal)
      = ∑ t : Fin 4160, f (ix2 t (j 1)) * g (ix2 t (j 1)) := by
  pointwise
  simp

/-- The reference's gradient of the taps. -/
theorem taps_reference (j : S4x1024.Idx) :
    (addf (addf (addf (pad S4x1024 ![3, 0] ![0, 0] ![0, 0] (broadcastInDim S1x1024 ![1] bcast_S1024_S1x1024_1 (Host.reduceAdd (shapeCast _ (Host.reduceAdd (mulf (res_main_v25 V0) (res_main_v64 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_300_000 h_S_) (pad S4x1024 ![2, 0] ![1, 0] ![0, 0] (broadcastInDim S1x1024 ![1] bcast_S1024_S1x1024_1 (Host.reduceAdd (shapeCast _ (Host.reduceAdd (mulf (res_main_v18 V0) (res_main_v64 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_210_000 h_S_)) (pad S4x1024 ![1, 0] ![2, 0] ![0, 0] (broadcastInDim S1x1024 ![1] bcast_S1024_S1x1024_1 (Host.reduceAdd (shapeCast _ (Host.reduceAdd (mulf (res_main_v11 V0) (res_main_v64 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_120_000 h_S_)) (pad S4x1024 ![0, 0] ![3, 0] ![0, 0] (broadcastInDim S1x1024 ![1] bcast_S1024_S1x1024_1 (Host.reduceAdd (shapeCast _ (Host.reduceAdd (mulf (res_main_v5 V0) (res_main_v64 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_030_000 h_S_) j : EReal)
      = d_taps rule 0 (rx V0) (rw' V0) (rd V0) j := by
  have g (t : Fin 4160) : (res_main_v64 V0 (ix2 t (j 1)) : EReal) = slopes rule 0 (rx V0) (rw' V0) (rd V0) (head (j 1)) (sub (j 1)) t :=
    slope_at V0 _
  have col (t : Fin 4160) : rx V0 (ix2 t (wideCol 0 (j 1))) = rx V0 (ix2 t (wide 0 (head (j 1)) (sub (j 1)))) :=
    congrArg (fun c => rx V0 (ix2 t c)) (wideCol_head (j 1))
  have sum (s : ℕ) (f : FVec Ideal S4160x1024 .f32)
      (hf : ∀ t : Fin 4160, (f (ix2 t (j 1)) : EReal) = behind s (fun t => rx V0 (ix2 t (wideCol 0 (j 1)))) t) (hs : s = 3 - (j 0).val) :
      (broadcastInDim S1x1024 ![1] bcast_S1024_S1x1024_1 (Host.reduceAdd (shapeCast _ (Host.reduceAdd (mulf f (res_main_v64 V0))
        (constant S_ .f32 0x00000000#32) reducesTo_S4160x1024_S1024_d0 h_S_) shapeCasts_S1024_S1x1024) (constant S_ .f32 0x00000000#32)
        reducesTo_S1x1024_S1024_d0 h_S_) (ix2 0 (j 1)) : EReal)
        = ∑ t : Fin 4160, behind (3 - (j 0).val) (fun t => rx V0 (ix2 t (wide 0 (head (j 1)) (sub (j 1))))) t
          * slopes rule 0 (rx V0) (rw' V0) (rd V0) (head (j 1)) (sub (j 1)) t := by
    rw [← hs]
    exact (row_reference f (res_main_v64 V0) (ix2 0 (j 1))).trans (Finset.sum_congr rfl fun t _ =>
      congrArg₂ (fun a b : EReal => a * b) ((hf t).trans (congrArg (fun f : Column => behind s f t) (funext col))) (g t))
  have bound : (j 0).val < 4 := (j 0).isLt
  refine (congrArg₂ (fun a b : EReal => a + b) (congrArg₂ (fun a b : EReal => a + b) (congrArg₂ (fun a b : EReal => a + b)
    (padded_row 3 0 _ _ _ _ zero_first j) (padded_row 2 1 _ _ _ _ zero_first j)) (padded_row 1 2 _ _ _ _ zero_first j))
    (padded_row 0 3 _ _ _ _ zero_first j)).trans ?_
  have cases : (j 0).val = 0 ∨ (j 0).val = 1 ∨ (j 0).val = 2 ∨ (j 0).val = 3 := by omega
  have pick (a b c d : EReal) : (if (j 0).val = 3 then a else 0) + (if (j 0).val = 2 then b else 0) + (if (j 0).val = 1 then c else 0)
      + (if (j 0).val = 0 then d else 0) = if (j 0).val = 3 then a else if (j 0).val = 2 then b else if (j 0).val = 1 then c else d := by
    rcases cases with h | h | h | h <;> simp [h]
  refine (pick _ _ _ _).trans ?_
  rcases cases with h | h | h | h
  · rw [if_neg (by omega), if_neg (by omega), if_neg (by omega)]
    exact sum 3 _ (fun t => r5 V0 _) (by omega)
  · rw [if_neg (by omega), if_neg (by omega), if_pos h]
    exact sum 2 _ (fun t => r11 V0 _) (by omega)
  · rw [if_neg (by omega), if_pos h]
    exact sum 1 _ (fun t => r18 V0 _) (by omega)
  · rw [if_pos h]
    exact sum 0 _ (fun t => (r25 V0 _).trans (behind_zero (fun t => rx V0 (ix2 t (wideCol 0 (j 1)))) t).symm) (by omega)

end Reference

variable (m : (ℓ : Loc Cert.Kernel18Ideal.nD Cert.Kernel18Ideal.τ Cert.Kernel18Ideal.sig) → Buf (Elt Ideal) ℓ)

/-- The reference declares no semaphore, and its run ends with its arguments as they were. -/
theorem frame_reference : Cert.quiescent_Reference18Ideal := fun m ρ _ =>
  (θ_run Cert.Reference18Ideal.defs _ _).mono
    (fun r h => ⟨fun c => (h c).2.2, sem_eq_zero_of_no_sems (by decide) r.2⟩)
    (Cert.Reference18Ideal.Value.run (F := Ideal) m ρ)

open Cert.Kernel18Ideal Cert.Kernel18Ideal.Gen in
/-- Both runs end with the same arrays. -/
theorem equation : Cert.algebraic_Kernel18Ideal_Reference18Ideal := by
  intro m g m' g' _ hargs
  refine ⟨fun c => (dats m 0 c).arrAt 3 cfg0.N, fun c => (dats m 0 c).arrAt 4 cfg0.N, Cert.Kernel18Ideal.Value.run_blocks m g,
    (θ_run Cert.Reference18Ideal.defs _ _).mono (fun r h c => ?_) (Cert.Reference18Ideal.Value.run (F := Ideal) m' g')⟩
  obtain ⟨r0, r1, rest⟩ := h c
  obtain ⟨h0, h1, h2⟩ := hargs c
  have e0 : rx (StableHlo.launchContents m' c) = xs m c := h0
  have e1 : rw' (StableHlo.launchContents m' c) = ws m c := h1
  have e2 : rd (StableHlo.launchContents m' c) = ds m c := h2
  refine ⟨r0.trans (Eq.trans (funext fun j => ?_) (array_columns m c).symm), r1.trans (Eq.trans (funext fun j => ?_) (array_taps m c).symm), rest⟩
  · exact (columns_reference _ j).trans (by rw [e0, e1, e2])
  · exact (taps_reference _ j).trans (by rw [e0, e1, e2])

end Cert.Convolution.DQuery
-- ==== Proof.Convolution.DKey.lean ====
/- The gradients of the keys' convolution: the kernel's two arrays. -/
module

public import proofs.«01_k».proof.Proof.Gen.Kernel19Ideal.Value
public import proofs.«01_k».proof.Proof.Convolution.Spec
public import Idealize.ShloMosaic.Lib.Pipeline.ValueKit
public import Idealize.ShloMosaic.Lib.Pipeline.ReadBack

@[expose] public section

set_option maxRecDepth 16384

noncomputable section

namespace Cert.Convolution.DKey

open Idealize.ShloMosaic Idealize.ShloMosaic.Pointwise Idealize.SL.Sem Cert.Kernel19Ideal Cert.Kernel19Ideal.Gen

variable (m : (ℓ : Loc nD τ sig) → Buf (Elt Ideal) ℓ)

theorem idx : ∀ t : Fin cfg0.N, win0_0.index t = ![0, t.val + 8] ∧ win0_1.index t = ![0, t.val + 8] ∧ win0_2.index t = ![0, t.val]
    ∧ win0_3.index t = ![0, t.val] ∧ win0_4.index t = ![0, t.val] :=
  (by decide +kernel : ∀ t : Fin grid0.N, _)

/-- A block's convolved column. -/
def conved (x : Vec Ideal S4160x128 .f32) (w : Vec Ideal S4x128 .f32) (t : Fin 4160) (e : Fin 128) : EReal :=
  conv (fun i => x (ix2 i e)) (fun k => w (ix2 k e)) t

/-- The rule of the keys' heads. -/
abbrev rule : Rule := d_head (Ideal.ofBits .f32 0x3F800000#32)

/-- A block's gradient of the convolved column. -/
def pulled (x : Vec Ideal S4160x128 .f32) (w : Vec Ideal S4x128 .f32) (ct : Vec Ideal S4160x128 .f32) (t : Fin 4160) (e : Fin 128) : EReal :=
  slope rule (fun e t => x (ix2 t e)) (fun e k => w (ix2 k e)) (fun e t => ct (ix2 t e)) e t

theorem behind1 (x : Vec Ideal S4160x128 .f32) (j : S4160x128.Idx) : (k0_pay4 x j : EReal) = behind 1 (fun t => x (ix2 t (j 1))) (j 0) :=
  rotate_behind 1 (by omega) x _ _ j

theorem behind2 (x : Vec Ideal S4160x128 .f32) (j : S4160x128.Idx) : (k0_pay6 x j : EReal) = behind 2 (fun t => x (ix2 t (j 1))) (j 0) :=
  rotate_behind 2 (by omega) x _ _ j

theorem behind3 (x : Vec Ideal S4160x128 .f32) (j : S4160x128.Idx) : (k0_pay8 x j : EReal) = behind 3 (fun t => x (ix2 t (j 1))) (j 0) :=
  rotate_behind 3 (by omega) x _ _ j

/-- The convolution. -/
theorem forward (x : Vec Ideal S4160x128 .f32) (w : Vec Ideal S4x128 .f32) (j : S4160x128.Idx) :
    (k0_pay10 x w j : EReal) = conved x w (j 0) (j 1) := by
  unfold conved conv
  pointwise [k0_pay10, k0_pay3, k0_pay5, k0_pay7, k0_pay9, behind1, behind2, behind3]

/-- The gradient through the activation and the normalisation. -/
theorem backward (y l r a : FVec Ideal S4160x128 .f32) (n : FVec Ideal S4160x1 .f32) (ct : Vec Ideal S4160x128 .f32)
    (hl : ∀ j, (l j : EReal) = Ideal.logistic (y j)) (hr : ∀ j, (r j : EReal) = Ideal.logistic (y j) * (1 - Ideal.logistic (y j)))
    (ha : ∀ j, (a j : EReal) = act (y j)) (hn : ∀ j, (n j : EReal) = ∑ e : Fin 128, a (ix2 (j 0) e) * a (ix2 (j 0) e)) (j : S4160x128.Idx) :
    (k0_pay15 y l r a n (Scalar.ofBits .f32 0x358637BD#32) ct j : EReal)
      = rule (fun e => y (ix2 (j 0) e)) (fun e => ct (ix2 (j 0) e)) (j 1) := by
  have y1 : y (ix2 (j 0) (j 1)) = y j := congrArg y (ix2_eta j)
  unfold rule d_head d_act d_unit pull square
  simp only [y1]
  simp only [← ha, ← hr]
  simp only [← hl]
  pointwise [k0_pay15, hn]

theorem pulled_eq (x : Vec Ideal S4160x128 .f32) (w : Vec Ideal S4x128 .f32) (ct : Vec Ideal S4160x128 .f32) (j : S4160x128.Idx) :
    (k0_pay15 (k0_pay10 x w) (k0_pay11 x w) (k0_pay12 x w) (k0_pay13 x w) (k0_pay14 x w) (Scalar.ofBits .f32 0x358637BD#32) ct j : EReal)
      = pulled x w ct (j 0) (j 1) := by
  refine (backward _ _ _ _ _ _ (fun j => ?_) (fun j => ?_) (fun j => ?_) (fun j => ?_) j).trans ?_
  · pointwise [k0_pay11]
  · pointwise [k0_pay12, k0_pay11]
  · unfold act
    pointwise [k0_pay13, k0_pay11]
  · pointwise [k0_pay14]
  · unfold pulled slope
    simp only [forward]
    rfl

/-- The gradient of the block's columns, from the gradient of the convolution. -/
theorem column (w3 w2 : FVec Ideal S1x128 .f32) (g a b : FVec Ideal S4160x128 .f32) (j : S4160x128.Idx) :
    (k0_pay2 w3 w2 g a b j : EReal) = a j + ahead 2 (fun t => b (ix2 t (j 1))) (j 0)
      + ahead 1 (fun t => g (ix2 t (j 1)) * w2 (ix2 0 (j 1))) (j 0) + g j * w3 (ix2 0 (j 1)) := by
  refine congrArg₂ (fun a b : EReal => a + b) (congrArg₂ (fun a b : EReal => a + b) (congrArg₂ (fun a b : EReal => a + b) rfl ?_) ?_) ?_
  · exact rotate_ahead 2 4158 (by omega) rfl b _ _ j
  · refine (rotate_ahead 1 4159 (by omega) rfl _ _ _ j).trans (congrArg (fun f : Column => ahead 1 f (j 0)) (funext fun t => ?_))
    pointwise
  · pointwise

/-- The gradient of the block's taps, from the gradient of the convolution. -/
theorem taps (x x1 g : FVec Ideal S4160x128 .f32) (a : FVec Ideal S4x128 .f32) (b c : FVec Ideal S2x128 .f32) (j : S4x128.Idx) :
    (k0_pay1 x x1 g a b c j : EReal) = a j + (if h : (j 0).val < 2 then b (ix2 (⟨(j 0).val, h⟩ : Fin 2) (j 1)) else c (ix2 (⟨(j 0).val - 2, by have : (j 0).val < 4 := (j 0).isLt; show (j 0).val - 2 < 2; omega⟩ : Fin 2) (j 1)))
      + (if (j 0).val = 2 then ∑ t : Fin 4160, x1 (ix2 t (j 1)) * g (ix2 t (j 1)) else 0)
      + (if (j 0).val = 3 then ∑ t : Fin 4160, x (ix2 t (j 1)) * g (ix2 t (j 1)) else 0) := by
  have bound : (j 0).val < 4 := (j 0).isLt
  pointwise [k0_pay1]
  refine congrArg₂ (fun a b : EReal => a + b) (congrArg₂ (fun a b : EReal => a + b) ?_ ?_) ?_ <;>
    split_ifs <;> first | rfl | omega

/-- The row of tap 0. -/
theorem tap0 (x3 y l r a : FVec Ideal S4160x128 .f32) (n : FVec Ideal S4160x1 .f32) (z : Ideal .f32) (ct : Vec Ideal S4160x128 .f32) (j : S4x128.Idx) :
    (k0_pay16 x3 y l r a n z ct j : EReal)
      = if (j 0).val = 0 then ∑ t : Fin 4160, x3 (ix2 t (j 1)) * k0_pay15 y l r a n z ct (ix2 t (j 1)) else 0 := by
  have bound : (j 0).val < 4 := (j 0).isLt
  pointwise [k0_pay16]
  split_ifs <;> first | rfl | omega

/-- The row of tap 1. -/
theorem tap1 (x2 y l r a : FVec Ideal S4160x128 .f32) (n : FVec Ideal S4160x1 .f32) (z : Ideal .f32) (ct : Vec Ideal S4160x128 .f32) (j : S2x128.Idx) :
    (k0_pay19 x2 y l r a n z ct j : EReal)
      = if (j 0).val = 1 then ∑ t : Fin 4160, x2 (ix2 t (j 1)) * k0_pay15 y l r a n z ct (ix2 t (j 1)) else 0 := by
  have bound : (j 0).val < 2 := (j 0).isLt
  pointwise [k0_pay19]
  split_ifs <;> first | rfl | omega

theorem no_tap (j : S2x128.Idx) : (k0_pay20 (F := Ideal) j : EReal) = 0 := by
  pointwise [k0_pay20]

/-- What a point stores of the columns' gradient. -/
theorem columns_block (x : Vec Ideal S4160x128 .f32) (w : Vec Ideal S4x128 .f32) (ct : Vec Ideal S4160x128 .f32) (j : S4160x128.Idx) :
    (out0_3 x w ct j : EReal) = d_column (fun t => pulled x w ct t (j 1)) (fun k => w (ix2 k (j 1))) (j 0) := by
  have g (j : S4160x128.Idx) := pulled_eq x w ct j
  unfold_out out0_3
  frame_out
  refine (column _ _ _ _ _ j).trans ?_
  unfold d_column
  refine congrArg₂ (fun a b : EReal => a + b) (congrArg₂ (fun a b : EReal => a + b) (congrArg₂ (fun a b : EReal => a + b) ?_ ?_) ?_) ?_
  · refine (rotate_ahead 3 4157 (by omega) rfl _ _ _ j).trans (congrArg (fun f : Column => ahead 3 f (j 0)) (funext fun t => ?_))
    pointwise [k0_pay9]
    exact congrArg (fun a : EReal => a * _) (g _)
  · refine congrArg (fun f : Column => ahead 2 f (j 0)) (funext fun t => ?_)
    pointwise [k0_pay18, k0_pay7]
    exact congrArg (fun a : EReal => a * _) (g _)
  · refine congrArg (fun f : Column => ahead 1 f (j 0)) (funext fun t => ?_)
    pointwise [k0_pay5]
    exact congrArg (fun a : EReal => a * _) (g _)
  · pointwise [k0_pay3]
    exact congrArg (fun a : EReal => a * _) (g _)

/-- What a point stores of the taps' gradient. -/
theorem taps_block (x : Vec Ideal S4160x128 .f32) (w : Vec Ideal S4x128 .f32) (ct : Vec Ideal S4160x128 .f32) (j : S4x128.Idx) :
    (out0_4 x w ct j : EReal) = d_tap (fun t => x (ix2 t (j 1))) (fun t => pulled x w ct t (j 1)) (j 0) := by
  have g (j : S4160x128.Idx) := pulled_eq x w ct j
  unfold_out out0_4
  frame_out
  refine (taps _ _ _ _ _ _ j).trans ?_
  simp only [tap0, tap1, no_tap, g, behind1, behind2, behind3]
  unfold d_tap
  have bound : (j 0).val < 4 := (j 0).isLt
  have cases : (j 0).val = 0 ∨ (j 0).val = 1 ∨ (j 0).val = 2 ∨ (j 0).val = 3 := by omega
  rcases cases with h | h | h | h
  all_goals
    simp only [h, behind_zero]
    simp
    try exact Finset.sum_congr rfl fun t _ => by rw [behind_zero]

/-- The projection's rows. -/
def xs (c : Dev nD) : (Rows 9600).Idx → EReal := m ((c.tc : Thread nD τ).loc main_arg0)

/-- The taps. -/
def ws (c : Dev nD) : (Taps 3072).Idx → EReal := m ((c.tc : Thread nD τ).loc main_arg1)

/-- The gradient of the result. -/
def ds (c : Dev nD) : (Rows 1024).Idx → EReal := m ((c.tc : Thread nD τ).loc main_arg2)

/-- The arrays' blocks at a point, as columns of the whole arrays. -/
theorem slopes_at (c : Dev nD) (t : Fin cfg0.N) (e : Fin 128) :
    (fun r => pulled (iblk m c 0 t) (iblk m c 1 t) (iblk m c 2 t) r e)
      = slopes rule 1 (xs m c) (ws m c) (ds m c) (⟨t.val, t.isLt⟩ : Fin 8) e := by
  unfold pulled slopes
  have three {x x' : Fin 128 → Column} {w w' : Fin 128 → Fin 4 → EReal} {d d' : Fin 128 → Column} (hx : x = x') (hw : w = w') (hd : d = d') :
      slope rule x w d e = slope rule x' w' d' e := by rw [hx, hw, hd]
  refine three ?_ ?_ ?_ <;> funext e r
  · blk_ext [iblk, V, xs, wide, idx t]
  · blk_ext [iblk, V, ws, place, idx t]
  · blk_ext [iblk, V, ds, lane, idx t]

theorem taps_at (c : Dev nD) (t : Fin cfg0.N) (e : Fin 128) (k : Fin 4) :
    ((iblk m c 1 t : S4x128.Idx → EReal) (ix2 k e)) = (ws m c) (ix2 k (place 1 (⟨t.val, t.isLt⟩ : Fin 8) e)) := by
  blk_ext [iblk, V, ws, place, idx t]

theorem rows_at (c : Dev nD) (t : Fin cfg0.N) (e : Fin 128) (r : Fin 4160) :
    ((iblk m c 0 t : S4160x128.Idx → EReal) (ix2 r e)) = (xs m c) (ix2 r (wide 1 (⟨t.val, t.isLt⟩ : Fin 8) e)) := by
  blk_ext [iblk, V, xs, wide, idx t]

/-- What point `t` stores of the columns' gradient, from whole arrays. -/
theorem columns_at (c : Dev nD) (t : Fin cfg0.N) (j : S4160x128.Idx) :
    (out0_3 (iblk m c 0 t) (iblk m c 1 t) (iblk m c 2 t) j : EReal)
      = d_columns rule 1 (xs m c) (ws m c) (ds m c) (ix2 (j 0) (lane (⟨t.val, t.isLt⟩ : Fin 8) (j 1))) := by
  refine (columns_block _ _ _ j).trans ?_
  have spot (h : Fin 8) (e : Fin 128) (r : Fin 4160) : d_columns rule 1 (xs m c) (ws m c) (ds m c) (ix2 r (lane h e))
      = d_column (slopes rule 1 (xs m c) (ws m c) (ds m c) h e) (fun k => ws m c (ix2 k (place 1 h e))) r := by
    unfold d_columns
    change d_column (slopes _ _ _ _ _ (head (lane h e)) (sub (lane h e))) (fun k => ws m c (ix2 k (place 1 (head (lane h e)) (sub (lane h e))))) r = _
    rw [head_lane, sub_lane]
  exact (congrArg₂ (fun f g => d_column f g (j 0)) (slopes_at m c t (j 1)) (funext fun k => taps_at m c t (j 1) k)).trans (spot _ _ _).symm

/-- What point `t` stores of the taps' gradient, from whole arrays. -/
theorem tap_at (c : Dev nD) (t : Fin cfg0.N) (j : S4x128.Idx) :
    (out0_4 (iblk m c 0 t) (iblk m c 1 t) (iblk m c 2 t) j : EReal)
      = d_taps rule 1 (xs m c) (ws m c) (ds m c) (ix2 (j 0) (lane (⟨t.val, t.isLt⟩ : Fin 8) (j 1))) := by
  refine (taps_block _ _ _ j).trans ?_
  have spot (h : Fin 8) (e : Fin 128) (k : Fin 4) : d_taps rule 1 (xs m c) (ws m c) (ds m c) (ix2 k (lane h e))
      = d_tap (fun r => xs m c (ix2 r (wide 1 h e))) (slopes rule 1 (xs m c) (ws m c) (ds m c) h e) k := by
    unfold d_taps
    change d_tap (fun r => xs m c (ix2 r (wide 1 (head (lane h e)) (sub (lane h e))))) (slopes _ _ _ _ _ (head (lane h e)) (sub (lane h e))) k = _
    rw [head_lane, sub_lane]
  exact (congrArg₂ (fun f g => d_tap f g (j 0)) (funext fun r => rows_at m c t (j 1) r) (slopes_at m c t (j 1))).trans (spot _ _ _).symm

/-- The columns' gradient after the run. -/
theorem array_columns (c : Dev nD) : (dats m 0 c).arrAt 3 cfg0.N
    = (d_columns rule 1 (xs m c) (ws m c) (ds m c) : S4160x1024.Idx → EReal) := by
  refine (dats m 0 c).arrAt_eq_of_covers 3 _ (by decide +kernel) fun t _ y => ?_
  blk_simp
  rw [after0_3]
  have spot : ((cfg0.win 3).blk t).view.emb y = (ix2 (y 0) (lane (⟨t.val, t.isLt⟩ : Fin 8) (y 1)) : S4160x1024.Idx) := by
    blk_ext [lane, idx t]
  exact (columns_at m c t y).trans (congrArg (d_columns _ _ _ _ _) spot).symm

/-- The taps' gradient after the run. -/
theorem array_taps (c : Dev nD) : (dats m 0 c).arrAt 4 cfg0.N
    = (d_taps rule 1 (xs m c) (ws m c) (ds m c) : S4x1024.Idx → EReal) := by
  refine (dats m 0 c).arrAt_eq_of_covers 4 _ (by decide +kernel) fun t _ y => ?_
  blk_simp
  rw [after0_4]
  have spot : ((cfg0.win 4).blk t).view.emb y = (ix2 (y 0) (lane (⟨t.val, t.isLt⟩ : Fin 8) (y 1)) : S4x1024.Idx) := by
    blk_ext [lane, idx t]
  exact (tap_at m c t y).trans (congrArg (d_taps _ _ _ _ _) spot).symm

end Cert.Convolution.DKey
-- ==== Proof.Equations.DKey.lean ====
/- The gradients of the keys' convolution: the kernel and the reference end with the same arrays. -/
module

public import proofs.«01_k».proof.Defs
public import proofs.«01_k».proof.Proof.Convolution.DKey
public import proofs.«01_k».proof.Proof.Gen.Reference19Ideal.Run
public import Idealize.ShloMosaic.Adequacy
public import Idealize.ShloMosaic.Init

@[expose] public section

set_option maxRecDepth 16384

noncomputable section

namespace Cert.Convolution.DKey

open Idealize.ShloMosaic Idealize.ShloMosaic.Pointwise Idealize.SL.Sem

section Reference

open Cert.Reference19Ideal Cert.Reference19Ideal.Gen Cert.Reference19Ideal.Value

variable (V0 : Valuation τ sig (Elt Ideal))

/-- The reference's projection's rows, taps, and the gradient of its result. -/
def rx : (Rows 9600).Idx → EReal := V0 (Proc.devRef .tc main_arg0)

def rw' : (Taps 3072).Idx → EReal := V0 (Proc.devRef .tc main_arg1)

def rd : (Rows 1024).Idx → EReal := V0 (Proc.devRef .tc main_arg2)

theorem r5 (j : S4160x1024.Idx) : (res_main_v5 V0 j : EReal) = behind 3 (fun t => rx V0 (ix2 t (wideCol 1 (j 1)))) (j 0) := by
  have bound : (j 0).val < 4160 := (j 0).isLt
  unfold behind rx
  pointwise [res_main_v5, res_main_v3]
  by_cases h : 3 ≤ (j 0).val
  · rw [dif_neg (by omega), if_pos h]
    refine congrArg _ (congrArg₂ ix2 (Fin.ext ?_) (Fin.ext ?_))
    · change (j 0).val - 3 = (j 0).val - 3
      omega
    · change 1024 + (j 1).val = 1 * 1024 + (j 1).val
      omega
  · rw [dif_pos (by omega), if_neg h]

theorem r11 (j : S4160x1024.Idx) : (res_main_v11 V0 j : EReal) = behind 2 (fun t => rx V0 (ix2 t (wideCol 1 (j 1)))) (j 0) := by
  have bound : (j 0).val < 4160 := (j 0).isLt
  unfold behind rx
  pointwise [res_main_v11, res_main_v3]
  by_cases h : 2 ≤ (j 0).val
  · rw [dif_neg (by omega), if_pos h]
    refine congrArg _ (congrArg₂ ix2 (Fin.ext ?_) (Fin.ext ?_))
    · change 1 + (j 0).val - 3 = (j 0).val - 2
      omega
    · change 1024 + (j 1).val = 1 * 1024 + (j 1).val
      omega
  · rw [dif_pos (by omega), if_neg h]

theorem r18 (j : S4160x1024.Idx) : (res_main_v18 V0 j : EReal) = behind 1 (fun t => rx V0 (ix2 t (wideCol 1 (j 1)))) (j 0) := by
  have bound : (j 0).val < 4160 := (j 0).isLt
  unfold behind rx
  pointwise [res_main_v18, res_main_v3]
  by_cases h : 1 ≤ (j 0).val
  · rw [dif_neg (by omega), if_pos h]
    refine congrArg _ (congrArg₂ ix2 (Fin.ext ?_) (Fin.ext ?_))
    · change 2 + (j 0).val - 3 = (j 0).val - 1
      omega
    · change 1024 + (j 1).val = 1 * 1024 + (j 1).val
      omega
  · rw [dif_pos (by omega), if_neg h]

theorem r25 (j : S4160x1024.Idx) : (res_main_v25 V0 j : EReal) = rx V0 (ix2 (j 0) (wideCol 1 (j 1))) := by
  unfold rx
  pointwise [res_main_v25, res_main_v3]
  refine congrArg _ (congrArg₂ ix2 rfl (Fin.ext ?_))
  change 1024 + (j 1).val = 1 * 1024 + (j 1).val
  omega

theorem r8 (j : S1x1024.Idx) : (res_main_v8 V0 j : EReal) = rw' V0 (ix2 0 (tapCol 1 (j 1))) := by
  unfold rw'
  pointwise [res_main_v8, res_main_v1]
  exact congrArg _ (congrArg₂ ix2 rfl (Fin.ext (by simp [tapCol])))

theorem r14 (j : S1x1024.Idx) : (res_main_v14 V0 j : EReal) = rw' V0 (ix2 1 (tapCol 1 (j 1))) := by
  unfold rw'
  pointwise [res_main_v14, res_main_v1]
  exact congrArg _ (congrArg₂ ix2 rfl (Fin.ext (by simp [tapCol])))

theorem r21 (j : S1x1024.Idx) : (res_main_v21 V0 j : EReal) = rw' V0 (ix2 2 (tapCol 1 (j 1))) := by
  unfold rw'
  pointwise [res_main_v21, res_main_v1]
  exact congrArg _ (congrArg₂ ix2 rfl (Fin.ext (by simp [tapCol])))

theorem r28 (j : S1x1024.Idx) : (res_main_v28 V0 j : EReal) = rw' V0 (ix2 3 (tapCol 1 (j 1))) := by
  unfold rw'
  pointwise [res_main_v28, res_main_v1]
  exact congrArg _ (congrArg₂ ix2 rfl (Fin.ext (by simp [tapCol])))

/-- The convolution. -/
theorem r31 (j : S4160x1024.Idx) : (res_main_v31 V0 j : EReal)
    = conv (fun t => rx V0 (ix2 t (wideCol 1 (j 1)))) (fun k => rw' V0 (ix2 k (tapCol 1 (j 1)))) (j 0) := by
  unfold conv
  pointwise [res_main_v31, r5, r8, r11, r14, r18, r21, r25, r28]
  have turn (a b c d : EReal) : a + b + c + d = d + c + b + a := by abel
  exact turn _ _ _ _

theorem r32 (j : S4160x1024.Idx) : (res_main_v32_2 V0 j : EReal) = Ideal.logistic (res_main_v31 V0 j) := by
  unfold Ideal.logistic
  pointwise [res_main_v32_2]

theorem r33 (j : S4160x8x128.Idx) : (res_main_v33 V0 j : EReal) = act (res_main_v31 V0 (ix2 (j 0) (lane (j 1) (j 2)))) := by
  unfold act
  pointwise [res_main_v33, r32]
  rfl

theorem r38 (j : S4160x8x1.Idx) : (res_main_v38 V0 j : EReal) = square (fun e => res_main_v33 V0 (ix3 (j 0) (j 1) e)) := by
  unfold square
  pointwise [res_main_v38]

theorem r50 (j : S4160x8x128.Idx) : (res_main_v46 V0 j : EReal) = rd V0 (ix2 (j 0) (lane (j 1) (j 2))) * Ideal.ofBits .f32 0x3F800000#32 := by
  unfold rd
  pointwise [res_main_v46]
  rfl

theorem r58 (j : S4160x8x128.Idx) : (res_main_v54 V0 j : EReal)
    = pull (fun e => res_main_v33 V0 (ix3 (j 0) (j 1) e)) (fun e => res_main_v46 V0 (ix3 (j 0) (j 1) e)) := by
  unfold pull
  pointwise [res_main_v54, res_main_v39, r38]

theorem r63 (j : S4160x1024.Idx) : (res_main_v59 V0 j : EReal)
    = d_unit (fun e => res_main_v33 V0 (ix3 (j 0) (head (j 1)) e)) (fun e => res_main_v46 V0 (ix3 (j 0) (head (j 1)) e)) (sub (j 1)) := by
  unfold d_unit
  pointwise [res_main_v59, res_main_v39, r38, r58]
  rfl

theorem r64 (j : S4160x1024.Idx) : (res_main_v60 V0 j : EReal) = d_act (res_main_v31 V0 j) (res_main_v59 V0 j) := by
  unfold d_act
  pointwise [res_main_v60, r32]

/-- The gradient of the convolution. -/
theorem slope_reference (h : Fin 8) (e : Fin 128) (t : Fin 4160) :
    (res_main_v60 V0 (ix2 t (lane h e)) : EReal) = slopes rule 1 (rx V0) (rw' V0) (rd V0) h e t := by
  have hh : head (ix2 t (lane h e) 1) = h := head_lane h e
  rw [r64, r63, hh]
  unfold slopes slope rule d_head
  simp only [r33, r50, r31]
  change d_act _ (d_unit _ _ (sub (lane h e))) = _
  rw [sub_lane]
  rfl

theorem slope_at (j : S4160x1024.Idx) :
    (res_main_v60 V0 j : EReal) = slopes rule 1 (rx V0) (rw' V0) (rd V0) (head (j 1)) (sub (j 1)) (j 0) := by
  have spot : j = ix2 (j 0) (lane (head (j 1)) (sub (j 1))) :=
    (ix2_eta j).symm.trans (congrArg (ix2 (j 0)) (lane_head_sub (j 1)).symm)
  exact (congrArg (res_main_v60 V0) spot).trans (slope_reference V0 _ _ _)

theorem tapCol_head (j : Fin 1024) : tapCol 1 j = place 1 (head j) (sub j) :=
  (congrArg (tapCol 1) (lane_head_sub j)).symm

theorem wideCol_head (j : Fin 1024) : wideCol 1 j = wide 1 (head j) (sub j) :=
  (congrArg (wideCol 1) (lane_head_sub j)).symm

theorem zero_first : (constant (F := Ideal) S_ .f32 0x00000000#32 (Shape.Idx.first h_S_) : EReal) = 0 := Ideal.ofBits_zero_f32

/-- The reference's gradient of the columns. -/
theorem columns_reference (j : S4160x1024.Idx) :
    (truncf .bf16 (extractStridedSlice S4160x1024 ![3, 0] (res_main_v102 V0) slices_S4163x1024_S4160x1024_3_0) bitsLt_bf16_f32 j : EReal)
      = d_columns rule 1 (rx V0) (rw' V0) (rd V0) j := by
  have turn (a b c d : EReal) : a + b + c + d = d + c + b + a := by abel
  have tap (k : Fin 4) : rw' V0 (ix2 k (tapCol 1 (j 1))) = rw' V0 (ix2 k (place 1 (head (j 1)) (sub (j 1)))) :=
    congrArg (fun c => rw' V0 (ix2 k c)) (tapCol_head (j 1))
  unfold d_columns d_column
  refine Eq.trans ?_ (turn _ _ _ _)
  refine congrArg₂ (fun a b : EReal => a + b) (congrArg₂ (fun a b : EReal => a + b) (congrArg₂ (fun a b : EReal => a + b) ?_ ?_) ?_) ?_
  · refine (padded_rows 3 0 0 rfl _ _ _ _ zero_first _ (j 0) (j 1) rfl (Nat.zero_add _)).trans ((ahead_zero _ _).trans ?_)
    pointwise [slope_at, r28]
    exact congrArg (fun a : EReal => _ * a) (tap 3)
  · refine (padded_rows 2 1 1 rfl _ _ _ _ zero_first _ (j 0) (j 1) rfl (Nat.zero_add _)).trans (congrArg (fun f : Column => ahead 1 f (j 0)) (funext fun t => ?_))
    pointwise [slope_at, r21]
    exact congrArg (fun a : EReal => _ * a) (tap 2)
  · refine (padded_rows 1 2 2 rfl _ _ _ _ zero_first _ (j 0) (j 1) rfl (Nat.zero_add _)).trans (congrArg (fun f : Column => ahead 2 f (j 0)) (funext fun t => ?_))
    pointwise [slope_at, r14]
    exact congrArg (fun a : EReal => _ * a) (tap 1)
  · refine (padded_rows 0 3 3 rfl _ _ _ _ zero_first _ (j 0) (j 1) rfl (Nat.zero_add _)).trans (congrArg (fun f : Column => ahead 3 f (j 0)) (funext fun t => ?_))
    pointwise [slope_at, r8]
    exact congrArg (fun a : EReal => _ * a) (tap 0)

/-- One row of the taps' gradient, as the reference computes it. -/
theorem row_reference (f g : FVec Ideal S4160x1024 .f32) (j : S1x1024.Idx) :
    (broadcastInDim S1x1024 ![1] bcast_S1024_S1x1024_1 (Host.reduceAdd (shapeCast _ (Host.reduceAdd (mulf f g) (constant S_ .f32 0x00000000#32)
      reducesTo_S4160x1024_S1024_d0 h_S_) shapeCasts_S1024_S1x1024) (constant S_ .f32 0x00000000#32) reducesTo_S1x1024_S1024_d0 h_S_) j : EReal)
      = ∑ t : Fin 4160, f (ix2 t (j 1)) * g (ix2 t (j 1)) := by
  pointwise
  simp

/-- The reference's gradient of the taps. -/
theorem taps_reference (j : S4x1024.Idx) :
    (addf (addf (addf (pad S4x1024 ![3, 0] ![0, 0] ![0, 0] (broadcastInDim S1x1024 ![1] bcast_S1024_S1x1024_1 (Host.reduceAdd (shapeCast _ (Host.reduceAdd (mulf (res_main_v25 V0) (res_main_v60 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_300_000 h_S_) (pad S4x1024 ![2, 0] ![1, 0] ![0, 0] (broadcastInDim S1x1024 ![1] bcast_S1024_S1x1024_1 (Host.reduceAdd (shapeCast _ (Host.reduceAdd (mulf (res_main_v18 V0) (res_main_v60 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_210_000 h_S_)) (pad S4x1024 ![1, 0] ![2, 0] ![0, 0] (broadcastInDim S1x1024 ![1] bcast_S1024_S1x1024_1 (Host.reduceAdd (shapeCast _ (Host.reduceAdd (mulf (res_main_v11 V0) (res_main_v60 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_120_000 h_S_)) (pad S4x1024 ![0, 0] ![3, 0] ![0, 0] (broadcastInDim S1x1024 ![1] bcast_S1024_S1x1024_1 (Host.reduceAdd (shapeCast _ (Host.reduceAdd (mulf (res_main_v5 V0) (res_main_v60 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_030_000 h_S_) j : EReal)
      = d_taps rule 1 (rx V0) (rw' V0) (rd V0) j := by
  have g (t : Fin 4160) : (res_main_v60 V0 (ix2 t (j 1)) : EReal) = slopes rule 1 (rx V0) (rw' V0) (rd V0) (head (j 1)) (sub (j 1)) t :=
    slope_at V0 _
  have col (t : Fin 4160) : rx V0 (ix2 t (wideCol 1 (j 1))) = rx V0 (ix2 t (wide 1 (head (j 1)) (sub (j 1)))) :=
    congrArg (fun c => rx V0 (ix2 t c)) (wideCol_head (j 1))
  have sum (s : ℕ) (f : FVec Ideal S4160x1024 .f32)
      (hf : ∀ t : Fin 4160, (f (ix2 t (j 1)) : EReal) = behind s (fun t => rx V0 (ix2 t (wideCol 1 (j 1)))) t) (hs : s = 3 - (j 0).val) :
      (broadcastInDim S1x1024 ![1] bcast_S1024_S1x1024_1 (Host.reduceAdd (shapeCast _ (Host.reduceAdd (mulf f (res_main_v60 V0))
        (constant S_ .f32 0x00000000#32) reducesTo_S4160x1024_S1024_d0 h_S_) shapeCasts_S1024_S1x1024) (constant S_ .f32 0x00000000#32)
        reducesTo_S1x1024_S1024_d0 h_S_) (ix2 0 (j 1)) : EReal)
        = ∑ t : Fin 4160, behind (3 - (j 0).val) (fun t => rx V0 (ix2 t (wide 1 (head (j 1)) (sub (j 1))))) t
          * slopes rule 1 (rx V0) (rw' V0) (rd V0) (head (j 1)) (sub (j 1)) t := by
    rw [← hs]
    exact (row_reference f (res_main_v60 V0) (ix2 0 (j 1))).trans (Finset.sum_congr rfl fun t _ =>
      congrArg₂ (fun a b : EReal => a * b) ((hf t).trans (congrArg (fun f : Column => behind s f t) (funext col))) (g t))
  have bound : (j 0).val < 4 := (j 0).isLt
  refine (congrArg₂ (fun a b : EReal => a + b) (congrArg₂ (fun a b : EReal => a + b) (congrArg₂ (fun a b : EReal => a + b)
    (padded_row 3 0 _ _ _ _ zero_first j) (padded_row 2 1 _ _ _ _ zero_first j)) (padded_row 1 2 _ _ _ _ zero_first j))
    (padded_row 0 3 _ _ _ _ zero_first j)).trans ?_
  have cases : (j 0).val = 0 ∨ (j 0).val = 1 ∨ (j 0).val = 2 ∨ (j 0).val = 3 := by omega
  have pick (a b c d : EReal) : (if (j 0).val = 3 then a else 0) + (if (j 0).val = 2 then b else 0) + (if (j 0).val = 1 then c else 0)
      + (if (j 0).val = 0 then d else 0) = if (j 0).val = 3 then a else if (j 0).val = 2 then b else if (j 0).val = 1 then c else d := by
    rcases cases with h | h | h | h <;> simp [h]
  refine (pick _ _ _ _).trans ?_
  rcases cases with h | h | h | h
  · rw [if_neg (by omega), if_neg (by omega), if_neg (by omega)]
    exact sum 3 _ (fun t => r5 V0 _) (by omega)
  · rw [if_neg (by omega), if_neg (by omega), if_pos h]
    exact sum 2 _ (fun t => r11 V0 _) (by omega)
  · rw [if_neg (by omega), if_pos h]
    exact sum 1 _ (fun t => r18 V0 _) (by omega)
  · rw [if_pos h]
    exact sum 0 _ (fun t => (r25 V0 _).trans (behind_zero (fun t => rx V0 (ix2 t (wideCol 1 (j 1)))) t).symm) (by omega)

end Reference

variable (m : (ℓ : Loc Cert.Kernel19Ideal.nD Cert.Kernel19Ideal.τ Cert.Kernel19Ideal.sig) → Buf (Elt Ideal) ℓ)

/-- The reference declares no semaphore, and its run ends with its arguments as they were. -/
theorem frame_reference : Cert.quiescent_Reference19Ideal := fun m ρ _ =>
  (θ_run Cert.Reference19Ideal.defs _ _).mono
    (fun r h => ⟨fun c => (h c).2.2, sem_eq_zero_of_no_sems (by decide) r.2⟩)
    (Cert.Reference19Ideal.Value.run (F := Ideal) m ρ)

open Cert.Kernel19Ideal Cert.Kernel19Ideal.Gen in
/-- Both runs end with the same arrays. -/
theorem equation : Cert.algebraic_Kernel19Ideal_Reference19Ideal := by
  intro m g m' g' _ hargs
  refine ⟨fun c => (dats m 0 c).arrAt 3 cfg0.N, fun c => (dats m 0 c).arrAt 4 cfg0.N, Cert.Kernel19Ideal.Value.run_blocks m g,
    (θ_run Cert.Reference19Ideal.defs _ _).mono (fun r h c => ?_) (Cert.Reference19Ideal.Value.run (F := Ideal) m' g')⟩
  obtain ⟨r0, r1, rest⟩ := h c
  obtain ⟨h0, h1, h2⟩ := hargs c
  have e0 : rx (StableHlo.launchContents m' c) = xs m c := h0
  have e1 : rw' (StableHlo.launchContents m' c) = ws m c := h1
  have e2 : rd (StableHlo.launchContents m' c) = ds m c := h2
  refine ⟨r0.trans (Eq.trans (funext fun j => ?_) (array_columns m c).symm), r1.trans (Eq.trans (funext fun j => ?_) (array_taps m c).symm), rest⟩
  · exact (columns_reference _ j).trans (by rw [e0, e1, e2])
  · exact (taps_reference _ j).trans (by rw [e0, e1, e2])

end Cert.Convolution.DKey
-- ==== Proof.Convolution.DValue.lean ====
/- The gradients of the values' convolution: the kernel's two arrays. -/
module

public import proofs.«01_k».proof.Proof.Gen.Kernel20Ideal.Value
public import proofs.«01_k».proof.Proof.Convolution.Spec
public import Idealize.ShloMosaic.Lib.Pipeline.ValueKit
public import Idealize.ShloMosaic.Lib.Pipeline.ReadBack

@[expose] public section

set_option maxRecDepth 16384

noncomputable section

namespace Cert.Convolution.DValue

open Idealize.ShloMosaic Idealize.ShloMosaic.Pointwise Idealize.SL.Sem Cert.Kernel20Ideal Cert.Kernel20Ideal.Gen

variable (m : (ℓ : Loc nD τ sig) → Buf (Elt Ideal) ℓ)

theorem idx : ∀ t : Fin cfg0.N, win0_0.index t = ![0, t.val + 16] ∧ win0_1.index t = ![0, t.val + 16] ∧ win0_2.index t = ![0, t.val]
    ∧ win0_3.index t = ![0, t.val] ∧ win0_4.index t = ![0, t.val] :=
  (by decide +kernel : ∀ t : Fin grid0.N, _)

/-- A block's convolved column. -/
def conved (x : Vec Ideal S4160x128 .f32) (w : Vec Ideal S4x128 .f32) (t : Fin 4160) (e : Fin 128) : EReal :=
  conv (fun i => x (ix2 i e)) (fun k => w (ix2 k e)) t

/-- The rule of the values' heads. -/
abbrev rule : Rule := d_plain

/-- A block's gradient of the convolved column. -/
def pulled (x : Vec Ideal S4160x128 .f32) (w : Vec Ideal S4x128 .f32) (ct : Vec Ideal S4160x128 .f32) (t : Fin 4160) (e : Fin 128) : EReal :=
  slope rule (fun e t => x (ix2 t e)) (fun e k => w (ix2 k e)) (fun e t => ct (ix2 t e)) e t

theorem behind1 (x : Vec Ideal S4160x128 .f32) (j : S4160x128.Idx) : (k0_pay4 x j : EReal) = behind 1 (fun t => x (ix2 t (j 1))) (j 0) :=
  rotate_behind 1 (by omega) x _ _ j

theorem behind2 (x : Vec Ideal S4160x128 .f32) (j : S4160x128.Idx) : (k0_pay6 x j : EReal) = behind 2 (fun t => x (ix2 t (j 1))) (j 0) :=
  rotate_behind 2 (by omega) x _ _ j

theorem behind3 (x : Vec Ideal S4160x128 .f32) (j : S4160x128.Idx) : (k0_pay8 x j : EReal) = behind 3 (fun t => x (ix2 t (j 1))) (j 0) :=
  rotate_behind 3 (by omega) x _ _ j

/-- The convolution. -/
theorem forward (x : Vec Ideal S4160x128 .f32) (w : Vec Ideal S4x128 .f32) (j : S4160x128.Idx) :
    (k0_pay10 x w j : EReal) = conved x w (j 0) (j 1) := by
  unfold conved conv
  pointwise [k0_pay10, k0_pay3, k0_pay5, k0_pay7, k0_pay9, behind1, behind2, behind3]

/-- The gradient through the activation. -/
theorem pulled_eq (x : Vec Ideal S4160x128 .f32) (w : Vec Ideal S4x128 .f32) (ct : Vec Ideal S4160x128 .f32) (j : S4160x128.Idx) :
    (k0_pay14 (k0_pay12 x w ct) (k0_pay13 x w ct) j : EReal) = pulled x w ct (j 0) (j 1) := by
  unfold pulled slope rule d_plain d_act
  pointwise [k0_pay14, k0_pay13, k0_pay12, k0_pay11, forward]
  rfl

/-- The gradient of the block's columns, from the gradient of the convolution. -/
theorem column (w3 w2 w1 w0 : FVec Ideal S1x128 .f32) (g v v' : FVec Ideal S4160x128 .f32) (hg : ∀ j, (g j : EReal) = k0_pay14 v v' j)
    (j : S4160x128.Idx) :
    (k0_pay2 w3 g (k0_pay15 w1 w0 v v') k0_pay17 (k0_pay18 w2 v v') (Scalar.ofBits .f32 0x00000000#32) j : EReal)
      = ahead 3 (fun t => g (ix2 t (j 1)) * w0 (ix2 0 (j 1))) (j 0) + ahead 2 (fun t => g (ix2 t (j 1)) * w1 (ix2 0 (j 1))) (j 0)
        + ahead 1 (fun t => g (ix2 t (j 1)) * w2 (ix2 0 (j 1))) (j 0) + g j * w3 (ix2 0 (j 1)) := by
  refine congrArg₂ (fun a b : EReal => a + b) (congrArg₂ (fun a b : EReal => a + b) (congrArg₂ (fun a b : EReal => a + b) ?_ ?_) ?_) ?_
  · refine (rotate_ahead 3 4157 (by omega) rfl _ _ _ j).trans (congrArg (fun f : Column => ahead 3 f (j 0)) (funext fun t => ?_))
    rw [hg]
    pointwise
  · refine (rotate_ahead 2 4158 (by omega) rfl _ _ _ j).trans (congrArg (fun f : Column => ahead 2 f (j 0)) (funext fun t => ?_))
    rw [hg]
    pointwise
  · unfold k0_pay17 k0_pay18
    refine (rotate_ahead 1 4159 (by omega) rfl _ _ _ j).trans (congrArg (fun f : Column => ahead 1 f (j 0)) (funext fun t => ?_))
    rw [hg]
    pointwise
  · pointwise

/-- The gradient of the block's taps, from the gradient of the convolution. -/
theorem taps (x x1 x2 x3 g v v' : FVec Ideal S4160x128 .f32) (hg : ∀ j, (g j : EReal) = k0_pay14 v v' j) (j : S4x128.Idx) :
    (k0_pay1 x g (k0_pay16 x1 x2 x3 v v') j : EReal)
      = (if (j 0).val = 0 then ∑ t : Fin 4160, x3 (ix2 t (j 1)) * g (ix2 t (j 1)) else 0)
      + (if (j 0).val = 1 then ∑ t : Fin 4160, x2 (ix2 t (j 1)) * g (ix2 t (j 1)) else 0)
      + (if (j 0).val = 2 then ∑ t : Fin 4160, x1 (ix2 t (j 1)) * g (ix2 t (j 1)) else 0)
      + (if (j 0).val = 3 then ∑ t : Fin 4160, x (ix2 t (j 1)) * g (ix2 t (j 1)) else 0) := by
  have bound : (j 0).val < 4 := (j 0).isLt
  obtain rfl : g = k0_pay14 v v' := funext hg
  pointwise [k0_pay1, k0_pay16]
  refine congrArg₂ (fun a b : EReal => a + b) (congrArg₂ (fun a b : EReal => a + b) (congrArg₂ (fun a b : EReal => a + b) ?_ ?_) ?_) ?_ <;>
    split_ifs <;> first | rfl | omega

/-- What a point stores of the columns' gradient. -/
theorem columns_block (x : Vec Ideal S4160x128 .f32) (w : Vec Ideal S4x128 .f32) (ct : Vec Ideal S4160x128 .f32) (j : S4160x128.Idx) :
    (out0_3 x w ct j : EReal) = d_column (fun t => pulled x w ct t (j 1)) (fun k => w (ix2 k (j 1))) (j 0) := by
  have g (j : S4160x128.Idx) := pulled_eq x w ct j
  unfold_out out0_3
  frame_out
  refine (column _ _ _ _ _ _ _ (fun _ => rfl) j).trans ?_
  unfold d_column
  refine congrArg₂ (fun a b : EReal => a + b) (congrArg₂ (fun a b : EReal => a + b) (congrArg₂ (fun a b : EReal => a + b) ?_ ?_) ?_) ?_
  · refine congrArg (fun f : Column => ahead 3 f (j 0)) (funext fun t => ?_)
    pointwise [k0_pay9]
    exact congrArg (fun a : EReal => a * _) (g _)
  · refine congrArg (fun f : Column => ahead 2 f (j 0)) (funext fun t => ?_)
    pointwise [k0_pay7]
    exact congrArg (fun a : EReal => a * _) (g _)
  · refine congrArg (fun f : Column => ahead 1 f (j 0)) (funext fun t => ?_)
    pointwise [k0_pay5]
    exact congrArg (fun a : EReal => a * _) (g _)
  · pointwise [k0_pay3]
    exact congrArg (fun a : EReal => a * _) (g _)

/-- What a point stores of the taps' gradient. -/
theorem taps_block (x : Vec Ideal S4160x128 .f32) (w : Vec Ideal S4x128 .f32) (ct : Vec Ideal S4160x128 .f32) (j : S4x128.Idx) :
    (out0_4 x w ct j : EReal) = d_tap (fun t => x (ix2 t (j 1))) (fun t => pulled x w ct t (j 1)) (j 0) := by
  have g (j : S4160x128.Idx) := pulled_eq x w ct j
  unfold_out out0_4
  frame_out
  refine (taps _ _ _ _ _ _ _ (fun _ => rfl) j).trans ?_
  simp only [g, behind1, behind2, behind3]
  unfold d_tap
  have bound : (j 0).val < 4 := (j 0).isLt
  have cases : (j 0).val = 0 ∨ (j 0).val = 1 ∨ (j 0).val = 2 ∨ (j 0).val = 3 := by omega
  rcases cases with h | h | h | h
  all_goals
    simp only [h, behind_zero]
    simp
    try exact Finset.sum_congr rfl fun t _ => by rw [behind_zero]

/-- The projection's rows. -/
def xs (c : Dev nD) : (Rows 9600).Idx → EReal := m ((c.tc : Thread nD τ).loc main_arg0)

/-- The taps. -/
def ws (c : Dev nD) : (Taps 3072).Idx → EReal := m ((c.tc : Thread nD τ).loc main_arg1)

/-- The gradient of the result. -/
def ds (c : Dev nD) : (Rows 1024).Idx → EReal := m ((c.tc : Thread nD τ).loc main_arg2)

/-- The arrays' blocks at a point, as columns of the whole arrays. -/
theorem slopes_at (c : Dev nD) (t : Fin cfg0.N) (e : Fin 128) :
    (fun r => pulled (iblk m c 0 t) (iblk m c 1 t) (iblk m c 2 t) r e)
      = slopes rule 2 (xs m c) (ws m c) (ds m c) (⟨t.val, t.isLt⟩ : Fin 8) e := by
  unfold pulled slopes
  have three {x x' : Fin 128 → Column} {w w' : Fin 128 → Fin 4 → EReal} {d d' : Fin 128 → Column} (hx : x = x') (hw : w = w') (hd : d = d') :
      slope rule x w d e = slope rule x' w' d' e := by rw [hx, hw, hd]
  refine three ?_ ?_ ?_ <;> funext e r
  · blk_ext [iblk, V, xs, wide, idx t]
  · blk_ext [iblk, V, ws, place, idx t]
  · blk_ext [iblk, V, ds, lane, idx t]

theorem taps_at (c : Dev nD) (t : Fin cfg0.N) (e : Fin 128) (k : Fin 4) :
    ((iblk m c 1 t : S4x128.Idx → EReal) (ix2 k e)) = (ws m c) (ix2 k (place 2 (⟨t.val, t.isLt⟩ : Fin 8) e)) := by
  blk_ext [iblk, V, ws, place, idx t]

theorem rows_at (c : Dev nD) (t : Fin cfg0.N) (e : Fin 128) (r : Fin 4160) :
    ((iblk m c 0 t : S4160x128.Idx → EReal) (ix2 r e)) = (xs m c) (ix2 r (wide 2 (⟨t.val, t.isLt⟩ : Fin 8) e)) := by
  blk_ext [iblk, V, xs, wide, idx t]

/-- What point `t` stores of the columns' gradient, from whole arrays. -/
theorem columns_at (c : Dev nD) (t : Fin cfg0.N) (j : S4160x128.Idx) :
    (out0_3 (iblk m c 0 t) (iblk m c 1 t) (iblk m c 2 t) j : EReal)
      = d_columns rule 2 (xs m c) (ws m c) (ds m c) (ix2 (j 0) (lane (⟨t.val, t.isLt⟩ : Fin 8) (j 1))) := by
  refine (columns_block _ _ _ j).trans ?_
  have spot (h : Fin 8) (e : Fin 128) (r : Fin 4160) : d_columns rule 2 (xs m c) (ws m c) (ds m c) (ix2 r (lane h e))
      = d_column (slopes rule 2 (xs m c) (ws m c) (ds m c) h e) (fun k => ws m c (ix2 k (place 2 h e))) r := by
    unfold d_columns
    change d_column (slopes _ _ _ _ _ (head (lane h e)) (sub (lane h e))) (fun k => ws m c (ix2 k (place 2 (head (lane h e)) (sub (lane h e))))) r = _
    rw [head_lane, sub_lane]
  exact (congrArg₂ (fun f g => d_column f g (j 0)) (slopes_at m c t (j 1)) (funext fun k => taps_at m c t (j 1) k)).trans (spot _ _ _).symm

/-- What point `t` stores of the taps' gradient, from whole arrays. -/
theorem tap_at (c : Dev nD) (t : Fin cfg0.N) (j : S4x128.Idx) :
    (out0_4 (iblk m c 0 t) (iblk m c 1 t) (iblk m c 2 t) j : EReal)
      = d_taps rule 2 (xs m c) (ws m c) (ds m c) (ix2 (j 0) (lane (⟨t.val, t.isLt⟩ : Fin 8) (j 1))) := by
  refine (taps_block _ _ _ j).trans ?_
  have spot (h : Fin 8) (e : Fin 128) (k : Fin 4) : d_taps rule 2 (xs m c) (ws m c) (ds m c) (ix2 k (lane h e))
      = d_tap (fun r => xs m c (ix2 r (wide 2 h e))) (slopes rule 2 (xs m c) (ws m c) (ds m c) h e) k := by
    unfold d_taps
    change d_tap (fun r => xs m c (ix2 r (wide 2 (head (lane h e)) (sub (lane h e))))) (slopes _ _ _ _ _ (head (lane h e)) (sub (lane h e))) k = _
    rw [head_lane, sub_lane]
  exact (congrArg₂ (fun f g => d_tap f g (j 0)) (funext fun r => rows_at m c t (j 1) r) (slopes_at m c t (j 1))).trans (spot _ _ _).symm

/-- The columns' gradient after the run. -/
theorem array_columns (c : Dev nD) : (dats m 0 c).arrAt 3 cfg0.N
    = (d_columns rule 2 (xs m c) (ws m c) (ds m c) : S4160x1024.Idx → EReal) := by
  refine (dats m 0 c).arrAt_eq_of_covers 3 _ (by decide +kernel) fun t _ y => ?_
  blk_simp
  rw [after0_3]
  have spot : ((cfg0.win 3).blk t).view.emb y = (ix2 (y 0) (lane (⟨t.val, t.isLt⟩ : Fin 8) (y 1)) : S4160x1024.Idx) := by
    blk_ext [lane, idx t]
  exact (columns_at m c t y).trans (congrArg (d_columns _ _ _ _ _) spot).symm

/-- The taps' gradient after the run. -/
theorem array_taps (c : Dev nD) : (dats m 0 c).arrAt 4 cfg0.N
    = (d_taps rule 2 (xs m c) (ws m c) (ds m c) : S4x1024.Idx → EReal) := by
  refine (dats m 0 c).arrAt_eq_of_covers 4 _ (by decide +kernel) fun t _ y => ?_
  blk_simp
  rw [after0_4]
  have spot : ((cfg0.win 4).blk t).view.emb y = (ix2 (y 0) (lane (⟨t.val, t.isLt⟩ : Fin 8) (y 1)) : S4x1024.Idx) := by
    blk_ext [lane, idx t]
  exact (tap_at m c t y).trans (congrArg (d_taps _ _ _ _ _) spot).symm

end Cert.Convolution.DValue
-- ==== Proof.Equations.DValue.lean ====
/- The gradients of the values' convolution: the kernel and the reference end with the same arrays. -/
module

public import proofs.«01_k».proof.Defs
public import proofs.«01_k».proof.Proof.Convolution.DValue
public import proofs.«01_k».proof.Proof.Gen.Reference20Ideal.Run
public import Idealize.ShloMosaic.Adequacy
public import Idealize.ShloMosaic.Init

@[expose] public section

set_option maxRecDepth 16384

noncomputable section

namespace Cert.Convolution.DValue

open Idealize.ShloMosaic Idealize.ShloMosaic.Pointwise Idealize.SL.Sem

section Reference

open Cert.Reference20Ideal Cert.Reference20Ideal.Gen Cert.Reference20Ideal.Value

variable (V0 : Valuation τ sig (Elt Ideal))

/-- The reference's projection's rows, taps, and the gradient of its result. -/
def rx : (Rows 9600).Idx → EReal := V0 (Proc.devRef .tc main_arg0)

def rw' : (Taps 3072).Idx → EReal := V0 (Proc.devRef .tc main_arg1)

def rd : (Rows 1024).Idx → EReal := V0 (Proc.devRef .tc main_arg2)

/-- The taps of the values, and the projection's rows below zero rows. -/
def own_v1 : FVec Ideal S4x1024 .f32 :=
  extractStridedSlice S4x1024 ![0, 2048] (V0 (Proc.devRef .tc main_arg1)) slices_S4x3072_S4x1024_0_2048

def own_v3 : FVec Ideal S4163x1024 .f32 :=
  concatenate S4163x1024 0 [⟨S3x1024, (broadcastInDim S3x1024 ![] bcast_S_S3x1024 (constant S_ .f32 0x00000000#32))⟩, ⟨S4160x1024, (extractStridedSlice S4160x1024 ![0, 2048] (V0 (Proc.devRef .tc main_arg0)) slices_S4160x9600_S4160x1024_0_2048)⟩] concatenates_S3x1024_S4160x1024_S4163x1024_d0

/-- The rows and the taps of the convolution. -/
def own_v5 : FVec Ideal S4160x1024 .f32 :=
  extractStridedSlice S4160x1024 ![0, 0] (own_v3 V0) slices_S4163x1024_S4160x1024_0_0

def own_v8 : FVec Ideal S1x1024 .f32 :=
  broadcastInDim S1x1024 ![1] bcast_S1024_S1x1024_1 (shapeCast _ (extractStridedSlice S1x1024 ![0, 0] (own_v1 V0) slices_S4x1024_S1x1024_0_0) shapeCasts_S1x1024_S1024)

def own_v11 : FVec Ideal S4160x1024 .f32 :=
  extractStridedSlice S4160x1024 ![1, 0] (own_v3 V0) slices_S4163x1024_S4160x1024_1_0

def own_v14 : FVec Ideal S1x1024 .f32 :=
  broadcastInDim S1x1024 ![1] bcast_S1024_S1x1024_1 (shapeCast _ (extractStridedSlice S1x1024 ![1, 0] (own_v1 V0) slices_S4x1024_S1x1024_1_0) shapeCasts_S1x1024_S1024)

def own_v18 : FVec Ideal S4160x1024 .f32 :=
  extractStridedSlice S4160x1024 ![2, 0] (own_v3 V0) slices_S4163x1024_S4160x1024_2_0

def own_v21 : FVec Ideal S1x1024 .f32 :=
  broadcastInDim S1x1024 ![1] bcast_S1024_S1x1024_1 (shapeCast _ (extractStridedSlice S1x1024 ![2, 0] (own_v1 V0) slices_S4x1024_S1x1024_2_0) shapeCasts_S1x1024_S1024)

def own_v25 : FVec Ideal S4160x1024 .f32 :=
  extractStridedSlice S4160x1024 ![3, 0] (own_v3 V0) slices_S4163x1024_S4160x1024_3_0

def own_v28 : FVec Ideal S1x1024 .f32 :=
  broadcastInDim S1x1024 ![1] bcast_S1024_S1x1024_1 (shapeCast _ (extractStridedSlice S1x1024 ![3, 0] (own_v1 V0) slices_S4x1024_S1x1024_3_0) shapeCasts_S1x1024_S1024)

/-- The convolution, its logistic, and its gradient. -/
def own_v31 : FVec Ideal S4160x1024 .f32 :=
  addf (addf (addf (mulf (own_v5 V0) (broadcastInDim S4160x1024 ![0, 1] bcast_S1x1024_S4160x1024_0_1 (own_v8 V0))) (mulf (own_v11 V0) (broadcastInDim S4160x1024 ![0, 1] bcast_S1x1024_S4160x1024_0_1 (own_v14 V0)))) (mulf (own_v18 V0) (broadcastInDim S4160x1024 ![0, 1] bcast_S1x1024_S4160x1024_0_1 (own_v21 V0)))) (mulf (own_v25 V0) (broadcastInDim S4160x1024 ![0, 1] bcast_S1x1024_S4160x1024_0_1 (own_v28 V0)))

def own_v32_2 : FVec Ideal S4160x1024 .f32 :=
  Host.divf (broadcastInDim S4160x1024 ![] bcast_S_S4160x1024 (constant S_ .f32 0x3F800000#32)) (addf (broadcastInDim S4160x1024 ![] bcast_S_S4160x1024 (constant S_ .f32 0x3F800000#32)) (Host.exp (Host.negf (own_v31 V0))))

def own_v64 : FVec Ideal S4160x1024 .f32 :=
  addf (mulf (V0 (Proc.devRef .tc main_arg2)) (own_v32_2 V0)) (mulf (mulf (own_v31 V0) (V0 (Proc.devRef .tc main_arg2))) (mulf (own_v32_2 V0) (subf (broadcastInDim S4160x1024 ![] bcast_S_S4160x1024 (constant S_ .f32 0x3F800000#32)) (own_v32_2 V0))))

/-- The gradient of the padded columns. -/
def own_v106 : FVec Ideal S4163x1024 .f32 :=
  addf (addf (addf (pad S4163x1024 ![3, 0] ![0, 0] ![0, 0] (mulf (own_v64 V0) (broadcastInDim S4160x1024 ![0, 1] bcast_S1x1024_S4160x1024_0_1 (own_v28 V0))) (constant S_ .f32 0x00000000#32) pads_S4160x1024_S4163x1024_300_000 h_S_) (pad S4163x1024 ![2, 0] ![1, 0] ![0, 0] (mulf (own_v64 V0) (broadcastInDim S4160x1024 ![0, 1] bcast_S1x1024_S4160x1024_0_1 (own_v21 V0))) (constant S_ .f32 0x00000000#32) pads_S4160x1024_S4163x1024_210_000 h_S_)) (pad S4163x1024 ![1, 0] ![2, 0] ![0, 0] (mulf (own_v64 V0) (broadcastInDim S4160x1024 ![0, 1] bcast_S1x1024_S4160x1024_0_1 (own_v14 V0))) (constant S_ .f32 0x00000000#32) pads_S4160x1024_S4163x1024_120_000 h_S_)) (pad S4163x1024 ![0, 0] ![3, 0] ![0, 0] (mulf (own_v64 V0) (broadcastInDim S4160x1024 ![0, 1] bcast_S1x1024_S4160x1024_0_1 (own_v8 V0))) (constant S_ .f32 0x00000000#32) pads_S4160x1024_S4163x1024_030_000 h_S_)

theorem r5 (j : S4160x1024.Idx) : (own_v5 V0 j : EReal) = behind 3 (fun t => rx V0 (ix2 t (wideCol 2 (j 1)))) (j 0) := by
  have bound : (j 0).val < 4160 := (j 0).isLt
  unfold behind rx
  pointwise [own_v5, own_v3]
  by_cases h : 3 ≤ (j 0).val
  · rw [dif_neg (by omega), if_pos h]
    refine congrArg _ (congrArg₂ ix2 (Fin.ext ?_) (Fin.ext ?_))
    · change (j 0).val - 3 = (j 0).val - 3
      omega
    · change 2048 + (j 1).val = 2 * 1024 + (j 1).val
      omega
  · rw [dif_pos (by omega), if_neg h]

theorem r11 (j : S4160x1024.Idx) : (own_v11 V0 j : EReal) = behind 2 (fun t => rx V0 (ix2 t (wideCol 2 (j 1)))) (j 0) := by
  have bound : (j 0).val < 4160 := (j 0).isLt
  unfold behind rx
  pointwise [own_v11, own_v3]
  by_cases h : 2 ≤ (j 0).val
  · rw [dif_neg (by omega), if_pos h]
    refine congrArg _ (congrArg₂ ix2 (Fin.ext ?_) (Fin.ext ?_))
    · change 1 + (j 0).val - 3 = (j 0).val - 2
      omega
    · change 2048 + (j 1).val = 2 * 1024 + (j 1).val
      omega
  · rw [dif_pos (by omega), if_neg h]

theorem r18 (j : S4160x1024.Idx) : (own_v18 V0 j : EReal) = behind 1 (fun t => rx V0 (ix2 t (wideCol 2 (j 1)))) (j 0) := by
  have bound : (j 0).val < 4160 := (j 0).isLt
  unfold behind rx
  pointwise [own_v18, own_v3]
  by_cases h : 1 ≤ (j 0).val
  · rw [dif_neg (by omega), if_pos h]
    refine congrArg _ (congrArg₂ ix2 (Fin.ext ?_) (Fin.ext ?_))
    · change 2 + (j 0).val - 3 = (j 0).val - 1
      omega
    · change 2048 + (j 1).val = 2 * 1024 + (j 1).val
      omega
  · rw [dif_pos (by omega), if_neg h]

theorem r25 (j : S4160x1024.Idx) : (own_v25 V0 j : EReal) = rx V0 (ix2 (j 0) (wideCol 2 (j 1))) := by
  unfold rx
  pointwise [own_v25, own_v3]
  refine congrArg _ (congrArg₂ ix2 rfl (Fin.ext ?_))
  change 2048 + (j 1).val = 2 * 1024 + (j 1).val
  omega

theorem r8 (j : S1x1024.Idx) : (own_v8 V0 j : EReal) = rw' V0 (ix2 0 (tapCol 2 (j 1))) := by
  unfold rw'
  pointwise [own_v8, own_v1]
  exact congrArg _ (congrArg₂ ix2 rfl (Fin.ext (by simp [tapCol])))

theorem r14 (j : S1x1024.Idx) : (own_v14 V0 j : EReal) = rw' V0 (ix2 1 (tapCol 2 (j 1))) := by
  unfold rw'
  pointwise [own_v14, own_v1]
  exact congrArg _ (congrArg₂ ix2 rfl (Fin.ext (by simp [tapCol])))

theorem r21 (j : S1x1024.Idx) : (own_v21 V0 j : EReal) = rw' V0 (ix2 2 (tapCol 2 (j 1))) := by
  unfold rw'
  pointwise [own_v21, own_v1]
  exact congrArg _ (congrArg₂ ix2 rfl (Fin.ext (by simp [tapCol])))

theorem r28 (j : S1x1024.Idx) : (own_v28 V0 j : EReal) = rw' V0 (ix2 3 (tapCol 2 (j 1))) := by
  unfold rw'
  pointwise [own_v28, own_v1]
  exact congrArg _ (congrArg₂ ix2 rfl (Fin.ext (by simp [tapCol])))

/-- The convolution. -/
theorem r31 (j : S4160x1024.Idx) : (own_v31 V0 j : EReal)
    = conv (fun t => rx V0 (ix2 t (wideCol 2 (j 1)))) (fun k => rw' V0 (ix2 k (tapCol 2 (j 1)))) (j 0) := by
  unfold conv
  pointwise [own_v31, r5, r8, r11, r14, r18, r21, r25, r28]
  have turn (a b c d : EReal) : a + b + c + d = d + c + b + a := by abel
  exact turn _ _ _ _

theorem r32 (j : S4160x1024.Idx) : (own_v32_2 V0 j : EReal) = Ideal.logistic (own_v31 V0 j) := by
  unfold Ideal.logistic
  pointwise [own_v32_2]

theorem r64 (j : S4160x1024.Idx) : (own_v64 V0 j : EReal) = d_act (own_v31 V0 j) (rd V0 j) := by
  unfold d_act rd
  pointwise [own_v64, r32]

/-- The gradient of the convolution. -/
theorem slope_reference (h : Fin 8) (e : Fin 128) (t : Fin 4160) :
    (own_v64 V0 (ix2 t (lane h e)) : EReal) = slopes rule 2 (rx V0) (rw' V0) (rd V0) h e t := by
  rw [r64, r31]
  rfl

theorem slope_at (j : S4160x1024.Idx) :
    (own_v64 V0 j : EReal) = slopes rule 2 (rx V0) (rw' V0) (rd V0) (head (j 1)) (sub (j 1)) (j 0) := by
  have spot : j = ix2 (j 0) (lane (head (j 1)) (sub (j 1))) :=
    (ix2_eta j).symm.trans (congrArg (ix2 (j 0)) (lane_head_sub (j 1)).symm)
  exact (congrArg (own_v64 V0) spot).trans (slope_reference V0 _ _ _)

theorem tapCol_head (j : Fin 1024) : tapCol 2 j = place 2 (head j) (sub j) :=
  (congrArg (tapCol 2) (lane_head_sub j)).symm

theorem wideCol_head (j : Fin 1024) : wideCol 2 j = wide 2 (head j) (sub j) :=
  (congrArg (wideCol 2) (lane_head_sub j)).symm

theorem zero_first : (constant (F := Ideal) S_ .f32 0x00000000#32 (Shape.Idx.first h_S_) : EReal) = 0 := Ideal.ofBits_zero_f32

/-- The reference's gradient of the columns. -/
theorem columns_reference (j : S4160x1024.Idx) :
    (truncf .bf16 (extractStridedSlice S4160x1024 ![3, 0] (own_v106 V0) slices_S4163x1024_S4160x1024_3_0) bitsLt_bf16_f32 j : EReal)
      = d_columns rule 2 (rx V0) (rw' V0) (rd V0) j := by
  have turn (a b c d : EReal) : a + b + c + d = d + c + b + a := by abel
  have tap (k : Fin 4) : rw' V0 (ix2 k (tapCol 2 (j 1))) = rw' V0 (ix2 k (place 2 (head (j 1)) (sub (j 1)))) :=
    congrArg (fun c => rw' V0 (ix2 k c)) (tapCol_head (j 1))
  unfold d_columns d_column
  refine Eq.trans ?_ (turn _ _ _ _)
  refine congrArg₂ (fun a b : EReal => a + b) (congrArg₂ (fun a b : EReal => a + b) (congrArg₂ (fun a b : EReal => a + b) ?_ ?_) ?_) ?_
  · refine (padded_rows 3 0 0 rfl _ _ _ _ zero_first _ (j 0) (j 1) rfl (Nat.zero_add _)).trans ((ahead_zero _ _).trans ?_)
    pointwise [slope_at, r28]
    exact congrArg (fun a : EReal => _ * a) (tap 3)
  · refine (padded_rows 2 1 1 rfl _ _ _ _ zero_first _ (j 0) (j 1) rfl (Nat.zero_add _)).trans (congrArg (fun f : Column => ahead 1 f (j 0)) (funext fun t => ?_))
    pointwise [slope_at, r21]
    exact congrArg (fun a : EReal => _ * a) (tap 2)
  · refine (padded_rows 1 2 2 rfl _ _ _ _ zero_first _ (j 0) (j 1) rfl (Nat.zero_add _)).trans (congrArg (fun f : Column => ahead 2 f (j 0)) (funext fun t => ?_))
    pointwise [slope_at, r14]
    exact congrArg (fun a : EReal => _ * a) (tap 1)
  · refine (padded_rows 0 3 3 rfl _ _ _ _ zero_first _ (j 0) (j 1) rfl (Nat.zero_add _)).trans (congrArg (fun f : Column => ahead 3 f (j 0)) (funext fun t => ?_))
    pointwise [slope_at, r8]
    exact congrArg (fun a : EReal => _ * a) (tap 0)

/-- One row of the taps' gradient, as the reference computes it. -/
theorem row_reference (f g : FVec Ideal S4160x1024 .f32) (j : S1x1024.Idx) :
    (broadcastInDim S1x1024 ![1] bcast_S1024_S1x1024_1 (Host.reduceAdd (shapeCast _ (Host.reduceAdd (mulf f g) (constant S_ .f32 0x00000000#32)
      reducesTo_S4160x1024_S1024_d0 h_S_) shapeCasts_S1024_S1x1024) (constant S_ .f32 0x00000000#32) reducesTo_S1x1024_S1024_d0 h_S_) j : EReal)
      = ∑ t : Fin 4160, f (ix2 t (j 1)) * g (ix2 t (j 1)) := by
  pointwise
  simp

/-- The reference's gradient of the taps. -/
theorem taps_reference (j : S4x1024.Idx) :
    (addf (addf (addf (pad S4x1024 ![3, 0] ![0, 0] ![0, 0] (broadcastInDim S1x1024 ![1] bcast_S1024_S1x1024_1 (Host.reduceAdd (shapeCast _ (Host.reduceAdd (mulf (own_v25 V0) (own_v64 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_300_000 h_S_) (pad S4x1024 ![2, 0] ![1, 0] ![0, 0] (broadcastInDim S1x1024 ![1] bcast_S1024_S1x1024_1 (Host.reduceAdd (shapeCast _ (Host.reduceAdd (mulf (own_v18 V0) (own_v64 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_210_000 h_S_)) (pad S4x1024 ![1, 0] ![2, 0] ![0, 0] (broadcastInDim S1x1024 ![1] bcast_S1024_S1x1024_1 (Host.reduceAdd (shapeCast _ (Host.reduceAdd (mulf (own_v11 V0) (own_v64 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_120_000 h_S_)) (pad S4x1024 ![0, 0] ![3, 0] ![0, 0] (broadcastInDim S1x1024 ![1] bcast_S1024_S1x1024_1 (Host.reduceAdd (shapeCast _ (Host.reduceAdd (mulf (own_v5 V0) (own_v64 V0)) (constant S_ .f32 0x00000000#32) reducesTo_S4160x1024_S1024_d0 h_S_) shapeCasts_S1024_S1x1024) (constant S_ .f32 0x00000000#32) reducesTo_S1x1024_S1024_d0 h_S_)) (constant S_ .f32 0x00000000#32) pads_S1x1024_S4x1024_030_000 h_S_) j : EReal)
      = d_taps rule 2 (rx V0) (rw' V0) (rd V0) j := by
  have g (t : Fin 4160) : (own_v64 V0 (ix2 t (j 1)) : EReal) = slopes rule 2 (rx V0) (rw' V0) (rd V0) (head (j 1)) (sub (j 1)) t :=
    slope_at V0 _
  have col (t : Fin 4160) : rx V0 (ix2 t (wideCol 2 (j 1))) = rx V0 (ix2 t (wide 2 (head (j 1)) (sub (j 1)))) :=
    congrArg (fun c => rx V0 (ix2 t c)) (wideCol_head (j 1))
  have sum (s : ℕ) (f : FVec Ideal S4160x1024 .f32)
      (hf : ∀ t : Fin 4160, (f (ix2 t (j 1)) : EReal) = behind s (fun t => rx V0 (ix2 t (wideCol 2 (j 1)))) t) (hs : s = 3 - (j 0).val) :
      (broadcastInDim S1x1024 ![1] bcast_S1024_S1x1024_1 (Host.reduceAdd (shapeCast _ (Host.reduceAdd (mulf f (own_v64 V0))
        (constant S_ .f32 0x00000000#32) reducesTo_S4160x1024_S1024_d0 h_S_) shapeCasts_S1024_S1x1024) (constant S_ .f32 0x00000000#32)
        reducesTo_S1x1024_S1024_d0 h_S_) (ix2 0 (j 1)) : EReal)
        = ∑ t : Fin 4160, behind (3 - (j 0).val) (fun t => rx V0 (ix2 t (wide 2 (head (j 1)) (sub (j 1))))) t
          * slopes rule 2 (rx V0) (rw' V0) (rd V0) (head (j 1)) (sub (j 1)) t := by
    rw [← hs]
    exact (row_reference f (own_v64 V0) (ix2 0 (j 1))).trans (Finset.sum_congr rfl fun t _ =>
      congrArg₂ (fun a b : EReal => a * b) ((hf t).trans (congrArg (fun f : Column => behind s f t) (funext col))) (g t))
  have bound : (j 0).val < 4 := (j 0).isLt
  refine (congrArg₂ (fun a b : EReal => a + b) (congrArg₂ (fun a b : EReal => a + b) (congrArg₂ (fun a b : EReal => a + b)
    (padded_row 3 0 _ _ _ _ zero_first j) (padded_row 2 1 _ _ _ _ zero_first j)) (padded_row 1 2 _ _ _ _ zero_first j))
    (padded_row 0 3 _ _ _ _ zero_first j)).trans ?_
  have cases : (j 0).val = 0 ∨ (j 0).val = 1 ∨ (j 0).val = 2 ∨ (j 0).val = 3 := by omega
  have pick (a b c d : EReal) : (if (j 0).val = 3 then a else 0) + (if (j 0).val = 2 then b else 0) + (if (j 0).val = 1 then c else 0)
      + (if (j 0).val = 0 then d else 0) = if (j 0).val = 3 then a else if (j 0).val = 2 then b else if (j 0).val = 1 then c else d := by
    rcases cases with h | h | h | h <;> simp [h]
  refine (pick _ _ _ _).trans ?_
  rcases cases with h | h | h | h
  · rw [if_neg (by omega), if_neg (by omega), if_neg (by omega)]
    exact sum 3 _ (fun t => r5 V0 _) (by omega)
  · rw [if_neg (by omega), if_neg (by omega), if_pos h]
    exact sum 2 _ (fun t => r11 V0 _) (by omega)
  · rw [if_neg (by omega), if_pos h]
    exact sum 1 _ (fun t => r18 V0 _) (by omega)
  · rw [if_pos h]
    exact sum 0 _ (fun t => (r25 V0 _).trans (behind_zero (fun t => rx V0 (ix2 t (wideCol 2 (j 1)))) t).symm) (by omega)

end Reference

variable (m : (ℓ : Loc Cert.Kernel20Ideal.nD Cert.Kernel20Ideal.τ Cert.Kernel20Ideal.sig) → Buf (Elt Ideal) ℓ)

/-- The reference's results, by their parts. -/
theorem reference_parts (m : (ℓ : Loc Cert.Reference20Ideal.nD Cert.Reference20Ideal.τ Cert.Reference20Ideal.sig) → Buf (Elt Ideal) ℓ)
    (c : Dev Cert.Reference20Ideal.nD) (j : Cert.Reference20Ideal.S4160x1024.Idx) :
    (Cert.Reference20Ideal.Value.res_main_v78 m c j : EReal)
      = d_columns rule 2 (rx (StableHlo.launchContents m c)) (rw' (StableHlo.launchContents m c)) (rd (StableHlo.launchContents m c)) j :=
  columns_reference (StableHlo.launchContents m c) j

theorem reference_taps (m : (ℓ : Loc Cert.Reference20Ideal.nD Cert.Reference20Ideal.τ Cert.Reference20Ideal.sig) → Buf (Elt Ideal) ℓ)
    (c : Dev Cert.Reference20Ideal.nD) (j : Cert.Reference20Ideal.S4x1024.Idx) :
    (Cert.Reference20Ideal.Value.res_main_v73 m c j : EReal)
      = d_taps rule 2 (rx (StableHlo.launchContents m c)) (rw' (StableHlo.launchContents m c)) (rd (StableHlo.launchContents m c)) j :=
  taps_reference (StableHlo.launchContents m c) j

/-- The reference declares no semaphore, and its run ends with its arguments as they were. -/
theorem frame_reference : Cert.quiescent_Reference20Ideal := fun m ρ _ =>
  (θ_run Cert.Reference20Ideal.defs _ _).mono
    (fun r h => ⟨fun c => (h c).2.2, sem_eq_zero_of_no_sems (by decide) r.2⟩)
    (Cert.Reference20Ideal.Value.run (F := Ideal) m ρ)

open Cert.Kernel20Ideal Cert.Kernel20Ideal.Gen in
/-- Both runs end with the same arrays. -/
theorem equation : Cert.algebraic_Kernel20Ideal_Reference20Ideal := by
  intro m g m' g' _ hargs
  refine ⟨fun c => (dats m 0 c).arrAt 3 cfg0.N, fun c => (dats m 0 c).arrAt 4 cfg0.N, Cert.Kernel20Ideal.Value.run_blocks m g,
    (θ_run Cert.Reference20Ideal.defs _ _).mono (fun r h c => ?_) (Cert.Reference20Ideal.Value.run (F := Ideal) m' g')⟩
  obtain ⟨r0, r1, rest⟩ := h c
  obtain ⟨h0, h1, h2⟩ := hargs c
  have e0 : rx (StableHlo.launchContents m' c) = xs m c := h0
  have e1 : rw' (StableHlo.launchContents m' c) = ws m c := h1
  have e2 : rd (StableHlo.launchContents m' c) = ds m c := h2
  refine ⟨r0.trans (Eq.trans (funext fun j => ?_) (array_columns m c).symm), r1.trans (Eq.trans (funext fun j => ?_) (array_taps m c).symm), rest⟩
  · exact (reference_parts m' c j).trans (by rw [e0, e1, e2])
  · exact (reference_taps m' c j).trans (by rw [e0, e1, e2])

end Cert.Convolution.DValue
-- ==== Proof.Convolution.Shift.lean ====
/- The mixture of a column with the row before it, and its gradients, in plain numbers. -/
module

public import proofs.«01_k».proof.Proof.Convolution.Spec

@[expose] public section

set_option maxRecDepth 16384

noncomputable section

namespace Cert.Convolution

open Idealize.ShloMosaic Idealize.ShloMosaic.Pointwise

/-- A column, moved some way towards the row before. -/
def mix (x : Column) (mu : EReal) (t : Fin 4160) : EReal := x t + (behind 1 x t - x t) * mu

/-- The gradient of the column. -/
def d_mix (g : Column) (mu : EReal) (t : Fin 4160) : EReal := g t + -(g t * mu) + ahead 1 (fun i => g i * mu) t

/-- The gradient of how far it moves. -/
def d_way (x g : Column) : EReal := ∑ t : Fin 4160, (behind 1 x t - x t) * g t

/-- The gradient of a column of three results side by side, two of them used twice. -/
def joined (r r' k v v' : (Rows 1024).Idx → EReal) (q : Fin 3072) (t : Fin 4160) : EReal :=
  if h : q.val < 1024 then r (ix2 t (⟨q.val, h⟩ : Fin 1024)) + r' (ix2 t (⟨q.val, h⟩ : Fin 1024))
  else if h' : q.val < 2048 then k (ix2 t (⟨q.val - 1024, by omega⟩ : Fin 1024))
  else v (ix2 t (⟨q.val - 2048, by omega⟩ : Fin 1024)) + v' (ix2 t (⟨q.val - 2048, by omega⟩ : Fin 1024))

/-- Column `q` of the mixed part of the projection's columns. -/
def mixedCol (q : Fin 3072) : Fin 9600 := ⟨4096 + q.val, by omega⟩

end Cert.Convolution
-- ==== Proof.Convolution.DShift.lean ====
/- The gradients of the mixture with the row before: the kernel's two arrays. -/
module

public import proofs.«01_k».proof.Proof.Gen.Kernel21Ideal.Value
public import proofs.«01_k».proof.Proof.Convolution.Shift
public import Idealize.ShloMosaic.Lib.Pipeline.ValueKit
public import Idealize.ShloMosaic.Lib.Pipeline.ReadBack

@[expose] public section

set_option maxRecDepth 16384

noncomputable section

namespace Cert.Convolution.DShift

open Idealize.ShloMosaic Idealize.ShloMosaic.Pointwise Idealize.SL.Sem Cert.Kernel21Ideal Cert.Kernel21Ideal.Gen

variable (m : (ℓ : Loc nD τ sig) → Buf (Elt Ideal) ℓ)

theorem idx : ∀ t : Fin cfg0.N, win0_0.index t = ![0, t.val + 32] ∧ win0_1.index t = ![0, t.val] ∧ win0_2.index t = ![0, min t.val 7]
    ∧ win0_3.index t = ![0, min t.val 7] ∧ win0_4.index t = ![0, min (t.val - 8) 7] ∧ win0_5.index t = ![0, min (t.val - 16) 7]
    ∧ win0_6.index t = ![0, min (t.val - 16) 7] ∧ win0_7.index t = ![0, t.val] ∧ win0_8.index t = ![0, t.val]
    ∧ (grid0.coords t 0).val = t.val :=
  (by decide +kernel : ∀ t : Fin grid0.N, _)

/-- The gradient of the block's columns. -/
theorem columns (i : grid0.Coords) (r r' k v v' : Vec Ideal S4160x128 .f32) (mu : Vec Ideal S1x128 .f32) (j : S4160x128.Idx) :
    (k0_pay1 (k0_pay4 i r r' k v v' mu) j : EReal)
      = d_mix (fun t => k0_pay2 i r r' k v v' (ix2 t (j 1))) (mu (ix2 0 (j 1))) (j 0) := by
  have here : k0_pay2 i r r' k v v' (ix2 (j 0) (j 1)) = k0_pay2 i r r' k v v' j := congrArg _ (ix2_eta j)
  unfold d_mix
  simp only [here]
  refine congrArg₂ (fun a b : EReal => a + b) (congrArg₂ (fun a b : EReal => a + b) rfl ?_) ?_
  · pointwise
    rw [zero_sub]
  · refine (rotate_ahead 1 4159 (by omega) rfl _ _ _ j).trans (congrArg (fun f : Column => ahead 1 f (j 0)) (funext fun t => ?_))
    pointwise

/-- The gradient of the block's ways. -/
theorem ways (i : grid0.Coords) (r r' k v v' x : Vec Ideal S4160x128 .f32) (j : S1x128.Idx) :
    (k0_pay3 i r r' k v v' x j : EReal)
      = d_way (fun t => x (ix2 t (j 1))) (fun t => k0_pay2 i r r' k v v' (ix2 t (j 1))) := by
  unfold d_way k0_pay3
  pointwise
  refine Finset.sum_congr rfl fun t _ => congrArg (fun a : EReal => (a - _) * _) ?_
  rw [WordCmp.cmpi_sge_ofNat (by omega) (by omega), WordCmp.select_ofBool]
  unfold behind
  by_cases h : 1 ≤ t.val
  · rw [if_pos (decide_eq_true h)]
    exact (congrArg (fun r => x (ix2 r (j 1))) (Fin.ext (by change (t.val + 4160 - 1) % 4160 = t.val - 1; omega))).trans (if_pos h).symm
  · rw [if_neg (by simpa using h)]
    exact (if_neg h).symm

/-- The projection's rows, the ways, and the results' gradients. -/
def xs (c : Dev nD) : (Rows 9600).Idx → EReal := m ((c.tc : Thread nD τ).loc main_arg0)

def ws (c : Dev nD) : (⟨2, ![1, 3072]⟩ : Shape).Idx → EReal := m ((c.tc : Thread nD τ).loc main_arg1)

def gs (c : Dev nD) (q : Fin 3072) : Column :=
  joined (m ((c.tc : Thread nD τ).loc main_arg2) : S4160x1024.Idx → EReal) (m ((c.tc : Thread nD τ).loc main_arg3) : S4160x1024.Idx → EReal)
    (m ((c.tc : Thread nD τ).loc main_arg4) : S4160x1024.Idx → EReal) (m ((c.tc : Thread nD τ).loc main_arg5) : S4160x1024.Idx → EReal)
    (m ((c.tc : Thread nD τ).loc main_arg6) : S4160x1024.Idx → EReal) q

/-- Column `e` of block `t`. -/
def spot (t : Fin cfg0.N) (e : Fin 128) : Fin 3072 := ⟨t.val * 128 + e.val, by have := t.isLt; change t.val < 24 at this; omega⟩

/-- A point's gradient of its columns' results. -/
theorem picked (c : Dev nD) (t : Fin cfg0.N) (r : Fin 4160) (e : Fin 128) :
    (k0_pay2 (F := Ideal) (grid0.coords t) (iblk m c 2 t) (iblk m c 3 t) (iblk m c 4 t) (iblk m c 5 t) (iblk m c 6 t) (ix2 r e) : EReal)
      = gs m c (spot t e) r := by
  have ht : t.val < 24 := t.isLt
  have hc := (idx t).2.2.2.2.2.2.2.2.2
  unfold k0_pay2 gs
  change (Scalar.select (IntOp.cmpi .slt (BitVec.ofNat 32 (grid0.coords t 0).val) 8#32) _ (Scalar.select (IntOp.cmpi .slt (BitVec.ofNat 32 (grid0.coords t 0).val) 16#32) _ _ ) : FVec Ideal S4160x128 .f32) (ix2 r e) = _
  rw [hc, WordCmp.cmpi_slt_ofNat (by omega) (by omega), WordCmp.cmpi_slt_ofNat (by omega) (by omega), WordCmp.select_ofBool, WordCmp.select_ofBool]
  by_cases h8 : t.val < 8
  · rw [if_pos (decide_eq_true h8)]
    have low : (spot t e).val < 1024 := by change t.val * 128 + e.val < 1024; omega
    have p2 : (iblk m c 2 t) (ix2 r e) = (m ((c.tc : Thread nD τ).loc main_arg2) : S4160x1024.Idx → EReal) (ix2 r (⟨(spot t e).val, low⟩ : Fin 1024)) := by
      blk_ext [iblk, V, spot, idx t]
    have p3 : (iblk m c 3 t) (ix2 r e) = (m ((c.tc : Thread nD τ).loc main_arg3) : S4160x1024.Idx → EReal) (ix2 r (⟨(spot t e).val, low⟩ : Fin 1024)) := by
      blk_ext [iblk, V, spot, idx t]
    refine Eq.trans ?_ (dif_pos low).symm
    exact congrArg₂ (fun a b : EReal => a + b) p2 p3
  · rw [if_neg (by simpa using h8)]
    have high : ¬ (spot t e).val < 1024 := by change ¬ t.val * 128 + e.val < 1024; omega
    refine Eq.trans ?_ (dif_neg high).symm
    by_cases h16 : t.val < 16
    · rw [if_pos (decide_eq_true h16)]
      have low : (spot t e).val < 2048 := by change t.val * 128 + e.val < 2048; omega
      have p4 : (iblk m c 4 t) (ix2 r e) = (m ((c.tc : Thread nD τ).loc main_arg4) : S4160x1024.Idx → EReal) (ix2 r (⟨(spot t e).val - 1024, by omega⟩ : Fin 1024)) := by
        blk_ext [iblk, V, spot, idx t]
      refine Eq.trans ?_ (dif_pos low).symm
      exact p4
    · rw [if_neg (by simpa using h16)]
      have top : ¬ (spot t e).val < 2048 := by change ¬ t.val * 128 + e.val < 2048; omega
      have p5 : (iblk m c 5 t) (ix2 r e) = (m ((c.tc : Thread nD τ).loc main_arg5) : S4160x1024.Idx → EReal) (ix2 r (⟨(spot t e).val - 2048, by omega⟩ : Fin 1024)) := by
        blk_ext [iblk, V, spot, idx t]
      have p6 : (iblk m c 6 t) (ix2 r e) = (m ((c.tc : Thread nD τ).loc main_arg6) : S4160x1024.Idx → EReal) (ix2 r (⟨(spot t e).val - 2048, by omega⟩ : Fin 1024)) := by
        blk_ext [iblk, V, spot, idx t]
      refine Eq.trans ?_ (dif_neg top).symm
      exact congrArg₂ (fun a b : EReal => a + b) p5 p6

/-- The two gradients of the whole arrays. -/
def d_rows (c : Dev nD) : S4160x3072.Idx → EReal := fun j => d_mix (gs m c (j 1)) (ws m c (ix2 0 (j 1))) (j 0)

def d_ways (c : Dev nD) : S1x3072.Idx → EReal := fun j => d_way (fun t => xs m c (ix2 t (mixedCol (j 1)))) (gs m c (j 1))

/-- What point `t` stores of the columns' gradient, from whole arrays. -/
theorem rows_at (c : Dev nD) (t : Fin cfg0.N) (j : S4160x128.Idx) :
    (out0_7 (grid0.coords t) (iblk m c 0 t) (iblk m c 1 t) (iblk m c 2 t) (iblk m c 3 t) (iblk m c 4 t) (iblk m c 5 t) (iblk m c 6 t) j : EReal)
      = d_rows m c (ix2 (j 0) (spot t (j 1))) := by
  unfold out0_7
  frame_out
  refine (columns _ _ _ _ _ _ _ j).trans ?_
  have way : ((iblk m c 1 t : S1x128.Idx → EReal) (ix2 0 (j 1))) = ws m c (ix2 0 (spot t (j 1))) := by
    blk_ext [iblk, V, ws, spot, idx t]
  exact congrArg₂ (fun f w => d_mix f w (j 0)) (funext fun r => picked m c t r (j 1)) way

/-- What point `t` stores of the ways' gradient, from whole arrays. -/
theorem ways_at (c : Dev nD) (t : Fin cfg0.N) (j : S1x128.Idx) :
    (out0_8 (grid0.coords t) (iblk m c 0 t) (iblk m c 1 t) (iblk m c 2 t) (iblk m c 3 t) (iblk m c 4 t) (iblk m c 5 t) (iblk m c 6 t) j : EReal)
      = d_ways m c (ix2 (j 0) (spot t (j 1))) := by
  unfold out0_8
  frame_out
  refine (ways _ _ _ _ _ _ _ j).trans ?_
  have row (r : Fin 4160) : ((iblk m c 0 t : S4160x128.Idx → EReal) (ix2 r (j 1))) = xs m c (ix2 r (mixedCol (spot t (j 1)))) := by
    blk_ext [iblk, V, xs, spot, mixedCol, idx t]
  exact congrArg₂ d_way (funext row) (funext fun r => picked m c t r (j 1))

/-- The columns' gradient after the run. -/
theorem array_rows (c : Dev nD) : (dats m 0 c).arrAt 7 cfg0.N = d_rows m c := by
  refine (dats m 0 c).arrAt_eq_of_covers 7 _ (by decide +kernel) fun t _ y => ?_
  blk_simp
  rw [after0_7]
  have place : ((cfg0.win 7).blk t).view.emb y = (ix2 (y 0) (spot t (y 1)) : S4160x3072.Idx) := by
    blk_ext [spot, idx t]
  exact (rows_at m c t y).trans (congrArg (d_rows m c) place).symm

/-- The ways' gradient after the run. -/
theorem array_ways (c : Dev nD) : (dats m 0 c).arrAt 8 cfg0.N = d_ways m c := by
  refine (dats m 0 c).arrAt_eq_of_covers 8 _ (by decide +kernel) fun t _ y => ?_
  blk_simp
  rw [after0_8]
  have place : ((cfg0.win 8).blk t).view.emb y = (ix2 (y 0) (spot t (y 1)) : S1x3072.Idx) := by
    blk_ext [spot, idx t]
  exact (ways_at m c t y).trans (congrArg (d_ways m c) place).symm

end Cert.Convolution.DShift
-- ==== Proof.Equations.DShift.lean ====
/- The gradients of the mixture with the row before: the kernel and the reference end with the same arrays. -/
module

public import proofs.«01_k».proof.Defs
public import proofs.«01_k».proof.Proof.Convolution.DShift
public import proofs.«01_k».proof.Proof.Gen.Reference21Ideal.Run
public import Idealize.ShloMosaic.Adequacy
public import Idealize.ShloMosaic.Init

@[expose] public section

set_option maxRecDepth 16384

noncomputable section

namespace Cert.Convolution.DShift

open Idealize.ShloMosaic Idealize.ShloMosaic.Pointwise Idealize.SL.Sem

section Reference

open Cert.Reference21Ideal Cert.Reference21Ideal.Gen

/-- The gradient of the mixture's columns, as the reference puts it together. -/
def grad (r r' k v v' : FVec Ideal S4160x1024 .f32) : FVec Ideal S4160x3072 .f32 :=
  concatenate S4160x3072 1 [⟨S4160x1024, addf r r'⟩, ⟨S4160x1024, k⟩, ⟨S4160x1024, addf v v'⟩]
    concatenates_S4160x1024_S4160x1024_S4160x1024_S4160x3072_d1

theorem grad_apply (r r' k v v' : FVec Ideal S4160x1024 .f32) (t : Fin 4160) (q : Fin 3072) :
    (grad r r' k v v' (ix2 t q) : EReal) = joined r r' k v v' q t := by
  unfold grad joined
  pointwise
  by_cases h : q.val < 1024
  · rw [dif_pos (by omega), dif_pos h]
  · rw [dif_neg (by omega), dif_neg h]
    by_cases h' : q.val < 2048
    · rw [dif_pos (by omega), dif_pos h']
    · rw [dif_neg (by omega), dif_neg h']
      rfl

/-- The mixed part of the projection's columns. -/
def part (x : FVec Ideal S4160x9600 .f32) : FVec Ideal S4160x3072 .f32 :=
  extractStridedSlice S4160x3072 ![0, 4096] x slices_S4160x9600_S4160x3072_0_4096

/-- The same columns a row earlier. -/
def earlier (z : FVec Ideal S4160x3072 .f32) : FVec Ideal S4160x3072 .f32 :=
  concatenate S4160x3072 0 [⟨S1x3072, (broadcastInDim S1x3072 ![] bcast_S_S1x3072 (constant S_ .f32 0x00000000#32))⟩, ⟨S4159x3072, (extractStridedSlice S4159x3072 ![0, 0] z slices_S4160x3072_S4159x3072_0_0)⟩] concatenates_S1x3072_S4159x3072_S4160x3072_d0

theorem part_apply (x : FVec Ideal S4160x9600 .f32) (j : S4160x3072.Idx) : (part x j : EReal) = x (ix2 (j 0) (mixedCol (j 1))) := by
  unfold part
  pointwise
  rfl

theorem earlier_apply (z : FVec Ideal S4160x3072 .f32) (j : S4160x3072.Idx) :
    (earlier z j : EReal) = behind 1 (fun t => z (ix2 t (j 1))) (j 0) := by
  have bound : (j 0).val < 4160 := (j 0).isLt
  unfold behind earlier
  pointwise
  by_cases h : 1 ≤ (j 0).val
  · rw [dif_neg (by omega)]
    exact (if_pos h).symm
  · rw [dif_pos (by omega)]
    exact (if_neg h).symm

theorem zero_first : (constant (F := Ideal) S_ .f32 0x00000000#32 : FVec Ideal S_ .f32) (Shape.Idx.first h_S_) = (0 : EReal) := by
  pointwise

/-- The reference's gradient of the columns. -/
theorem rows_reference (g : FVec Ideal S4160x3072 .f32) (mu : FVec Ideal S1x3072 .f32) (j : S4160x3072.Idx) :
    (truncf .bf16 (addf (addf g (Host.negf (mulf g (broadcastInDim S4160x3072 ![0, 1] bcast_S1x3072_S4160x3072_0_1 mu)))) (pad S4160x3072 ![0, 0] ![1, 0] ![0, 0] (extractStridedSlice S4159x3072 ![1, 0] (mulf g (broadcastInDim S4160x3072 ![0, 1] bcast_S1x3072_S4160x3072_0_1 mu)) slices_S4160x3072_S4159x3072_1_0) (constant S_ .f32 0x00000000#32) pads_S4159x3072_S4160x3072_010_000 h_S_)) bitsLt_bf16_f32 j : EReal)
      = d_mix (fun t => g (ix2 t (j 1))) (mu (ix2 0 (j 1))) (j 0) := by
  have bound : (j 0).val < 4160 := (j 0).isLt
  have here : g (ix2 (j 0) (j 1)) = g j := congrArg g (ix2_eta j)
  unfold d_mix
  simp only [here]
  refine congrArg₂ (fun a b : EReal => a + b) (congrArg₂ (fun a b : EReal => a + b) rfl ?_) ?_
  · pointwise
  · unfold ahead
    by_cases h : (j 0).val + 1 < 4160
    · refine (pad_apply_of_inside _ _ _ _ _ _ h_S_ j (ix2 ⟨(j 0).val, by omega⟩ (j 1)) fun a => ?_).trans ?_
      · fin_cases a
        · change (j 0).val = 0 + (j 0).val * 1
          omega
        · change (j 1).val = 0 + (j 1).val * 1
          omega
      · refine Eq.trans ?_ (dif_pos h).symm
        pointwise
        exact congrArg (fun r => g (ix2 r (j 1)) * mu (ix2 0 (j 1))) (Fin.ext (Nat.add_comm 1 (j 0).val))
    · refine Eq.trans ?_ (dif_neg h).symm
      refine (pad_apply_of_not_inside _ _ _ _ _ _ h_S_ j 0 fun hin => h ?_).trans zero_first
      have last : ((j 0).val - 0) / 1 < 4159 := hin.2.2
      rw [Nat.div_one] at last
      omega

/-- The reference's gradient of the ways. -/
theorem ways_reference (x : FVec Ideal S4160x9600 .f32) (g : FVec Ideal S4160x3072 .f32) (j : S1x3072.Idx) :
    (shapeCast _ (Host.reduceAdd (mulf (subf (earlier (part x)) (part x)) g) (constant S_ .f32 0x00000000#32) reducesTo_S4160x3072_S3072_d0 h_S_) shapeCasts_S3072_S1x3072 j : EReal)
      = d_way (fun t => x (ix2 t (mixedCol (j 1)))) (fun t => g (ix2 t (j 1))) := by
  unfold d_way
  pointwise [earlier_apply, part_apply]

end Reference

/-- The reference declares no semaphore, and its run ends with its arguments as they were. -/
theorem frame_reference : Cert.quiescent_Reference21Ideal := fun m ρ _ =>
  (θ_run Cert.Reference21Ideal.defs _ _).mono
    (fun r h => ⟨fun c => (h c).2.2, sem_eq_zero_of_no_sems (by decide) r.2⟩)
    (Cert.Reference21Ideal.Value.run (F := Ideal) m ρ)

variable (m : (ℓ : Loc Cert.Kernel21Ideal.nD Cert.Kernel21Ideal.τ Cert.Kernel21Ideal.sig) → Buf (Elt Ideal) ℓ)

open Cert.Kernel21Ideal Cert.Kernel21Ideal.Gen in
/-- Both runs end with the same arrays. -/
theorem equation : Cert.algebraic_Kernel21Ideal_Reference21Ideal := by
  intro m g m' g' _ hargs
  refine ⟨fun c => (dats m 0 c).arrAt 7 cfg0.N, fun c => (dats m 0 c).arrAt 8 cfg0.N, Cert.Kernel21Ideal.Value.run_blocks m g,
    (θ_run Cert.Reference21Ideal.defs _ _).mono (fun r h c => ?_) (Cert.Reference21Ideal.Value.run (F := Ideal) m' g')⟩
  obtain ⟨r0, r1, rest⟩ := h c
  obtain ⟨h0, h1, h2, h3, h4, h5, h6⟩ := hargs c
  rw [h1, h2, h3, h4, h5, h6] at r0
  rw [h0, h2, h3, h4, h5, h6] at r1
  refine ⟨r0.trans (Eq.trans (funext fun j => ?_) (array_rows m c).symm), r1.trans (Eq.trans (funext fun j => ?_) (array_ways m c).symm), rest⟩
  · refine (rows_reference (grad _ _ _ _ _) _ j).trans ?_
    exact congrArg (fun f => d_mix f _ (j 0)) (funext fun t => grad_apply _ _ _ _ _ _ _)
  · refine (ways_reference _ (grad _ _ _ _ _) j).trans ?_
    exact congrArg (d_way _) (funext fun t => grad_apply _ _ _ _ _ _ _)

end Cert.Convolution.DShift
-- ==== Proof.Convolution.DSmallShift.lean ====
/- The gradients of the gates' mixture with the row before: the kernel's two arrays. -/
module

public import proofs.«01_k».proof.Proof.Gen.Kernel22Ideal.Value
public import proofs.«01_k».proof.Proof.Convolution.Shift
public import Idealize.ShloMosaic.Lib.Pipeline.ValueKit
public import Idealize.ShloMosaic.Lib.Pipeline.ReadBack

@[expose] public section

set_option maxRecDepth 16384

noncomputable section

namespace Cert.Convolution.DSmallShift

open Idealize.ShloMosaic Idealize.ShloMosaic.Pointwise Idealize.SL.Sem Cert.Kernel22Ideal Cert.Kernel22Ideal.Gen

variable (m : (ℓ : Loc nD τ sig) → Buf (Elt Ideal) ℓ)

/-- The gradient of the columns. -/
theorem columns (g : Vec Ideal S4160x288 .f32) (mu : Vec Ideal S1x288 .f32) (j : S4160x288.Idx) :
    (k0_pay3 mu g j : EReal) = d_mix (fun t => g (ix2 t (j 1))) (mu (ix2 0 (j 1))) (j 0) := by
  have here : g (ix2 (j 0) (j 1)) = g j := congrArg g (ix2_eta j)
  unfold d_mix
  simp only [here]
  refine congrArg₂ (fun a b : EReal => a + b) (congrArg₂ (fun a b : EReal => a + b) rfl ?_) ?_
  · pointwise [k0_pay1]
    rw [zero_sub]
  · refine (rotate_ahead 1 4159 (by omega) rfl _ _ _ j).trans (congrArg (fun f : Column => ahead 1 f (j 0)) (funext fun t => ?_))
    pointwise [k0_pay1]

/-- The gradient of the ways. -/
theorem ways (x g : Vec Ideal S4160x288 .f32) (j : S1x288.Idx) :
    (k0_pay2 x g j : EReal) = d_way (fun t => x (ix2 t (j 1))) (fun t => g (ix2 t (j 1))) := by
  unfold d_way k0_pay2
  pointwise [k0_pay1]
  refine Finset.sum_congr rfl fun t _ => congrArg (fun a : EReal => (a - _) * _) ?_
  rw [WordCmp.cmpi_sge_ofNat (by omega) (by omega), WordCmp.select_ofBool]
  unfold behind
  by_cases h : 1 ≤ t.val
  · rw [if_pos (decide_eq_true h)]
    exact (congrArg (fun r => x (ix2 r (j 1))) (Fin.ext (by change (t.val + 4160 - 1) % 4160 = t.val - 1; omega))).trans (if_pos h).symm
  · rw [if_neg (by simpa using h)]
    exact (if_neg h).symm

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The gates' rows, the ways, and the result's gradient. -/
def xs (c : Dev nD) : S4160x288.Idx → EReal := m ((c.tc : Thread nD τ).loc main_arg0)

def ws (c : Dev nD) : S1x288.Idx → EReal := m ((c.tc : Thread nD τ).loc main_arg1)

def gs (c : Dev nD) : S4160x288.Idx → EReal := m ((c.tc : Thread nD τ).loc main_arg2)

/-- The two gradients of the whole arrays. -/
def d_rows (c : Dev nD) : S4160x288.Idx → EReal := fun j => d_mix (fun t => gs m c (ix2 t (j 1))) (ws m c (ix2 0 (j 1))) (j 0)

def d_ways (c : Dev nD) : S1x288.Idx → EReal := fun j => d_way (fun t => xs m c (ix2 t (j 1))) (fun t => gs m c (ix2 t (j 1)))

/-- What the point stores of the columns' gradient. -/
theorem rows_at (c : Dev nD) (t : Fin cfg0.N) (j : S4160x288.Idx) :
    (out0_3 (iblk m c 0 t) (iblk m c 1 t) (iblk m c 2 t) j : EReal) = d_rows m c j := by
  unfold out0_3
  frame_out
  refine (columns _ _ j).trans ?_
  have way (e : Fin 288) : ((iblk m c 1 t : S1x288.Idx → EReal) (ix2 0 e)) = ws m c (ix2 0 e) := by
    blk_ext [iblk, V, ws, idx t]
  have row (r : Fin 4160) (e : Fin 288) : ((iblk m c 2 t : S4160x288.Idx → EReal) (ix2 r e)) = gs m c (ix2 r e) := by
    blk_ext [iblk, V, gs, idx t]
  exact congrArg₂ (fun f w => d_mix f w (j 0)) (funext fun r => row r (j 1)) (way (j 1))

/-- What the point stores of the ways' gradient. -/
theorem ways_at (c : Dev nD) (t : Fin cfg0.N) (j : S1x288.Idx) :
    (out0_4 (iblk m c 0 t) (iblk m c 1 t) (iblk m c 2 t) j : EReal) = d_ways m c j := by
  unfold out0_4
  frame_out
  refine (ways _ _ j).trans ?_
  have here (r : Fin 4160) (e : Fin 288) : ((iblk m c 0 t : S4160x288.Idx → EReal) (ix2 r e)) = xs m c (ix2 r e) := by
    blk_ext [iblk, V, xs, idx t]
  have row (r : Fin 4160) (e : Fin 288) : ((iblk m c 2 t : S4160x288.Idx → EReal) (ix2 r e)) = gs m c (ix2 r e) := by
    blk_ext [iblk, V, gs, idx t]
  exact congrArg₂ d_way (funext fun r => here r (j 1)) (funext fun r => row r (j 1))

/-- The columns' gradient after the run. -/
theorem array_rows (c : Dev nD) : (dats m 0 c).arrAt 3 cfg0.N = d_rows m c := by
  refine (dats m 0 c).arrAt_eq_of_covers 3 _ (by decide +kernel) fun t _ y => ?_
  blk_simp
  rw [after0_3]
  have place : ((cfg0.win 3).blk t).view.emb y = (y : S4160x288.Idx) := by
    blk_ext [idx t]
  exact (rows_at m c t y).trans (congrArg (d_rows m c) place).symm

/-- The ways' gradient after the run. -/
theorem array_ways (c : Dev nD) : (dats m 0 c).arrAt 4 cfg0.N = d_ways m c := by
  refine (dats m 0 c).arrAt_eq_of_covers 4 _ (by decide +kernel) fun t _ y => ?_
  blk_simp
  rw [after0_4]
  have place : ((cfg0.win 4).blk t).view.emb y = (y : S1x288.Idx) := by
    blk_ext [idx t]
  exact (ways_at m c t y).trans (congrArg (d_ways m c) place).symm

end Cert.Convolution.DSmallShift
-- ==== Proof.Equations.DSmallShift.lean ====
/- The gradients of the gates' mixture with the row before: the kernel and the reference end with the same arrays. -/
module

public import proofs.«01_k».proof.Defs
public import proofs.«01_k».proof.Proof.Convolution.DSmallShift
public import proofs.«01_k».proof.Proof.Gen.Reference22Ideal.Run
public import Idealize.ShloMosaic.Adequacy
public import Idealize.ShloMosaic.Init

@[expose] public section

set_option maxRecDepth 16384

noncomputable section

namespace Cert.Convolution.DSmallShift

open Idealize.ShloMosaic Idealize.ShloMosaic.Pointwise Idealize.SL.Sem

section Reference

open Cert.Reference22Ideal Cert.Reference22Ideal.Gen

/-- The same columns a row earlier. -/
def earlier (z : FVec Ideal S4160x288 .f32) : FVec Ideal S4160x288 .f32 :=
  concatenate S4160x288 0 [⟨S1x288, (broadcastInDim S1x288 ![] bcast_S_S1x288 (constant S_ .f32 0x00000000#32))⟩, ⟨S4159x288, (extractStridedSlice S4159x288 ![0, 0] z slices_S4160x288_S4159x288_0_0)⟩] concatenates_S1x288_S4159x288_S4160x288_d0

theorem earlier_apply (z : FVec Ideal S4160x288 .f32) (j : S4160x288.Idx) :
    (earlier z j : EReal) = behind 1 (fun t => z (ix2 t (j 1))) (j 0) := by
  have bound : (j 0).val < 4160 := (j 0).isLt
  unfold behind earlier
  pointwise
  by_cases h : 1 ≤ (j 0).val
  · rw [dif_neg (by omega)]
    exact (if_pos h).symm
  · rw [dif_pos (by omega)]
    exact (if_neg h).symm

theorem zero_first : (constant (F := Ideal) S_ .f32 0x00000000#32 : FVec Ideal S_ .f32) (Shape.Idx.first h_S_) = (0 : EReal) := by
  pointwise

/-- The reference's gradient of the columns. -/
theorem rows_reference (g : FVec Ideal S4160x288 .f32) (mu : FVec Ideal S1x288 .f32) (j : S4160x288.Idx) :
    (addf (addf g (Host.negf (mulf (shapeCast _ g shapeCasts_S4160x288_S4160x288) (broadcastInDim S4160x288 ![0, 1] bcast_S1x288_S4160x288_0_1 mu)))) (pad S4160x288 ![0, 0] ![1, 0] ![0, 0] (extractStridedSlice S4159x288 ![1, 0] (mulf (shapeCast _ g shapeCasts_S4160x288_S4160x288) (broadcastInDim S4160x288 ![0, 1] bcast_S1x288_S4160x288_0_1 mu)) slices_S4160x288_S4159x288_1_0) (constant S_ .f32 0x00000000#32) pads_S4159x288_S4160x288_010_000 h_S_) j : EReal)
      = d_mix (fun t => g (ix2 t (j 1))) (mu (ix2 0 (j 1))) (j 0) := by
  have bound : (j 0).val < 4160 := (j 0).isLt
  have here : g (ix2 (j 0) (j 1)) = g j := congrArg g (ix2_eta j)
  unfold d_mix
  simp only [here]
  refine congrArg₂ (fun a b : EReal => a + b) (congrArg₂ (fun a b : EReal => a + b) rfl ?_) ?_
  · pointwise
  · unfold ahead
    by_cases h : (j 0).val + 1 < 4160
    · refine (pad_apply_of_inside _ _ _ _ _ _ h_S_ j (ix2 ⟨(j 0).val, by omega⟩ (j 1)) fun a => ?_).trans ?_
      · fin_cases a
        · change (j 0).val = 0 + (j 0).val * 1
          omega
        · change (j 1).val = 0 + (j 1).val * 1
          omega
      · refine Eq.trans ?_ (dif_pos h).symm
        pointwise
        exact congrArg (fun r => g (ix2 r (j 1)) * mu (ix2 0 (j 1))) (Fin.ext (Nat.add_comm 1 (j 0).val))
    · refine Eq.trans ?_ (dif_neg h).symm
      refine (pad_apply_of_not_inside _ _ _ _ _ _ h_S_ j 0 fun hin => h ?_).trans zero_first
      have last : ((j 0).val - 0) / 1 < 4159 := hin.2.2
      rw [Nat.div_one] at last
      omega

/-- The reference's gradient of the ways. -/
theorem ways_reference (x : FVec Ideal S4160x288 .f32) (g : FVec Ideal S4160x288 .f32) (j : S1x288.Idx) :
    (shapeCast _ (Host.reduceAdd (mulf (subf (earlier x) x) (shapeCast _ g shapeCasts_S4160x288_S4160x288)) (constant S_ .f32 0x00000000#32) reducesTo_S4160x288_S288_d0 h_S_) shapeCasts_S288_S1x288 j : EReal)
      = d_way (fun t => x (ix2 t (j 1))) (fun t => g (ix2 t (j 1))) := by
  unfold d_way
  pointwise [earlier_apply]

end Reference

/-- The reference declares no semaphore, and its run ends with its arguments as they were. -/
theorem frame_reference : Cert.quiescent_Reference22Ideal := fun m ρ _ =>
  (θ_run Cert.Reference22Ideal.defs _ _).mono
    (fun r h => ⟨fun c => (h c).2.2, sem_eq_zero_of_no_sems (by decide) r.2⟩)
    (Cert.Reference22Ideal.Value.run (F := Ideal) m ρ)

variable (m : (ℓ : Loc Cert.Kernel22Ideal.nD Cert.Kernel22Ideal.τ Cert.Kernel22Ideal.sig) → Buf (Elt Ideal) ℓ)

open Cert.Kernel22Ideal Cert.Kernel22Ideal.Gen in
/-- Both runs end with the same arrays. -/
theorem equation : Cert.algebraic_Kernel22Ideal_Reference22Ideal := by
  intro m g m' g' _ hargs
  refine ⟨fun c => (dats m 0 c).arrAt 3 cfg0.N, fun c => (dats m 0 c).arrAt 4 cfg0.N, Cert.Kernel22Ideal.Value.run_blocks m g,
    (θ_run Cert.Reference22Ideal.defs _ _).mono (fun r h c => ?_) (Cert.Reference22Ideal.Value.run (F := Ideal) m' g')⟩
  obtain ⟨r0, r1, rest⟩ := h c
  obtain ⟨h0, h1, h2⟩ := hargs c
  rw [h1, h2] at r0
  rw [h0, h2] at r1
  refine ⟨r0.trans (Eq.trans (funext fun j => ?_) (array_rows m c).symm), r1.trans (Eq.trans (funext fun j => ?_) (array_ways m c).symm), rest⟩
  · exact rows_reference _ _ j
  · exact ways_reference _ _ j

end Cert.Convolution.DSmallShift
-- ==== Proof.Convolution.Forward.lean ====
/- The convolutions' results, in plain numbers. -/
module

public import proofs.«01_k».proof.Proof.Convolution.Spec

@[expose] public section

set_option maxRecDepth 16384

noncomputable section

namespace Cert.Convolution

open Idealize.ShloMosaic Idealize.ShloMosaic.Pointwise

/-- What becomes of a head of the convolution: its lanes. -/
abbrev Head : Type := (Fin 128 → EReal) → Fin 128 → EReal

/-- The activation, normalised to length `s`. -/
def unit_head (s : EReal) (y : Fin 128 → EReal) (e : Fin 128) : EReal := unit s (fun e => act (y e)) e

/-- The activation alone. -/
def plain_head (y : Fin 128 → EReal) (e : Fin 128) : EReal := act (y e)

/-- The result of part `o`, from whole arrays. -/
def results (f : Head) (o : Fin 3) (X : (Rows 9600).Idx → EReal) (W : (Taps 3072).Idx → EReal) (i : (Rows 1024).Idx) : EReal :=
  f (fun e => conv (fun t => X (ix2 t (wide o (head (i 1)) e))) (fun k => W (ix2 k (place o (head (i 1)) e))) (i 0)) (sub (i 1))

end Cert.Convolution
-- ==== Proof.Convolution.Query.lean ====
/- The queries' convolution: the kernel's array. -/
module

public import proofs.«01_k».proof.Proof.Gen.Kernel23Ideal.Value
public import proofs.«01_k».proof.Proof.Convolution.Forward
public import Idealize.ShloMosaic.Lib.Pipeline.ValueKit
public import Idealize.ShloMosaic.Lib.Pipeline.ReadBack

@[expose] public section

set_option maxRecDepth 16384

noncomputable section

namespace Cert.Convolution.Query

open Idealize.ShloMosaic Idealize.ShloMosaic.Pointwise Idealize.SL.Sem Cert.Kernel23Ideal Cert.Kernel23Ideal.Gen

variable (m : (ℓ : Loc nD τ sig) → Buf (Elt Ideal) ℓ)

theorem idx : ∀ t : Fin cfg0.N, win0_0.index t = ![0, t.val + 0] ∧ win0_1.index t = ![0, t.val + 0] ∧ win0_2.index t = ![0, t.val] :=
  (by decide +kernel : ∀ t : Fin grid0.N, _)

/-- What becomes of a head. -/
abbrev rule : Head := unit_head (Ideal.ofBits .f32 0x3DB504F3#32)

/-- A block's activation. -/
theorem activated (x : Vec Ideal S4160x128 .f32) (w : Vec Ideal S4x128 .f32) (j : S4160x128.Idx) :
    (k0_pay2 x w j : EReal) = act (conv (fun i => x (ix2 i (j 1))) (fun k => w (ix2 k (j 1))) (j 0)) := by
  have b1 (hi hr) (j : S4160x128.Idx) := rotate_behind 1 (by omega) x hi hr j
  have b2 (hi hr) (j : S4160x128.Idx) := rotate_behind 2 (by omega) x hi hr j
  have b3 (hi hr) (j : S4160x128.Idx) := rotate_behind 3 (by omega) x hi hr j
  have here : x (ix2 (j 0) (j 1)) = x j := congrArg x (ix2_eta j)
  have tap (o : ℕ) (k : Fin 4) (hk : k.val = o) (hs : S4x128.Slices ![o, 0] S1x128) :
      (broadcastTo S4160x128 (extractStridedSlice S1x128 ![o, 0] w hs) broadcasts_S1x128_S4160x128 j : EReal) = w (ix2 k (j 1)) := by
    subst hk
    pointwise
  unfold act conv
  simp only [here]
  have sum : ((addf (addf (addf (mulf x (broadcastTo S4160x128 (extractStridedSlice S1x128 ![3, 0] w slices_S4x128_o3_0_S1x128) broadcasts_S1x128_S4160x128))
      (mulf (select (cmpi .sge (iota .tc S4160x128 32 [0] iota_S4160x128_d0_w32) (broadcast S4160x128 1#32)) (dynamicRotate 0 1#32 none x rotates_S4160x128_d0) (broadcast S4160x128 (Scalar.ofBits (F := Ideal) .f32 0x00000000#32))) (broadcastTo S4160x128 (extractStridedSlice S1x128 ![2, 0] w slices_S4x128_o2_0_S1x128) broadcasts_S1x128_S4160x128)))
      (mulf (select (cmpi .sge (iota .tc S4160x128 32 [0] iota_S4160x128_d0_w32) (broadcast S4160x128 2#32)) (dynamicRotate 0 2#32 none x rotates_S4160x128_d0) (broadcast S4160x128 (Scalar.ofBits (F := Ideal) .f32 0x00000000#32))) (broadcastTo S4160x128 (extractStridedSlice S1x128 ![1, 0] w slices_S4x128_o1_0_S1x128) broadcasts_S1x128_S4160x128)))
      (mulf (select (cmpi .sge (iota .tc S4160x128 32 [0] iota_S4160x128_d0_w32) (broadcast S4160x128 3#32)) (dynamicRotate 0 3#32 none x rotates_S4160x128_d0) (broadcast S4160x128 (Scalar.ofBits (F := Ideal) .f32 0x00000000#32))) (broadcastTo S4160x128 (extractStridedSlice S1x128 ![0, 0] w slices_S4x128_o0_0_S1x128) broadcasts_S1x128_S4160x128)) : FVec Ideal S4160x128 .f32) j : EReal)
      = x j * w (ix2 3 (j 1)) + behind 1 (fun i => x (ix2 i (j 1))) (j 0) * w (ix2 2 (j 1)) + behind 2 (fun i => x (ix2 i (j 1))) (j 0) * w (ix2 1 (j 1))
        + behind 3 (fun i => x (ix2 i (j 1))) (j 0) * w (ix2 0 (j 1)) :=
    congrArg₂ (fun a b : EReal => a + b) (congrArg₂ (fun a b : EReal => a + b) (congrArg₂ (fun a b : EReal => a + b)
      (congrArg (fun b : EReal => x j * b) (tap 3 3 rfl _)) (congrArg₂ (fun a b : EReal => a * b) (b1 _ _ j) (tap 2 2 rfl _)))
      (congrArg₂ (fun a b : EReal => a * b) (b2 _ _ j) (tap 1 1 rfl _))) (congrArg₂ (fun a b : EReal => a * b) (b3 _ _ j) (tap 0 0 rfl _))
  exact congrArg (fun y : EReal => y * Ideal.logistic y) sum

/-- What a point stores. -/
theorem block (x : Vec Ideal S4160x128 .f32) (w : Vec Ideal S4x128 .f32) (j : S4160x128.Idx) :
    (out0_2 x w j : EReal) = rule (fun e => conv (fun i => x (ix2 i e)) (fun k => w (ix2 k e)) (j 0)) (j 1) := by
  unfold out0_2
  frame_out
  have here : k0_pay2 x w (ix2 (j 0) (j 1)) = k0_pay2 x w j := congrArg _ (ix2_eta j)
  have a (e : Fin 128) : act (conv (fun i => x (ix2 i e)) (fun k => w (ix2 k e)) (j 0)) = k0_pay2 x w (ix2 (j 0) e) :=
    (activated x w (ix2 (j 0) e)).symm
  refine Eq.trans ?_ (congrArg (fun f => unit _ f (j 1)) (funext a)).symm
  unfold unit square
  simp only [here]
  pointwise [k0_pay1, k0_pay3]

/-- The projection's rows. -/
def xs (c : Dev nD) : (Rows 9600).Idx → EReal := m ((c.tc : Thread nD τ).loc main_arg0)

/-- The taps. -/
def ws (c : Dev nD) : (Taps 3072).Idx → EReal := m ((c.tc : Thread nD τ).loc main_arg1)

/-- What point `t` stores, from whole arrays. -/
theorem block_at (c : Dev nD) (t : Fin cfg0.N) (j : S4160x128.Idx) :
    (out0_2 (iblk m c 0 t) (iblk m c 1 t) j : EReal)
      = results rule 0 (xs m c) (ws m c) (ix2 (j 0) (lane (⟨t.val, t.isLt⟩ : Fin 8) (j 1))) := by
  refine (block _ _ j).trans ?_
  have spot (h : Fin 8) (e : Fin 128) (r : Fin 4160) : results rule 0 (xs m c) (ws m c) (ix2 r (lane h e))
      = rule (fun e => conv (fun t => xs m c (ix2 t (wide 0 h e))) (fun k => ws m c (ix2 k (place 0 h e))) r) e := by
    unfold results
    change rule (fun e' => conv (fun t => xs m c (ix2 t (wide 0 (head (lane h e)) e'))) (fun k => ws m c (ix2 k (place 0 (head (lane h e)) e'))) r) (sub (lane h e)) = _
    rw [head_lane, sub_lane]
  have row (r : Fin 4160) (e : Fin 128) : ((iblk m c 0 t : S4160x128.Idx → EReal) (ix2 r e)) = xs m c (ix2 r (wide 0 (⟨t.val, t.isLt⟩ : Fin 8) e)) := by
    blk_ext [iblk, V, xs, wide, idx t]
  have tap (k : Fin 4) (e : Fin 128) : ((iblk m c 1 t : S4x128.Idx → EReal) (ix2 k e)) = ws m c (ix2 k (place 0 (⟨t.val, t.isLt⟩ : Fin 8) e)) := by
    blk_ext [iblk, V, ws, place, idx t]
  exact (congrArg (fun f => rule f (j 1)) (funext fun e => congrArg₂ (fun f g => conv f g (j 0)) (funext fun r => row r e) (funext fun k => tap k e))).trans
    (spot _ _ _).symm

/-- The result after the run. -/
theorem array_results (c : Dev nD) : (dats m 0 c).arrAt 2 cfg0.N
    = (results rule 0 (xs m c) (ws m c) : S4160x1024.Idx → EReal) := by
  refine (dats m 0 c).arrAt_eq_of_covers 2 _ (by decide +kernel) fun t _ y => ?_
  blk_simp
  rw [after0_2]
  have spot : ((cfg0.win 2).blk t).view.emb y = (ix2 (y 0) (lane (⟨t.val, t.isLt⟩ : Fin 8) (y 1)) : S4160x1024.Idx) := by
    blk_ext [lane, idx t]
  exact (block_at m c t y).trans (congrArg (results _ _ _ _) spot).symm

end Cert.Convolution.Query
-- ==== Proof.Equations.Query.lean ====
/- The queries' convolution: the kernel and the reference end with the same array. -/
module

public import proofs.«01_k».proof.Defs
public import proofs.«01_k».proof.Proof.Convolution.Query
public import proofs.«01_k».proof.Proof.Gen.Reference23Ideal.Run
public import Idealize.ShloMosaic.Adequacy
public import Idealize.ShloMosaic.Init

@[expose] public section

set_option maxRecDepth 16384

noncomputable section

namespace Cert.Convolution.Query

open Idealize.ShloMosaic Idealize.ShloMosaic.Pointwise Idealize.SL.Sem

section Reference

open Cert.Reference23Ideal Cert.Reference23Ideal.Gen Cert.Reference23Ideal.Value

variable (V0 : Valuation τ sig (Elt Ideal))

/-- The reference's projection's rows, and its taps. -/
def rx : (Rows 9600).Idx → EReal := V0 (Proc.devRef .tc main_arg0)

def rw' : (Taps 3072).Idx → EReal := V0 (Proc.devRef .tc main_arg1)

/-- The taps of the queries, and the projection's rows below zero rows. -/
def own_v1 : FVec Ideal S4x1024 .f32 :=
  extractStridedSlice S4x1024 ![0, 0] (V0 (Proc.devRef .tc main_arg1)) slices_S4x3072_S4x1024_0_0

def own_v3 : FVec Ideal S4163x1024 .f32 :=
  concatenate S4163x1024 0 [⟨S3x1024, (broadcastInDim S3x1024 ![] bcast_S_S3x1024 (constant S_ .f32 0x00000000#32))⟩, ⟨S4160x1024, (extractStridedSlice S4160x1024 ![0, 0] (V0 (Proc.devRef .tc main_arg0)) slices_S4160x9600_S4160x1024_0_0)⟩] concatenates_S3x1024_S4160x1024_S4163x1024_d0

/-- The rows and the taps of the convolution. -/
def own_v5 : FVec Ideal S4160x1024 .f32 :=
  extractStridedSlice S4160x1024 ![0, 0] (own_v3 V0) slices_S4163x1024_S4160x1024_0_0

def own_v8 : FVec Ideal S1x1024 .f32 :=
  broadcastInDim S1x1024 ![1] bcast_S1024_S1x1024_1 (shapeCast _ (extractStridedSlice S1x1024 ![0, 0] (own_v1 V0) slices_S4x1024_S1x1024_0_0) shapeCasts_S1x1024_S1024)

def own_v11 : FVec Ideal S4160x1024 .f32 :=
  extractStridedSlice S4160x1024 ![1, 0] (own_v3 V0) slices_S4163x1024_S4160x1024_1_0

def own_v14 : FVec Ideal S1x1024 .f32 :=
  broadcastInDim S1x1024 ![1] bcast_S1024_S1x1024_1 (shapeCast _ (extractStridedSlice S1x1024 ![1, 0] (own_v1 V0) slices_S4x1024_S1x1024_1_0) shapeCasts_S1x1024_S1024)

def own_v18 : FVec Ideal S4160x1024 .f32 :=
  extractStridedSlice S4160x1024 ![2, 0] (own_v3 V0) slices_S4163x1024_S4160x1024_2_0

def own_v21 : FVec Ideal S1x1024 .f32 :=
  broadcastInDim S1x1024 ![1] bcast_S1024_S1x1024_1 (shapeCast _ (extractStridedSlice S1x1024 ![2, 0] (own_v1 V0) slices_S4x1024_S1x1024_2_0) shapeCasts_S1x1024_S1024)

def own_v25 : FVec Ideal S4160x1024 .f32 :=
  extractStridedSlice S4160x1024 ![3, 0] (own_v3 V0) slices_S4163x1024_S4160x1024_3_0

def own_v28 : FVec Ideal S1x1024 .f32 :=
  broadcastInDim S1x1024 ![1] bcast_S1024_S1x1024_1 (shapeCast _ (extractStridedSlice S1x1024 ![3, 0] (own_v1 V0) slices_S4x1024_S1x1024_3_0) shapeCasts_S1x1024_S1024)

/-- The convolution, its logistic, and its gradient. -/
def own_v31 : FVec Ideal S4160x1024 .f32 :=
  addf (addf (addf (mulf (own_v5 V0) (broadcastInDim S4160x1024 ![0, 1] bcast_S1x1024_S4160x1024_0_1 (own_v8 V0))) (mulf (own_v11 V0) (broadcastInDim S4160x1024 ![0, 1] bcast_S1x1024_S4160x1024_0_1 (own_v14 V0)))) (mulf (own_v18 V0) (broadcastInDim S4160x1024 ![0, 1] bcast_S1x1024_S4160x1024_0_1 (own_v21 V0)))) (mulf (own_v25 V0) (broadcastInDim S4160x1024 ![0, 1] bcast_S1x1024_S4160x1024_0_1 (own_v28 V0)))

def own_v32_2 : FVec Ideal S4160x1024 .f32 :=
  Host.divf (broadcastInDim S4160x1024 ![] bcast_S_S4160x1024 (constant S_ .f32 0x3F800000#32)) (addf (broadcastInDim S4160x1024 ![] bcast_S_S4160x1024 (constant S_ .f32 0x3F800000#32)) (Host.exp (Host.negf (own_v31 V0))))

theorem r5 (j : S4160x1024.Idx) : (own_v5 V0 j : EReal) = behind 3 (fun t => rx V0 (ix2 t (wideCol 0 (j 1)))) (j 0) := by
  have bound : (j 0).val < 4160 := (j 0).isLt
  unfold behind rx
  pointwise [own_v5, own_v3]
  by_cases h : 3 ≤ (j 0).val
  · rw [dif_neg (by omega), if_pos h]
    refine congrArg _ (congrArg₂ ix2 (Fin.ext ?_) (Fin.ext ?_))
    · change (j 0).val - 3 = (j 0).val - 3
      omega
    · change (j 1).val = 0 * 1024 + (j 1).val
      omega
  · rw [dif_pos (by omega), if_neg h]

theorem r11 (j : S4160x1024.Idx) : (own_v11 V0 j : EReal) = behind 2 (fun t => rx V0 (ix2 t (wideCol 0 (j 1)))) (j 0) := by
  have bound : (j 0).val < 4160 := (j 0).isLt
  unfold behind rx
  pointwise [own_v11, own_v3]
  by_cases h : 2 ≤ (j 0).val
  · rw [dif_neg (by omega), if_pos h]
    refine congrArg _ (congrArg₂ ix2 (Fin.ext ?_) (Fin.ext ?_))
    · change 1 + (j 0).val - 3 = (j 0).val - 2
      omega
    · change (j 1).val = 0 * 1024 + (j 1).val
      omega
  · rw [dif_pos (by omega), if_neg h]

theorem r18 (j : S4160x1024.Idx) : (own_v18 V0 j : EReal) = behind 1 (fun t => rx V0 (ix2 t (wideCol 0 (j 1)))) (j 0) := by
  have bound : (j 0).val < 4160 := (j 0).isLt
  unfold behind rx
  pointwise [own_v18, own_v3]
  by_cases h : 1 ≤ (j 0).val
  · rw [dif_neg (by omega), if_pos h]
    refine congrArg _ (congrArg₂ ix2 (Fin.ext ?_) (Fin.ext ?_))
    · change 2 + (j 0).val - 3 = (j 0).val - 1
      omega
    · change (j 1).val = 0 * 1024 + (j 1).val
      omega
  · rw [dif_pos (by omega), if_neg h]

theorem r25 (j : S4160x1024.Idx) : (own_v25 V0 j : EReal) = rx V0 (ix2 (j 0) (wideCol 0 (j 1))) := by
  unfold rx
  pointwise [own_v25, own_v3]
  refine congrArg _ (congrArg₂ ix2 rfl (Fin.ext ?_))
  change (j 1).val = 0 * 1024 + (j 1).val
  omega

theorem r8 (j : S1x1024.Idx) : (own_v8 V0 j : EReal) = rw' V0 (ix2 0 (tapCol 0 (j 1))) := by
  unfold rw'
  pointwise [own_v8, own_v1]
  exact congrArg _ (congrArg₂ ix2 rfl (Fin.ext (by simp [tapCol])))

theorem r14 (j : S1x1024.Idx) : (own_v14 V0 j : EReal) = rw' V0 (ix2 1 (tapCol 0 (j 1))) := by
  unfold rw'
  pointwise [own_v14, own_v1]
  exact congrArg _ (congrArg₂ ix2 rfl (Fin.ext (by simp [tapCol])))

theorem r21 (j : S1x1024.Idx) : (own_v21 V0 j : EReal) = rw' V0 (ix2 2 (tapCol 0 (j 1))) := by
  unfold rw'
  pointwise [own_v21, own_v1]
  exact congrArg _ (congrArg₂ ix2 rfl (Fin.ext (by simp [tapCol])))

theorem r28 (j : S1x1024.Idx) : (own_v28 V0 j : EReal) = rw' V0 (ix2 3 (tapCol 0 (j 1))) := by
  unfold rw'
  pointwise [own_v28, own_v1]
  exact congrArg _ (congrArg₂ ix2 rfl (Fin.ext (by simp [tapCol])))

/-- The convolution. -/
theorem r31 (j : S4160x1024.Idx) : (own_v31 V0 j : EReal)
    = conv (fun t => rx V0 (ix2 t (wideCol 0 (j 1)))) (fun k => rw' V0 (ix2 k (tapCol 0 (j 1)))) (j 0) := by
  unfold conv
  pointwise [own_v31, r5, r8, r11, r14, r18, r21, r25, r28]
  have turn (a b c d : EReal) : a + b + c + d = d + c + b + a := by abel
  exact turn _ _ _ _

theorem r32 (j : S4160x1024.Idx) : (own_v32_2 V0 j : EReal) = Ideal.logistic (own_v31 V0 j) := by
  unfold Ideal.logistic
  pointwise [own_v32_2]

/-- The activation, by heads. -/
def own_v33 : FVec Ideal S4160x8x128 .f32 :=
  shapeCast _ (mulf (own_v31 V0) (own_v32_2 V0)) shapeCasts_S4160x1024_S4160x8x128

theorem r33 (j : S4160x8x128.Idx) : (own_v33 V0 j : EReal) = act (own_v31 V0 (ix2 (j 0) (lane (j 1) (j 2)))) := by
  unfold act
  pointwise [own_v33, r32]
  rfl

/-- The heads' lengths. -/
def own_v39 : FVec Ideal S4160x8x1 .f32 :=
  Host.rsqrt (addf (broadcastInDim S4160x8x1 ![0, 1] bcast_S4160x8_S4160x8x1_0_1 (Host.reduceAdd (mulf (own_v33 V0) (own_v33 V0)) (constant S_ .f32 0x00000000#32) reducesTo_S4160x8x128_S4160x8_d2 h_S_)) (broadcastInDim S4160x8x1 ![] bcast_S_S4160x8x1 (constant S_ .f32 0x358637BD#32)))

theorem r39 (j : S4160x8x1.Idx) : (own_v39 V0 j : EReal) = Ideal.rsqrt (square (fun e => own_v33 V0 (ix3 (j 0) (j 1) e))) := by
  unfold square
  pointwise [own_v39]

/-- The reference's result. -/
theorem result_reference (j : S4160x1024.Idx) :
    ((shapeCast _ (mulf (mulf (own_v33 V0) (broadcastInDim S4160x8x128 ![0, 1, 2] bcast_S4160x8x1_S4160x8x128_0_1_2 (own_v39 V0))) (broadcastInDim S4160x8x128 ![] bcast_S_S4160x8x128 (constant S_ .f32 0x3DB504F3#32))) shapeCasts_S4160x8x128_S4160x1024) j : EReal) = results rule 0 (rx V0) (rw' V0) j := by
  have a (e : Fin 128) : (own_v33 V0 (ix3 (j 0) (head (j 1)) e) : EReal)
      = act (conv (fun t => rx V0 (ix2 t (wide 0 (head (j 1)) e))) (fun k => rw' V0 (ix2 k (place 0 (head (j 1)) e))) (j 0)) :=
    (r33 V0 _).trans (congrArg act (r31 V0 _))
  unfold results rule unit_head unit
  simp only [← a]
  pointwise [r39]
  rfl

end Reference

variable (m : (ℓ : Loc Cert.Kernel23Ideal.nD Cert.Kernel23Ideal.τ Cert.Kernel23Ideal.sig) → Buf (Elt Ideal) ℓ)

/-- The reference's result, by its parts. -/
theorem reference_parts (m : (ℓ : Loc Cert.Reference23Ideal.nD Cert.Reference23Ideal.τ Cert.Reference23Ideal.sig) → Buf (Elt Ideal) ℓ)
    (c : Dev Cert.Reference23Ideal.nD) (j : Cert.Reference23Ideal.S4160x1024.Idx) :
    (Cert.Reference23Ideal.Value.res_main_v43 m c j : EReal)
      = results rule 0 (rx (StableHlo.launchContents m c)) (rw' (StableHlo.launchContents m c)) j :=
  result_reference (StableHlo.launchContents m c) j

/-- The reference declares no semaphore, and its run ends with its arguments as they were. -/
theorem frame_reference : Cert.quiescent_Reference23Ideal := fun m ρ _ =>
  (θ_run Cert.Reference23Ideal.defs _ _).mono
    (fun r h => ⟨fun c => (h c).2, sem_eq_zero_of_no_sems (by decide) r.2⟩)
    (Cert.Reference23Ideal.Value.run (F := Ideal) m ρ)

open Cert.Kernel23Ideal Cert.Kernel23Ideal.Gen in
/-- Both runs end with the same array. -/
theorem equation : Cert.algebraic_Kernel23Ideal_Reference23Ideal := by
  intro m g m' g' _ hargs
  refine ⟨fun c => (dats m 0 c).arrAt 2 cfg0.N, Cert.Kernel23Ideal.Value.run_blocks m g,
    (θ_run Cert.Reference23Ideal.defs _ _).mono (fun r h c => ?_) (Cert.Reference23Ideal.Value.run (F := Ideal) m' g')⟩
  obtain ⟨r0, rest⟩ := h c
  obtain ⟨h0, h1⟩ := hargs c
  have e0 : rx (StableHlo.launchContents m' c) = xs m c := h0
  have e1 : rw' (StableHlo.launchContents m' c) = ws m c := h1
  refine ⟨r0.trans (Eq.trans (funext fun j => ?_) (array_results m c).symm), rest⟩
  exact (reference_parts m' c j).trans (by rw [e0, e1])

end Cert.Convolution.Query
-- ==== Proof.Convolution.Key.lean ====
/- The keys' convolution: the kernel's array. -/
module

public import proofs.«01_k».proof.Proof.Gen.Kernel24Ideal.Value
public import proofs.«01_k».proof.Proof.Convolution.Forward
public import Idealize.ShloMosaic.Lib.Pipeline.ValueKit
public import Idealize.ShloMosaic.Lib.Pipeline.ReadBack

@[expose] public section

set_option maxRecDepth 16384

noncomputable section

namespace Cert.Convolution.Key

open Idealize.ShloMosaic Idealize.ShloMosaic.Pointwise Idealize.SL.Sem Cert.Kernel24Ideal Cert.Kernel24Ideal.Gen

variable (m : (ℓ : Loc nD τ sig) → Buf (Elt Ideal) ℓ)

theorem idx : ∀ t : Fin cfg0.N, win0_0.index t = ![0, t.val + 8] ∧ win0_1.index t = ![0, t.val + 8] ∧ win0_2.index t = ![0, t.val] :=
  (by decide +kernel : ∀ t : Fin grid0.N, _)

/-- What becomes of a head. -/
abbrev rule : Head := unit_head (Ideal.ofBits .f32 0x3F800000#32)

/-- A block's activation. -/
theorem activated (x : Vec Ideal S4160x128 .f32) (w : Vec Ideal S4x128 .f32) (j : S4160x128.Idx) :
    (k0_pay2 x w j : EReal) = act (conv (fun i => x (ix2 i (j 1))) (fun k => w (ix2 k (j 1))) (j 0)) := by
  have b1 (hi hr) (j : S4160x128.Idx) := rotate_behind 1 (by omega) x hi hr j
  have b2 (hi hr) (j : S4160x128.Idx) := rotate_behind 2 (by omega) x hi hr j
  have b3 (hi hr) (j : S4160x128.Idx) := rotate_behind 3 (by omega) x hi hr j
  have here : x (ix2 (j 0) (j 1)) = x j := congrArg x (ix2_eta j)
  have tap (o : ℕ) (k : Fin 4) (hk : k.val = o) (hs : S4x128.Slices ![o, 0] S1x128) :
      (broadcastTo S4160x128 (extractStridedSlice S1x128 ![o, 0] w hs) broadcasts_S1x128_S4160x128 j : EReal) = w (ix2 k (j 1)) := by
    subst hk
    pointwise
  unfold act conv
  simp only [here]
  have sum : ((addf (addf (addf (mulf x (broadcastTo S4160x128 (extractStridedSlice S1x128 ![3, 0] w slices_S4x128_o3_0_S1x128) broadcasts_S1x128_S4160x128))
      (mulf (select (cmpi .sge (iota .tc S4160x128 32 [0] iota_S4160x128_d0_w32) (broadcast S4160x128 1#32)) (dynamicRotate 0 1#32 none x rotates_S4160x128_d0) (broadcast S4160x128 (Scalar.ofBits (F := Ideal) .f32 0x00000000#32))) (broadcastTo S4160x128 (extractStridedSlice S1x128 ![2, 0] w slices_S4x128_o2_0_S1x128) broadcasts_S1x128_S4160x128)))
      (mulf (select (cmpi .sge (iota .tc S4160x128 32 [0] iota_S4160x128_d0_w32) (broadcast S4160x128 2#32)) (dynamicRotate 0 2#32 none x rotates_S4160x128_d0) (broadcast S4160x128 (Scalar.ofBits (F := Ideal) .f32 0x00000000#32))) (broadcastTo S4160x128 (extractStridedSlice S1x128 ![1, 0] w slices_S4x128_o1_0_S1x128) broadcasts_S1x128_S4160x128)))
      (mulf (select (cmpi .sge (iota .tc S4160x128 32 [0] iota_S4160x128_d0_w32) (broadcast S4160x128 3#32)) (dynamicRotate 0 3#32 none x rotates_S4160x128_d0) (broadcast S4160x128 (Scalar.ofBits (F := Ideal) .f32 0x00000000#32))) (broadcastTo S4160x128 (extractStridedSlice S1x128 ![0, 0] w slices_S4x128_o0_0_S1x128) broadcasts_S1x128_S4160x128)) : FVec Ideal S4160x128 .f32) j : EReal)
      = x j * w (ix2 3 (j 1)) + behind 1 (fun i => x (ix2 i (j 1))) (j 0) * w (ix2 2 (j 1)) + behind 2 (fun i => x (ix2 i (j 1))) (j 0) * w (ix2 1 (j 1))
        + behind 3 (fun i => x (ix2 i (j 1))) (j 0) * w (ix2 0 (j 1)) :=
    congrArg₂ (fun a b : EReal => a + b) (congrArg₂ (fun a b : EReal => a + b) (congrArg₂ (fun a b : EReal => a + b)
      (congrArg (fun b : EReal => x j * b) (tap 3 3 rfl _)) (congrArg₂ (fun a b : EReal => a * b) (b1 _ _ j) (tap 2 2 rfl _)))
      (congrArg₂ (fun a b : EReal => a * b) (b2 _ _ j) (tap 1 1 rfl _))) (congrArg₂ (fun a b : EReal => a * b) (b3 _ _ j) (tap 0 0 rfl _))
  exact congrArg (fun y : EReal => y * Ideal.logistic y) sum

/-- What a point stores. -/
theorem block (x : Vec Ideal S4160x128 .f32) (w : Vec Ideal S4x128 .f32) (j : S4160x128.Idx) :
    (out0_2 x w j : EReal) = rule (fun e => conv (fun i => x (ix2 i e)) (fun k => w (ix2 k e)) (j 0)) (j 1) := by
  unfold out0_2
  frame_out
  have here : k0_pay2 x w (ix2 (j 0) (j 1)) = k0_pay2 x w j := congrArg _ (ix2_eta j)
  have a (e : Fin 128) : act (conv (fun i => x (ix2 i e)) (fun k => w (ix2 k e)) (j 0)) = k0_pay2 x w (ix2 (j 0) e) :=
    (activated x w (ix2 (j 0) e)).symm
  refine Eq.trans ?_ (congrArg (fun f => unit _ f (j 1)) (funext a)).symm
  unfold unit square
  simp only [here]
  pointwise [k0_pay1, k0_pay3]

/-- The projection's rows. -/
def xs (c : Dev nD) : (Rows 9600).Idx → EReal := m ((c.tc : Thread nD τ).loc main_arg0)

/-- The taps. -/
def ws (c : Dev nD) : (Taps 3072).Idx → EReal := m ((c.tc : Thread nD τ).loc main_arg1)

/-- What point `t` stores, from whole arrays. -/
theorem block_at (c : Dev nD) (t : Fin cfg0.N) (j : S4160x128.Idx) :
    (out0_2 (iblk m c 0 t) (iblk m c 1 t) j : EReal)
      = results rule 1 (xs m c) (ws m c) (ix2 (j 0) (lane (⟨t.val, t.isLt⟩ : Fin 8) (j 1))) := by
  refine (block _ _ j).trans ?_
  have spot (h : Fin 8) (e : Fin 128) (r : Fin 4160) : results rule 1 (xs m c) (ws m c) (ix2 r (lane h e))
      = rule (fun e => conv (fun t => xs m c (ix2 t (wide 1 h e))) (fun k => ws m c (ix2 k (place 1 h e))) r) e := by
    unfold results
    change rule (fun e' => conv (fun t => xs m c (ix2 t (wide 1 (head (lane h e)) e'))) (fun k => ws m c (ix2 k (place 1 (head (lane h e)) e'))) r) (sub (lane h e)) = _
    rw [head_lane, sub_lane]
  have row (r : Fin 4160) (e : Fin 128) : ((iblk m c 0 t : S4160x128.Idx → EReal) (ix2 r e)) = xs m c (ix2 r (wide 1 (⟨t.val, t.isLt⟩ : Fin 8) e)) := by
    blk_ext [iblk, V, xs, wide, idx t]
  have tap (k : Fin 4) (e : Fin 128) : ((iblk m c 1 t : S4x128.Idx → EReal) (ix2 k e)) = ws m c (ix2 k (place 1 (⟨t.val, t.isLt⟩ : Fin 8) e)) := by
    blk_ext [iblk, V, ws, place, idx t]
  exact (congrArg (fun f => rule f (j 1)) (funext fun e => congrArg₂ (fun f g => conv f g (j 0)) (funext fun r => row r e) (funext fun k => tap k e))).trans
    (spot _ _ _).symm

/-- The result after the run. -/
theorem array_results (c : Dev nD) : (dats m 0 c).arrAt 2 cfg0.N
    = (results rule 1 (xs m c) (ws m c) : S4160x1024.Idx → EReal) := by
  refine (dats m 0 c).arrAt_eq_of_covers 2 _ (by decide +kernel) fun t _ y => ?_
  blk_simp
  rw [after0_2]
  have spot : ((cfg0.win 2).blk t).view.emb y = (ix2 (y 0) (lane (⟨t.val, t.isLt⟩ : Fin 8) (y 1)) : S4160x1024.Idx) := by
    blk_ext [lane, idx t]
  exact (block_at m c t y).trans (congrArg (results _ _ _ _) spot).symm

end Cert.Convolution.Key
-- ==== Proof.Equations.Key.lean ====
/- The keys' convolution: the kernel and the reference end with the same array. -/
module

public import proofs.«01_k».proof.Defs
public import proofs.«01_k».proof.Proof.Convolution.Key
public import proofs.«01_k».proof.Proof.Gen.Reference24Ideal.Run
public import Idealize.ShloMosaic.Adequacy
public import Idealize.ShloMosaic.Init

@[expose] public section

set_option maxRecDepth 16384

noncomputable section

namespace Cert.Convolution.Key

open Idealize.ShloMosaic Idealize.ShloMosaic.Pointwise Idealize.SL.Sem

section Reference

open Cert.Reference24Ideal Cert.Reference24Ideal.Gen Cert.Reference24Ideal.Value

variable (V0 : Valuation τ sig (Elt Ideal))

/-- The reference's projection's rows, and its taps. -/
def rx : (Rows 9600).Idx → EReal := V0 (Proc.devRef .tc main_arg0)

def rw' : (Taps 3072).Idx → EReal := V0 (Proc.devRef .tc main_arg1)

/-- The taps of the keys, and the projection's rows below zero rows. -/
def own_v1 : FVec Ideal S4x1024 .f32 :=
  extractStridedSlice S4x1024 ![0, 1024] (V0 (Proc.devRef .tc main_arg1)) slices_S4x3072_S4x1024_0_1024

def own_v3 : FVec Ideal S4163x1024 .f32 :=
  concatenate S4163x1024 0 [⟨S3x1024, (broadcastInDim S3x1024 ![] bcast_S_S3x1024 (constant S_ .f32 0x00000000#32))⟩, ⟨S4160x1024, (extractStridedSlice S4160x1024 ![0, 1024] (V0 (Proc.devRef .tc main_arg0)) slices_S4160x9600_S4160x1024_0_1024)⟩] concatenates_S3x1024_S4160x1024_S4163x1024_d0

/-- The rows and the taps of the convolution. -/
def own_v5 : FVec Ideal S4160x1024 .f32 :=
  extractStridedSlice S4160x1024 ![0, 0] (own_v3 V0) slices_S4163x1024_S4160x1024_0_0

def own_v8 : FVec Ideal S1x1024 .f32 :=
  broadcastInDim S1x1024 ![1] bcast_S1024_S1x1024_1 (shapeCast _ (extractStridedSlice S1x1024 ![0, 0] (own_v1 V0) slices_S4x1024_S1x1024_0_0) shapeCasts_S1x1024_S1024)

def own_v11 : FVec Ideal S4160x1024 .f32 :=
  extractStridedSlice S4160x1024 ![1, 0] (own_v3 V0) slices_S4163x1024_S4160x1024_1_0

def own_v14 : FVec Ideal S1x1024 .f32 :=
  broadcastInDim S1x1024 ![1] bcast_S1024_S1x1024_1 (shapeCast _ (extractStridedSlice S1x1024 ![1, 0] (own_v1 V0) slices_S4x1024_S1x1024_1_0) shapeCasts_S1x1024_S1024)

def own_v18 : FVec Ideal S4160x1024 .f32 :=
  extractStridedSlice S4160x1024 ![2, 0] (own_v3 V0) slices_S4163x1024_S4160x1024_2_0

def own_v21 : FVec Ideal S1x1024 .f32 :=
  broadcastInDim S1x1024 ![1] bcast_S1024_S1x1024_1 (shapeCast _ (extractStridedSlice S1x1024 ![2, 0] (own_v1 V0) slices_S4x1024_S1x1024_2_0) shapeCasts_S1x1024_S1024)

def own_v25 : FVec Ideal S4160x1024 .f32 :=
  extractStridedSlice S4160x1024 ![3, 0] (own_v3 V0) slices_S4163x1024_S4160x1024_3_0

def own_v28 : FVec Ideal S1x1024 .f32 :=
  broadcastInDim S1x1024 ![1] bcast_S1024_S1x1024_1 (shapeCast _ (extractStridedSlice S1x1024 ![3, 0] (own_v1 V0) slices_S4x1024_S1x1024_3_0) shapeCasts_S1x1024_S1024)

/-- The convolution, its logistic, and its gradient. -/
def own_v31 : FVec Ideal S4160x1024 .f32 :=
  addf (addf (addf (mulf (own_v5 V0) (broadcastInDim S4160x1024 ![0, 1] bcast_S1x1024_S4160x1024_0_1 (own_v8 V0))) (mulf (own_v11 V0) (broadcastInDim S4160x1024 ![0, 1] bcast_S1x1024_S4160x1024_0_1 (own_v14 V0)))) (mulf (own_v18 V0) (broadcastInDim S4160x1024 ![0, 1] bcast_S1x1024_S4160x1024_0_1 (own_v21 V0)))) (mulf (own_v25 V0) (broadcastInDim S4160x1024 ![0, 1] bcast_S1x1024_S4160x1024_0_1 (own_v28 V0)))

def own_v32_2 : FVec Ideal S4160x1024 .f32 :=
  Host.divf (broadcastInDim S4160x1024 ![] bcast_S_S4160x1024 (constant S_ .f32 0x3F800000#32)) (addf (broadcastInDim S4160x1024 ![] bcast_S_S4160x1024 (constant S_ .f32 0x3F800000#32)) (Host.exp (Host.negf (own_v31 V0))))

theorem r5 (j : S4160x1024.Idx) : (own_v5 V0 j : EReal) = behind 3 (fun t => rx V0 (ix2 t (wideCol 1 (j 1)))) (j 0) := by
  have bound : (j 0).val < 4160 := (j 0).isLt
  unfold behind rx
  pointwise [own_v5, own_v3]
  by_cases h : 3 ≤ (j 0).val
  · rw [dif_neg (by omega), if_pos h]
    refine congrArg _ (congrArg₂ ix2 (Fin.ext ?_) (Fin.ext ?_))
    · change (j 0).val - 3 = (j 0).val - 3
      omega
    · change 1024 + (j 1).val = 1 * 1024 + (j 1).val
      omega
  · rw [dif_pos (by omega), if_neg h]

theorem r11 (j : S4160x1024.Idx) : (own_v11 V0 j : EReal) = behind 2 (fun t => rx V0 (ix2 t (wideCol 1 (j 1)))) (j 0) := by
  have bound : (j 0).val < 4160 := (j 0).isLt
  unfold behind rx
  pointwise [own_v11, own_v3]
  by_cases h : 2 ≤ (j 0).val
  · rw [dif_neg (by omega), if_pos h]
    refine congrArg _ (congrArg₂ ix2 (Fin.ext ?_) (Fin.ext ?_))
    · change 1 + (j 0).val - 3 = (j 0).val - 2
      omega
    · change 1024 + (j 1).val = 1 * 1024 + (j 1).val
      omega
  · rw [dif_pos (by omega), if_neg h]

theorem r18 (j : S4160x1024.Idx) : (own_v18 V0 j : EReal) = behind 1 (fun t => rx V0 (ix2 t (wideCol 1 (j 1)))) (j 0) := by
  have bound : (j 0).val < 4160 := (j 0).isLt
  unfold behind rx
  pointwise [own_v18, own_v3]
  by_cases h : 1 ≤ (j 0).val
  · rw [dif_neg (by omega), if_pos h]
    refine congrArg _ (congrArg₂ ix2 (Fin.ext ?_) (Fin.ext ?_))
    · change 2 + (j 0).val - 3 = (j 0).val - 1
      omega
    · change 1024 + (j 1).val = 1 * 1024 + (j 1).val
      omega
  · rw [dif_pos (by omega), if_neg h]

theorem r25 (j : S4160x1024.Idx) : (own_v25 V0 j : EReal) = rx V0 (ix2 (j 0) (wideCol 1 (j 1))) := by
  unfold rx
  pointwise [own_v25, own_v3]
  refine congrArg _ (congrArg₂ ix2 rfl (Fin.ext ?_))
  change 1024 + (j 1).val = 1 * 1024 + (j 1).val
  omega

theorem r8 (j : S1x1024.Idx) : (own_v8 V0 j : EReal) = rw' V0 (ix2 0 (tapCol 1 (j 1))) := by
  unfold rw'
  pointwise [own_v8, own_v1]
  exact congrArg _ (congrArg₂ ix2 rfl (Fin.ext (by simp [tapCol])))

theorem r14 (j : S1x1024.Idx) : (own_v14 V0 j : EReal) = rw' V0 (ix2 1 (tapCol 1 (j 1))) := by
  unfold rw'
  pointwise [own_v14, own_v1]
  exact congrArg _ (congrArg₂ ix2 rfl (Fin.ext (by simp [tapCol])))

theorem r21 (j : S1x1024.Idx) : (own_v21 V0 j : EReal) = rw' V0 (ix2 2 (tapCol 1 (j 1))) := by
  unfold rw'
  pointwise [own_v21, own_v1]
  exact congrArg _ (congrArg₂ ix2 rfl (Fin.ext (by simp [tapCol])))

theorem r28 (j : S1x1024.Idx) : (own_v28 V0 j : EReal) = rw' V0 (ix2 3 (tapCol 1 (j 1))) := by
  unfold rw'
  pointwise [own_v28, own_v1]
  exact congrArg _ (congrArg₂ ix2 rfl (Fin.ext (by simp [tapCol])))

/-- The convolution. -/
theorem r31 (j : S4160x1024.Idx) : (own_v31 V0 j : EReal)
    = conv (fun t => rx V0 (ix2 t (wideCol 1 (j 1)))) (fun k => rw' V0 (ix2 k (tapCol 1 (j 1)))) (j 0) := by
  unfold conv
  pointwise [own_v31, r5, r8, r11, r14, r18, r21, r25, r28]
  have turn (a b c d : EReal) : a + b + c + d = d + c + b + a := by abel
  exact turn _ _ _ _

theorem r32 (j : S4160x1024.Idx) : (own_v32_2 V0 j : EReal) = Ideal.logistic (own_v31 V0 j) := by
  unfold Ideal.logistic
  pointwise [own_v32_2]

/-- The activation, by heads. -/
def own_v33 : FVec Ideal S4160x8x128 .f32 :=
  shapeCast _ (mulf (own_v31 V0) (own_v32_2 V0)) shapeCasts_S4160x1024_S4160x8x128

theorem r33 (j : S4160x8x128.Idx) : (own_v33 V0 j : EReal) = act (own_v31 V0 (ix2 (j 0) (lane (j 1) (j 2)))) := by
  unfold act
  pointwise [own_v33, r32]
  rfl

/-- The heads' lengths. -/
def own_v39 : FVec Ideal S4160x8x1 .f32 :=
  Host.rsqrt (addf (broadcastInDim S4160x8x1 ![0, 1] bcast_S4160x8_S4160x8x1_0_1 (Host.reduceAdd (mulf (own_v33 V0) (own_v33 V0)) (constant S_ .f32 0x00000000#32) reducesTo_S4160x8x128_S4160x8_d2 h_S_)) (broadcastInDim S4160x8x1 ![] bcast_S_S4160x8x1 (constant S_ .f32 0x358637BD#32)))

theorem r39 (j : S4160x8x1.Idx) : (own_v39 V0 j : EReal) = Ideal.rsqrt (square (fun e => own_v33 V0 (ix3 (j 0) (j 1) e))) := by
  unfold square
  pointwise [own_v39]

/-- The reference's result. -/
theorem result_reference (j : S4160x1024.Idx) :
    ((shapeCast _ (mulf (own_v33 V0) (broadcastInDim S4160x8x128 ![0, 1, 2] bcast_S4160x8x1_S4160x8x128_0_1_2 (own_v39 V0))) shapeCasts_S4160x8x128_S4160x1024) j : EReal) = results rule 1 (rx V0) (rw' V0) j := by
  have a (e : Fin 128) : (own_v33 V0 (ix3 (j 0) (head (j 1)) e) : EReal)
      = act (conv (fun t => rx V0 (ix2 t (wide 1 (head (j 1)) e))) (fun k => rw' V0 (ix2 k (place 1 (head (j 1)) e))) (j 0)) :=
    (r33 V0 _).trans (congrArg act (r31 V0 _))
  unfold results rule unit_head unit
  simp only [← a]
  pointwise [r39]
  rfl

end Reference

variable (m : (ℓ : Loc Cert.Kernel24Ideal.nD Cert.Kernel24Ideal.τ Cert.Kernel24Ideal.sig) → Buf (Elt Ideal) ℓ)

/-- The reference's result, by its parts. -/
theorem reference_parts (m : (ℓ : Loc Cert.Reference24Ideal.nD Cert.Reference24Ideal.τ Cert.Reference24Ideal.sig) → Buf (Elt Ideal) ℓ)
    (c : Dev Cert.Reference24Ideal.nD) (j : Cert.Reference24Ideal.S4160x1024.Idx) :
    (Cert.Reference24Ideal.Value.res_main_v41 m c j : EReal)
      = results rule 1 (rx (StableHlo.launchContents m c)) (rw' (StableHlo.launchContents m c)) j :=
  result_reference (StableHlo.launchContents m c) j

/-- The reference declares no semaphore, and its run ends with its arguments as they were. -/
theorem frame_reference : Cert.quiescent_Reference24Ideal := fun m ρ _ =>
  (θ_run Cert.Reference24Ideal.defs _ _).mono
    (fun r h => ⟨fun c => (h c).2, sem_eq_zero_of_no_sems (by decide) r.2⟩)
    (Cert.Reference24Ideal.Value.run (F := Ideal) m ρ)

open Cert.Kernel24Ideal Cert.Kernel24Ideal.Gen in
/-- Both runs end with the same array. -/
theorem equation : Cert.algebraic_Kernel24Ideal_Reference24Ideal := by
  intro m g m' g' _ hargs
  refine ⟨fun c => (dats m 0 c).arrAt 2 cfg0.N, Cert.Kernel24Ideal.Value.run_blocks m g,
    (θ_run Cert.Reference24Ideal.defs _ _).mono (fun r h c => ?_) (Cert.Reference24Ideal.Value.run (F := Ideal) m' g')⟩
  obtain ⟨r0, rest⟩ := h c
  obtain ⟨h0, h1⟩ := hargs c
  have e0 : rx (StableHlo.launchContents m' c) = xs m c := h0
  have e1 : rw' (StableHlo.launchContents m' c) = ws m c := h1
  refine ⟨r0.trans (Eq.trans (funext fun j => ?_) (array_results m c).symm), rest⟩
  exact (reference_parts m' c j).trans (by rw [e0, e1])

end Cert.Convolution.Key
-- ==== Proof.Convolution.Value.lean ====
/- The values' convolution: the kernel's array. -/
module

public import proofs.«01_k».proof.Proof.Gen.Kernel25Ideal.Value
public import proofs.«01_k».proof.Proof.Convolution.Forward
public import Idealize.ShloMosaic.Lib.Pipeline.ValueKit
public import Idealize.ShloMosaic.Lib.Pipeline.ReadBack

@[expose] public section

set_option maxRecDepth 16384

noncomputable section

namespace Cert.Convolution.Value

open Idealize.ShloMosaic Idealize.ShloMosaic.Pointwise Idealize.SL.Sem Cert.Kernel25Ideal Cert.Kernel25Ideal.Gen

variable (m : (ℓ : Loc nD τ sig) → Buf (Elt Ideal) ℓ)

theorem idx : ∀ t : Fin cfg0.N, win0_0.index t = ![0, t.val + 16] ∧ win0_1.index t = ![0, t.val + 16] ∧ win0_2.index t = ![0, t.val] :=
  (by decide +kernel : ∀ t : Fin grid0.N, _)

/-- What becomes of a head. -/
abbrev rule : Head := plain_head

/-- A block's activation. -/
theorem activated (x : Vec Ideal S4160x128 .f32) (w : Vec Ideal S4x128 .f32) (j : S4160x128.Idx) :
    (k0_pay1 x w j : EReal) = act (conv (fun i => x (ix2 i (j 1))) (fun k => w (ix2 k (j 1))) (j 0)) := by
  have b1 (hi hr) (j : S4160x128.Idx) := rotate_behind 1 (by omega) x hi hr j
  have b2 (hi hr) (j : S4160x128.Idx) := rotate_behind 2 (by omega) x hi hr j
  have b3 (hi hr) (j : S4160x128.Idx) := rotate_behind 3 (by omega) x hi hr j
  have here : x (ix2 (j 0) (j 1)) = x j := congrArg x (ix2_eta j)
  have tap (o : ℕ) (k : Fin 4) (hk : k.val = o) (hs : S4x128.Slices ![o, 0] S1x128) :
      (broadcastTo S4160x128 (extractStridedSlice S1x128 ![o, 0] w hs) broadcasts_S1x128_S4160x128 j : EReal) = w (ix2 k (j 1)) := by
    subst hk
    pointwise
  unfold act conv
  simp only [here]
  have sum : ((addf (addf (addf (mulf x (broadcastTo S4160x128 (extractStridedSlice S1x128 ![3, 0] w slices_S4x128_o3_0_S1x128) broadcasts_S1x128_S4160x128))
      (mulf (select (cmpi .sge (iota .tc S4160x128 32 [0] iota_S4160x128_d0_w32) (broadcast S4160x128 1#32)) (dynamicRotate 0 1#32 none x rotates_S4160x128_d0) (broadcast S4160x128 (Scalar.ofBits (F := Ideal) .f32 0x00000000#32))) (broadcastTo S4160x128 (extractStridedSlice S1x128 ![2, 0] w slices_S4x128_o2_0_S1x128) broadcasts_S1x128_S4160x128)))
      (mulf (select (cmpi .sge (iota .tc S4160x128 32 [0] iota_S4160x128_d0_w32) (broadcast S4160x128 2#32)) (dynamicRotate 0 2#32 none x rotates_S4160x128_d0) (broadcast S4160x128 (Scalar.ofBits (F := Ideal) .f32 0x00000000#32))) (broadcastTo S4160x128 (extractStridedSlice S1x128 ![1, 0] w slices_S4x128_o1_0_S1x128) broadcasts_S1x128_S4160x128)))
      (mulf (select (cmpi .sge (iota .tc S4160x128 32 [0] iota_S4160x128_d0_w32) (broadcast S4160x128 3#32)) (dynamicRotate 0 3#32 none x rotates_S4160x128_d0) (broadcast S4160x128 (Scalar.ofBits (F := Ideal) .f32 0x00000000#32))) (broadcastTo S4160x128 (extractStridedSlice S1x128 ![0, 0] w slices_S4x128_o0_0_S1x128) broadcasts_S1x128_S4160x128)) : FVec Ideal S4160x128 .f32) j : EReal)
      = x j * w (ix2 3 (j 1)) + behind 1 (fun i => x (ix2 i (j 1))) (j 0) * w (ix2 2 (j 1)) + behind 2 (fun i => x (ix2 i (j 1))) (j 0) * w (ix2 1 (j 1))
        + behind 3 (fun i => x (ix2 i (j 1))) (j 0) * w (ix2 0 (j 1)) :=
    congrArg₂ (fun a b : EReal => a + b) (congrArg₂ (fun a b : EReal => a + b) (congrArg₂ (fun a b : EReal => a + b)
      (congrArg (fun b : EReal => x j * b) (tap 3 3 rfl _)) (congrArg₂ (fun a b : EReal => a * b) (b1 _ _ j) (tap 2 2 rfl _)))
      (congrArg₂ (fun a b : EReal => a * b) (b2 _ _ j) (tap 1 1 rfl _))) (congrArg₂ (fun a b : EReal => a * b) (b3 _ _ j) (tap 0 0 rfl _))
  exact congrArg (fun y : EReal => y * Ideal.logistic y) sum

/-- What a point stores. -/
theorem block (x : Vec Ideal S4160x128 .f32) (w : Vec Ideal S4x128 .f32) (j : S4160x128.Idx) :
    (out0_2 x w j : EReal) = rule (fun e => conv (fun i => x (ix2 i e)) (fun k => w (ix2 k e)) (j 0)) (j 1) := by
  unfold out0_2
  frame_out
  exact activated x w j

/-- The projection's rows. -/
def xs (c : Dev nD) : (Rows 9600).Idx → EReal := m ((c.tc : Thread nD τ).loc main_arg0)

/-- The taps. -/
def ws (c : Dev nD) : (Taps 3072).Idx → EReal := m ((c.tc : Thread nD τ).loc main_arg1)

/-- What point `t` stores, from whole arrays. -/
theorem block_at (c : Dev nD) (t : Fin cfg0.N) (j : S4160x128.Idx) :
    (out0_2 (iblk m c 0 t) (iblk m c 1 t) j : EReal)
      = results rule 2 (xs m c) (ws m c) (ix2 (j 0) (lane (⟨t.val, t.isLt⟩ : Fin 8) (j 1))) := by
  refine (block _ _ j).trans ?_
  have spot (h : Fin 8) (e : Fin 128) (r : Fin 4160) : results rule 2 (xs m c) (ws m c) (ix2 r (lane h e))
      = rule (fun e => conv (fun t => xs m c (ix2 t (wide 2 h e))) (fun k => ws m c (ix2 k (place 2 h e))) r) e := by
    unfold results
    change rule (fun e' => conv (fun t => xs m c (ix2 t (wide 2 (head (lane h e)) e'))) (fun k => ws m c (ix2 k (place 2 (head (lane h e)) e'))) r) (sub (lane h e)) = _
    rw [head_lane, sub_lane]
  have row (r : Fin 4160) (e : Fin 128) : ((iblk m c 0 t : S4160x128.Idx → EReal) (ix2 r e)) = xs m c (ix2 r (wide 2 (⟨t.val, t.isLt⟩ : Fin 8) e)) := by
    blk_ext [iblk, V, xs, wide, idx t]
  have tap (k : Fin 4) (e : Fin 128) : ((iblk m c 1 t : S4x128.Idx → EReal) (ix2 k e)) = ws m c (ix2 k (place 2 (⟨t.val, t.isLt⟩ : Fin 8) e)) := by
    blk_ext [iblk, V, ws, place, idx t]
  exact (congrArg (fun f => rule f (j 1)) (funext fun e => congrArg₂ (fun f g => conv f g (j 0)) (funext fun r => row r e) (funext fun k => tap k e))).trans
    (spot _ _ _).symm

/-- The result after the run. -/
theorem array_results (c : Dev nD) : (dats m 0 c).arrAt 2 cfg0.N
    = (results rule 2 (xs m c) (ws m c) : S4160x1024.Idx → EReal) := by
  refine (dats m 0 c).arrAt_eq_of_covers 2 _ (by decide +kernel) fun t _ y => ?_
  blk_simp
  rw [after0_2]
  have spot : ((cfg0.win 2).blk t).view.emb y = (ix2 (y 0) (lane (⟨t.val, t.isLt⟩ : Fin 8) (y 1)) : S4160x1024.Idx) := by
    blk_ext [lane, idx t]
  exact (block_at m c t y).trans (congrArg (results _ _ _ _) spot).symm

end Cert.Convolution.Value
-- ==== Proof.Equations.Value.lean ====
/- The values' convolution: the kernel and the reference end with the same array. -/
module

public import proofs.«01_k».proof.Defs
public import proofs.«01_k».proof.Proof.Convolution.Value
public import proofs.«01_k».proof.Proof.Gen.Reference25Ideal.Run
public import Idealize.ShloMosaic.Adequacy
public import Idealize.ShloMosaic.Init

@[expose] public section

set_option maxRecDepth 16384

noncomputable section

namespace Cert.Convolution.Value

open Idealize.ShloMosaic Idealize.ShloMosaic.Pointwise Idealize.SL.Sem

section Reference

open Cert.Reference25Ideal Cert.Reference25Ideal.Gen Cert.Reference25Ideal.Value

variable (V0 : Valuation τ sig (Elt Ideal))

/-- The reference's projection's rows, and its taps. -/
def rx : (Rows 9600).Idx → EReal := V0 (Proc.devRef .tc main_arg0)

def rw' : (Taps 3072).Idx → EReal := V0 (Proc.devRef .tc main_arg1)

/-- The taps of the values, and the projection's rows below zero rows. -/
def own_v1 : FVec Ideal S4x1024 .f32 :=
  extractStridedSlice S4x1024 ![0, 2048] (V0 (Proc.devRef .tc main_arg1)) slices_S4x3072_S4x1024_0_2048

def own_v3 : FVec Ideal S4163x1024 .f32 :=
  concatenate S4163x1024 0 [⟨S3x1024, (broadcastInDim S3x1024 ![] bcast_S_S3x1024 (constant S_ .f32 0x00000000#32))⟩, ⟨S4160x1024, (extractStridedSlice S4160x1024 ![0, 2048] (V0 (Proc.devRef .tc main_arg0)) slices_S4160x9600_S4160x1024_0_2048)⟩] concatenates_S3x1024_S4160x1024_S4163x1024_d0

/-- The rows and the taps of the convolution. -/
def own_v5 : FVec Ideal S4160x1024 .f32 :=
  extractStridedSlice S4160x1024 ![0, 0] (own_v3 V0) slices_S4163x1024_S4160x1024_0_0

def own_v8 : FVec Ideal S1x1024 .f32 :=
  broadcastInDim S1x1024 ![1] bcast_S1024_S1x1024_1 (shapeCast _ (extractStridedSlice S1x1024 ![0, 0] (own_v1 V0) slices_S4x1024_S1x1024_0_0) shapeCasts_S1x1024_S1024)

def own_v11 : FVec Ideal S4160x1024 .f32 :=
  extractStridedSlice S4160x1024 ![1, 0] (own_v3 V0) slices_S4163x1024_S4160x1024_1_0

def own_v14 : FVec Ideal S1x1024 .f32 :=
  broadcastInDim S1x1024 ![1] bcast_S1024_S1x1024_1 (shapeCast _ (extractStridedSlice S1x1024 ![1, 0] (own_v1 V0) slices_S4x1024_S1x1024_1_0) shapeCasts_S1x1024_S1024)

def own_v18 : FVec Ideal S4160x1024 .f32 :=
  extractStridedSlice S4160x1024 ![2, 0] (own_v3 V0) slices_S4163x1024_S4160x1024_2_0

def own_v21 : FVec Ideal S1x1024 .f32 :=
  broadcastInDim S1x1024 ![1] bcast_S1024_S1x1024_1 (shapeCast _ (extractStridedSlice S1x1024 ![2, 0] (own_v1 V0) slices_S4x1024_S1x1024_2_0) shapeCasts_S1x1024_S1024)

def own_v25 : FVec Ideal S4160x1024 .f32 :=
  extractStridedSlice S4160x1024 ![3, 0] (own_v3 V0) slices_S4163x1024_S4160x1024_3_0

def own_v28 : FVec Ideal S1x1024 .f32 :=
  broadcastInDim S1x1024 ![1] bcast_S1024_S1x1024_1 (shapeCast _ (extractStridedSlice S1x1024 ![3, 0] (own_v1 V0) slices_S4x1024_S1x1024_3_0) shapeCasts_S1x1024_S1024)

/-- The convolution, its logistic, and its gradient. -/
def own_v31 : FVec Ideal S4160x1024 .f32 :=
  addf (addf (addf (mulf (own_v5 V0) (broadcastInDim S4160x1024 ![0, 1] bcast_S1x1024_S4160x1024_0_1 (own_v8 V0))) (mulf (own_v11 V0) (broadcastInDim S4160x1024 ![0, 1] bcast_S1x1024_S4160x1024_0_1 (own_v14 V0)))) (mulf (own_v18 V0) (broadcastInDim S4160x1024 ![0, 1] bcast_S1x1024_S4160x1024_0_1 (own_v21 V0)))) (mulf (own_v25 V0) (broadcastInDim S4160x1024 ![0, 1] bcast_S1x1024_S4160x1024_0_1 (own_v28 V0)))

def own_v32_2 : FVec Ideal S4160x1024 .f32 :=
  Host.divf (broadcastInDim S4160x1024 ![] bcast_S_S4160x1024 (constant S_ .f32 0x3F800000#32)) (addf (broadcastInDim S4160x1024 ![] bcast_S_S4160x1024 (constant S_ .f32 0x3F800000#32)) (Host.exp (Host.negf (own_v31 V0))))

theorem r5 (j : S4160x1024.Idx) : (own_v5 V0 j : EReal) = behind 3 (fun t => rx V0 (ix2 t (wideCol 2 (j 1)))) (j 0) := by
  have bound : (j 0).val < 4160 := (j 0).isLt
  unfold behind rx
  pointwise [own_v5, own_v3]
  by_cases h : 3 ≤ (j 0).val
  · rw [dif_neg (by omega), if_pos h]
    refine congrArg _ (congrArg₂ ix2 (Fin.ext ?_) (Fin.ext ?_))
    · change (j 0).val - 3 = (j 0).val - 3
      omega
    · change 2048 + (j 1).val = 2 * 1024 + (j 1).val
      omega
  · rw [dif_pos (by omega), if_neg h]

theorem r11 (j : S4160x1024.Idx) : (own_v11 V0 j : EReal) = behind 2 (fun t => rx V0 (ix2 t (wideCol 2 (j 1)))) (j 0) := by
  have bound : (j 0).val < 4160 := (j 0).isLt
  unfold behind rx
  pointwise [own_v11, own_v3]
  by_cases h : 2 ≤ (j 0).val
  · rw [dif_neg (by omega), if_pos h]
    refine congrArg _ (congrArg₂ ix2 (Fin.ext ?_) (Fin.ext ?_))
    · change 1 + (j 0).val - 3 = (j 0).val - 2
      omega
    · change 2048 + (j 1).val = 2 * 1024 + (j 1).val
      omega
  · rw [dif_pos (by omega), if_neg h]

theorem r18 (j : S4160x1024.Idx) : (own_v18 V0 j : EReal) = behind 1 (fun t => rx V0 (ix2 t (wideCol 2 (j 1)))) (j 0) := by
  have bound : (j 0).val < 4160 := (j 0).isLt
  unfold behind rx
  pointwise [own_v18, own_v3]
  by_cases h : 1 ≤ (j 0).val
  · rw [dif_neg (by omega), if_pos h]
    refine congrArg _ (congrArg₂ ix2 (Fin.ext ?_) (Fin.ext ?_))
    · change 2 + (j 0).val - 3 = (j 0).val - 1
      omega
    · change 2048 + (j 1).val = 2 * 1024 + (j 1).val
      omega
  · rw [dif_pos (by omega), if_neg h]

theorem r25 (j : S4160x1024.Idx) : (own_v25 V0 j : EReal) = rx V0 (ix2 (j 0) (wideCol 2 (j 1))) := by
  unfold rx
  pointwise [own_v25, own_v3]
  refine congrArg _ (congrArg₂ ix2 rfl (Fin.ext ?_))
  change 2048 + (j 1).val = 2 * 1024 + (j 1).val
  omega

theorem r8 (j : S1x1024.Idx) : (own_v8 V0 j : EReal) = rw' V0 (ix2 0 (tapCol 2 (j 1))) := by
  unfold rw'
  pointwise [own_v8, own_v1]
  exact congrArg _ (congrArg₂ ix2 rfl (Fin.ext (by simp [tapCol])))

theorem r14 (j : S1x1024.Idx) : (own_v14 V0 j : EReal) = rw' V0 (ix2 1 (tapCol 2 (j 1))) := by
  unfold rw'
  pointwise [own_v14, own_v1]
  exact congrArg _ (congrArg₂ ix2 rfl (Fin.ext (by simp [tapCol])))

theorem r21 (j : S1x1024.Idx) : (own_v21 V0 j : EReal) = rw' V0 (ix2 2 (tapCol 2 (j 1))) := by
  unfold rw'
  pointwise [own_v21, own_v1]
  exact congrArg _ (congrArg₂ ix2 rfl (Fin.ext (by simp [tapCol])))

theorem r28 (j : S1x1024.Idx) : (own_v28 V0 j : EReal) = rw' V0 (ix2 3 (tapCol 2 (j 1))) := by
  unfold rw'
  pointwise [own_v28, own_v1]
  exact congrArg _ (congrArg₂ ix2 rfl (Fin.ext (by simp [tapCol])))

/-- The convolution. -/
theorem r31 (j : S4160x1024.Idx) : (own_v31 V0 j : EReal)
    = conv (fun t => rx V0 (ix2 t (wideCol 2 (j 1)))) (fun k => rw' V0 (ix2 k (tapCol 2 (j 1)))) (j 0) := by
  unfold conv
  pointwise [own_v31, r5, r8, r11, r14, r18, r21, r25, r28]
  have turn (a b c d : EReal) : a + b + c + d = d + c + b + a := by abel
  exact turn _ _ _ _

theorem r32 (j : S4160x1024.Idx) : (own_v32_2 V0 j : EReal) = Ideal.logistic (own_v31 V0 j) := by
  unfold Ideal.logistic
  pointwise [own_v32_2]

/-- The reference's result. -/
theorem result_reference (j : S4160x1024.Idx) :
    ((mulf (own_v31 V0) (own_v32_2 V0)) j : EReal) = results rule 2 (rx V0) (rw' V0) j := by
  have spot : j = ix2 (j 0) (lane (head (j 1)) (sub (j 1))) :=
    (ix2_eta j).symm.trans (congrArg (ix2 (j 0)) (lane_head_sub (j 1)).symm)
  have y : (own_v31 V0 j : EReal) = conv (fun t => rx V0 (ix2 t (wide 2 (head (j 1)) (sub (j 1))))) (fun k => rw' V0 (ix2 k (place 2 (head (j 1)) (sub (j 1))))) (j 0) :=
    (congrArg (own_v31 V0) spot).trans (r31 V0 _)
  unfold results rule plain_head act
  simp only [← y]
  pointwise [r32]

end Reference

variable (m : (ℓ : Loc Cert.Kernel25Ideal.nD Cert.Kernel25Ideal.τ Cert.Kernel25Ideal.sig) → Buf (Elt Ideal) ℓ)

/-- The reference's result, by its parts. -/
theorem reference_parts (m : (ℓ : Loc Cert.Reference25Ideal.nD Cert.Reference25Ideal.τ Cert.Reference25Ideal.sig) → Buf (Elt Ideal) ℓ)
    (c : Dev Cert.Reference25Ideal.nD) (j : Cert.Reference25Ideal.S4160x1024.Idx) :
    (Cert.Reference25Ideal.Value.res_main_v31 m c j : EReal)
      = results rule 2 (rx (StableHlo.launchContents m c)) (rw' (StableHlo.launchContents m c)) j :=
  result_reference (StableHlo.launchContents m c) j

/-- The reference declares no semaphore, and its run ends with its arguments as they were. -/
theorem frame_reference : Cert.quiescent_Reference25Ideal := fun m ρ _ =>
  (θ_run Cert.Reference25Ideal.defs _ _).mono
    (fun r h => ⟨fun c => (h c).2, sem_eq_zero_of_no_sems (by decide) r.2⟩)
    (Cert.Reference25Ideal.Value.run (F := Ideal) m ρ)

open Cert.Kernel25Ideal Cert.Kernel25Ideal.Gen in
/-- Both runs end with the same array. -/
theorem equation : Cert.algebraic_Kernel25Ideal_Reference25Ideal := by
  intro m g m' g' _ hargs
  refine ⟨fun c => (dats m 0 c).arrAt 2 cfg0.N, Cert.Kernel25Ideal.Value.run_blocks m g,
    (θ_run Cert.Reference25Ideal.defs _ _).mono (fun r h c => ?_) (Cert.Reference25Ideal.Value.run (F := Ideal) m' g')⟩
  obtain ⟨r0, rest⟩ := h c
  obtain ⟨h0, h1⟩ := hargs c
  have e0 : rx (StableHlo.launchContents m' c) = xs m c := h0
  have e1 : rw' (StableHlo.launchContents m' c) = ws m c := h1
  refine ⟨r0.trans (Eq.trans (funext fun j => ?_) (array_results m c).symm), rest⟩
  exact (reference_parts m' c j).trans (by rw [e0, e1])

end Cert.Convolution.Value
-- ==== Proof.Convolution.Shifted.lean ====
/- The mixture with the row before: the kernel's array. -/
module

public import proofs.«01_k».proof.Proof.Gen.Kernel26Ideal.Value
public import proofs.«01_k».proof.Proof.Convolution.Shift
public import Idealize.ShloMosaic.Lib.Pipeline.ValueKit
public import Idealize.ShloMosaic.Lib.Pipeline.ReadBack

@[expose] public section

set_option maxRecDepth 16384

noncomputable section

namespace Cert.Convolution.Shifted

open Idealize.ShloMosaic Idealize.ShloMosaic.Pointwise Idealize.SL.Sem Cert.Kernel26Ideal Cert.Kernel26Ideal.Gen

variable (m : (ℓ : Loc nD τ sig) → Buf (Elt Ideal) ℓ)

theorem idx : ∀ t : Fin cfg0.N, win0_0.index t = ![0, t.val + 32] ∧ win0_1.index t = ![0, t.val] ∧ win0_2.index t = ![0, t.val] :=
  (by decide +kernel : ∀ t : Fin grid0.N, _)

/-- The block's mixed columns. -/
theorem mixed (x : Vec Ideal S4160x128 .f32) (mu : Vec Ideal S1x128 .f32) (j : S4160x128.Idx) :
    (k0_pay1 x mu j : EReal) = mix (fun t => x (ix2 t (j 1))) (mu (ix2 0 (j 1))) (j 0) := by
  have here : x (ix2 (j 0) (j 1)) = x j := congrArg x (ix2_eta j)
  unfold mix
  simp only [here]
  refine congrArg₂ (fun a b : EReal => a + b) rfl (congrArg₂ (fun a b : EReal => a * b) (congrArg₂ (fun a b : EReal => a - b) ?_ rfl) ?_)
  · exact rotate_behind 1 (by omega) x _ _ j
  · pointwise

/-- The projection's rows, and the ways. -/
def xs (c : Dev nD) : (Rows 9600).Idx → EReal := m ((c.tc : Thread nD τ).loc main_arg0)

def ws (c : Dev nD) : (⟨2, ![1, 3072]⟩ : Shape).Idx → EReal := m ((c.tc : Thread nD τ).loc main_arg1)

/-- Column `e` of block `t`. -/
def spot (t : Fin cfg0.N) (e : Fin 128) : Fin 3072 := ⟨t.val * 128 + e.val, by have := t.isLt; change t.val < 24 at this; omega⟩

/-- The mixture of whole arrays. -/
def rows (c : Dev nD) : S4160x3072.Idx → EReal := fun j => mix (fun t => xs m c (ix2 t (mixedCol (j 1)))) (ws m c (ix2 0 (j 1))) (j 0)

/-- What point `t` stores, from whole arrays. -/
theorem rows_at (c : Dev nD) (t : Fin cfg0.N) (j : S4160x128.Idx) :
    (out0_2 (iblk m c 0 t) (iblk m c 1 t) j : EReal) = rows m c (ix2 (j 0) (spot t (j 1))) := by
  unfold out0_2
  frame_out
  refine (mixed _ _ j).trans ?_
  have way : ((iblk m c 1 t : S1x128.Idx → EReal) (ix2 0 (j 1))) = ws m c (ix2 0 (spot t (j 1))) := by
    blk_ext [iblk, V, ws, spot, idx t]
  have row (r : Fin 4160) : ((iblk m c 0 t : S4160x128.Idx → EReal) (ix2 r (j 1))) = xs m c (ix2 r (mixedCol (spot t (j 1)))) := by
    blk_ext [iblk, V, xs, spot, mixedCol, idx t]
  exact congrArg₂ (fun f w => mix f w (j 0)) (funext row) way

/-- The mixture after the run. -/
theorem array_rows (c : Dev nD) : (dats m 0 c).arrAt 2 cfg0.N = rows m c := by
  refine (dats m 0 c).arrAt_eq_of_covers 2 _ (by decide +kernel) fun t _ y => ?_
  blk_simp
  rw [after0_2]
  have place : ((cfg0.win 2).blk t).view.emb y = (ix2 (y 0) (spot t (y 1)) : S4160x3072.Idx) := by
    blk_ext [spot, idx t]
  exact (rows_at m c t y).trans (congrArg (rows m c) place).symm

end Cert.Convolution.Shifted
-- ==== Proof.Equations.Shifted.lean ====
/- The mixture with the row before: the kernel and the reference end with the same array. -/
module

public import proofs.«01_k».proof.Defs
public import proofs.«01_k».proof.Proof.Convolution.Shifted
public import proofs.«01_k».proof.Proof.Gen.Reference26Ideal.Run
public import Idealize.ShloMosaic.Adequacy
public import Idealize.ShloMosaic.Init

@[expose] public section

set_option maxRecDepth 16384

noncomputable section

namespace Cert.Convolution.Shifted

open Idealize.ShloMosaic Idealize.ShloMosaic.Pointwise Idealize.SL.Sem

section Reference

open Cert.Reference26Ideal Cert.Reference26Ideal.Gen

/-- The mixed part of the projection's columns. -/
def part (x : FVec Ideal S4160x9600 .f32) : FVec Ideal S4160x3072 .f32 :=
  extractStridedSlice S4160x3072 ![0, 4096] x slices_S4160x9600_S4160x3072_0_4096

/-- The same columns a row earlier. -/
def earlier (z : FVec Ideal S4160x3072 .f32) : FVec Ideal S4160x3072 .f32 :=
  concatenate S4160x3072 0 [⟨S1x3072, (broadcastInDim S1x3072 ![] bcast_S_S1x3072 (constant S_ .f32 0x00000000#32))⟩, ⟨S4159x3072, (extractStridedSlice S4159x3072 ![0, 0] z slices_S4160x3072_S4159x3072_0_0)⟩] concatenates_S1x3072_S4159x3072_S4160x3072_d0

theorem part_apply (x : FVec Ideal S4160x9600 .f32) (j : S4160x3072.Idx) : (part x j : EReal) = x (ix2 (j 0) (mixedCol (j 1))) := by
  unfold part
  pointwise
  rfl

theorem earlier_apply (z : FVec Ideal S4160x3072 .f32) (j : S4160x3072.Idx) :
    (earlier z j : EReal) = behind 1 (fun t => z (ix2 t (j 1))) (j 0) := by
  have bound : (j 0).val < 4160 := (j 0).isLt
  unfold behind earlier
  pointwise
  by_cases h : 1 ≤ (j 0).val
  · rw [dif_neg (by omega)]
    exact (if_pos h).symm
  · rw [dif_pos (by omega)]
    exact (if_neg h).symm

/-- The reference's mixture. -/
theorem rows_reference (x : FVec Ideal S4160x9600 .f32) (mu : FVec Ideal S1x3072 .f32) (j : S4160x3072.Idx) :
    (addf (part x) (mulf (subf (earlier (part x)) (part x)) (broadcastInDim S4160x3072 ![0, 1] bcast_S1x3072_S4160x3072_0_1 mu)) j : EReal)
      = mix (fun t => x (ix2 t (mixedCol (j 1)))) (mu (ix2 0 (j 1))) (j 0) := by
  unfold mix
  pointwise [earlier_apply, part_apply]

end Reference

/-- The reference declares no semaphore, and its run ends with its arguments as they were. -/
theorem frame_reference : Cert.quiescent_Reference26Ideal := fun m ρ _ =>
  (θ_run Cert.Reference26Ideal.defs _ _).mono
    (fun r h => ⟨fun c => (h c).2, sem_eq_zero_of_no_sems (by decide) r.2⟩)
    (Cert.Reference26Ideal.Value.run (F := Ideal) m ρ)

variable (m : (ℓ : Loc Cert.Kernel26Ideal.nD Cert.Kernel26Ideal.τ Cert.Kernel26Ideal.sig) → Buf (Elt Ideal) ℓ)

open Cert.Kernel26Ideal Cert.Kernel26Ideal.Gen in
/-- Both runs end with the same array. -/
theorem equation : Cert.algebraic_Kernel26Ideal_Reference26Ideal := by
  intro m g m' g' _ hargs
  refine ⟨fun c => (dats m 0 c).arrAt 2 cfg0.N, Cert.Kernel26Ideal.Value.run_blocks m g,
    (θ_run Cert.Reference26Ideal.defs _ _).mono (fun r h c => ?_) (Cert.Reference26Ideal.Value.run (F := Ideal) m' g')⟩
  obtain ⟨r0, rest⟩ := h c
  obtain ⟨h0, h1⟩ := hargs c
  rw [h0, h1] at r0
  refine ⟨r0.trans (Eq.trans (funext fun j => ?_) (array_rows m c).symm), rest⟩
  exact rows_reference _ _ j

end Cert.Convolution.Shifted
-- ==== Proof.Optimiser.Step.lean ====
/- The optimiser's step of the input projection's weight: the kernel's four arrays. -/
module

public import proofs.«01_k».proof.Proof.Gen.Kernel28Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Optimiser.Step

open Idealize.ShloMosaic Idealize.ShloMosaic.Pointwise Idealize.SL.Sem Cert.Kernel28Ideal Cert.Kernel28Ideal.Gen

variable (m : (ℓ : Loc nD τ sig) → Buf (Elt Ideal) ℓ)

/-- The mean of the gradients, from the mean `a` so far and the gradient `g`. -/
def mean (g a : EReal) : EReal := Ideal.ofBits .f32 0x3F666666#32 * a + Ideal.ofBits .f32 0x3DCCCCCD#32 * g

/-- The mean of the gradients' squares, from the mean `b` so far and the gradient `g`. -/
def spread (g b : EReal) : EReal := Ideal.ofBits .f32 0x3F7FBE77#32 * b + Ideal.ofBits .f32 0x3A83126F#32 * (g * g)

/-- The change of the weight `w`. -/
def change (w g a b : EReal) : EReal :=
  Ideal.ofBits .f32 0xBA83126F#32 * (Ideal.div (Ideal.div (mean g a) (Ideal.ofBits .f32 0x3F26BD02#32))
    (Ideal.sqrt (Ideal.div (spread g b) (Ideal.ofBits .f32 0x3C231ACC#32)) + Ideal.ofBits .f32 0x322BCC77#32)
    + Ideal.ofBits .f32 0x3C23D70A#32 * w)

theorem idx : ∀ t : Fin cfg0.N, win0_0.index t = ![t.val / 16, t.val % 16, 0] ∧ win0_1.index t = ![t.val / 16, t.val % 16, 0] ∧ win0_2.index t = ![t.val / 16, t.val % 16, 0]
    ∧ win0_3.index t = ![t.val / 16, t.val % 16, 0] ∧ win0_4.index t = ![t.val / 16, t.val % 16, 0] ∧ win0_5.index t = ![t.val / 16, t.val % 16, 0]
    ∧ win0_6.index t = ![t.val / 16, t.val % 16, 0] ∧ win0_7.index t = ![t.val / 16, t.val % 16, 0] :=
  (by decide +kernel : ∀ t : Fin grid0.N, _)

/-- What a point stores of each array. -/
theorem gradient_block (w g a b : Vec Ideal S1x64x2380 .f32) (j : S1x64x2380.Idx) : (out0_4 w g a b j : EReal) = g j := by
  unfold out0_4
  frame_out
  pointwise [k0_pay7, k0_pay4]

theorem change_block (w g a b : Vec Ideal S1x64x2380 .f32) (j : S1x64x2380.Idx) : (out0_5 w g a b j : EReal) = change (w j) (g j) (a j) (b j) := by
  unfold out0_5 change mean spread
  frame_out
  pointwise [k0_pay1, k0_pay8, k0_pay9, k0_pay5, k0_pay6, k0_pay4]

theorem mean_block (w g a b : Vec Ideal S1x64x2380 .f32) (j : S1x64x2380.Idx) : (out0_6 w g a b j : EReal) = mean (g j) (a j) := by
  unfold out0_6 mean
  frame_out
  pointwise [k0_pay2, k0_pay5, k0_pay4]

theorem spread_block (w g a b : Vec Ideal S1x64x2380 .f32) (j : S1x64x2380.Idx) : (out0_7 w g a b j : EReal) = spread (g j) (b j) := by
  unfold out0_7 spread
  frame_out
  pointwise [k0_pay3, k0_pay6, k0_pay4]

/-- The weight, its gradient, and the two means so far. -/
def ws (c : Dev nD) : S1x1024x2380.Idx → EReal := m ((c.tc : Thread nD τ).loc main_arg0)

def gs (c : Dev nD) : S1x1024x2380.Idx → EReal := m ((c.tc : Thread nD τ).loc main_arg1)

def means (c : Dev nD) : S1x1024x2380.Idx → EReal := m ((c.tc : Thread nD τ).loc main_arg2)

def squares (c : Dev nD) : S1x1024x2380.Idx → EReal := m ((c.tc : Thread nD τ).loc main_arg3)

/-- Where a point's blocks lie. -/
def spot (t : Fin cfg0.N) (j : S1x64x2380.Idx) : S1x1024x2380.Idx :=
  ix3 (0 : Fin 1) (⟨t.val * 64 + (j 1).val, by have h := t.isLt; change t.val < 16 at h; have : (j 1).val < 64 := (j 1).isLt; omega⟩ : Fin 1024) (j 2)

theorem w_at (c : Dev nD) (t : Fin cfg0.N) (j : S1x64x2380.Idx) : ((iblk m c 0 t : S1x64x2380.Idx → EReal) j) = ws m c (spot t j) := by
  blk_ext [iblk, V, ws, spot, idx t]

theorem g_at (c : Dev nD) (t : Fin cfg0.N) (j : S1x64x2380.Idx) : ((iblk m c 1 t : S1x64x2380.Idx → EReal) j) = gs m c (spot t j) := by
  blk_ext [iblk, V, gs, spot, idx t]

theorem a_at (c : Dev nD) (t : Fin cfg0.N) (j : S1x64x2380.Idx) : ((iblk m c 2 t : S1x64x2380.Idx → EReal) j) = means m c (spot t j) := by
  blk_ext [iblk, V, means, spot, idx t]

theorem b_at (c : Dev nD) (t : Fin cfg0.N) (j : S1x64x2380.Idx) : ((iblk m c 3 t : S1x64x2380.Idx → EReal) j) = squares m c (spot t j) := by
  blk_ext [iblk, V, squares, spot, idx t]

/-- The four arrays after the run. -/
theorem array_gradient (c : Dev nD) : (dats m 0 c).arrAt 4 cfg0.N = gs m c := by
  refine (dats m 0 c).arrAt_eq_of_covers 4 _ (by decide +kernel) fun t _ y => ?_
  blk_simp
  rw [after0_4]
  have place : ((cfg0.win 4).blk t).view.emb y = spot t y := by blk_ext [spot, idx t]
  exact ((gradient_block _ _ _ _ y).trans (g_at m c t y)).trans (congrArg (gs m c) place).symm

theorem array_change (c : Dev nD) : (dats m 0 c).arrAt 5 cfg0.N
    = (fun i => change (ws m c i) (gs m c i) (means m c i) (squares m c i) : S1x1024x2380.Idx → EReal) := by
  refine (dats m 0 c).arrAt_eq_of_covers 5 _ (by decide +kernel) fun t _ y => ?_
  blk_simp
  rw [after0_5]
  have place : ((cfg0.win 5).blk t).view.emb y = spot t y := by blk_ext [spot, idx t]
  refine ((change_block _ _ _ _ y).trans ?_).trans (congrArg (fun i => change (ws m c i) (gs m c i) (means m c i) (squares m c i)) place).symm
  exact (congrArg₂ (fun u v => change u v _ _) (w_at m c t y) (g_at m c t y)).trans (congrArg₂ (fun u v => change _ _ u v) (a_at m c t y) (b_at m c t y))

theorem array_mean (c : Dev nD) : (dats m 0 c).arrAt 6 cfg0.N
    = (fun i => mean (gs m c i) (means m c i) : S1x1024x2380.Idx → EReal) := by
  refine (dats m 0 c).arrAt_eq_of_covers 6 _ (by decide +kernel) fun t _ y => ?_
  blk_simp
  rw [after0_6]
  have place : ((cfg0.win 6).blk t).view.emb y = spot t y := by blk_ext [spot, idx t]
  refine ((mean_block _ _ _ _ y).trans ?_).trans (congrArg (fun i => mean (gs m c i) (means m c i)) place).symm
  exact congrArg₂ mean (g_at m c t y) (a_at m c t y)

theorem array_spread (c : Dev nD) : (dats m 0 c).arrAt 7 cfg0.N
    = (fun i => spread (gs m c i) (squares m c i) : S1x1024x2380.Idx → EReal) := by
  refine (dats m 0 c).arrAt_eq_of_covers 7 _ (by decide +kernel) fun t _ y => ?_
  blk_simp
  rw [after0_7]
  have place : ((cfg0.win 7).blk t).view.emb y = spot t y := by blk_ext [spot, idx t]
  refine ((spread_block _ _ _ _ y).trans ?_).trans (congrArg (fun i => spread (gs m c i) (squares m c i)) place).symm
  exact congrArg₂ spread (g_at m c t y) (b_at m c t y)

end Cert.Optimiser.Step
-- ==== Proof.Equations.Step.lean ====
/- The optimiser's step of the input projection's weight: the kernel and the reference end with the same arrays. -/
module

public import proofs.«01_k».proof.Defs
public import proofs.«01_k».proof.Proof.Optimiser.Step
public import proofs.«01_k».proof.Proof.Gen.Reference28Ideal.Run
public import Idealize.ShloMosaic.Adequacy
public import Idealize.ShloMosaic.Init

@[expose] public section

set_option maxRecDepth 16384

noncomputable section

namespace Cert.Optimiser.Step

open Idealize.ShloMosaic Idealize.ShloMosaic.Pointwise Idealize.SL.Sem

/-- The reference declares no semaphore, and its run ends with its arguments as they were. -/
theorem frame_reference : Cert.quiescent_Reference28Ideal := fun m ρ _ =>
  (θ_run Cert.Reference28Ideal.defs _ _).mono
    (fun r h => ⟨fun c => (h c).2.2.2.2, sem_eq_zero_of_no_sems (by decide) r.2⟩)
    (Cert.Reference28Ideal.Value.run (F := Ideal) m ρ)

variable (m : (ℓ : Loc Cert.Kernel28Ideal.nD Cert.Kernel28Ideal.τ Cert.Kernel28Ideal.sig) → Buf (Elt Ideal) ℓ)

open Cert.Kernel28Ideal Cert.Kernel28Ideal.Gen in
/-- Both runs end with the same arrays. -/
theorem equation : Cert.algebraic_Kernel28Ideal_Reference28Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel28Ideal.Value.run_blocks m g,
    (θ_run Cert.Reference28Ideal.defs _ _).mono (fun r h c => ?_) (Cert.Reference28Ideal.Value.run (F := Ideal) m' g')⟩
  obtain ⟨r0, r1, r2, r3, rest⟩ := h c
  obtain ⟨h0, h1, h2, h3⟩ := hargs c
  rw [h1] at r0
  rw [h0, h1, h2, h3] at r1
  rw [h1, h2] at r2
  rw [h1, h3] at r3
  refine ⟨r0.trans (array_gradient m c).symm, r1.trans (Eq.trans (funext fun j => ?_) (array_change m c).symm),
    r2.trans (Eq.trans (funext fun j => ?_) (array_mean m c).symm), r3.trans (Eq.trans (funext fun j => ?_) (array_spread m c).symm), rest⟩
  · unfold change mean spread ws gs means squares
    pointwise
  · unfold mean gs means
    pointwise
  · unfold spread gs squares
    pointwise

end Cert.Optimiser.Step
-- ==== Proof.Delta.Spec.lean ====
/- The gradient of one chunk of the gated delta rule, for one head, over the extended reals: every intermediate quantity as a
   function of plain indices, free of the layout of either program. Both the kernel's block and the reference's trip of the
   loop are read as these functions. -/
module

public import Idealize.ShloMosaic.Lib.Pointwise

@[expose] public section

noncomputable section

namespace Cert.Delta

open Idealize.ShloMosaic

/-- What one head's chunk of 64 rows is given: the rows of q, k, v and of the gradient of the output, the two gates of each row,
    the saved inverse `T` of the chunk's unit lower triangular system, the state `S` (128 × 128) before the chunk, and the
    gradient `dS` of the state after it. -/
structure Chunk where
  q : Fin 64 → Fin 128 → EReal
  k : Fin 64 → Fin 128 → EReal
  v : Fin 64 → Fin 128 → EReal
  dO : Fin 64 → Fin 128 → EReal
  beta : Fin 64 → EReal
  g : Fin 64 → EReal
  T : Fin 64 → Fin 64 → EReal
  S : Fin 128 → Fin 128 → EReal
  dS : Fin 128 → Fin 128 → EReal

namespace Chunk

variable (c : Chunk)

/-! The forward quantities. -/

/-- The running sum of the log gates. -/
def gc (i : Fin 64) : EReal := ∑ j : Fin 64, if j ≤ i then c.g j else 0
/-- The exponential of the running sum. -/
def eg (i : Fin 64) : EReal := Ideal.exp (c.gc i)
/-- The sum of all the log gates of the chunk. -/
def glast : EReal := ∑ j : Fin 64, c.g j
/-- The decay of the whole chunk. -/
def eglast : EReal := Ideal.exp c.glast
/-- The exponentials of the pairwise differences on and below the diagonal, one above it. -/
def ediff (i j : Fin 64) : EReal := Ideal.exp (if j ≤ i then c.gc i - c.gc j else 0)
/-- The decay from row `j` to row `i`. -/
def decay (i j : Fin 64) : EReal := if j ≤ i then c.ediff i j else 0
def kb (i : Fin 64) (d : Fin 128) : EReal := c.k i d * c.beta i
def vb (i : Fin 64) (d : Fin 128) : EReal := c.v i d * c.beta i
/-- The scores of the rows' keys, gated by beta, before the decay. -/
def kk (i j : Fin 64) : EReal := ∑ d : Fin 128, c.kb i d * c.k j d
def u (i : Fin 64) (d : Fin 128) : EReal := ∑ j : Fin 64, c.T i j * c.vb j d
def kbg (i : Fin 64) (d : Fin 128) : EReal := c.kb i d * c.eg i
def wk (i : Fin 64) (d : Fin 128) : EReal := ∑ j : Fin 64, c.T i j * c.kbg j d
/-- The scores of queries against keys, before the decay. -/
def qk (i j : Fin 64) : EReal := ∑ d : Fin 128, c.q i d * c.k j d
def attn (i j : Fin 64) : EReal := c.qk i j * c.decay i j
def qg (i : Fin 64) (d : Fin 128) : EReal := c.q i d * c.eg i
/-- The decay from row `i` to the end of the chunk. -/
def etail (i : Fin 64) : EReal := Ideal.exp (c.glast - c.gc i)
def ktail (i : Fin 64) (d : Fin 128) : EReal := c.k i d * c.etail i
/-- The corrected values of the rows. -/
def vnew (i : Fin 64) (e : Fin 128) : EReal := c.u i e - ∑ d : Fin 128, c.wk i d * c.S d e

/-! The gradients. -/

/-- The gradient with respect to the keys scaled to the end of the chunk. -/
def dktail (i : Fin 64) (d : Fin 128) : EReal := ∑ e : Fin 128, c.vnew i e * c.dS d e
def deglast : EReal := (∑ d : Fin 128, ∑ e : Fin 128, c.S d e * c.dS d e) * c.eglast
def dattn (i j : Fin 64) : EReal := ∑ e : Fin 128, c.dO i e * c.vnew j e
def dvnew (i : Fin 64) (e : Fin 128) : EReal :=
  (∑ d : Fin 128, c.ktail i d * c.dS d e) + ∑ j : Fin 64, c.attn j i * c.dO j e
def dqg (i : Fin 64) (d : Fin 128) : EReal := ∑ e : Fin 128, c.dO i e * c.S d e
def dwk (i : Fin 64) (d : Fin 128) : EReal := ∑ e : Fin 128, (-c.dvnew i e) * c.S d e
/-- The gradient of the state before the chunk. -/
def dSnew (d e : Fin 128) : EReal :=
  (c.dS d e * c.eglast + ∑ i : Fin 64, c.qg i d * c.dO i e) + ∑ i : Fin 64, c.wk i d * (-c.dvnew i e)
/-- What the decay to the end of the chunk passes to the running sum. -/
def dtail (i : Fin 64) : EReal := (∑ d : Fin 128, c.k i d * c.dktail i d) * c.etail i
/-- The gradient of the sum of all the log gates. -/
def dglast : EReal := c.deglast + ∑ i : Fin 64, c.dtail i
def dscore (i j : Fin 64) : EReal := c.dattn i j * c.decay i j
/-- The gradient of the queries. -/
def dq (i : Fin 64) (d : Fin 128) : EReal := c.dqg i d * c.eg i + ∑ j : Fin 64, c.dscore i j * c.k j d
def dkbg (i : Fin 64) (d : Fin 128) : EReal := ∑ j : Fin 64, c.T j i * c.dwk j d
def dvb (i : Fin 64) (d : Fin 128) : EReal := ∑ j : Fin 64, c.T j i * c.dvnew j d
/-- The gradient of the inverse `T`. -/
def dT (i j : Fin 64) : EReal := (∑ d : Fin 128, c.dwk i d * c.kbg j d) + ∑ d : Fin 128, c.dvnew i d * c.vb j d
def TdT (i j : Fin 64) : EReal := ∑ l : Fin 64, c.T l i * c.dT l j
/-- The gradient of the strictly lower triangular part of the system that `T` inverts: `−Tᵀ dT Tᵀ` below the diagonal. -/
def dm (i j : Fin 64) : EReal := if j < i then -∑ l : Fin 64, c.TdT i l * c.T j l else 0
def dmd (i j : Fin 64) : EReal := c.dm i j * c.decay i j
def dkb (i : Fin 64) (d : Fin 128) : EReal := c.dkbg i d * c.eg i + ∑ j : Fin 64, c.dmd i j * c.k j d
/-- The gradient of the values. -/
def dv (i : Fin 64) (d : Fin 128) : EReal := c.dvb i d * c.beta i
/-- The gradient of beta. -/
def dbeta (i : Fin 64) : EReal := (∑ d : Fin 128, c.v i d * c.dvb i d) + ∑ d : Fin 128, c.k i d * c.dkb i d
/-- The gradient of the keys. -/
def dk (i : Fin 64) (d : Fin 128) : EReal :=
  ((c.dktail i d * c.etail i + ∑ j : Fin 64, c.dscore j i * c.q j d) + ∑ j : Fin 64, c.dmd j i * c.kb j d) + c.dkb i d * c.beta i
/-- The gradient of the pairwise differences of the running sum. -/
def ddiff (i j : Fin 64) : EReal :=
  if j ≤ i then (if j ≤ i then c.qk i j * c.dattn i j + c.kk i j * c.dm i j else 0) * c.ediff i j else 0
/-- What the running sum gets where it stands in an exponential of its own row. -/
def dgrow (i : Fin 64) : EReal :=
  (-c.dtail i + (∑ d : Fin 128, c.q i d * c.dqg i d) * c.eg i) + (∑ d : Fin 128, c.kb i d * c.dkbg i d) * c.eg i
/-- The gradient of the running sum, apart from its last row's share `dglast`. -/
def dgc (i : Fin 64) : EReal := (c.dgrow i + ∑ j : Fin 64, c.ddiff i j) + ∑ j : Fin 64, -c.ddiff j i
/-- The gradient of the log gates: the sum of the gradient of the running sum over the rows from `j` on. -/
def dg (j : Fin 64) : EReal := (∑ i : Fin 64, if j ≤ i then c.dgc i else 0) + c.dglast

end Chunk

/-- The four comparisons of row and column numbers, as the 32-bit words of the printed masks compare them. -/
theorem sel_ge {α : Type} (i j : Fin 64) (a b : α) :
    Scalar.select (IntOp.cmpi .sge (BitVec.ofNat 32 i.val) (BitVec.ofNat 32 j.val)) a b = if j ≤ i then a else b := by
  have h : IntOp.cmpi .sge (BitVec.ofNat 32 i.val) (BitVec.ofNat 32 j.val) = if j ≤ i then 1#1 else 0#1 := by
    revert i j; decide +kernel
  rw [h]; split <;> rfl

theorem sel_le {α : Type} (i j : Fin 64) (a b : α) :
    Scalar.select (IntOp.cmpi .sle (BitVec.ofNat 32 i.val) (BitVec.ofNat 32 j.val)) a b = if i ≤ j then a else b := by
  have h : IntOp.cmpi .sle (BitVec.ofNat 32 i.val) (BitVec.ofNat 32 j.val) = if i ≤ j then 1#1 else 0#1 := by
    revert i j; decide +kernel
  rw [h]; split <;> rfl

theorem sel_gt {α : Type} (i j : Fin 64) (a b : α) :
    Scalar.select (IntOp.cmpi .sgt (BitVec.ofNat 32 i.val) (BitVec.ofNat 32 j.val)) a b = if j < i then a else b := by
  have h : IntOp.cmpi .sgt (BitVec.ofNat 32 i.val) (BitVec.ofNat 32 j.val) = if j < i then 1#1 else 0#1 := by
    revert i j; decide +kernel
  rw [h]; split <;> rfl

theorem sel_eq {α : Type} (i j : Fin 64) (a b : α) :
    Scalar.select (IntOp.cmpi .eq (BitVec.ofNat 32 i.val) (BitVec.ofNat 32 j.val)) a b = if i = j then a else b := by
  have h : IntOp.cmpi .eq (BitVec.ofNat 32 i.val) (BitVec.ofNat 32 j.val) = if i = j then 1#1 else 0#1 := by
    revert i j; decide +kernel
  rw [h]; split <;> rfl

/-- The rows gathered along the diagonal of a mask are the row itself. -/
theorem diag_sum (f : Fin 64 → EReal) (i : Fin 64) : (∑ j : Fin 64, if i = j then f j else 0) = f i := by
  rw [Finset.sum_ite_eq Finset.univ i f, if_pos (Finset.mem_univ i)]

/-- The same for a column. -/
theorem diag_sum' (f : Fin 64 → EReal) (i : Fin 64) : (∑ j : Fin 64, if j = i then f j else 0) = f i := by
  rw [Finset.sum_ite_eq' Finset.univ i f, if_pos (Finset.mem_univ i)]

/-- A sum from row `j` on of a sum is the sum of the two sums. -/
theorem tail_add (f f' : Fin 64 → EReal) (j : Fin 64) :
    (∑ i : Fin 64, if j ≤ i then f i + f' i else 0)
      = (∑ i : Fin 64, if j ≤ i then f i else 0) + ∑ i : Fin 64, if j ≤ i then f' i else 0 := by
  rw [← Finset.sum_add_distrib]
  refine Finset.sum_congr rfl fun i _ => ?_
  split <;> simp

end Cert.Delta

end
-- ==== Proof.Delta.KernelChunk.lean ====
/- What the kernel's body computes at one grid point: each of its values, read at an index, is the quantity of Spec.lean of the
   head the index names. Every theorem takes the values it reads as variables, together with what they hold. -/
module

public import proofs.«01_k».proof.Proof.Gen.KernelIdeal.Skeleton
public import proofs.«01_k».proof.Proof.Delta.Spec
public import Idealize.ShloMosaic.Lib.Pointwise

@[expose] public section

set_option maxRecDepth 16384

noncomputable section

namespace Cert.Delta.KernelChunk

open Idealize.ShloMosaic Idealize.ShloMosaic.Pointwise Cert.KernelIdeal Cert.KernelIdeal.Gen

/-! What it is for an array over the eight heads to hold a quantity of the chunks `c`, by the array's shape. -/

abbrev Rows (c : Fin 8 → Chunk) (X : S8x64x128.Idx → EReal) (f : Chunk → Fin 64 → Fin 128 → EReal) : Prop :=
  ∀ (h : Fin 8) (i : Fin 64) (d : Fin 128), X (ix3 h i d) = f (c h) i d
abbrev Square (c : Fin 8 → Chunk) (X : S8x64x64.Idx → EReal) (f : Chunk → Fin 64 → Fin 64 → EReal) : Prop :=
  ∀ (h : Fin 8) (i j : Fin 64), X (ix3 h i j) = f (c h) i j
abbrev Column (c : Fin 8 → Chunk) (X : S8x64x1.Idx → EReal) (f : Chunk → Fin 64 → EReal) : Prop :=
  ∀ (h : Fin 8) (i : Fin 64), X (ix3 h i 0) = f (c h) i
abbrev Row (c : Fin 8 → Chunk) (X : S8x1x64.Idx → EReal) (f : Chunk → Fin 64 → EReal) : Prop :=
  ∀ (h : Fin 8) (i : Fin 64), X (ix3 h 0 i) = f (c h) i
abbrev Matrix (c : Fin 8 → Chunk) (X : S8x128x128.Idx → EReal) (f : Chunk → Fin 128 → Fin 128 → EReal) : Prop :=
  ∀ (h : Fin 8) (d e : Fin 128), X (ix3 h d e) = f (c h) d e
abbrev Single (c : Fin 8 → Chunk) (X : S8x1x1.Idx → EReal) (f : Chunk → EReal) : Prop :=
  ∀ (h : Fin 8), X (ix3 h 0 0) = f (c h)

variable {c : Fin 8 → Chunk}

/-! The masks. -/

theorem mask36 {α : Type} (i j : Fin 64) (a b : α) : Scalar.select (k0_pay36 (ix2 i j)) a b = if j ≤ i then a else b := by
  pointwise [k0_pay36]
  exact sel_ge i j a b
theorem mask37 {α : Type} (i j : Fin 64) (a b : α) : Scalar.select (k0_pay37 (ix2 i j)) a b = if j < i then a else b := by
  pointwise [k0_pay37]
  exact sel_gt i j a b
theorem mask38 {α : Type} (i j : Fin 64) (a b : α) : Scalar.select (k0_pay38 (ix2 i j)) a b = if i = j then a else b := by
  pointwise [k0_pay38]
  exact sel_eq i j a b
theorem mask39 {α : Type} (i j : Fin 64) (a b : α) : Scalar.select (k0_pay39 (ix2 i j)) a b = if i ≤ j then a else b := by
  pointwise [k0_pay39]
  exact sel_le i j a b
theorem mask40 {α : Type} (h : Fin 8) (i j : Fin 64) (a b : α) :
    Scalar.select (k0_pay40 (ix3 h i j)) a b = if i = j then a else b := by
  pointwise [k0_pay40]
  exact mask38 i j a b
theorem mask42 {α : Type} (h : Fin 8) (i j : Fin 64) (a b : α) :
    Scalar.select (k0_pay42 (ix3 h i j)) a b = if i = j then a else b := by
  pointwise [k0_pay42]
  exact mask38 i j a b
theorem mask46 {α : Type} (h : Fin 8) (i j : Fin 64) (a b : α) :
    Scalar.select (k0_pay46 k0_pay36 (ix3 h i j)) a b = if j ≤ i then a else b := by
  pointwise [k0_pay46]
  exact mask36 i j a b
theorem mask48 {α : Type} (h : Fin 8) (i j : Fin 64) (a b : α) :
    Scalar.select (k0_pay48 k0_pay39 (ix3 h i j)) a b = if i ≤ j then a else b := by
  pointwise [k0_pay48]
  exact mask39 i j a b
theorem mask49 {α : Type} (h : Fin 8) (i j : Fin 64) (a b : α) :
    Scalar.select (k0_pay49 k0_pay36 (ix3 h i j)) a b = if j ≤ i then a else b := by
  pointwise [k0_pay49]
  exact mask36 i j a b
theorem mask51 {α : Type} (h : Fin 8) (i j : Fin 64) (a b : α) :
    Scalar.select (k0_pay51 k0_pay36 (ix3 h i j)) a b = if j ≤ i then a else b := by
  pointwise [k0_pay51]
  exact mask36 i j a b
theorem mask56 {α : Type} (h : Fin 8) (i j : Fin 64) (a b : α) :
    Scalar.select (k0_pay56 k0_pay37 (ix3 h i j)) a b = if j < i then a else b := by
  pointwise [k0_pay56]
  exact mask37 i j a b

variable {v67 v76 v85 v120 v188 v190 v198 v201 v204 v229 v245 v248 v293 v299 v300 : FVec Ideal S8x64x128 .f32}
  {v205 : FVec Ideal S8x64x128 .bf16}
  {v94 v103 : FVec Ideal S8x1x64 .f32}
  {v122 v152 v180 v186 v193 v207 v241 v284 v296 v348 : FVec Ideal S8x64x64 .f32}
  {v140 v150 v160 v199 v209 v216 v276 v283 v306 v343 : FVec Ideal S8x64x1 .f32}
  {v124 v224 v252 : FVec Ideal S8x128x128 .f32} {v238 : FVec Ideal S8x1x1 .f32}

/-! The gates. -/

theorem beta (hb : Row c v94 Chunk.beta) : Column c (k0_pay41 (F := Ideal) v94) Chunk.beta := by
  intro h i
  pointwise [k0_pay41]
  simp only [mask40, hb, diag_sum]

theorem g (hg : Row c v103 Chunk.g) : Column c (k0_pay43 (F := Ideal) v103) Chunk.g := by
  intro h i
  pointwise [k0_pay43]
  simp only [mask42, hg, diag_sum]

theorem gwide (hg : Row c v103 Chunk.g) : Square c (k0_pay44 (F := Ideal) v103) (fun c _ j => c.g j) := by
  intro h i j
  pointwise [k0_pay44]
  simp only [hg]

theorem gc (hw : Square c v152 (fun c _ j => c.g j)) : Column c (k0_pay47 (F := Ideal) k0_pay36 v152 k0_pay45) Chunk.gc := by
  intro h i
  pointwise [k0_pay47, k0_pay45]
  simp only [mask46, hw]
  rfl

theorem ediff (hg : Column c v150 Chunk.g) (hw : Square c v152 (fun c _ j => c.g j)) :
    Square c (k0_pay50 (F := Ideal) k0_pay36 k0_pay39 v150 v152 k0_pay45) Chunk.ediff := by
  intro h i j
  pointwise [k0_pay50]
  simp only [mask48, mask49, hg, gc hw]
  rfl

theorem decay (hg : Column c v150 Chunk.g) (hw : Square c v152 (fun c _ j => c.g j)) :
    Square c (k0_pay52 (F := Ideal) k0_pay36 k0_pay39 v150 v152 k0_pay45) Chunk.decay := by
  intro h i j
  pointwise [k0_pay52]
  simp only [mask51, ediff hg hw]
  rfl

theorem eg (hw : Square c v152 (fun c _ j => c.g j)) : Column c (k0_pay58 (F := Ideal) k0_pay36 v152 k0_pay45) Chunk.eg := by
  intro h i
  pointwise [k0_pay58]
  simp only [gc hw]
  rfl

theorem eg' (hgc : Column c v160 Chunk.gc) : Column c (k0_pay63 (F := Ideal) v160) Chunk.eg := by
  intro h i
  pointwise [k0_pay63]
  simp only [hgc]
  rfl

theorem glast (hg : Column c v150 Chunk.g) : Single c (k0_pay64 (F := Ideal) v150) Chunk.glast := by
  intro h
  pointwise [k0_pay64]
  simp only [hg]
  rfl

theorem eglast (hg : Column c v150 Chunk.g) : Single c (k0_pay67 (F := Ideal) v150) Chunk.eglast := by
  intro h
  pointwise [k0_pay67]
  simp only [glast hg]
  rfl

theorem etail (hg : Column c v150 Chunk.g) (hgc : Column c v160 Chunk.gc) :
    Column c (k0_pay65 (F := Ideal) v150 v160) Chunk.etail := by
  intro h i
  pointwise [k0_pay65]
  simp only [glast hg, hgc]
  rfl

/-! The forward quantities. -/

theorem kb (hk : Rows c v76 Chunk.k) (hb : Column c v140 Chunk.beta) : Rows c (k0_pay53 (F := Ideal) v76 v140) Chunk.kb := by
  intro h i d
  pointwise [k0_pay53]
  simp only [hk, hb]
  rfl

theorem vb (hv : Rows c v85 Chunk.v) (hb : Column c v140 Chunk.beta) : Rows c (k0_pay54 (F := Ideal) v85 v140) Chunk.vb := by
  intro h i d
  pointwise [k0_pay54]
  simp only [hv, hb]
  rfl

theorem kk (hk : Rows c v76 Chunk.k) (hb : Column c v140 Chunk.beta) : Square c (k0_pay55 (F := Ideal) v76 v140) Chunk.kk := by
  intro h i j
  pointwise [k0_pay55]
  simp only [kb hk hb, hk]
  rfl

theorem u (hv : Rows c v85 Chunk.v) (hT : Square c v122 Chunk.T) (hb : Column c v140 Chunk.beta) :
    Rows c (k0_pay57 (F := Ideal) v85 v122 v140) Chunk.u := by
  intro h i d
  pointwise [k0_pay57]
  simp only [hT, vb hv hb]
  rfl

theorem kbg (hk : Rows c v76 Chunk.k) (hb : Column c v140 Chunk.beta) (hw : Square c v152 (fun c _ j => c.g j)) :
    Rows c (k0_pay59 (F := Ideal) v76 k0_pay36 v140 v152 k0_pay45) Chunk.kbg := by
  intro h i d
  pointwise [k0_pay59]
  simp only [kb hk hb, eg hw]
  rfl

theorem wk (hk : Rows c v76 Chunk.k) (hT : Square c v122 Chunk.T) (hb : Column c v140 Chunk.beta)
    (hw : Square c v152 (fun c _ j => c.g j)) : Rows c (k0_pay60 (F := Ideal) v76 v122 k0_pay36 v140 v152 k0_pay45) Chunk.wk := by
  intro h i d
  pointwise [k0_pay60]
  simp only [hT, kbg hk hb hw]
  rfl

theorem q16 (hq : Rows c v67 Chunk.q) : Rows c (k0_pay61 (F := Ideal) v67) Chunk.q := by
  intro h i d
  pointwise [k0_pay61]
  exact hq h i d

theorem qk (hk : Rows c v76 Chunk.k) (hq : Rows c v205 Chunk.q) : Square c (k0_pay62 (F := Ideal) v76 v205) Chunk.qk := by
  intro h i j
  pointwise [k0_pay62]
  simp only [hq, hk]
  rfl

theorem vnew (hS : Matrix c v124 Chunk.S) (hu : Rows c v198 Chunk.u) (hwk : Rows c v204 Chunk.wk) :
    Rows c (k0_pay66 (F := Ideal) v124 v198 v204) Chunk.vnew := by
  intro h i e
  pointwise [k0_pay66]
  simp only [hu, hwk, hS]
  rfl

/-! The gradients. -/

theorem dS68 (hD : Matrix c v224 Chunk.dS) : Matrix c (k0_pay68 (F := Ideal) v224) Chunk.dS := by
  intro h d e
  pointwise [k0_pay68]
  exact hD h d e

theorem dS69 (hD : Matrix c v224 Chunk.dS) : Matrix c (k0_pay69 (F := Ideal) v224) Chunk.dS := by
  intro h d e
  pointwise [k0_pay69]
  exact hD h d e

theorem dktail (hS : Matrix c v124 Chunk.S) (hu : Rows c v198 Chunk.u) (hwk : Rows c v204 Chunk.wk) (hD : Matrix c v224 Chunk.dS) :
    Rows c (k0_pay70 (F := Ideal) v124 v198 v204 v224) Chunk.dktail := by
  intro h i d
  pointwise [k0_pay70]
  simp only [vnew hS hu hwk, dS69 hD]
  rfl

theorem deglast (hS : Matrix c v124 Chunk.S) (hg : Column c v150 Chunk.g) (hD : Matrix c v224 Chunk.dS) :
    Single c (k0_pay71 (F := Ideal) v124 v150 v224) Chunk.deglast := by
  intro h
  pointwise [k0_pay71]
  simp only [hS, dS68 hD, eglast hg]
  rfl

theorem dattn (hO : Rows c v120 Chunk.dO) (hS : Matrix c v124 Chunk.S) (hu : Rows c v198 Chunk.u) (hwk : Rows c v204 Chunk.wk) :
    Square c (k0_pay72 (F := Ideal) v120 v124 v198 v204) Chunk.dattn := by
  intro h i j
  pointwise [k0_pay72]
  simp only [hO, vnew hS hu hwk]
  rfl

theorem dvnew (hk : Rows c v76 Chunk.k) (hO : Rows c v120 Chunk.dO) (hg : Column c v150 Chunk.g) (hgc : Column c v160 Chunk.gc)
    (hdec : Square c v186 Chunk.decay) (hq : Rows c v205 Chunk.q) (hD : Matrix c v224 Chunk.dS) :
    Rows c (k0_pay73 (F := Ideal) v76 v120 v150 v160 v186 v205 v224) Chunk.dvnew := by
  intro h i e
  pointwise [k0_pay73]
  simp only [hk, hO, hdec, etail hg hgc, qk hk hq, dS69 hD]
  rfl

theorem dqg (hO : Rows c v120 Chunk.dO) (hS : Matrix c v124 Chunk.S) : Rows c (k0_pay74 (F := Ideal) v120 v124) Chunk.dqg := by
  intro h i d
  pointwise [k0_pay74]
  simp only [hO, hS]
  rfl

theorem dSfirst (hq : Rows c v67 Chunk.q) (hO : Rows c v120 Chunk.dO) (hg : Column c v150 Chunk.g) (hgc : Column c v160 Chunk.gc)
    (hD : Matrix c v224 Chunk.dS) : Matrix c (k0_pay75 (F := Ideal) v67 v120 v150 v160 v224)
      (fun c d e => c.dS d e * c.eglast + ∑ i : Fin 64, c.qg i d * c.dO i e) := by
  intro h d e
  pointwise [k0_pay75]
  simp only [hq, hO, eglast hg, eg' hgc, dS68 hD]
  rfl

theorem ndvnew (hdv : Rows c v245 Chunk.dvnew) : Rows c (k0_pay76 (F := Ideal) v245) (fun c i e => -c.dvnew i e) := by
  intro h i e
  pointwise [k0_pay76]
  simp only [hdv, zero_sub]

theorem dwk (hS : Matrix c v124 Chunk.S) (hdv : Rows c v245 Chunk.dvnew) : Rows c (k0_pay77 (F := Ideal) v124 v245) Chunk.dwk := by
  intro h i d
  pointwise [k0_pay77]
  simp only [ndvnew hdv, hS]
  rfl

theorem dSnew (hwk : Rows c v204 Chunk.wk) (hdv : Rows c v245 Chunk.dvnew)
    (h1 : Matrix c v252 (fun c d e => c.dS d e * c.eglast + ∑ i : Fin 64, c.qg i d * c.dO i e)) :
    Matrix c (k0_pay78 (F := Ideal) v204 v245 v252) Chunk.dSnew := by
  intro h d e
  pointwise [k0_pay78]
  simp only [h1, hwk, ndvnew hdv]
  rfl

theorem dtail (hk : Rows c v76 Chunk.k) (het : Column c v216 Chunk.etail) (hdk : Rows c v229 Chunk.dktail) :
    Column c (k0_pay79 (F := Ideal) v76 v216 v229) Chunk.dtail := by
  intro h i
  pointwise [k0_pay79]
  simp only [hk, het, hdk]
  rfl

theorem dglast (hk : Rows c v76 Chunk.k) (het : Column c v216 Chunk.etail) (hdk : Rows c v229 Chunk.dktail)
    (hd : Single c v238 Chunk.deglast) : Column c (k0_pay80 (F := Ideal) v76 v216 v229 v238) (fun c _ => c.dglast) := by
  intro h i
  pointwise [k0_pay80]
  simp only [dtail hk het hdk, Fin.sum_univ_one]
  simp only [Fin.isValue, hd]
  rfl

theorem dgrow1 (hq : Rows c v67 Chunk.q) (hk : Rows c v76 Chunk.k) (heg : Column c v209 Chunk.eg) (het : Column c v216 Chunk.etail)
    (hdk : Rows c v229 Chunk.dktail) (hdq : Rows c v248 Chunk.dqg) : Column c (k0_pay81 (F := Ideal) v67 v76 v209 v216 v229 v248)
      (fun c i => -c.dtail i + (∑ d : Fin 128, c.q i d * c.dqg i d) * c.eg i) := by
  intro h i
  pointwise [k0_pay81]
  simp only [dtail hk het hdk, hq, heg, hdq, zero_sub]

theorem ddiff1 (hqk : Square c v207 Chunk.qk) (hda : Square c v241 Chunk.dattn) :
    Square c (k0_pay82 (F := Ideal) v207 v241) (fun c i j => c.qk i j * c.dattn i j) := by
  intro h i j
  pointwise [k0_pay82]
  simp only [hqk, hda]

theorem dscore (hdec : Square c v186 Chunk.decay) (hda : Square c v241 Chunk.dattn) :
    Square c (k0_pay83 (F := Ideal) v186 v241) Chunk.dscore := by
  intro h i j
  pointwise [k0_pay83]
  simp only [hdec, hda]
  rfl

theorem dq (hk : Rows c v76 Chunk.k) (hdec : Square c v186 Chunk.decay) (heg : Column c v209 Chunk.eg) (hda : Square c v241 Chunk.dattn)
    (hdq : Rows c v248 Chunk.dqg) : Rows c (k0_pay84 (F := Ideal) v76 v186 v209 v241 v248) Chunk.dq := by
  intro h i d
  pointwise [k0_pay84]
  simp only [dscore hdec hda, hk, heg, hdq]
  rfl

theorem dk1 (hq : Rows c v67 Chunk.q) (hdec : Square c v186 Chunk.decay) (het : Column c v216 Chunk.etail)
    (hdk : Rows c v229 Chunk.dktail) (hda : Square c v241 Chunk.dattn) : Rows c (k0_pay85 (F := Ideal) v67 v186 v216 v229 v241)
      (fun c i d => c.dktail i d * c.etail i + ∑ j : Fin 64, c.dscore j i * c.q j d) := by
  intro h i d
  pointwise [k0_pay85]
  simp only [dscore hdec hda, hq, het, hdk]

theorem dT1 (hS : Matrix c v124 Chunk.S) (hkbg : Rows c v201 Chunk.kbg) (hdv : Rows c v245 Chunk.dvnew) :
    Square c (k0_pay86 (F := Ideal) v124 v201 v245) (fun c i j => ∑ d : Fin 128, c.dwk i d * c.kbg j d) := by
  intro h i j
  pointwise [k0_pay86]
  simp only [dwk hS hdv, hkbg]

theorem dkbg (hT : Square c v122 Chunk.T) (hS : Matrix c v124 Chunk.S) (hdv : Rows c v245 Chunk.dvnew) :
    Rows c (k0_pay87 (F := Ideal) v122 v124 v245) Chunk.dkbg := by
  intro h i d
  pointwise [k0_pay87]
  simp only [dwk hS hdv, hT]
  rfl

theorem kbdkbg (hT : Square c v122 Chunk.T) (hS : Matrix c v124 Chunk.S) (hkb : Rows c v188 Chunk.kb) (hdv : Rows c v245 Chunk.dvnew) :
    Rows c (k0_pay88 (F := Ideal) v122 v124 v188 v245) (fun c i d => c.kb i d * c.dkbg i d) := by
  intro h i d
  pointwise [k0_pay88]
  simp only [dkbg hT hS hdv, hkb]

theorem dgrow (heg : Column c v199 Chunk.eg)
    (h1 : Column c v283 (fun c i => -c.dtail i + (∑ d : Fin 128, c.q i d * c.dqg i d) * c.eg i))
    (h2 : Rows c v300 (fun c i d => c.kb i d * c.dkbg i d)) : Column c (k0_pay89 (F := Ideal) v199 v283 v300) Chunk.dgrow := by
  intro h i
  pointwise [k0_pay89]
  simp only [heg, h1, h2]
  rfl

theorem dvb (hT : Square c v122 Chunk.T) (hdv : Rows c v245 Chunk.dvnew) : Rows c (k0_pay90 (F := Ideal) v122 v245) Chunk.dvb := by
  intro h i d
  pointwise [k0_pay90]
  simp only [hT, hdv]
  rfl

theorem dm (hT : Square c v122 Chunk.T) (hvb : Rows c v190 Chunk.vb) (hdv : Rows c v245 Chunk.dvnew)
    (h1 : Square c v296 (fun c i j => ∑ d : Fin 128, c.dwk i d * c.kbg j d)) :
    Square c (k0_pay91 (F := Ideal) v122 v190 (k0_pay56 k0_pay37) v245 v296) Chunk.dm := by
  intro h i j
  pointwise [k0_pay91]
  simp only [mask56, hT, hvb, hdv, h1, zero_sub]
  rfl

theorem dmd (hT : Square c v122 Chunk.T) (hdec : Square c v186 Chunk.decay) (hvb : Rows c v190 Chunk.vb) (hdv : Rows c v245 Chunk.dvnew)
    (h1 : Square c v296 (fun c i j => ∑ d : Fin 128, c.dwk i d * c.kbg j d)) :
    Square c (k0_pay92 (F := Ideal) v122 v186 v190 (k0_pay56 k0_pay37) v245 v296) Chunk.dmd := by
  intro h i j
  pointwise [k0_pay92]
  simp only [dm hT hvb hdv h1, hdec]
  rfl

theorem dkb (hk : Rows c v76 Chunk.k) (hT : Square c v122 Chunk.T) (hdec : Square c v186 Chunk.decay) (hvb : Rows c v190 Chunk.vb)
    (heg : Column c v199 Chunk.eg) (hdv : Rows c v245 Chunk.dvnew)
    (h1 : Square c v296 (fun c i j => ∑ d : Fin 128, c.dwk i d * c.kbg j d)) (h2 : Rows c v299 Chunk.dkbg) :
    Rows c (k0_pay93 (F := Ideal) v76 v122 v186 v190 (k0_pay56 k0_pay37) v199 v245 v296 v299) Chunk.dkb := by
  intro h i d
  pointwise [k0_pay93]
  simp only [dmd hT hdec hvb hdv h1, hk, heg, h2]
  rfl

theorem dv (hT : Square c v122 Chunk.T) (hb : Column c v140 Chunk.beta) (hdv : Rows c v245 Chunk.dvnew) :
    Rows c (k0_pay94 (F := Ideal) v122 v140 v245) Chunk.dv := by
  intro h i d
  pointwise [k0_pay94]
  simp only [dvb hT hdv, hb]
  rfl

theorem dbeta (hk : Rows c v76 Chunk.k) (hv : Rows c v85 Chunk.v) (hT : Square c v122 Chunk.T) (hdec : Square c v186 Chunk.decay)
    (hvb : Rows c v190 Chunk.vb) (heg : Column c v199 Chunk.eg) (hdv : Rows c v245 Chunk.dvnew)
    (h1 : Square c v296 (fun c i j => ∑ d : Fin 128, c.dwk i d * c.kbg j d)) (h2 : Rows c v299 Chunk.dkbg) :
    Column c (k0_pay95 (F := Ideal) v76 v85 v122 v186 v190 (k0_pay56 k0_pay37) v199 v245 v296 v299) Chunk.dbeta := by
  intro h i
  pointwise [k0_pay95]
  simp only [dvb hT hdv, dkb hk hT hdec hvb heg hdv h1 h2, hk, hv]
  rfl

theorem dk (hk : Rows c v76 Chunk.k) (hT : Square c v122 Chunk.T) (hb : Column c v140 Chunk.beta) (hdec : Square c v186 Chunk.decay)
    (hkb : Rows c v188 Chunk.kb) (hvb : Rows c v190 Chunk.vb) (heg : Column c v199 Chunk.eg) (hdv : Rows c v245 Chunk.dvnew)
    (h0 : Rows c v293 (fun c i d => c.dktail i d * c.etail i + ∑ j : Fin 64, c.dscore j i * c.q j d))
    (h1 : Square c v296 (fun c i j => ∑ d : Fin 128, c.dwk i d * c.kbg j d)) (h2 : Rows c v299 Chunk.dkbg) :
    Rows c (k0_pay96 (F := Ideal) v76 v122 v140 v186 v188 v190 (k0_pay56 k0_pay37) v199 v245 v293 v296 v299) Chunk.dk := by
  intro h i d
  pointwise [k0_pay96]
  simp only [dmd hT hdec hvb hdv h1, dkb hk hT hdec hvb heg hdv h1 h2, hkb, hb, h0]
  rfl

theorem ddecay (hT : Square c v122 Chunk.T) (hvb : Rows c v190 Chunk.vb) (hkk : Square c v193 Chunk.kk) (hdv : Rows c v245 Chunk.dvnew)
    (h0 : Square c v284 (fun c i j => c.qk i j * c.dattn i j))
    (h1 : Square c v296 (fun c i j => ∑ d : Fin 128, c.dwk i d * c.kbg j d)) :
    Square c (k0_pay97 (F := Ideal) v122 (k0_pay51 k0_pay36) v190 v193 (k0_pay56 k0_pay37) v245 v284 v296)
      (fun c i j => if j ≤ i then c.qk i j * c.dattn i j + c.kk i j * c.dm i j else 0) := by
  intro h i j
  pointwise [k0_pay97]
  simp only [mask51, dm hT hvb hdv h1, hkk, h0]

theorem dbetaRow (h0 : Column c v343 Chunk.dbeta) : Row c (k0_pay99 (F := Ideal) k0_pay40 v343) Chunk.dbeta := by
  intro h i
  pointwise [k0_pay99]
  simp only [mask40, h0, Fin.sum_univ_one]
  simp only [Fin.isValue, h0, diag_sum']

/-- The gradient of the log gates: the kernel sums, from row `j` on, what the running sum gets in the rows and in the columns of
    the pairwise differences separately, and adds the last row's share to every row. -/
theorem dg (hed : Square c v180 Chunk.ediff) (hgl : Column c v276 (fun c _ => c.dglast)) (hgr : Column c v306 Chunk.dgrow)
    (hdd : Square c v348 (fun c i j => if j ≤ i then c.qk i j * c.dattn i j + c.kk i j * c.dm i j else 0)) :
    Row c (k0_pay98 (F := Ideal) k0_pay42 (k0_pay46 k0_pay36) (k0_pay48 k0_pay39) (k0_pay49 k0_pay36) v180 v276 v306 v348) Chunk.dg := by
  intro h j
  pointwise [k0_pay98]
  simp only [mask42, mask46, mask48, mask49, hed, hgl, hgr, hdd, Fin.sum_univ_one, zero_sub]
  simp only [Fin.isValue, hgl, hgr, diag_sum']
  show (∑ i : Fin 64, if j ≤ i then (c h).dgrow i + ∑ l : Fin 64, (c h).ddiff i l else 0)
      + ((c h).dglast + ∑ i : Fin 64, if j ≤ i then ∑ l : Fin 64, -(c h).ddiff l i else 0) = (c h).dg j
  unfold Chunk.dg Chunk.dgc
  rw [tail_add, tail_add, tail_add, add_comm (c h).dglast, ← add_assoc]

end Cert.Delta.KernelChunk

end
-- ==== Proof.Delta.Whole.lean ====
/- The gradient of the whole scan, chunk after chunk from the last one to the first, in the quantities of Spec.lean. -/
module

public import proofs.«01_k».proof.Proof.Delta.Spec

@[expose] public section

noncomputable section

namespace Cert.Delta

open Idealize.ShloMosaic Idealize.ShloMosaic.Pointwise

/-- The arrays the backward pass of the scan is given: the states before each chunk, the inverses of the chunks' systems, the rows
    of q, k and v, the two gates of each row and head, and the gradient of the output's rows. -/
structure Inputs where
  s0s : (⟨4, ![8, 65, 128, 128]⟩ : Shape).Idx → EReal
  invs : (⟨4, ![8, 65, 64, 64]⟩ : Shape).Idx → EReal
  q : (⟨2, ![4160, 1024]⟩ : Shape).Idx → EReal
  k : (⟨2, ![4160, 1024]⟩ : Shape).Idx → EReal
  v : (⟨2, ![4160, 1024]⟩ : Shape).Idx → EReal
  beta : (⟨2, ![4160, 8]⟩ : Shape).Idx → EReal
  g : (⟨2, ![4160, 8]⟩ : Shape).Idx → EReal
  dO : (⟨2, ![4160, 1024]⟩ : Shape).Idx → EReal

/-- Row `i` of chunk `n`. -/
def row (n : Fin 65) (i : Fin 64) : Fin 4160 := ⟨n.val * 64 + i.val, by have := n.isLt; have := i.isLt; omega⟩
/-- Lane `d` of head `h`. -/
def lane (h : Fin 8) (d : Fin 128) : Fin 1024 := ⟨h.val * 128 + d.val, by have := h.isLt; have := d.isLt; omega⟩
/-- The chunk that is worked on after `t` others. -/
def back (t : Nat) : Fin 65 := ⟨64 - t, by omega⟩

namespace Inputs

variable (I : Inputs)

/-- Head `h` of chunk `n`, where the gradient of the state after the chunk is `dS`. -/
def chunk (n : Fin 65) (dS : Fin 8 → Fin 128 → Fin 128 → EReal) (h : Fin 8) : Chunk where
  q i d := I.q (ix2 (row n i) (lane h d))
  k i d := I.k (ix2 (row n i) (lane h d))
  v i d := I.v (ix2 (row n i) (lane h d))
  dO i d := I.dO (ix2 (row n i) (lane h d))
  beta i := I.beta (ix2 (row n i) h)
  g i := I.g (ix2 (row n i) h)
  T i j := I.invs (ix4 h n i j)
  S d e := I.s0s (ix4 h n d e)
  dS d e := dS h d e

/-- The gradient of the state, zero after the last chunk, once `t` chunks are passed. -/
def carry : Nat → Fin 8 → Fin 128 → Fin 128 → EReal
  | 0 => fun _ _ _ => 0
  | t + 1 => fun h => (I.chunk (back t) (carry t) h).dSnew

/-- Chunk `n` with the gradient that reaches it. -/
def at_ (n : Fin 65) (h : Fin 8) : Chunk := I.chunk n (I.carry (64 - n.val)) h

end Inputs

theorem back_sub (n : Fin 65) : back (64 - n.val) = n := Fin.ext (by show 64 - (64 - n.val) = n.val; have := n.isLt; omega)

end Cert.Delta

end
-- ==== Proof.Delta.KernelLoads.lean ====
/- The kernel's loads and stores at one grid point: the blocks hold the eight heads side by side in lanes, the body stacks them
   along a leading axis and takes the stack apart again. -/
module

public import proofs.«01_k».proof.Proof.Delta.KernelChunk
public import proofs.«01_k».proof.Proof.Delta.Whole
public import Idealize.ShloMosaic.Lib.Pipeline.ValueKit

@[expose] public section

set_option maxRecDepth 16384

noncomputable section

namespace Cert.Delta.KernelLoads

open Idealize.ShloMosaic Idealize.ShloMosaic.Pointwise Cert.KernelIdeal Cert.KernelIdeal.Gen
open Cert.Delta.KernelChunk (Rows Square Column Row Matrix Single)

variable {C : Fin 8 → Chunk}

/-! The stacked operands, by what their blocks hold. -/

theorem q {X : S64x1024.Idx → EReal} (hX : ∀ h i d, X (ix2 i (lane h d)) = (C h).q i d) :
    Rows C (k0_pay28 (F := Ideal) (View.ld (Val := Elt Ideal) (e' := .f32) X (Rect.unit (s := S64x1024) ![0, 512] ![64, 128] inb_S64x1024_S64x128_0_512)) (View.ld (Val := Elt Ideal) (e' := .f32) X (Rect.unit (s := S64x1024) ![0, 640] ![64, 128] inb_S64x1024_S64x128_0_640)) (View.ld (Val := Elt Ideal) (e' := .f32) X (Rect.unit (s := S64x1024) ![0, 768] ![64, 128] inb_S64x1024_S64x128_0_768)) (View.ld (Val := Elt Ideal) (e' := .f32) X (Rect.unit (s := S64x1024) ![0, 896] ![64, 128] inb_S64x1024_S64x128_0_896)) (k0_pay24 (View.ld (Val := Elt Ideal) (e' := .f32) X (Rect.unit (s := S64x1024) ![0, 0] ![64, 128] inb_S64x1024_S64x128_0_0))) (k0_pay25 (View.ld (Val := Elt Ideal) (e' := .f32) X (Rect.unit (s := S64x1024) ![0, 128] ![64, 128] inb_S64x1024_S64x128_0_128))) (k0_pay26 (View.ld (Val := Elt Ideal) (e' := .f32) X (Rect.unit (s := S64x1024) ![0, 256] ![64, 128] inb_S64x1024_S64x128_0_256))) (k0_pay27 (View.ld (Val := Elt Ideal) (e' := .f32) X (Rect.unit (s := S64x1024) ![0, 384] ![64, 128] inb_S64x1024_S64x128_0_384)))) Chunk.q := by
  intro h i d
  unfold k0_pay28
  concat_tiles x hx
  all_goals
    have e0 : (h : ℕ) = _ := hx
    have e1 : _ = (i : ℕ) := hx1
    have e2 : _ = (d : ℕ) := hx2
    pointwise [k0_pay24, k0_pay25, k0_pay26, k0_pay27]
    refine Eq.trans ?_ (hX h i d)
    refine congrArg X ?_
    blk_ext [lane]

theorem k {X : S64x1024.Idx → EReal} (hX : ∀ h i d, X (ix2 i (lane h d)) = (C h).k i d) :
    Rows C (k0_pay29 (F := Ideal) (View.ld (Val := Elt Ideal) (e' := .f32) X (Rect.unit (s := S64x1024) ![0, 0] ![64, 128] inb_S64x1024_S64x128_0_0)) (View.ld (Val := Elt Ideal) (e' := .f32) X (Rect.unit (s := S64x1024) ![0, 128] ![64, 128] inb_S64x1024_S64x128_0_128)) (View.ld (Val := Elt Ideal) (e' := .f32) X (Rect.unit (s := S64x1024) ![0, 256] ![64, 128] inb_S64x1024_S64x128_0_256)) (View.ld (Val := Elt Ideal) (e' := .f32) X (Rect.unit (s := S64x1024) ![0, 384] ![64, 128] inb_S64x1024_S64x128_0_384)) (View.ld (Val := Elt Ideal) (e' := .f32) X (Rect.unit (s := S64x1024) ![0, 512] ![64, 128] inb_S64x1024_S64x128_0_512)) (View.ld (Val := Elt Ideal) (e' := .f32) X (Rect.unit (s := S64x1024) ![0, 640] ![64, 128] inb_S64x1024_S64x128_0_640)) (View.ld (Val := Elt Ideal) (e' := .f32) X (Rect.unit (s := S64x1024) ![0, 768] ![64, 128] inb_S64x1024_S64x128_0_768)) (View.ld (Val := Elt Ideal) (e' := .f32) X (Rect.unit (s := S64x1024) ![0, 896] ![64, 128] inb_S64x1024_S64x128_0_896))) Chunk.k := by
  intro h i d
  unfold k0_pay29
  concat_tiles x hx
  all_goals
    have e0 : (h : ℕ) = _ := hx
    have e1 : _ = (i : ℕ) := hx1
    have e2 : _ = (d : ℕ) := hx2
    pointwise []
    refine Eq.trans ?_ (hX h i d)
    refine congrArg X ?_
    blk_ext [lane]

theorem v {X : S64x1024.Idx → EReal} (hX : ∀ h i d, X (ix2 i (lane h d)) = (C h).v i d) :
    Rows C (k0_pay30 (F := Ideal) (View.ld (Val := Elt Ideal) (e' := .f32) X (Rect.unit (s := S64x1024) ![0, 0] ![64, 128] inb_S64x1024_S64x128_0_0)) (View.ld (Val := Elt Ideal) (e' := .f32) X (Rect.unit (s := S64x1024) ![0, 128] ![64, 128] inb_S64x1024_S64x128_0_128)) (View.ld (Val := Elt Ideal) (e' := .f32) X (Rect.unit (s := S64x1024) ![0, 256] ![64, 128] inb_S64x1024_S64x128_0_256)) (View.ld (Val := Elt Ideal) (e' := .f32) X (Rect.unit (s := S64x1024) ![0, 384] ![64, 128] inb_S64x1024_S64x128_0_384)) (View.ld (Val := Elt Ideal) (e' := .f32) X (Rect.unit (s := S64x1024) ![0, 512] ![64, 128] inb_S64x1024_S64x128_0_512)) (View.ld (Val := Elt Ideal) (e' := .f32) X (Rect.unit (s := S64x1024) ![0, 640] ![64, 128] inb_S64x1024_S64x128_0_640)) (View.ld (Val := Elt Ideal) (e' := .f32) X (Rect.unit (s := S64x1024) ![0, 768] ![64, 128] inb_S64x1024_S64x128_0_768)) (View.ld (Val := Elt Ideal) (e' := .f32) X (Rect.unit (s := S64x1024) ![0, 896] ![64, 128] inb_S64x1024_S64x128_0_896))) Chunk.v := by
  intro h i d
  unfold k0_pay30
  concat_tiles x hx
  all_goals
    have e0 : (h : ℕ) = _ := hx
    have e1 : _ = (i : ℕ) := hx1
    have e2 : _ = (d : ℕ) := hx2
    pointwise []
    refine Eq.trans ?_ (hX h i d)
    refine congrArg X ?_
    blk_ext [lane]

theorem dO {X : S64x1024.Idx → EReal} (hX : ∀ h i d, X (ix2 i (lane h d)) = (C h).dO i d) :
    Rows C (k0_pay33 (F := Ideal) (View.ld (Val := Elt Ideal) (e' := .f32) X (Rect.unit (s := S64x1024) ![0, 0] ![64, 128] inb_S64x1024_S64x128_0_0)) (View.ld (Val := Elt Ideal) (e' := .f32) X (Rect.unit (s := S64x1024) ![0, 128] ![64, 128] inb_S64x1024_S64x128_0_128)) (View.ld (Val := Elt Ideal) (e' := .f32) X (Rect.unit (s := S64x1024) ![0, 256] ![64, 128] inb_S64x1024_S64x128_0_256)) (View.ld (Val := Elt Ideal) (e' := .f32) X (Rect.unit (s := S64x1024) ![0, 384] ![64, 128] inb_S64x1024_S64x128_0_384)) (View.ld (Val := Elt Ideal) (e' := .f32) X (Rect.unit (s := S64x1024) ![0, 512] ![64, 128] inb_S64x1024_S64x128_0_512)) (View.ld (Val := Elt Ideal) (e' := .f32) X (Rect.unit (s := S64x1024) ![0, 640] ![64, 128] inb_S64x1024_S64x128_0_640)) (View.ld (Val := Elt Ideal) (e' := .f32) X (Rect.unit (s := S64x1024) ![0, 768] ![64, 128] inb_S64x1024_S64x128_0_768)) (View.ld (Val := Elt Ideal) (e' := .f32) X (Rect.unit (s := S64x1024) ![0, 896] ![64, 128] inb_S64x1024_S64x128_0_896))) Chunk.dO := by
  intro h i d
  unfold k0_pay33
  concat_tiles x hx
  all_goals
    have e0 : (h : ℕ) = _ := hx
    have e1 : _ = (i : ℕ) := hx1
    have e2 : _ = (d : ℕ) := hx2
    pointwise []
    refine Eq.trans ?_ (hX h i d)
    refine congrArg X ?_
    blk_ext [lane]

theorem beta {X : S8x1x1x64.Idx → EReal} (hX : ∀ h i, X (ix4 h 0 0 i) = (C h).beta i) :
    Row C (k0_pay31 (F := Ideal) (k0_pay8 (View.ld (Val := Elt Ideal) (e' := .f32) X (Rect.unit (s := S8x1x1x64) ![0, 0, 0, 0] ![1, 1, 1, 64] inb_S8x1x1x64_S1x1x1x64_0_0_0_0))) (k0_pay10 (View.ld (Val := Elt Ideal) (e' := .f32) X (Rect.unit (s := S8x1x1x64) ![1, 0, 0, 0] ![1, 1, 1, 64] inb_S8x1x1x64_S1x1x1x64_1_0_0_0))) (k0_pay12 (View.ld (Val := Elt Ideal) (e' := .f32) X (Rect.unit (s := S8x1x1x64) ![2, 0, 0, 0] ![1, 1, 1, 64] inb_S8x1x1x64_S1x1x1x64_2_0_0_0))) (k0_pay14 (View.ld (Val := Elt Ideal) (e' := .f32) X (Rect.unit (s := S8x1x1x64) ![3, 0, 0, 0] ![1, 1, 1, 64] inb_S8x1x1x64_S1x1x1x64_3_0_0_0))) (k0_pay16 (View.ld (Val := Elt Ideal) (e' := .f32) X (Rect.unit (s := S8x1x1x64) ![4, 0, 0, 0] ![1, 1, 1, 64] inb_S8x1x1x64_S1x1x1x64_4_0_0_0))) (k0_pay18 (View.ld (Val := Elt Ideal) (e' := .f32) X (Rect.unit (s := S8x1x1x64) ![5, 0, 0, 0] ![1, 1, 1, 64] inb_S8x1x1x64_S1x1x1x64_5_0_0_0))) (k0_pay20 (View.ld (Val := Elt Ideal) (e' := .f32) X (Rect.unit (s := S8x1x1x64) ![6, 0, 0, 0] ![1, 1, 1, 64] inb_S8x1x1x64_S1x1x1x64_6_0_0_0))) (k0_pay22 (View.ld (Val := Elt Ideal) (e' := .f32) X (Rect.unit (s := S8x1x1x64) ![7, 0, 0, 0] ![1, 1, 1, 64] inb_S8x1x1x64_S1x1x1x64_7_0_0_0)))) Chunk.beta := by
  intro h i
  unfold k0_pay31
  concat_tiles x hx
  all_goals
    have e0 : (h : ℕ) = _ := hx
    have e2 : _ = (i : ℕ) := hx2
    pointwise [k0_pay8, k0_pay10, k0_pay12, k0_pay14, k0_pay16, k0_pay18, k0_pay20, k0_pay22]
    refine Eq.trans ?_ (hX h i)
    refine congrArg X ?_
    blk_ext

theorem g {X : S8x1x1x64.Idx → EReal} (hX : ∀ h i, X (ix4 h 0 0 i) = (C h).g i) :
    Row C (k0_pay32 (F := Ideal) (k0_pay9 (View.ld (Val := Elt Ideal) (e' := .f32) X (Rect.unit (s := S8x1x1x64) ![0, 0, 0, 0] ![1, 1, 1, 64] inb_S8x1x1x64_S1x1x1x64_0_0_0_0))) (k0_pay11 (View.ld (Val := Elt Ideal) (e' := .f32) X (Rect.unit (s := S8x1x1x64) ![1, 0, 0, 0] ![1, 1, 1, 64] inb_S8x1x1x64_S1x1x1x64_1_0_0_0))) (k0_pay13 (View.ld (Val := Elt Ideal) (e' := .f32) X (Rect.unit (s := S8x1x1x64) ![2, 0, 0, 0] ![1, 1, 1, 64] inb_S8x1x1x64_S1x1x1x64_2_0_0_0))) (k0_pay15 (View.ld (Val := Elt Ideal) (e' := .f32) X (Rect.unit (s := S8x1x1x64) ![3, 0, 0, 0] ![1, 1, 1, 64] inb_S8x1x1x64_S1x1x1x64_3_0_0_0))) (k0_pay17 (View.ld (Val := Elt Ideal) (e' := .f32) X (Rect.unit (s := S8x1x1x64) ![4, 0, 0, 0] ![1, 1, 1, 64] inb_S8x1x1x64_S1x1x1x64_4_0_0_0))) (k0_pay19 (View.ld (Val := Elt Ideal) (e' := .f32) X (Rect.unit (s := S8x1x1x64) ![5, 0, 0, 0] ![1, 1, 1, 64] inb_S8x1x1x64_S1x1x1x64_5_0_0_0))) (k0_pay21 (View.ld (Val := Elt Ideal) (e' := .f32) X (Rect.unit (s := S8x1x1x64) ![6, 0, 0, 0] ![1, 1, 1, 64] inb_S8x1x1x64_S1x1x1x64_6_0_0_0))) (k0_pay23 (View.ld (Val := Elt Ideal) (e' := .f32) X (Rect.unit (s := S8x1x1x64) ![7, 0, 0, 0] ![1, 1, 1, 64] inb_S8x1x1x64_S1x1x1x64_7_0_0_0)))) Chunk.g := by
  intro h i
  unfold k0_pay32
  concat_tiles x hx
  all_goals
    have e0 : (h : ℕ) = _ := hx
    have e2 : _ = (i : ℕ) := hx2
    pointwise [k0_pay9, k0_pay11, k0_pay13, k0_pay15, k0_pay17, k0_pay19, k0_pay21, k0_pay23]
    refine Eq.trans ?_ (hX h i)
    refine congrArg X ?_
    blk_ext

theorem T {X : S8x1x64x64.Idx → EReal} (hX : ∀ h i j, X (ix4 h 0 i j) = (C h).T i j) :
    Square C (k0_pay34 (F := Ideal) X) Chunk.T := by
  intro h i j
  pointwise [k0_pay34]
  exact hX h i j

theorem S {X : S8x1x128x128.Idx → EReal} (hX : ∀ h d e, X (ix4 h 0 d e) = (C h).S d e) :
    Matrix C (k0_pay35 (F := Ideal) X) Chunk.S := by
  intro h d e
  pointwise [k0_pay35]
  exact hX h d e

/-! The stored blocks, by what the stacked results hold. -/

variable {f : Chunk → Fin 64 → Fin 128 → EReal}

theorem dq {W : S8x64x128.Idx → EReal} (hW : Rows C W f) (h : Fin 8) (i : Fin 64) (d : Fin 128) :
    (View.canon (Val := Elt Ideal) (s := S64x1024) (e := .f32) [⟨Rect.unit ![0, 896] ![64, 128] inb_S64x1024_S64x128_0_896, k0_pay108 (F := Ideal) W⟩,
        ⟨Rect.unit ![0, 768] ![64, 128] inb_S64x1024_S64x128_0_768, k0_pay107 (F := Ideal) W⟩,
        ⟨Rect.unit ![0, 640] ![64, 128] inb_S64x1024_S64x128_0_640, k0_pay106 (F := Ideal) W⟩,
        ⟨Rect.unit ![0, 512] ![64, 128] inb_S64x1024_S64x128_0_512, k0_pay105 (F := Ideal) W⟩,
        ⟨Rect.unit ![0, 384] ![64, 128] inb_S64x1024_S64x128_0_384, k0_pay104 (F := Ideal) W⟩,
        ⟨Rect.unit ![0, 256] ![64, 128] inb_S64x1024_S64x128_0_256, k0_pay103 (F := Ideal) W⟩,
        ⟨Rect.unit ![0, 128] ![64, 128] inb_S64x1024_S64x128_0_128, k0_pay102 (F := Ideal) W⟩,
        ⟨Rect.unit ![0, 0] ![64, 128] inb_S64x1024_S64x128_0_0, k0_pay101 (F := Ideal) W⟩]
      : S64x1024.Idx → EReal) (ix2 i (lane h d)) = f (C h) i d := by
  rw [← hW h i d]
  canon_tiles x hx
  all_goals
    have e0 : (i : ℕ) = _ := hx0
    have e1 : (h : ℕ) * 128 + (d : ℕ) = _ := hx1
    pointwise [k0_pay101, k0_pay102, k0_pay103, k0_pay104, k0_pay105, k0_pay106, k0_pay107, k0_pay108]
    refine congrArg W ?_
    blk_ext [lane]

theorem dk {W : S8x64x128.Idx → EReal} (hW : Rows C W f) (h : Fin 8) (i : Fin 64) (d : Fin 128) :
    (View.canon (Val := Elt Ideal) (s := S64x1024) (e := .f32) [⟨Rect.unit ![0, 896] ![64, 128] inb_S64x1024_S64x128_0_896, k0_pay116 (F := Ideal) W⟩,
        ⟨Rect.unit ![0, 768] ![64, 128] inb_S64x1024_S64x128_0_768, k0_pay115 (F := Ideal) W⟩,
        ⟨Rect.unit ![0, 640] ![64, 128] inb_S64x1024_S64x128_0_640, k0_pay114 (F := Ideal) W⟩,
        ⟨Rect.unit ![0, 512] ![64, 128] inb_S64x1024_S64x128_0_512, k0_pay113 (F := Ideal) W⟩,
        ⟨Rect.unit ![0, 384] ![64, 128] inb_S64x1024_S64x128_0_384, k0_pay112 (F := Ideal) W⟩,
        ⟨Rect.unit ![0, 256] ![64, 128] inb_S64x1024_S64x128_0_256, k0_pay111 (F := Ideal) W⟩,
        ⟨Rect.unit ![0, 128] ![64, 128] inb_S64x1024_S64x128_0_128, k0_pay110 (F := Ideal) W⟩,
        ⟨Rect.unit ![0, 0] ![64, 128] inb_S64x1024_S64x128_0_0, k0_pay109 (F := Ideal) W⟩]
      : S64x1024.Idx → EReal) (ix2 i (lane h d)) = f (C h) i d := by
  rw [← hW h i d]
  canon_tiles x hx
  all_goals
    have e0 : (i : ℕ) = _ := hx0
    have e1 : (h : ℕ) * 128 + (d : ℕ) = _ := hx1
    pointwise [k0_pay109, k0_pay110, k0_pay111, k0_pay112, k0_pay113, k0_pay114, k0_pay115, k0_pay116]
    refine congrArg W ?_
    blk_ext [lane]

theorem dv {W : S8x64x128.Idx → EReal} (hW : Rows C W f) (h : Fin 8) (i : Fin 64) (d : Fin 128) :
    (View.canon (Val := Elt Ideal) (s := S64x1024) (e := .f32) [⟨Rect.unit ![0, 896] ![64, 128] inb_S64x1024_S64x128_0_896, k0_pay4 (F := Ideal) W⟩,
        ⟨Rect.unit ![0, 768] ![64, 128] inb_S64x1024_S64x128_0_768, k0_pay3 (F := Ideal) W⟩,
        ⟨Rect.unit ![0, 640] ![64, 128] inb_S64x1024_S64x128_0_640, k0_pay2 (F := Ideal) W⟩,
        ⟨Rect.unit ![0, 512] ![64, 128] inb_S64x1024_S64x128_0_512, k0_pay1 (F := Ideal) W⟩,
        ⟨Rect.unit ![0, 384] ![64, 128] inb_S64x1024_S64x128_0_384, k0_pay120 (F := Ideal) W⟩,
        ⟨Rect.unit ![0, 256] ![64, 128] inb_S64x1024_S64x128_0_256, k0_pay119 (F := Ideal) W⟩,
        ⟨Rect.unit ![0, 128] ![64, 128] inb_S64x1024_S64x128_0_128, k0_pay118 (F := Ideal) W⟩,
        ⟨Rect.unit ![0, 0] ![64, 128] inb_S64x1024_S64x128_0_0, k0_pay117 (F := Ideal) W⟩]
      : S64x1024.Idx → EReal) (ix2 i (lane h d)) = f (C h) i d := by
  rw [← hW h i d]
  canon_tiles x hx
  all_goals
    have e0 : (i : ℕ) = _ := hx0
    have e1 : (h : ℕ) * 128 + (d : ℕ) = _ := hx1
    pointwise [k0_pay117, k0_pay118, k0_pay119, k0_pay120, k0_pay1, k0_pay2, k0_pay3, k0_pay4]
    refine congrArg W ?_
    blk_ext [lane]

theorem dbeta {W : S8x1x64.Idx → EReal} (hW : Row C W Chunk.dbeta) (h : Fin 8) (i : Fin 64) :
    k0_pay5 (F := Ideal) W (ix4 h 0 0 i) = (C h).dbeta i := by
  pointwise [k0_pay5]
  exact hW h i

theorem dg {W : S8x1x64.Idx → EReal} (hW : Row C W Chunk.dg) (h : Fin 8) (i : Fin 64) :
    k0_pay6 (F := Ideal) W (ix4 h 0 0 i) = (C h).dg i := by
  pointwise [k0_pay6]
  exact hW h i

theorem dS {W : S8x128x128.Idx → EReal} (hW : Matrix C W Chunk.dSnew) : Matrix C (k0_pay100 (F := Ideal) W) Chunk.dSnew := by
  intro h d e
  pointwise [k0_pay100]
  exact hW h d e

end Cert.Delta.KernelLoads
-- ==== Proof.Delta.KernelBlocks.lean ====
/- What each grid point reads and leaves behind: the blocks read hold the chunk 64 − t, the scratch holds the gradient of the
   state carried to the chunk before. -/
module

public import proofs.«01_k».proof.Proof.Gen.KernelIdeal.Value
public import proofs.«01_k».proof.Proof.Delta.KernelLoads

@[expose] public section

set_option maxRecDepth 16384

noncomputable section

namespace Cert.Delta.KernelBlocks

open Idealize.ShloMosaic Idealize.ShloMosaic.Pointwise Idealize.SL.Sem Cert.KernelIdeal Cert.KernelIdeal.Gen
open Cert.KernelIdeal.Value
open Cert.Delta.KernelChunk (Rows Square Column Row Matrix Single)

variable (m : (ℓ : Loc nD τ sig) → Buf (Elt Ideal) ℓ)

/-- The arrays the kernel is given. -/
def inputs (c : Dev nD) : Inputs where
  s0s := m ((c.tc : Thread nD τ).loc main_arg0)
  invs := m ((c.tc : Thread nD τ).loc main_arg1)
  q := m ((c.tc : Thread nD τ).loc main_arg2)
  k := m ((c.tc : Thread nD τ).loc main_arg3)
  v := m ((c.tc : Thread nD τ).loc main_arg4)
  beta := m ((c.tc : Thread nD τ).loc main_arg5)
  g := m ((c.tc : Thread nD τ).loc main_arg6)
  dO := m ((c.tc : Thread nD τ).loc main_arg7)

/-- The chunk of head `h` that point `t` works on, the gradient of its final state being `dS`. -/
def chunkAt (c : Dev nD) (t : Nat) (dS : Fin 8 → Fin 128 → Fin 128 → EReal) : Fin 8 → Chunk :=
  fun h => (inputs m c).chunk (back t) dS h

theorem idx : ∀ t : Fin cfg0.N, win0_0.index t = ![0, 64 - t.val, 0, 0] ∧ win0_1.index t = ![0, 64 - t.val, 0, 0]
    ∧ win0_2.index t = ![64 - t.val, 0] ∧ win0_3.index t = ![64 - t.val, 0] ∧ win0_4.index t = ![64 - t.val, 0]
    ∧ win0_5.index t = ![0, 64 - t.val, 0, 0] ∧ win0_6.index t = ![0, 64 - t.val, 0, 0] ∧ win0_7.index t = ![64 - t.val, 0]
    ∧ win0_8.index t = ![64 - t.val, 0] ∧ win0_9.index t = ![64 - t.val, 0] ∧ win0_10.index t = ![64 - t.val, 0]
    ∧ win0_11.index t = ![0, 64 - t.val, 0, 0] ∧ win0_12.index t = ![0, 64 - t.val, 0, 0] :=
  (by decide +kernel : ∀ t : Fin grid0.N, _)

section
variable {m} {c : Dev nD} {t : Fin cfg0.N} {dS : Fin 8 → Fin 128 → Fin 128 → EReal}

theorem readS (h : Fin 8) (d e : Fin 128) :
    (iblk m c 0 t : S8x1x128x128.Idx → EReal) (ix4 h 0 d e) = (chunkAt m c t.val dS h).S d e := by
  refine Eq.trans (b := m ((c.tc : Thread nD τ).loc main_arg0) (ix4 h (back t.val) d e)) ?_ rfl
  blk_ext [iblk, V, idx t, back]

theorem readT (h : Fin 8) (i j : Fin 64) :
    (iblk m c 1 t : S8x1x64x64.Idx → EReal) (ix4 h 0 i j) = (chunkAt m c t.val dS h).T i j := by
  refine Eq.trans (b := m ((c.tc : Thread nD τ).loc main_arg1) (ix4 h (back t.val) i j)) ?_ rfl
  blk_ext [iblk, V, idx t, back]

theorem readq (h : Fin 8) (i : Fin 64) (d : Fin 128) :
    (iblk m c 2 t : S64x1024.Idx → EReal) (ix2 i (lane h d)) = (chunkAt m c t.val dS h).q i d := by
  refine Eq.trans (b := m ((c.tc : Thread nD τ).loc main_arg2) (ix2 (row (back t.val) i) (lane h d))) ?_ rfl
  blk_ext [iblk, V, idx t, back, row, lane]

theorem readk (h : Fin 8) (i : Fin 64) (d : Fin 128) :
    (iblk m c 3 t : S64x1024.Idx → EReal) (ix2 i (lane h d)) = (chunkAt m c t.val dS h).k i d := by
  refine Eq.trans (b := m ((c.tc : Thread nD τ).loc main_arg3) (ix2 (row (back t.val) i) (lane h d))) ?_ rfl
  blk_ext [iblk, V, idx t, back, row, lane]

theorem readv (h : Fin 8) (i : Fin 64) (d : Fin 128) :
    (iblk m c 4 t : S64x1024.Idx → EReal) (ix2 i (lane h d)) = (chunkAt m c t.val dS h).v i d := by
  refine Eq.trans (b := m ((c.tc : Thread nD τ).loc main_arg4) (ix2 (row (back t.val) i) (lane h d))) ?_ rfl
  blk_ext [iblk, V, idx t, back, row, lane]

theorem readb (h : Fin 8) (i : Fin 64) :
    (iblk m c 5 t : S8x1x1x64.Idx → EReal) (ix4 h 0 0 i) = (chunkAt m c t.val dS h).beta i := by
  refine Eq.trans (b := m ((c.tc : Thread nD τ).loc main_arg5) (ix2 (row (back t.val) i) h)) ?_ rfl
  have e : (win0_5.blk t).view.emb (ix4 h 0 0 i) = ix4 h (back t.val) 0 i := by blk_ext [idx t, back]
  refine Eq.trans (b := (V m c main_v1 : S8x65x1x64.Idx → EReal) (ix4 h (back t.val) 0 i)) ?_ ?_
  · rw [← e]
    blk_simp [iblk]
  entry_read
  pointwise
  refine congrArg _ ?_
  blk_ext [row]

theorem readg (h : Fin 8) (i : Fin 64) :
    (iblk m c 6 t : S8x1x1x64.Idx → EReal) (ix4 h 0 0 i) = (chunkAt m c t.val dS h).g i := by
  refine Eq.trans (b := m ((c.tc : Thread nD τ).loc main_arg6) (ix2 (row (back t.val) i) h)) ?_ rfl
  have e : (win0_6.blk t).view.emb (ix4 h 0 0 i) = ix4 h (back t.val) 0 i := by blk_ext [idx t, back]
  refine Eq.trans (b := (V m c main_v3 : S8x65x1x64.Idx → EReal) (ix4 h (back t.val) 0 i)) ?_ ?_
  · rw [← e]
    blk_simp [iblk]
  entry_read
  pointwise
  refine congrArg _ ?_
  blk_ext [row]

theorem readO (h : Fin 8) (i : Fin 64) (d : Fin 128) :
    (iblk m c 7 t : S64x1024.Idx → EReal) (ix2 i (lane h d)) = (chunkAt m c t.val dS h).dO i d := by
  refine Eq.trans (b := m ((c.tc : Thread nD τ).loc main_arg7) (ix2 (row (back t.val) i) (lane h d))) ?_ rfl
  blk_ext [iblk, V, idx t, back, row, lane]

end
end Cert.Delta.KernelBlocks
-- ==== Proof.Delta.KernelPoint.lean ====
/- The kernel at one grid point: each output block and the scratch it leaves, read at an index, is a quantity of the chunk the point
   works on; and, by induction over the points, the scratch before point `t` holds the gradient carried down to it. -/
module

public import proofs.«01_k».proof.Proof.Delta.KernelBlocks
public import Idealize.ShloMosaic.Lib.Pipeline.ReadBack

@[expose] public section

set_option maxRecDepth 16384

noncomputable section

namespace Cert.Delta.KernelPoint

open Idealize.ShloMosaic Idealize.ShloMosaic.Pointwise Idealize.SL.Sem Cert.KernelIdeal Cert.KernelIdeal.Gen
open Cert.KernelIdeal.Value
open Cert.Delta.KernelChunk (Rows Square Column Row Matrix Single)
open Cert.Delta.KernelBlocks (inputs chunkAt readS readT readq readk readv readb readg readO)

variable (m : (ℓ : Loc nD τ sig) → Buf (Elt Ideal) ℓ)

/-- What point `t` leaves when the gradient of its chunk's final state is `dS`: the scratch holds the gradient of the state before
    the chunk, the five output blocks the gradients of the chunk's rows, lane `h * 128 + d` being lane `d` of head `h`. -/
structure Leaves (c : Dev nD) (t : Fin cfg0.N) (dS : Fin 8 → Fin 128 → Fin 128 → EReal) : Prop where
  dSnew : ∀ h d e, ((outsAt0 m c t.val t.isLt).2.2.2.2.2 : S8x128x128.Idx → EReal) (ix3 h d e) = (chunkAt m c t.val dS h).dSnew d e
  dq : ∀ h i d, ((outsAt0 m c t.val t.isLt).1 : S64x1024.Idx → EReal) (ix2 i (lane h d)) = (chunkAt m c t.val dS h).dq i d
  dk : ∀ h i d, ((outsAt0 m c t.val t.isLt).2.1 : S64x1024.Idx → EReal) (ix2 i (lane h d)) = (chunkAt m c t.val dS h).dk i d
  dv : ∀ h i d, ((outsAt0 m c t.val t.isLt).2.2.1 : S64x1024.Idx → EReal) (ix2 i (lane h d)) = (chunkAt m c t.val dS h).dv i d
  dbeta : ∀ h i, ((outsAt0 m c t.val t.isLt).2.2.2.1 : S8x1x1x64.Idx → EReal) (ix4 h 0 0 i) = (chunkAt m c t.val dS h).dbeta i
  dg : ∀ h i, ((outsAt0 m c t.val t.isLt).2.2.2.2.1 : S8x1x1x64.Idx → EReal) (ix4 h 0 0 i) = (chunkAt m c t.val dS h).dg i

/-- The first point clears the scratch. -/
theorem zero (c : Dev nD) (t : Nat) : Matrix (chunkAt m c t 0) (k0_pay7 (F := Ideal)) Chunk.dS := by
  intro h d e
  pointwise [k0_pay7]
  rfl

set_option maxHeartbeats 1000000 in
theorem leaves_A (c : Dev nD) (t : Fin cfg0.N) (h0 : t.val % 65 = 0) : Leaves m c t 0 := by
  have hD := zero m c t.val
  have hq := KernelLoads.q (C := chunkAt m c t.val 0) (readq (m := m) (c := c) (t := t))
  have hk := KernelLoads.k (C := chunkAt m c t.val 0) (readk (m := m) (c := c) (t := t))
  have hv := KernelLoads.v (C := chunkAt m c t.val 0) (readv (m := m) (c := c) (t := t))
  have hO := KernelLoads.dO (C := chunkAt m c t.val 0) (readO (m := m) (c := c) (t := t))
  have hb := KernelChunk.beta (KernelLoads.beta (C := chunkAt m c t.val 0) (readb (m := m) (c := c) (t := t)))
  have hr := KernelLoads.g (C := chunkAt m c t.val 0) (readg (m := m) (c := c) (t := t))
  have hT := KernelLoads.T (C := chunkAt m c t.val 0) (readT (m := m) (c := c) (t := t))
  have hS := KernelLoads.S (C := chunkAt m c t.val 0) (readS (m := m) (c := c) (t := t))
  have hg := KernelChunk.g hr
  have hw := KernelChunk.gwide hr
  have hgc := KernelChunk.gc hw
  have hed := KernelChunk.ediff hg hw
  have hdec := KernelChunk.decay hg hw
  have heg := KernelChunk.eg' hgc
  have heg' := KernelChunk.eg hw
  have het := KernelChunk.etail hg hgc
  have hkb := KernelChunk.kb hk hb
  have hvb := KernelChunk.vb hv hb
  have hkk := KernelChunk.kk hk hb
  have hu := KernelChunk.u hv hT hb
  have hkbg := KernelChunk.kbg hk hb hw
  have hwk := KernelChunk.wk hk hT hb hw
  have hq16 := KernelChunk.q16 hq
  have hqk := KernelChunk.qk hk hq16
  have hdkt := KernelChunk.dktail hS hu hwk hD
  have hdl := KernelChunk.deglast hS hg hD
  have hda := KernelChunk.dattn hO hS hu hwk
  have hdv := KernelChunk.dvnew hk hO hg hgc hdec hq16 hD
  have hdqg := KernelChunk.dqg hO hS
  have hdS := KernelChunk.dSnew hwk hdv (KernelChunk.dSfirst hq hO hg hgc hD)
  have hT1 := KernelChunk.dT1 hS hkbg hdv
  have hdkbg := KernelChunk.dkbg hT hS hdv
  have hdq := KernelChunk.dq hk hdec heg hda hdqg
  have hdk := KernelChunk.dk hk hT hb hdec hkb hvb heg' hdv (KernelChunk.dk1 hq hdec het hdkt hda) hT1 hdkbg
  have hdvv := KernelChunk.dv hT hb hdv
  have hdb := KernelChunk.dbetaRow (KernelChunk.dbeta hk hv hT hdec hvb heg' hdv hT1 hdkbg)
  have hdg := KernelChunk.dg hed (KernelChunk.dglast hk het hdkt hdl)
    (KernelChunk.dgrow heg' (KernelChunk.dgrow1 hq hk heg het hdkt hdqg) (KernelChunk.kbdkbg hT hS hkb hdv))
    (KernelChunk.ddecay hT hvb hkk hdv (KernelChunk.ddiff1 hqk hda) hT1)
  refine ⟨?_, ?_, ?_, ?_, ?_, ?_⟩
  · rw [outsAt0_A m c t h0]; intro h d e; frame_out; exact KernelLoads.dS hdS h d e
  · rw [outsAt0_A m c t h0]; intro h i d; frame_out; exact KernelLoads.dq hdq h i d
  · rw [outsAt0_A m c t h0]; intro h i d; frame_out; exact KernelLoads.dk hdk h i d
  · rw [outsAt0_A m c t h0]; intro h i d; frame_out; exact KernelLoads.dv hdvv h i d
  · rw [outsAt0_A m c t h0]; intro h i; frame_out; exact KernelLoads.dbeta hdb h i
  · rw [outsAt0_A m c t h0]; intro h i; frame_out; exact KernelLoads.dg hdg h i

set_option maxHeartbeats 1000000 in
theorem leaves_B (c : Dev nD) (t : Fin cfg0.N) (h0 : ¬ t.val % 65 = 0) (dS : Fin 8 → Fin 128 → Fin 128 → EReal)
    (hD : Matrix (chunkAt m c t.val dS)
      (outsAt0 m c (t.val - 1) (Nat.lt_of_le_of_lt (Nat.sub_le t.val 1) t.isLt)).2.2.2.2.2 Chunk.dS) : Leaves m c t dS := by
  replace hD : Matrix (chunkAt m c t.val dS) (View.read (Elt Ideal) (View.whole cc0_scratch0)
      ((Memref.isWhole_whole cc0_scratch0).unread
        (outsAt0 m c (t.val - 1) (Nat.lt_of_le_of_lt (Nat.sub_le t.val 1) t.isLt)).2.2.2.2.2)) Chunk.dS := by
    rw [read_unread_whole]
    exact hD
  have hq := KernelLoads.q (C := chunkAt m c t.val dS) (readq (m := m) (c := c) (t := t))
  have hk := KernelLoads.k (C := chunkAt m c t.val dS) (readk (m := m) (c := c) (t := t))
  have hv := KernelLoads.v (C := chunkAt m c t.val dS) (readv (m := m) (c := c) (t := t))
  have hO := KernelLoads.dO (C := chunkAt m c t.val dS) (readO (m := m) (c := c) (t := t))
  have hb := KernelChunk.beta (KernelLoads.beta (C := chunkAt m c t.val dS) (readb (m := m) (c := c) (t := t)))
  have hr := KernelLoads.g (C := chunkAt m c t.val dS) (readg (m := m) (c := c) (t := t))
  have hT := KernelLoads.T (C := chunkAt m c t.val dS) (readT (m := m) (c := c) (t := t))
  have hS := KernelLoads.S (C := chunkAt m c t.val dS) (readS (m := m) (c := c) (t := t))
  have hg := KernelChunk.g hr
  have hw := KernelChunk.gwide hr
  have hgc := KernelChunk.gc hw
  have hed := KernelChunk.ediff hg hw
  have hdec := KernelChunk.decay hg hw
  have heg := KernelChunk.eg' hgc
  have heg' := KernelChunk.eg hw
  have het := KernelChunk.etail hg hgc
  have hkb := KernelChunk.kb hk hb
  have hvb := KernelChunk.vb hv hb
  have hkk := KernelChunk.kk hk hb
  have hu := KernelChunk.u hv hT hb
  have hkbg := KernelChunk.kbg hk hb hw
  have hwk := KernelChunk.wk hk hT hb hw
  have hq16 := KernelChunk.q16 hq
  have hqk := KernelChunk.qk hk hq16
  have hdkt := KernelChunk.dktail hS hu hwk hD
  have hdl := KernelChunk.deglast hS hg hD
  have hda := KernelChunk.dattn hO hS hu hwk
  have hdv := KernelChunk.dvnew hk hO hg hgc hdec hq16 hD
  have hdqg := KernelChunk.dqg hO hS
  have hdS := KernelChunk.dSnew hwk hdv (KernelChunk.dSfirst hq hO hg hgc hD)
  have hT1 := KernelChunk.dT1 hS hkbg hdv
  have hdkbg := KernelChunk.dkbg hT hS hdv
  have hdq := KernelChunk.dq hk hdec heg hda hdqg
  have hdk := KernelChunk.dk hk hT hb hdec hkb hvb heg' hdv (KernelChunk.dk1 hq hdec het hdkt hda) hT1 hdkbg
  have hdvv := KernelChunk.dv hT hb hdv
  have hdb := KernelChunk.dbetaRow (KernelChunk.dbeta hk hv hT hdec hvb heg' hdv hT1 hdkbg)
  have hdg := KernelChunk.dg hed (KernelChunk.dglast hk het hdkt hdl)
    (KernelChunk.dgrow heg' (KernelChunk.dgrow1 hq hk heg het hdkt hdqg) (KernelChunk.kbdkbg hT hS hkb hdv))
    (KernelChunk.ddecay hT hvb hkk hdv (KernelChunk.ddiff1 hqk hda) hT1)
  refine ⟨?_, ?_, ?_, ?_, ?_, ?_⟩
  · rw [outsAt0_B m c t h0]; intro h d e; frame_out; exact KernelLoads.dS hdS h d e
  · rw [outsAt0_B m c t h0]; intro h i d; frame_out; exact KernelLoads.dq hdq h i d
  · rw [outsAt0_B m c t h0]; intro h i d; frame_out; exact KernelLoads.dk hdk h i d
  · rw [outsAt0_B m c t h0]; intro h i d; frame_out; exact KernelLoads.dv hdvv h i d
  · rw [outsAt0_B m c t h0]; intro h i; frame_out; exact KernelLoads.dbeta hdb h i
  · rw [outsAt0_B m c t h0]; intro h i; frame_out; exact KernelLoads.dg hdg h i

/-- Every point works with the gradient carried down to its chunk. -/
theorem leaves (c : Dev nD) : ∀ (n : Nat) (hn : n < cfg0.N), Leaves m c ⟨n, hn⟩ ((inputs m c).carry n)
  | 0, hn => leaves_A m c ⟨0, hn⟩ rfl
  | n + 1, hn => by
      have hN : n + 1 < 65 := lt_of_lt_of_eq hn (by decide +kernel)
      refine leaves_B m c ⟨n + 1, hn⟩ (by show ¬ (n + 1) % 65 = 0; omega) _ fun h d e => ?_
      exact (leaves c n (Nat.lt_of_succ_lt hn)).dSnew h d e

end Cert.Delta.KernelPoint
-- ==== Proof.Delta.KernelArrays.lean ====
/- What the kernel's result arrays hold after the run: every row of them is a gradient of the chunk the row lies in. -/
module

public import proofs.«01_k».proof.Proof.Delta.KernelPoint

@[expose] public section

set_option maxRecDepth 16384

noncomputable section

namespace Cert.Delta.KernelArrays

open Idealize.ShloMosaic Idealize.ShloMosaic.Pointwise Idealize.SL.Sem Cert.KernelIdeal Cert.KernelIdeal.Gen
open Cert.KernelIdeal.Value
open Cert.Delta.KernelBlocks (inputs chunkAt idx)
open Cert.Delta.KernelPoint (leaves)

variable (m : (ℓ : Loc nD τ sig) → Buf (Elt Ideal) ℓ)

/-- The point that works on chunk `n`. -/
def point (n : Fin 65) : Fin cfg0.N := ⟨64 - n.val, lt_of_lt_of_eq (by omega : 64 - n.val < 65) (by decide +kernel)⟩

theorem chunk_point (c : Dev nD) (n : Fin 65) (h : Fin 8) :
    chunkAt m c (point n).val ((inputs m c).carry (point n).val) h = (inputs m c).at_ n h := by
  show (inputs m c).chunk (back (64 - n.val)) _ h = _
  rw [back_sub]
  rfl

theorem flush8 : ∀ t : Fin cfg0.N, (cfg0.win 8).flush t = true := (by decide +kernel : ∀ t : Fin grid0.N, _)

theorem dq_value (c : Dev nD) (n : Fin 65) (h : Fin 8) (i : Fin 64) (d : Fin 128) :
    ((dats m 0 c).arrAt 8 cfg0.N : S4160x1024.Idx → EReal) (ix2 (row n i) (lane h d)) = ((inputs m c).at_ n h).dq i d := by
  have e : (win0_8.blk (point n)).view.emb (ix2 i (lane h d)) = ix2 (row n i) (lane h d) := by
    have ht : (point n).val = 64 - n.val := rfl
    revert ht
    generalize point n = t
    intro ht
    blk_ext [idx t, row, lane]
  have hb := congrFun (blocks8 m c (point n) (flush8 _)) (ix2 i (lane h d))
  rw [flushed8] at hb
  rw [← chunk_point, ← (leaves m c (point n).val (point n).isLt).dq h i d, ← e]
  exact hb

theorem flush9 : ∀ t : Fin cfg0.N, (cfg0.win 9).flush t = true := (by decide +kernel : ∀ t : Fin grid0.N, _)

theorem dk_value (c : Dev nD) (n : Fin 65) (h : Fin 8) (i : Fin 64) (d : Fin 128) :
    ((dats m 0 c).arrAt 9 cfg0.N : S4160x1024.Idx → EReal) (ix2 (row n i) (lane h d)) = ((inputs m c).at_ n h).dk i d := by
  have e : (win0_9.blk (point n)).view.emb (ix2 i (lane h d)) = ix2 (row n i) (lane h d) := by
    have ht : (point n).val = 64 - n.val := rfl
    revert ht
    generalize point n = t
    intro ht
    blk_ext [idx t, row, lane]
  have hb := congrFun (blocks9 m c (point n) (flush9 _)) (ix2 i (lane h d))
  rw [flushed9] at hb
  rw [← chunk_point, ← (leaves m c (point n).val (point n).isLt).dk h i d, ← e]
  exact hb

theorem flush10 : ∀ t : Fin cfg0.N, (cfg0.win 10).flush t = true := (by decide +kernel : ∀ t : Fin grid0.N, _)

theorem dv_value (c : Dev nD) (n : Fin 65) (h : Fin 8) (i : Fin 64) (d : Fin 128) :
    ((dats m 0 c).arrAt 10 cfg0.N : S4160x1024.Idx → EReal) (ix2 (row n i) (lane h d)) = ((inputs m c).at_ n h).dv i d := by
  have e : (win0_10.blk (point n)).view.emb (ix2 i (lane h d)) = ix2 (row n i) (lane h d) := by
    have ht : (point n).val = 64 - n.val := rfl
    revert ht
    generalize point n = t
    intro ht
    blk_ext [idx t, row, lane]
  have hb := congrFun (blocks10 m c (point n) (flush10 _)) (ix2 i (lane h d))
  rw [flushed10] at hb
  rw [← chunk_point, ← (leaves m c (point n).val (point n).isLt).dv h i d, ← e]
  exact hb

theorem flush11 : ∀ t : Fin cfg0.N, (cfg0.win 11).flush t = true := (by decide +kernel : ∀ t : Fin grid0.N, _)

theorem dbeta_value (c : Dev nD) (n : Fin 65) (h : Fin 8) (i : Fin 64) :
    ((dats m 0 c).arrAt 11 cfg0.N : S8x65x1x64.Idx → EReal) (ix4 h n 0 i) = ((inputs m c).at_ n h).dbeta i := by
  have e : (win0_11.blk (point n)).view.emb (ix4 h 0 0 i) = ix4 h n 0 i := by
    have ht : (point n).val = 64 - n.val := rfl
    revert ht
    generalize point n = t
    intro ht
    blk_ext [idx t]
  have hb := congrFun (blocks11 m c (point n) (flush11 _)) (ix4 h 0 0 i)
  rw [flushed11] at hb
  rw [← chunk_point, ← (leaves m c (point n).val (point n).isLt).dbeta h i, ← e]
  exact hb

theorem flush12 : ∀ t : Fin cfg0.N, (cfg0.win 12).flush t = true := (by decide +kernel : ∀ t : Fin grid0.N, _)

theorem dg_value (c : Dev nD) (n : Fin 65) (h : Fin 8) (i : Fin 64) :
    ((dats m 0 c).arrAt 12 cfg0.N : S8x65x1x64.Idx → EReal) (ix4 h n 0 i) = ((inputs m c).at_ n h).dg i := by
  have e : (win0_12.blk (point n)).view.emb (ix4 h 0 0 i) = ix4 h n 0 i := by
    have ht : (point n).val = 64 - n.val := rfl
    revert ht
    generalize point n = t
    intro ht
    blk_ext [idx t]
  have hb := congrFun (blocks12 m c (point n) (flush12 _)) (ix4 h 0 0 i)
  rw [flushed12] at hb
  rw [← chunk_point, ← (leaves m c (point n).val (point n).isLt).dg h i, ← e]
  exact hb

end Cert.Delta.KernelArrays
-- ==== Proof.Delta.CumSum.lean ====
/- The host's running sum along the second axis of an array, as a window sum over the padded array, in exact arithmetic: forwards
   (the sum of the entries up to each) and backwards (of the entries from each on). -/
module

public import Idealize.ShloMosaic.Lib.Pointwise

@[expose] public section

noncomputable section

namespace Cert.Delta

open Idealize.ShloMosaic Idealize.ShloMosaic.Pointwise

/-- A fold that adds to zero, place by place of a shape, is the sum over the shape's indices. -/
theorem fold_places (W : Shape) (f : EReal → Fin W.numel → EReal) (F : W.Idx → EReal)
    (hf : ∀ r n, f r n = r + F (W.rowMajor.symm n)) :
    (List.finRange W.numel).foldl f 0 = ∑ p : W.Idx, F p := by
  have h : ∀ (l : List (Fin W.numel)) (a : EReal), l.foldl f a = a + (l.map fun n => F (W.rowMajor.symm n)).sum := by
    intro l
    induction l with
    | nil => intro a; simp
    | cons n l ih => intro a; rw [List.foldl_cons, ih, hf, List.map_cons, List.sum_cons, add_assoc]
  rw [h, zero_add, ← List.ofFn_eq_map, List.sum_ofFn]
  exact Equiv.sum_comp W.rowMajor.symm F

/-- What stands at one place of a window that begins at column `i` of row `r`, with `M` columns of padding in front. -/
def seen {A N : Nat} (M : Nat) (x : (⟨2, ![A, N]⟩ : Shape).Idx → EReal) (r : Fin A) (i l : Fin N) : EReal :=
  ∑ j : Fin N, if j.val + M = i.val + l.val then x (ix2 r j) else 0

theorem seen_inside {A N : Nat} (M : Nat) (x : (⟨2, ![A, N]⟩ : Shape).Idx → EReal) (r : Fin A) (i l j : Fin N)
    (h : j.val + M = i.val + l.val) : seen M x r i l = x (ix2 r j) := by
  unfold seen
  rw [Finset.sum_eq_single j]
  · exact if_pos h
  · intro b _ hb
    exact if_neg fun e => hb (Fin.ext (by omega))
  · intro hb
    exact absurd (Finset.mem_univ _) hb

theorem seen_outside {A N : Nat} (M : Nat) (x : (⟨2, ![A, N]⟩ : Shape).Idx → EReal) (r : Fin A) (i l : Fin N)
    (h : ∀ j : Fin N, j.val + M ≠ i.val + l.val) : seen M x r i l = 0 :=
  Finset.sum_eq_zero fun j _ => if_neg (h j)

/-- One window of the padded array, folded, is the sum of what stands at its places. -/
theorem window_fold {A N M M' : Nat} (x : (⟨2, ![A, N]⟩ : Shape).Idx → EReal) (init : (⟨0, ![]⟩ : Shape).Idx → EReal)
    (hinit : ∀ i, init i = 0)
    (h : (⟨2, ![A, N]⟩ : Shape).ReduceWindows ![1, N] ![1, 1] ![0, M] ![0, M'] ⟨2, ![A, N]⟩)
    (hu : 0 < (⟨0, ![]⟩ : Shape).numel) (r : Fin A) (i : Fin N) :
    Host.reduceWindowAdd (F := Ideal) (φ := .f32) ![1, N] ![1, 1] ![0, M] ![0, M'] x init h hu (ix2 r i)
      = ∑ l : Fin N, seen M x r i l := by
  have hr := r.isLt
  have hi := i.isLt
  unfold Host.reduceWindowAdd
  rw [Ideal.hostReduceWindowAdd_def]
  unfold Ideal.hostReduceWindowAdd Host.reduceWindow
  dsimp only
  rw [hinit]
  refine Eq.trans (fold_places ⟨2, ![1, N]⟩ _ (fun p => seen M x r i (p 1)) fun y n => ?_) ?_
  · let p : (⟨2, ![1, N]⟩ : Shape).Idx := (⟨2, ![1, N]⟩ : Shape).rowMajor.symm n
    have h0 : (p 0).val < 1 := (p 0).isLt
    have hl : (p 1).val < N := (p 1).isLt
    refine congrArg (y + ·) ?_
    split
    · next hin =>
      have h1 := hin 1
      change M ≤ i.val * 1 + (p 1).val ∧ i.val * 1 + (p 1).val - M < N at h1
      refine Eq.trans ?_ (seen_inside M x r i (p 1) ⟨i.val + (p 1).val - M, by omega⟩
        (by show i.val + (p 1).val - M + M = i.val + (p 1).val; omega)).symm
      refine congrArg x (funext fun a => Fin.ext ?_)
      match a with
      | ⟨0, _⟩ => show r.val * 1 + (p 0).val - 0 = r.val; omega
      | ⟨1, _⟩ => show i.val * 1 + (p 1).val - M = i.val + (p 1).val - M; omega
    · next hin =>
      refine (seen_outside M x r i (p 1) fun j hj => hin fun a => ?_).symm
      have hj' := j.isLt
      match a with
      | ⟨0, _⟩ => exact ⟨Nat.zero_le _, by show r.val * 1 + (p 0).val - 0 < A; omega⟩
      | ⟨1, _⟩ => exact ⟨by show M ≤ i.val * 1 + (p 1).val; omega, by show i.val * 1 + (p 1).val - M < N; omega⟩
  · rw [sum_idx2, Fin.sum_univ_one]
    rfl

/-- The running sum from the front. -/
theorem window_forward {A N M : Nat} (hM : M + 1 = N) (x : (⟨2, ![A, N]⟩ : Shape).Idx → EReal)
    (init : (⟨0, ![]⟩ : Shape).Idx → EReal) (hinit : ∀ i, init i = 0)
    (h : (⟨2, ![A, N]⟩ : Shape).ReduceWindows ![1, N] ![1, 1] ![0, M] ![0, 0] ⟨2, ![A, N]⟩)
    (hu : 0 < (⟨0, ![]⟩ : Shape).numel) (r : Fin A) (i : Fin N) :
    Host.reduceWindowAdd (F := Ideal) (φ := .f32) ![1, N] ![1, 1] ![0, M] ![0, 0] x init h hu (ix2 r i)
      = ∑ j : Fin N, if j ≤ i then x (ix2 r j) else 0 := by
  rw [window_fold x init hinit h hu r i]
  unfold seen
  rw [Finset.sum_comm]
  refine Finset.sum_congr rfl fun j _ => ?_
  have hj := j.isLt
  have hi := i.isLt
  by_cases hle : j.val ≤ i.val
  · rw [if_pos (show j ≤ i from hle), Finset.sum_eq_single (⟨j.val + M - i.val, by omega⟩ : Fin N)]
    · exact if_pos (by show j.val + M = i.val + (j.val + M - i.val); omega)
    · intro b _ hb
      exact if_neg fun e => hb (Fin.ext (by show b.val = j.val + M - i.val; omega))
    · intro hb
      exact absurd (Finset.mem_univ _) hb
  · rw [if_neg (show ¬ j ≤ i from hle)]
    exact Finset.sum_eq_zero fun l _ => if_neg fun e => hle (by have := l.isLt; omega)

/-- The running sum from the back. -/
theorem window_backward {A N M : Nat} (x : (⟨2, ![A, N]⟩ : Shape).Idx → EReal)
    (init : (⟨0, ![]⟩ : Shape).Idx → EReal) (hinit : ∀ i, init i = 0)
    (h : (⟨2, ![A, N]⟩ : Shape).ReduceWindows ![1, N] ![1, 1] ![0, 0] ![0, M] ⟨2, ![A, N]⟩)
    (hu : 0 < (⟨0, ![]⟩ : Shape).numel) (r : Fin A) (i : Fin N) :
    Host.reduceWindowAdd (F := Ideal) (φ := .f32) ![1, N] ![1, 1] ![0, 0] ![0, M] x init h hu (ix2 r i)
      = ∑ j : Fin N, if i ≤ j then x (ix2 r j) else 0 := by
  rw [window_fold x init hinit h hu r i]
  unfold seen
  rw [Finset.sum_comm]
  refine Finset.sum_congr rfl fun j _ => ?_
  have hj := j.isLt
  have hi := i.isLt
  by_cases hle : i.val ≤ j.val
  · rw [if_pos (show i ≤ j from hle), Finset.sum_eq_single (⟨j.val - i.val, by omega⟩ : Fin N)]
    · exact if_pos (by show j.val + 0 = i.val + (j.val - i.val); omega)
    · intro b _ hb
      exact if_neg fun e => hb (Fin.ext (by show b.val = j.val - i.val; omega))
    · intro hb
      exact absurd (Finset.mem_univ _) hb
  · rw [if_neg (show ¬ i ≤ j from hle)]
    exact Finset.sum_eq_zero fun l _ => if_neg fun e => hle (by omega)

end Cert.Delta

end
-- ==== Proof.Delta.StackRows.lean ====
/- One chunk's slab of an array that stacks the chunks along its first axis: reading it with a dynamic slice, and putting a new one
   in its place with a dynamic update. -/
module

public import Idealize.ShloMosaic.Lib.Pointwise

@[expose] public section

noncomputable section

namespace Cert.Delta

open Idealize.ShloMosaic Idealize.ShloMosaic.Pointwise

variable {α : Type} {A B C D : Nat}

/-- A slab read out of a stack of rank four. -/
theorem get4 (x : (⟨4, ![A, B, C, D]⟩ : Shape).Idx → α) (start : Fin 4 → Int)
    (h : (⟨4, ![A, B, C, D]⟩ : Shape).Slices (fun _ => 0) ⟨4, ![1, B, C, D]⟩) (n : Fin A)
    (h0 : start 0 = n.val) (h1 : start 1 = 0) (h2 : start 2 = 0) (h3 : start 3 = 0) (i : Fin B) (j : Fin C) (k : Fin D) :
    Host.dynamicSlice ⟨4, ![1, B, C, D]⟩ x start h (ix4 0 i j k) = x (ix4 n i j k) := by
  have hn := n.isLt
  refine congrArg x (funext fun a => Fin.ext ?_)
  match a with
  | ⟨0, _⟩ => show (min (max (start 0) 0) ((A - 1 : Nat) : Int)).toNat + 0 = n.val; omega
  | ⟨1, _⟩ => show (min (max (start 1) 0) ((B - B : Nat) : Int)).toNat + i.val = i.val; omega
  | ⟨2, _⟩ => show (min (max (start 2) 0) ((C - C : Nat) : Int)).toNat + j.val = j.val; omega
  | ⟨3, _⟩ => show (min (max (start 3) 0) ((D - D : Nat) : Int)).toNat + k.val = k.val; omega

/-- A slab read out of a stack of rank three. -/
theorem get3 (x : (⟨3, ![A, B, C]⟩ : Shape).Idx → α) (start : Fin 3 → Int)
    (h : (⟨3, ![A, B, C]⟩ : Shape).Slices (fun _ => 0) ⟨3, ![1, B, C]⟩) (n : Fin A)
    (h0 : start 0 = n.val) (h1 : start 1 = 0) (h2 : start 2 = 0) (i : Fin B) (j : Fin C) :
    Host.dynamicSlice ⟨3, ![1, B, C]⟩ x start h (ix3 0 i j) = x (ix3 n i j) := by
  have hn := n.isLt
  refine congrArg x (funext fun a => Fin.ext ?_)
  match a with
  | ⟨0, _⟩ => show (min (max (start 0) 0) ((A - 1 : Nat) : Int)).toNat + 0 = n.val; omega
  | ⟨1, _⟩ => show (min (max (start 1) 0) ((B - B : Nat) : Int)).toNat + i.val = i.val; omega
  | ⟨2, _⟩ => show (min (max (start 2) 0) ((C - C : Nat) : Int)).toNat + j.val = j.val; omega

/-- A slab put into a stack of rank four. -/
theorem put4 (x : (⟨4, ![A, B, C, D]⟩ : Shape).Idx → α) (y : (⟨4, ![1, B, C, D]⟩ : Shape).Idx → α) (start : Fin 4 → Int)
    (h : (⟨4, ![A, B, C, D]⟩ : Shape).Slices (fun _ => 0) ⟨4, ![1, B, C, D]⟩) (n : Fin A)
    (h0 : start 0 = n.val) (h1 : start 1 = 0) (h2 : start 2 = 0) (h3 : start 3 = 0) (m : Fin A) (i : Fin B) (j : Fin C) (k : Fin D) :
    Host.dynamicUpdateSlice x y start h (ix4 m i j k) = if m = n then y (ix4 0 i j k) else x (ix4 m i j k) := by
  have hn := n.isLt
  have hm := m.isLt
  have hi := i.isLt
  have hj := j.isLt
  have hk := k.isLt
  unfold Host.dynamicUpdateSlice updateSlice
  dsimp only
  by_cases hmn : m = n
  · subst hmn
    rw [if_pos rfl, dif_pos (by
      intro a
      match a with
      | ⟨0, _⟩ =>
        show (min (max (start 0) 0) ((A - 1 : Nat) : Int)).toNat ≤ m.val ∧ m.val < (min (max (start 0) 0) ((A - 1 : Nat) : Int)).toNat + 1
        omega
      | ⟨1, _⟩ =>
        show (min (max (start 1) 0) ((B - B : Nat) : Int)).toNat ≤ i.val ∧ i.val < (min (max (start 1) 0) ((B - B : Nat) : Int)).toNat + B
        omega
      | ⟨2, _⟩ =>
        show (min (max (start 2) 0) ((C - C : Nat) : Int)).toNat ≤ j.val ∧ j.val < (min (max (start 2) 0) ((C - C : Nat) : Int)).toNat + C
        omega
      | ⟨3, _⟩ =>
        show (min (max (start 3) 0) ((D - D : Nat) : Int)).toNat ≤ k.val ∧ k.val < (min (max (start 3) 0) ((D - D : Nat) : Int)).toNat + D
        omega)]
    refine congrArg y (funext fun a => Fin.ext ?_)
    match a with
    | ⟨0, _⟩ => show m.val - (min (max (start 0) 0) ((A - 1 : Nat) : Int)).toNat = 0; omega
    | ⟨1, _⟩ => show i.val - (min (max (start 1) 0) ((B - B : Nat) : Int)).toNat = i.val; omega
    | ⟨2, _⟩ => show j.val - (min (max (start 2) 0) ((C - C : Nat) : Int)).toNat = j.val; omega
    | ⟨3, _⟩ => show k.val - (min (max (start 3) 0) ((D - D : Nat) : Int)).toNat = k.val; omega
  · rw [if_neg hmn, dif_neg fun hin => hmn (Fin.ext (by
      have h0' := hin 0
      change (min (max (start 0) 0) ((A - 1 : Nat) : Int)).toNat ≤ m.val ∧ m.val < (min (max (start 0) 0) ((A - 1 : Nat) : Int)).toNat + 1 at h0'
      omega))]

/-- A slab put into a stack of rank three. -/
theorem put3 (x : (⟨3, ![A, B, C]⟩ : Shape).Idx → α) (y : (⟨3, ![1, B, C]⟩ : Shape).Idx → α) (start : Fin 3 → Int)
    (h : (⟨3, ![A, B, C]⟩ : Shape).Slices (fun _ => 0) ⟨3, ![1, B, C]⟩) (n : Fin A)
    (h0 : start 0 = n.val) (h1 : start 1 = 0) (h2 : start 2 = 0) (m : Fin A) (i : Fin B) (j : Fin C) :
    Host.dynamicUpdateSlice x y start h (ix3 m i j) = if m = n then y (ix3 0 i j) else x (ix3 m i j) := by
  have hn := n.isLt
  have hm := m.isLt
  have hi := i.isLt
  have hj := j.isLt
  unfold Host.dynamicUpdateSlice updateSlice
  dsimp only
  by_cases hmn : m = n
  · subst hmn
    rw [if_pos rfl, dif_pos (by
      intro a
      match a with
      | ⟨0, _⟩ =>
        show (min (max (start 0) 0) ((A - 1 : Nat) : Int)).toNat ≤ m.val ∧ m.val < (min (max (start 0) 0) ((A - 1 : Nat) : Int)).toNat + 1
        omega
      | ⟨1, _⟩ =>
        show (min (max (start 1) 0) ((B - B : Nat) : Int)).toNat ≤ i.val ∧ i.val < (min (max (start 1) 0) ((B - B : Nat) : Int)).toNat + B
        omega
      | ⟨2, _⟩ =>
        show (min (max (start 2) 0) ((C - C : Nat) : Int)).toNat ≤ j.val ∧ j.val < (min (max (start 2) 0) ((C - C : Nat) : Int)).toNat + C
        omega)]
    refine congrArg y (funext fun a => Fin.ext ?_)
    match a with
    | ⟨0, _⟩ => show m.val - (min (max (start 0) 0) ((A - 1 : Nat) : Int)).toNat = 0; omega
    | ⟨1, _⟩ => show i.val - (min (max (start 1) 0) ((B - B : Nat) : Int)).toNat = i.val; omega
    | ⟨2, _⟩ => show j.val - (min (max (start 2) 0) ((C - C : Nat) : Int)).toNat = j.val; omega
  · rw [if_neg hmn, dif_neg fun hin => hmn (Fin.ext (by
      have h0' := hin 0
      change (min (max (start 0) 0) ((A - 1 : Nat) : Int)).toNat ≤ m.val ∧ m.val < (min (max (start 0) 0) ((A - 1 : Nat) : Int)).toNat + 1 at h0'
      omega))]

/-- The chunk that trip `t` of 65 works on, as the loop's words compute it. -/
theorem trip_word (t : Fin 65) : (65#32 - BitVec.ofNat 32 t.val - 1#32).toInt = ((64 - t.val : Nat) : Int) := by
  revert t
  decide +kernel

end Cert.Delta

end
-- ==== Proof.Delta.RefChunk.lean ====
/- What one trip of the reference's loop over the chunks computes: each shared value of the trip, read at an index, is the quantity
   of Spec.lean of the head the index names. -/
module

public import proofs.«01_k».proof.Proof.Gen.ReferenceIdeal.Run
public import proofs.«01_k».proof.Proof.Delta.Spec
public import proofs.«01_k».proof.Proof.Delta.CumSum
public import proofs.«01_k».proof.Proof.Delta.StackRows
public import Idealize.ShloMosaic.Lib.Pointwise

@[expose] public section

set_option maxRecDepth 16384

noncomputable section

namespace Cert.Delta.RefChunk

open Idealize.ShloMosaic Idealize.ShloMosaic.Pointwise Cert.ReferenceIdeal Cert.ReferenceIdeal.Value

abbrev Rows (c : Fin 8 → Chunk) (X : S8x64x128.Idx → EReal) (f : Chunk → Fin 64 → Fin 128 → EReal) : Prop :=
  ∀ (h : Fin 8) (i : Fin 64) (d : Fin 128), X (ix3 h i d) = f (c h) i d
abbrev Square (c : Fin 8 → Chunk) (X : S8x64x64.Idx → EReal) (f : Chunk → Fin 64 → Fin 64 → EReal) : Prop :=
  ∀ (h : Fin 8) (i j : Fin 64), X (ix3 h i j) = f (c h) i j
abbrev Column (c : Fin 8 → Chunk) (X : S8x64x1.Idx → EReal) (f : Chunk → Fin 64 → EReal) : Prop :=
  ∀ (h : Fin 8) (i : Fin 64), X (ix3 h i 0) = f (c h) i
abbrev Flat (c : Fin 8 → Chunk) (X : S8x64.Idx → EReal) (f : Chunk → Fin 64 → EReal) : Prop :=
  ∀ (h : Fin 8) (i : Fin 64), X (ix2 h i) = f (c h) i
abbrev Head (c : Fin 8 → Chunk) (X : S8.Idx → EReal) (f : Chunk → EReal) : Prop :=
  ∀ h : Fin 8, X (ix1 h) = f (c h)
abbrev Matrix (c : Fin 8 → Chunk) (X : S8x128x128.Idx → EReal) (f : Chunk → Fin 128 → Fin 128 → EReal) : Prop :=
  ∀ (h : Fin 8) (d e : Fin 128), X (ix3 h d e) = f (c h) d e

/-- The device's buffers at the start of a trip whose slices are the data of the chunks `c`, one for each head. -/
structure Reads (V : Valuation τ sig (Elt Ideal)) (c : Fin 8 → Chunk) : Prop where
  S : Matrix c (res_main_while0b_v33 V) Chunk.S
  T : Square c (res_main_while0b_v34 V) Chunk.T
  q : Rows c (res_main_while0b_v35 V) Chunk.q
  k : Rows c (res_main_while0b_v36 V) Chunk.k
  v : Rows c (res_main_while0b_v37 V) Chunk.v
  beta : Flat c (res_main_while0b_v38 V) Chunk.beta
  dO : Rows c (res_main_while0b_v40 V) Chunk.dO
  gc : Flat c (res_main_while0b_v41 V) Chunk.gc
  dS : Matrix c (V (Proc.devRef .tc main_v20_9)) Chunk.dS

variable {V : Valuation τ sig (Elt Ideal)} {c : Fin 8 → Chunk} (R : Reads V c)
include R

theorem v42 : Column c (res_main_while0b_v42 V) Chunk.beta := fun h i => by
  pointwise [res_main_while0b_v42]
  exact R.beta h i
theorem v45 : Column c (res_main_while0b_v45 V) Chunk.beta := fun h i => by
  pointwise [res_main_while0b_v45]
  exact R.beta h i
theorem v44 : Rows c (res_main_while0b_v44 V) Chunk.kb := fun h i d => by
  pointwise [res_main_while0b_v44]
  simp only [R.k h, v42 R h]
  rfl
theorem v47 : Rows c (res_main_while0b_v47 V) Chunk.vb := fun h i d => by
  pointwise [res_main_while0b_v47]
  simp only [R.v h, v45 R h]
  rfl

omit R in
theorem mask64 (V : Valuation τ sig (Elt Ideal)) {α : Type} (h : Fin 8) (i j : Fin 64) (a b : α) :
    Scalar.select ((res_main_while0b_v64_1 V : S8x64x64.Idx → BitVec 1) (ix3 h i j)) a b = if j ≤ i then a else b := by
  pointwise [res_main_while0b_v64_1, res_main_while0b_v53, res_main_while0b_v48]
  exact sel_ge i j a b
omit R in
theorem mask66 (V : Valuation τ sig (Elt Ideal)) {α : Type} (h : Fin 8) (i j : Fin 64) (a b : α) :
    Scalar.select ((res_main_while0b_v66_1 V : S8x64x64.Idx → BitVec 1) (ix3 h i j)) a b = if j ≤ i then a else b := by
  pointwise [res_main_while0b_v66_1, res_main_while0b_v53, res_main_while0b_v48]
  exact sel_ge i j a b
omit R in
theorem mask69 (V : Valuation τ sig (Elt Ideal)) {α : Type} (h : Fin 8) (i j : Fin 64) (a b : α) :
    Scalar.select ((res_main_while0b_v69_1 V : S8x64x64.Idx → BitVec 1) (ix3 h i j)) a b = if j < i then a else b := by
  pointwise [res_main_while0b_v69_1, res_main_while0b_v48]
  exact sel_gt i j a b

theorem v65 : Square c (res_main_while0b_v65 V) Chunk.ediff := fun h i j => by
  pointwise [res_main_while0b_v65, id]
  simp only [mask64, R.gc h]
  rfl
theorem v66 : Square c (res_main_while0b_v66_0 V) Chunk.decay := fun h i j => by
  pointwise [res_main_while0b_v66_0, id]
  simp only [mask66, v65 R h]
  rfl
theorem v67 : Square c (res_main_while0b_v67 V) Chunk.kk := fun h i j => by
  pointwise [res_main_while0b_v67]
  simp only [v44 R h, R.k h]
  rfl
theorem v71 : Flat c (res_main_while0b_v71 V) Chunk.eg := fun h i => by
  pointwise [res_main_while0b_v71]
  simp only [R.gc h]
  rfl
theorem v78 : Flat c (res_main_while0b_v78 V) Chunk.eg := fun h i => by
  pointwise [res_main_while0b_v78]
  simp only [R.gc h]
  rfl
theorem v72 : Column c (res_main_while0b_v72 V) Chunk.eg := fun h i => by
  pointwise [res_main_while0b_v72]
  simp only [v71 R h]
theorem v79 : Column c (res_main_while0b_v79 V) Chunk.eg := fun h i => by
  pointwise [res_main_while0b_v79]
  simp only [v78 R h]
theorem v74 : Rows c (res_main_while0b_v74 V) Chunk.kbg := fun h i d => by
  pointwise [res_main_while0b_v74]
  simp only [v44 R h, v72 R h]
  rfl
theorem v75 : Rows c (res_main_while0b_v75 V) Chunk.wk := fun h i d => by
  pointwise [res_main_while0b_v75]
  simp only [R.T h, v74 R h]
  rfl
theorem v76 : Square c (res_main_while0b_v76 V) Chunk.qk := fun h i j => by
  pointwise [res_main_while0b_v76]
  simp only [R.q h, R.k h]
  rfl
theorem v77 : Square c (res_main_while0b_v77 V) Chunk.attn := fun h i j => by
  pointwise [res_main_while0b_v77]
  simp only [v76 R h, v66 R h]
  rfl
theorem v81 : Rows c (res_main_while0b_v81 V) Chunk.qg := fun h i d => by
  pointwise [res_main_while0b_v81]
  simp only [R.q h, v79 R h]
  rfl

omit R in
/-- The running sum at the last row is the whole sum. -/
theorem gc_last (c : Chunk) (i : Fin 64) (hi : i.val = 63) : c.gc i = c.glast :=
  Finset.sum_congr rfl fun j _ => if_pos (show j.val ≤ i.val by have := j.isLt; omega)
theorem v83 : Head c (res_main_while0b_v83 V) Chunk.glast := fun h => by
  pointwise [res_main_while0b_v83]
  simp only [R.gc h]
  exact gc_last (c h) _ rfl
theorem v87 : Flat c (res_main_while0b_v87 V) Chunk.etail := fun h i => by
  pointwise [res_main_while0b_v87]
  simp only [v83 R h, R.gc h]
  rfl
theorem v88 : Column c (res_main_while0b_v88 V) Chunk.etail := fun h i => by
  pointwise [res_main_while0b_v88]
  simp only [v87 R h]
theorem v90 : Rows c (res_main_while0b_v90 V) Chunk.ktail := fun h i d => by
  pointwise [res_main_while0b_v90]
  simp only [R.k h, v88 R h]
  rfl
theorem v92 : Rows c (res_main_while0b_v92 V) Chunk.vnew := fun h i d => by
  pointwise [res_main_while0b_v92]
  simp only [R.T h, v47 R h, v75 R h, R.S h]
  rfl
theorem v96 : Head c (res_main_while0b_v96 V) Chunk.eglast := fun h => by
  pointwise [res_main_while0b_v96]
  simp only [v83 R h]
  rfl
theorem v97 (h : Fin 8) : (res_main_while0b_v97 V : S8x1x1.Idx → EReal) (ix3 h 0 0) = (c h).eglast := by
  pointwise [res_main_while0b_v97]
  exact v96 R h
theorem v105 : Rows c (res_main_while0b_v105 V) Chunk.dktail := fun h i d => by
  pointwise [res_main_while0b_v105]
  simp only [R.dS h, v92 R h]
  exact Finset.sum_congr rfl fun _ _ => mul_comm _ _
theorem v115 : Rows c (res_main_while0b_v115 V) Chunk.dvnew := fun h i d => by
  pointwise [res_main_while0b_v115]
  simp only [R.dS h, v90 R h, R.dO h, v77 R h]
  exact congrArg₂ (· + ·) (Finset.sum_congr rfl fun _ _ => mul_comm _ _) (Finset.sum_congr rfl fun _ _ => mul_comm _ _)
theorem v116 : Square c (res_main_while0b_v116 V) Chunk.dattn := fun h i j => by
  pointwise [res_main_while0b_v116]
  simp only [R.dO h, v92 R h]
  rfl
theorem v120 : Rows c (res_main_while0b_v120 V) Chunk.dqg := fun h i d => by
  pointwise [res_main_while0b_v120]
  simp only [R.dO h, R.S h]
  rfl
theorem v121 (h : Fin 8) (i : Fin 64) (e : Fin 128) :
    (res_main_while0b_v121 V : S8x64x128.Idx → EReal) (ix3 h i e) = -(c h).dvnew i e := by
  pointwise [res_main_while0b_v121]
  simp only [v115 R h]
theorem v125 : Rows c (res_main_while0b_v125 V) Chunk.dwk := fun h i d => by
  pointwise [res_main_while0b_v125]
  simp only [v121 R h, R.S h]
  rfl
theorem v132 : Flat c (res_main_while0b_v132 V) Chunk.dtail := fun h i => by
  pointwise [res_main_while0b_v132]
  simp only [Fin.sum_univ_one, R.k h, v105 R h, v87 R h]
  rfl
theorem v150 : Square c (res_main_while0b_v150 V) Chunk.dscore := fun h i j => by
  pointwise [res_main_while0b_v150]
  simp only [v116 R h, v66 R h]
  rfl
theorem v156 : Rows c (res_main_while0b_v156 V) Chunk.dkbg := fun h i d => by
  pointwise [res_main_while0b_v156]
  simp only [v125 R h, R.T h]
  exact Finset.sum_congr rfl fun _ _ => mul_comm _ _
theorem v167 : Rows c (res_main_while0b_v167 V) Chunk.dvb := fun h i d => by
  pointwise [res_main_while0b_v167]
  simp only [v115 R h, R.T h]
  exact Finset.sum_congr rfl fun _ _ => mul_comm _ _
theorem v174 : Square c (res_main_while0b_v174 V) Chunk.dm := fun h i j => by
  pointwise [res_main_while0b_v174]
  simp only [mask69, R.T h, v125 R h, v74 R h, v115 R h, v47 R h]
  rfl
theorem v177 : Square c (res_main_while0b_v177 V) Chunk.dmd := fun h i j => by
  pointwise [res_main_while0b_v177]
  simp only [v174 R h, v66 R h]
  rfl
theorem v181 : Rows c (res_main_while0b_v181 V) Chunk.dkb := fun h i d => by
  pointwise [res_main_while0b_v181]
  simp only [v156 R h, v72 R h, v177 R h, R.k h]
  rfl
theorem v184 : Square c (res_main_while0b_v184 V) Chunk.ddiff := fun h i j => by
  pointwise [res_main_while0b_v184]
  simp only [mask64, mask66, v76 R h, v116 R h, v67 R h, v174 R h, v65 R h]
  unfold Chunk.ddiff
  by_cases hji : j ≤ i
  · simp only [if_pos hji]
  · simp only [if_neg hji]

theorem next_state : Matrix c (step_main_v20_9 V) Chunk.dSnew := fun h d e => by
  pointwise [step_main_v20_9, id]
  simp only [R.dS h, v97 R h, v81 R h, R.dO h, v121 R h, v75 R h]
  exact congrArg₂ (· + ·) (congrArg (_ + ·) (Finset.sum_congr rfl fun _ _ => mul_comm _ _)) (Finset.sum_congr rfl fun _ _ => mul_comm _ _)

/-- The trip puts its chunk's gradient of the queries into the stack. -/
theorem put_dq (n m : Fin 65) (hn : (res_main_while0b_v32 V (Shape.Idx.first Gen.h_S_) : BitVec 32).toInt = n.val)
    (h : Fin 8) (i : Fin 64) (d : Fin 128) :
    (step_main_v20_10 V : S65x8x64x128.Idx → EReal) (ix4 m h i d)
      = if m = n then (c h).dq i d else (V (Proc.devRef .tc main_v20_10) : S65x8x64x128.Idx → EReal) (ix4 m h i d) := by
  refine (put4 _ _ _ Gen.updateFits_S65x8x64x128_S1x8x64x128 n hn rfl rfl rfl m h i d).trans ?_
  refine if_congr Iff.rfl ?_ rfl
  pointwise
  simp only [v120 R h, v79 R h, v150 R h, R.k h]
  rfl

/-- The trip puts its chunk's gradient of the keys into the stack. -/
theorem put_dk (n m : Fin 65) (hn : (res_main_while0b_v32 V (Shape.Idx.first Gen.h_S_) : BitVec 32).toInt = n.val)
    (h : Fin 8) (i : Fin 64) (d : Fin 128) :
    (step_main_v20_11 V : S65x8x64x128.Idx → EReal) (ix4 m h i d)
      = if m = n then (c h).dk i d else (V (Proc.devRef .tc main_v20_11) : S65x8x64x128.Idx → EReal) (ix4 m h i d) := by
  refine (put4 _ _ _ Gen.updateFits_S65x8x64x128_S1x8x64x128 n hn rfl rfl rfl m h i d).trans ?_
  refine if_congr Iff.rfl ?_ rfl
  pointwise
  simp only [v105 R h, v88 R h, v150 R h, R.q h, v177 R h, v44 R h, v181 R h, v42 R h]
  rfl

/-- The trip puts its chunk's gradient of the values into the stack. -/
theorem put_dv (n m : Fin 65) (hn : (res_main_while0b_v32 V (Shape.Idx.first Gen.h_S_) : BitVec 32).toInt = n.val)
    (h : Fin 8) (i : Fin 64) (d : Fin 128) :
    (step_main_v20_12 V : S65x8x64x128.Idx → EReal) (ix4 m h i d)
      = if m = n then (c h).dv i d else (V (Proc.devRef .tc main_v20_12) : S65x8x64x128.Idx → EReal) (ix4 m h i d) := by
  refine (put4 _ _ _ Gen.updateFits_S65x8x64x128_S1x8x64x128 n hn rfl rfl rfl m h i d).trans ?_
  refine if_congr Iff.rfl ?_ rfl
  pointwise
  simp only [v167 R h, v45 R h]
  rfl

/-- The trip puts its chunk's gradient of beta into the stack. -/
theorem put_dbeta (n m : Fin 65) (hn : (res_main_while0b_v32 V (Shape.Idx.first Gen.h_S_) : BitVec 32).toInt = n.val)
    (h : Fin 8) (i : Fin 64) :
    (step_main_v20_13 V : S65x8x64.Idx → EReal) (ix3 m h i)
      = if m = n then (c h).dbeta i else (V (Proc.devRef .tc main_v20_13) : S65x8x64.Idx → EReal) (ix3 m h i) := by
  refine (put3 _ _ _ Gen.updateFits_S65x8x64_S1x8x64 n hn rfl rfl m h i).trans ?_
  refine if_congr Iff.rfl ?_ rfl
  pointwise
  simp only [Fin.sum_univ_one, R.v h, v167 R h, R.k h, v181 R h]
  rfl

omit R in
/-- The gradient of the running sum, with the last row's share added where it stands, summed from each row on. -/
theorem dg_sum (c : Chunk) (i : Fin 64) :
    (∑ x : Fin 64, if i ≤ x then
        (-c.dtail x + (if _ : 63 ≤ x.val ∧ x.val - 63 < 1 then
            (∑ d : Fin 128, ∑ e : Fin 128, c.S d e * c.dS d e) * c.eglast + ∑ y : Fin 64, c.dtail y else 0)
          + (∑ d : Fin 128, c.q x d * c.dqg x d) * c.eg x + (∑ d : Fin 128, c.kb x d * c.dkbg x d) * c.eg x
          + ∑ y : Fin 64, -c.ddiff y x) + ∑ y : Fin 64, c.ddiff x y
      else 0) = c.dg i := by
  have hx : ∀ x : Fin 64,
      (-c.dtail x + (if _ : 63 ≤ x.val ∧ x.val - 63 < 1 then
            (∑ d : Fin 128, ∑ e : Fin 128, c.S d e * c.dS d e) * c.eglast + ∑ y : Fin 64, c.dtail y else 0)
          + (∑ d : Fin 128, c.q x d * c.dqg x d) * c.eg x + (∑ d : Fin 128, c.kb x d * c.dkbg x d) * c.eg x
          + ∑ y : Fin 64, -c.ddiff y x) + ∑ y : Fin 64, c.ddiff x y
        = c.dgc x + if x = 63 then c.dglast else 0 := by
    intro x
    have hc : (if _ : 63 ≤ x.val ∧ x.val - 63 < 1 then
        (∑ d : Fin 128, ∑ e : Fin 128, c.S d e * c.dS d e) * c.eglast + ∑ y : Fin 64, c.dtail y else 0)
          = if x = 63 then c.dglast else 0 := by
      have := x.isLt
      by_cases h : x = 63
      · subst h
        rfl
      · rw [if_neg h, dif_neg fun h' => h (Fin.ext (by show x.val = 63; omega))]
    rw [hc]
    unfold Chunk.dgc Chunk.dgrow
    simp only [add_assoc, add_comm, add_left_comm]
  simp only [hx]
  rw [tail_add]
  unfold Chunk.dg
  refine congrArg (_ + ·) ?_
  rw [Finset.sum_eq_single (63 : Fin 64)]
  · rw [if_pos (show i ≤ 63 from Nat.le_of_lt_succ i.isLt), if_pos rfl]
  · intro b _ hb
    simp [hb]
  · intro hb
    exact absurd (Finset.mem_univ _) hb

/-- The trip puts its chunk's gradient of the log gates into the stack. -/
theorem put_dg (n m : Fin 65) (hn : (res_main_while0b_v32 V (Shape.Idx.first Gen.h_S_) : BitVec 32).toInt = n.val)
    (h : Fin 8) (i : Fin 64) :
    (step_main_v20_14 V : S65x8x64.Idx → EReal) (ix3 m h i)
      = if m = n then (c h).dg i else (V (Proc.devRef .tc main_v20_14) : S65x8x64.Idx → EReal) (ix3 m h i) := by
  refine (put3 _ _ _ Gen.updateFits_S65x8x64_S1x8x64 n hn rfl rfl m h i).trans ?_
  refine if_congr Iff.rfl ?_ rfl
  pointwise
  rw [window_backward _ _ (fun _ => by pointwise) _ _ h i]
  pointwise
  simp only [Fin.sum_univ_one, v132 R h, R.S h, R.dS h, v96 R h, R.q h, v120 R h, v78 R h, v44 R h, v156 R h, v71 R h, v184 R h]
  exact dg_sum (c h) i

end Cert.Delta.RefChunk

end
-- ==== Proof.Delta.RefLoop.lean ====
/- The reference's loop over the chunks: what its buffers hold after any number of trips, and so what its five results are. -/
module

public import proofs.«01_k».proof.Proof.Gen.ReferenceIdeal.Run
public import proofs.«01_k».proof.Proof.Delta.RefChunk
public import proofs.«01_k».proof.Proof.Delta.Whole
public import Idealize.ShloMosaic.Lib.Pointwise
public import Idealize.ShloMosaic.Lib.Tactic.CleanTypes

@[expose] public section

set_option maxRecDepth 65536

noncomputable section

namespace Cert.Delta.RefLoop

open Idealize.ShloMosaic Idealize.ShloMosaic.Pointwise Idealize.ShloMosaic.StableHlo Cert.ReferenceIdeal Cert.ReferenceIdeal.Gen Cert.ReferenceIdeal.Value

/-- The buffers after `t` trips, for the inputs `I`. -/
structure Holds (I : Inputs) (V : Valuation τ sig (Elt Ideal)) (t : Nat) : Prop where
  s0s (n : Fin 65) (h : Fin 8) (d e : Fin 128) :
    (V (Proc.devRef .tc main_v20_0) : S65x8x128x128.Idx → EReal) (ix4 n h d e) = I.s0s (ix4 h n d e)
  invs (n : Fin 65) (h : Fin 8) (i j : Fin 64) :
    (V (Proc.devRef .tc main_v20_1) : S65x8x64x64.Idx → EReal) (ix4 n h i j) = I.invs (ix4 h n i j)
  q (n : Fin 65) (h : Fin 8) (i : Fin 64) (d : Fin 128) :
    (V (Proc.devRef .tc main_v20_2) : S65x8x64x128.Idx → EReal) (ix4 n h i d) = I.q (ix2 (row n i) (lane h d))
  k (n : Fin 65) (h : Fin 8) (i : Fin 64) (d : Fin 128) :
    (V (Proc.devRef .tc main_v20_3) : S65x8x64x128.Idx → EReal) (ix4 n h i d) = I.k (ix2 (row n i) (lane h d))
  v (n : Fin 65) (h : Fin 8) (i : Fin 64) (d : Fin 128) :
    (V (Proc.devRef .tc main_v20_4) : S65x8x64x128.Idx → EReal) (ix4 n h i d) = I.v (ix2 (row n i) (lane h d))
  beta (n : Fin 65) (h : Fin 8) (i : Fin 64) :
    (V (Proc.devRef .tc main_v20_5) : S65x8x64.Idx → EReal) (ix3 n h i) = I.beta (ix2 (row n i) h)
  g (n : Fin 65) (h : Fin 8) (i : Fin 64) :
    (V (Proc.devRef .tc main_v20_6) : S65x8x64.Idx → EReal) (ix3 n h i) = I.g (ix2 (row n i) h)
  dO (n : Fin 65) (h : Fin 8) (i : Fin 64) (d : Fin 128) :
    (V (Proc.devRef .tc main_v20_7) : S65x8x64x128.Idx → EReal) (ix4 n h i d) = I.dO (ix2 (row n i) (lane h d))
  trip : (V (Proc.devRef .tc main_v20_8) : S_.Idx → BitVec 32) ix0 = BitVec.ofNat 32 t
  state (h : Fin 8) (d e : Fin 128) :
    (V (Proc.devRef .tc main_v20_9) : S8x128x128.Idx → EReal) (ix3 h d e) = I.carry t h d e
  dq (n : Fin 65) (hn : 65 ≤ n.val + t) (h : Fin 8) (i : Fin 64) (d : Fin 128) :
    (V (Proc.devRef .tc main_v20_10) : S65x8x64x128.Idx → EReal) (ix4 n h i d) = (I.at_ n h).dq i d
  dk (n : Fin 65) (hn : 65 ≤ n.val + t) (h : Fin 8) (i : Fin 64) (d : Fin 128) :
    (V (Proc.devRef .tc main_v20_11) : S65x8x64x128.Idx → EReal) (ix4 n h i d) = (I.at_ n h).dk i d
  dv (n : Fin 65) (hn : 65 ≤ n.val + t) (h : Fin 8) (i : Fin 64) (d : Fin 128) :
    (V (Proc.devRef .tc main_v20_12) : S65x8x64x128.Idx → EReal) (ix4 n h i d) = (I.at_ n h).dv i d
  dbeta (n : Fin 65) (hn : 65 ≤ n.val + t) (h : Fin 8) (i : Fin 64) :
    (V (Proc.devRef .tc main_v20_13) : S65x8x64.Idx → EReal) (ix3 n h i) = (I.at_ n h).dbeta i
  dg (n : Fin 65) (hn : 65 ≤ n.val + t) (h : Fin 8) (i : Fin 64) :
    (V (Proc.devRef .tc main_v20_14) : S65x8x64.Idx → EReal) (ix3 n h i) = (I.at_ n h).dg i

variable {I : Inputs} {V : Valuation τ sig (Elt Ideal)} {t : Nat}

/-- The chunk number that a trip computes. -/
theorem word (H : Holds I V t) (ht : t < 65) :
    (res_main_while0b_v32 V (Shape.Idx.first h_S_) : BitVec 32).toInt = (back t).val := by
  have e : (res_main_while0b_v32 V (Shape.Idx.first h_S_) : BitVec 32) = 65#32 - BitVec.ofNat 32 t - 1#32 := by
    pointwise [res_main_while0b_v32]
    rw [show Shape.Idx.first h_S_ = ix0 from funext fun a => a.elim0, H.trip]
    rfl
  rw [e]
  exact trip_word ⟨t, ht⟩

theorem drop_state (Y : S1x8x128x128.Idx → EReal) (h : Fin 8) (d e : Fin 128) :
    shapeCast S8x128x128 Y shapeCasts_S1x8x128x128_S8x128x128 (ix3 h d e) = Y (ix4 0 h d e) := by pointwise
theorem drop_square (Y : S1x8x64x64.Idx → EReal) (h : Fin 8) (i j : Fin 64) :
    shapeCast S8x64x64 Y shapeCasts_S1x8x64x64_S8x64x64 (ix3 h i j) = Y (ix4 0 h i j) := by pointwise
theorem drop_rows (Y : S1x8x64x128.Idx → EReal) (h : Fin 8) (i : Fin 64) (d : Fin 128) :
    shapeCast S8x64x128 Y shapeCasts_S1x8x64x128_S8x64x128 (ix3 h i d) = Y (ix4 0 h i d) := by pointwise
theorem drop_flat (Y : S1x8x64.Idx → EReal) (h : Fin 8) (i : Fin 64) :
    shapeCast S8x64 Y shapeCasts_S1x8x64_S8x64 (ix2 h i) = Y (ix3 0 h i) := by pointwise

theorem read_S (H : Holds I V t) (ht : t < 65) (h : Fin 8) (d : Fin 128) (e : Fin 128) :
    (res_main_while0b_v33 V : S8x128x128.Idx → EReal) (ix3 h d e) = (I.chunk (back t) (I.carry t) h).S d e := by
  unfold res_main_while0b_v33
  refine (drop_state _ h d e).trans ((get4 _ _ _ (back t) ?_ ?_ ?_ ?_ h d e).trans (H.s0s (back t) h d e))
  · exact word H ht
  · rfl
  · rfl
  · rfl
theorem read_T (H : Holds I V t) (ht : t < 65) (h : Fin 8) (i : Fin 64) (j : Fin 64) :
    (res_main_while0b_v34 V : S8x64x64.Idx → EReal) (ix3 h i j) = (I.chunk (back t) (I.carry t) h).T i j := by
  unfold res_main_while0b_v34
  refine (drop_square _ h i j).trans ((get4 _ _ _ (back t) ?_ ?_ ?_ ?_ h i j).trans (H.invs (back t) h i j))
  · exact word H ht
  · rfl
  · rfl
  · rfl
theorem read_q (H : Holds I V t) (ht : t < 65) (h : Fin 8) (i : Fin 64) (d : Fin 128) :
    (res_main_while0b_v35 V : S8x64x128.Idx → EReal) (ix3 h i d) = (I.chunk (back t) (I.carry t) h).q i d := by
  unfold res_main_while0b_v35
  refine (drop_rows _ h i d).trans ((get4 _ _ _ (back t) ?_ ?_ ?_ ?_ h i d).trans (H.q (back t) h i d))
  · exact word H ht
  · rfl
  · rfl
  · rfl
theorem read_k (H : Holds I V t) (ht : t < 65) (h : Fin 8) (i : Fin 64) (d : Fin 128) :
    (res_main_while0b_v36 V : S8x64x128.Idx → EReal) (ix3 h i d) = (I.chunk (back t) (I.carry t) h).k i d := by
  unfold res_main_while0b_v36
  refine (drop_rows _ h i d).trans ((get4 _ _ _ (back t) ?_ ?_ ?_ ?_ h i d).trans (H.k (back t) h i d))
  · exact word H ht
  · rfl
  · rfl
  · rfl
theorem read_v (H : Holds I V t) (ht : t < 65) (h : Fin 8) (i : Fin 64) (d : Fin 128) :
    (res_main_while0b_v37 V : S8x64x128.Idx → EReal) (ix3 h i d) = (I.chunk (back t) (I.carry t) h).v i d := by
  unfold res_main_while0b_v37
  refine (drop_rows _ h i d).trans ((get4 _ _ _ (back t) ?_ ?_ ?_ ?_ h i d).trans (H.v (back t) h i d))
  · exact word H ht
  · rfl
  · rfl
  · rfl
theorem read_dO (H : Holds I V t) (ht : t < 65) (h : Fin 8) (i : Fin 64) (d : Fin 128) :
    (res_main_while0b_v40 V : S8x64x128.Idx → EReal) (ix3 h i d) = (I.chunk (back t) (I.carry t) h).dO i d := by
  unfold res_main_while0b_v40
  refine (drop_rows _ h i d).trans ((get4 _ _ _ (back t) ?_ ?_ ?_ ?_ h i d).trans (H.dO (back t) h i d))
  · exact word H ht
  · rfl
  · rfl
  · rfl
theorem read_beta (H : Holds I V t) (ht : t < 65) (h : Fin 8) (i : Fin 64) :
    (res_main_while0b_v38 V : S8x64.Idx → EReal) (ix2 h i) = (I.chunk (back t) (I.carry t) h).beta i := by
  unfold res_main_while0b_v38
  refine (drop_flat _ h i).trans ((get3 _ _ _ (back t) ?_ ?_ ?_ h i).trans (H.beta (back t) h i))
  · exact word H ht
  · rfl
  · rfl
theorem read_gc (H : Holds I V t) (ht : t < 65) (h : Fin 8) (i : Fin 64) :
    (res_main_while0b_v41 V : S8x64.Idx → EReal) (ix2 h i) = (I.chunk (back t) (I.carry t) h).gc i := by
  unfold res_main_while0b_v41
  refine (window_forward (A := 8) (N := 64) (M := 63) rfl _ _ (fun _ => by pointwise) _ _ h i).trans ?_
  refine Finset.sum_congr rfl fun j _ => if_congr Iff.rfl ?_ rfl
  refine (drop_flat _ h j).trans ((get3 _ _ _ (back t) ?_ ?_ ?_ h j).trans (H.g (back t) h j))
  · exact word H ht
  · rfl
  · rfl

/-- A trip's slices are the data of its chunk. -/
theorem reads (H : Holds I V t) (ht : t < 65) : RefChunk.Reads V (I.chunk (back t) (I.carry t)) :=
  ⟨read_S H ht, read_T H ht, read_q H ht, read_k H ht, read_v H ht, read_beta H ht, read_dO H ht, read_gc H ht, H.state⟩

/-- What a stack holds for a chunk, once a trip has put its own chunk's part in. -/
theorem at_trip {n : Fin 65} {h : Fin 8} (f : Chunk → EReal) {old : EReal} (ht : t < 65) (hn : 65 ≤ n.val + (t + 1))
    (hold : 65 ≤ n.val + t → old = f (I.at_ n h)) :
    (if n = back t then f (I.chunk (back t) (I.carry t) h) else old) = f (I.at_ n h) := by
  by_cases e : n = back t
  · subst e
    rw [if_pos rfl]
    show _ = f (I.chunk (back t) (I.carry (64 - (64 - t))) h)
    rw [show 64 - (64 - t) = t by omega]
  · rw [if_neg e]
    refine hold ?_
    by_contra hlt
    exact e (Fin.ext (by show n.val = 64 - t; omega))

/-- A trip goes on to the next chunk. -/
theorem next (H : Holds I V t) (ht : t < 65) : Holds I (STEP V) (t + 1) where
  s0s n h d e := by rw [STEP_main_v20_0]; exact H.s0s n h d e
  invs n h i j := by rw [STEP_main_v20_1]; exact H.invs n h i j
  q n h i d := by rw [STEP_main_v20_2]; exact H.q n h i d
  k n h i d := by rw [STEP_main_v20_3]; exact H.k n h i d
  v n h i d := by rw [STEP_main_v20_4]; exact H.v n h i d
  beta n h i := by rw [STEP_main_v20_5]; exact H.beta n h i
  g n h i := by rw [STEP_main_v20_6]; exact H.g n h i
  dO n h i d := by rw [STEP_main_v20_7]; exact H.dO n h i d
  trip := by
    rw [STEP_main_v20_8]
    pointwise [step_main_v20_8, id]
    rw [H.trip]
    exact (BitVec.ofNat_add t 1).symm
  state h d e := by rw [STEP_main_v20_9]; exact RefChunk.next_state (reads H ht) h d e
  dq n hn h i d := by
    rw [STEP_main_v20_10, RefChunk.put_dq (reads H ht) (back t) n (word H ht)]
    exact at_trip (fun c => c.dq i d) ht hn fun hn => H.dq n hn h i d
  dk n hn h i d := by
    rw [STEP_main_v20_11, RefChunk.put_dk (reads H ht) (back t) n (word H ht)]
    exact at_trip (fun c => c.dk i d) ht hn fun hn => H.dk n hn h i d
  dv n hn h i d := by
    rw [STEP_main_v20_12, RefChunk.put_dv (reads H ht) (back t) n (word H ht)]
    exact at_trip (fun c => c.dv i d) ht hn fun hn => H.dv n hn h i d
  dbeta n hn h i := by
    rw [STEP_main_v20_13, RefChunk.put_dbeta (reads H ht) (back t) n (word H ht)]
    exact at_trip (fun c => c.dbeta i) ht hn fun hn => H.dbeta n hn h i
  dg n hn h i := by
    rw [STEP_main_v20_14, RefChunk.put_dg (reads H ht) (back t) n (word H ht)]
    exact at_trip (fun c => c.dg i) ht hn fun hn => H.dg n hn h i

/-! What the operations before the loop leave in its buffers. -/

section
variable (m : (ℓ : Loc nD τ sig) → ℓ.ty.Contents (Elt Ideal)) (c : Dev nD)

theorem entry_s0s (n : Fin 65) (h : Fin 8) (d : Fin 128) (e : Fin 128) :
    (entryContents preI m c (Proc.devRef .tc main_v20_0) : S65x8x128x128.Idx → EReal) (ix4 n h d e)
      = (m ((c.tc : Thread nD τ).loc main_arg0) : S8x65x128x128.Idx → EReal) (ix4 h n d e) := by
  simp only [entryContents, afterL_cons, afterL_nil]; after_reads_simp
  clean_types
  pointwise [id]
theorem entry_invs (n : Fin 65) (h : Fin 8) (i : Fin 64) (j : Fin 64) :
    (entryContents preI m c (Proc.devRef .tc main_v20_1) : S65x8x64x64.Idx → EReal) (ix4 n h i j)
      = (m ((c.tc : Thread nD τ).loc main_arg1) : S8x65x64x64.Idx → EReal) (ix4 h n i j) := by
  simp only [entryContents, afterL_cons, afterL_nil]; after_reads_simp
  clean_types
  pointwise [id]
theorem entry_q (n : Fin 65) (h : Fin 8) (i : Fin 64) (d : Fin 128) :
    (entryContents preI m c (Proc.devRef .tc main_v20_2) : S65x8x64x128.Idx → EReal) (ix4 n h i d)
      = (m ((c.tc : Thread nD τ).loc main_arg2) : S4160x1024.Idx → EReal) (ix2 (row n i) (lane h d)) := by
  simp only [entryContents, afterL_cons, afterL_nil]; after_reads_simp
  clean_types
  pointwise [id]
  rfl
theorem entry_k (n : Fin 65) (h : Fin 8) (i : Fin 64) (d : Fin 128) :
    (entryContents preI m c (Proc.devRef .tc main_v20_3) : S65x8x64x128.Idx → EReal) (ix4 n h i d)
      = (m ((c.tc : Thread nD τ).loc main_arg3) : S4160x1024.Idx → EReal) (ix2 (row n i) (lane h d)) := by
  simp only [entryContents, afterL_cons, afterL_nil]; after_reads_simp
  clean_types
  pointwise [id]
  rfl
theorem entry_v (n : Fin 65) (h : Fin 8) (i : Fin 64) (d : Fin 128) :
    (entryContents preI m c (Proc.devRef .tc main_v20_4) : S65x8x64x128.Idx → EReal) (ix4 n h i d)
      = (m ((c.tc : Thread nD τ).loc main_arg4) : S4160x1024.Idx → EReal) (ix2 (row n i) (lane h d)) := by
  simp only [entryContents, afterL_cons, afterL_nil]; after_reads_simp
  clean_types
  pointwise [id]
  rfl
theorem entry_beta (n : Fin 65) (h : Fin 8) (i : Fin 64) :
    (entryContents preI m c (Proc.devRef .tc main_v20_5) : S65x8x64.Idx → EReal) (ix3 n h i)
      = (m ((c.tc : Thread nD τ).loc main_arg5) : S4160x8.Idx → EReal) (ix2 (row n i) h) := by
  simp only [entryContents, afterL_cons, afterL_nil]; after_reads_simp
  clean_types
  pointwise [id]
  rfl
theorem entry_g (n : Fin 65) (h : Fin 8) (i : Fin 64) :
    (entryContents preI m c (Proc.devRef .tc main_v20_6) : S65x8x64.Idx → EReal) (ix3 n h i)
      = (m ((c.tc : Thread nD τ).loc main_arg6) : S4160x8.Idx → EReal) (ix2 (row n i) h) := by
  simp only [entryContents, afterL_cons, afterL_nil]; after_reads_simp
  clean_types
  pointwise [id]
  rfl
theorem entry_dO (n : Fin 65) (h : Fin 8) (i : Fin 64) (d : Fin 128) :
    (entryContents preI m c (Proc.devRef .tc main_v20_7) : S65x8x64x128.Idx → EReal) (ix4 n h i d)
      = (m ((c.tc : Thread nD τ).loc main_arg7) : S4160x1024.Idx → EReal) (ix2 (row n i) (lane h d)) := by
  simp only [entryContents, afterL_cons, afterL_nil]; after_reads_simp
  clean_types
  pointwise [id]
  rfl
theorem entry_trip : (entryContents preI m c (Proc.devRef .tc main_v20_8) : S_.Idx → BitVec 32) ix0 = BitVec.ofNat 32 0 := by
  simp only [entryContents, afterL_cons, afterL_nil]; after_reads_simp
  clean_types
  pointwise [id]
theorem entry_state (h : Fin 8) (d e : Fin 128) :
    (entryContents preI m c (Proc.devRef .tc main_v20_9) : S8x128x128.Idx → EReal) (ix3 h d e) = (0 : EReal) := by
  simp only [entryContents, afterL_cons, afterL_nil]; after_reads_simp
  clean_types
  pointwise [id]

/-- The arrays that the reference's arguments hold on a device. -/
def inputs : Inputs where
  s0s := (m ((c.tc : Thread nD τ).loc main_arg0) : S8x65x128x128.Idx → EReal)
  invs := (m ((c.tc : Thread nD τ).loc main_arg1) : S8x65x64x64.Idx → EReal)
  q := (m ((c.tc : Thread nD τ).loc main_arg2) : S4160x1024.Idx → EReal)
  k := (m ((c.tc : Thread nD τ).loc main_arg3) : S4160x1024.Idx → EReal)
  v := (m ((c.tc : Thread nD τ).loc main_arg4) : S4160x1024.Idx → EReal)
  beta := (m ((c.tc : Thread nD τ).loc main_arg5) : S4160x8.Idx → EReal)
  g := (m ((c.tc : Thread nD τ).loc main_arg6) : S4160x8.Idx → EReal)
  dO := (m ((c.tc : Thread nD τ).loc main_arg7) : S4160x1024.Idx → EReal)

theorem holds_entry : Holds (inputs m c) (entryContents preI m c) 0 where
  s0s := entry_s0s m c
  invs := entry_invs m c
  q := entry_q m c
  k := entry_k m c
  v := entry_v m c
  beta := entry_beta m c
  g := entry_g m c
  dO := entry_dO m c
  trip := entry_trip m c
  state := entry_state m c
  dq n hn := absurd n.isLt (by omega)
  dk n hn := absurd n.isLt (by omega)
  dv n hn := absurd n.isLt (by omega)
  dbeta n hn := absurd n.isLt (by omega)
  dg n hn := absurd n.isLt (by omega)

/-- The buffers after any number of trips up to the last. -/
theorem holds : ∀ k ≤ 65, Holds (inputs m c) (STEP^[k] (entryContents preI m c)) k
  | 0, _ => holds_entry m c
  | k + 1, hk => by
    rw [Function.iterate_succ_apply']
    exact next (holds k (by omega)) (by omega)

end

theorem unstack {α : Type} (X : S65x8x64x128.Idx → α) (n : Fin 65) (h : Fin 8) (i : Fin 64) (d : Fin 128)
    (p1 : (row n i).val / 64 < 65) (p2 : (lane h d).val / 128 < 8) (p3 : (row n i).val % 64 < 64) (p4 : (lane h d).val % 128 < 128) :
    X (ix4 ⟨(row n i).val / 64, p1⟩ ⟨(lane h d).val / 128, p2⟩ ⟨(row n i).val % 64, p3⟩ ⟨(lane h d).val % 128, p4⟩)
      = X (ix4 n h i d) := by
  have hi := i.isLt
  have hd := d.isLt
  have e1 : (⟨(row n i).val / 64, p1⟩ : Fin 65) = n := Fin.ext (by show (n.val * 64 + i.val) / 64 = n.val; omega)
  have e2 : (⟨(lane h d).val / 128, p2⟩ : Fin 8) = h := Fin.ext (by show (h.val * 128 + d.val) / 128 = h.val; omega)
  have e3 : (⟨(row n i).val % 64, p3⟩ : Fin 64) = i := Fin.ext (by show (n.val * 64 + i.val) % 64 = i.val; omega)
  have e4 : (⟨(lane h d).val % 128, p4⟩ : Fin 128) = d := Fin.ext (by show (h.val * 128 + d.val) % 128 = d.val; omega)
  rw [e1, e2, e3, e4]

/-! The five results, read out of the stacks. -/

theorem out_dq (V : Valuation τ sig (Elt Ideal)) (n : Fin 65) (h : Fin 8) (i : Fin 64) (d : Fin 128) :
    (out_main_v22 V : S4160x1024.Idx → EReal) (ix2 (row n i) (lane h d))
      = (V (Proc.devRef .tc main_v20_10) : S65x8x64x128.Idx → EReal) (ix4 n h i d) := by
  pointwise [out_main_v22]
  exact unstack _ n h i d _ _ _ _
theorem out_dk (V : Valuation τ sig (Elt Ideal)) (n : Fin 65) (h : Fin 8) (i : Fin 64) (d : Fin 128) :
    (out_main_v24 V : S4160x1024.Idx → EReal) (ix2 (row n i) (lane h d))
      = (V (Proc.devRef .tc main_v20_11) : S65x8x64x128.Idx → EReal) (ix4 n h i d) := by
  pointwise [out_main_v24]
  exact unstack _ n h i d _ _ _ _
theorem out_dv (V : Valuation τ sig (Elt Ideal)) (n : Fin 65) (h : Fin 8) (i : Fin 64) (d : Fin 128) :
    (out_main_v26 V : S4160x1024.Idx → EReal) (ix2 (row n i) (lane h d))
      = (V (Proc.devRef .tc main_v20_12) : S65x8x64x128.Idx → EReal) (ix4 n h i d) := by
  pointwise [out_main_v26]
  exact unstack _ n h i d _ _ _ _
theorem out_dbeta (V : Valuation τ sig (Elt Ideal)) (n : Fin 65) (h : Fin 8) (i : Fin 64) :
    (out_main_v28 V : S8x65x1x64.Idx → EReal) (ix4 h n 0 i)
      = (V (Proc.devRef .tc main_v20_13) : S65x8x64.Idx → EReal) (ix3 n h i) := by
  pointwise [out_main_v28]
theorem out_dg (V : Valuation τ sig (Elt Ideal)) (n : Fin 65) (h : Fin 8) (i : Fin 64) :
    (out_main_v30 V : S8x65x1x64.Idx → EReal) (ix4 h n 0 i)
      = (V (Proc.devRef .tc main_v20_14) : S65x8x64.Idx → EReal) (ix3 n h i) := by
  pointwise [out_main_v30]

/-! The reference's five results. -/

section
variable (m : (ℓ : Loc nD τ sig) → ℓ.ty.Contents (Elt Ideal)) (c : Dev nD)

theorem dq_value (n : Fin 65) (h : Fin 8) (i : Fin 64) (d : Fin 128) :
    (out_main_v22 (STEP^[65] (entryContents preI m c)) : S4160x1024.Idx → EReal) (ix2 (row n i) (lane h d))
      = ((inputs m c).at_ n h).dq i d :=
  (out_dq _ n h i d).trans ((holds m c 65 le_rfl).dq n (by omega) h i d)
theorem dk_value (n : Fin 65) (h : Fin 8) (i : Fin 64) (d : Fin 128) :
    (out_main_v24 (STEP^[65] (entryContents preI m c)) : S4160x1024.Idx → EReal) (ix2 (row n i) (lane h d))
      = ((inputs m c).at_ n h).dk i d :=
  (out_dk _ n h i d).trans ((holds m c 65 le_rfl).dk n (by omega) h i d)
theorem dv_value (n : Fin 65) (h : Fin 8) (i : Fin 64) (d : Fin 128) :
    (out_main_v26 (STEP^[65] (entryContents preI m c)) : S4160x1024.Idx → EReal) (ix2 (row n i) (lane h d))
      = ((inputs m c).at_ n h).dv i d :=
  (out_dv _ n h i d).trans ((holds m c 65 le_rfl).dv n (by omega) h i d)
theorem dbeta_value (n : Fin 65) (h : Fin 8) (i : Fin 64) :
    (out_main_v28 (STEP^[65] (entryContents preI m c)) : S8x65x1x64.Idx → EReal) (ix4 h n 0 i) = ((inputs m c).at_ n h).dbeta i :=
  (out_dbeta _ n h i).trans ((holds m c 65 le_rfl).dbeta n (by omega) h i)
theorem dg_value (n : Fin 65) (h : Fin 8) (i : Fin 64) :
    (out_main_v30 (STEP^[65] (entryContents preI m c)) : S8x65x1x64.Idx → EReal) (ix4 h n 0 i) = ((inputs m c).at_ n h).dg i :=
  (out_dg _ n h i).trans ((holds m c 65 le_rfl).dg n (by omega) h i)

end

end Cert.Delta.RefLoop

end
-- ==== Proof.Delta.Equation.lean ====
/- The equation: from the same arguments, the kernel's five result arrays are the reference's. -/
module

public import proofs.«01_k».proof.Proof.Delta.KernelArrays
public import proofs.«01_k».proof.Proof.Delta.RefLoop

@[expose] public section

noncomputable section

namespace Cert.Delta

open Idealize.ShloMosaic Idealize.ShloMosaic.Pointwise Idealize.SL.Sem

/-- Two arrays of 4160 rows and 1024 lanes agree when they agree at every row of every chunk and every lane of every head. -/
theorem ext_rows {X Y : (⟨2, ![4160, 1024]⟩ : Shape).Idx → EReal}
    (e : ∀ n h i d, X (ix2 (row n i) (lane h d)) = Y (ix2 (row n i) (lane h d))) : X = Y := by
  funext j
  have hj : j = ix2 (row ⟨(j 0).val / 64, by have := (j 0).isLt; simp at this; omega⟩ ⟨(j 0).val % 64, by omega⟩)
      (lane ⟨(j 1).val / 128, by have := (j 1).isLt; simp at this; omega⟩ ⟨(j 1).val % 128, by omega⟩) := by
    blk_ext [row, lane]
  rw [hj]
  exact e _ _ _ _

theorem ext_heads {X Y : (⟨4, ![8, 65, 1, 64]⟩ : Shape).Idx → EReal} (e : ∀ h n i, X (ix4 h n 0 i) = Y (ix4 h n 0 i)) : X = Y := by
  funext j
  have hj : j = ix4 (j 0) (j 1) 0 (j 3) := by blk_ext
  rw [hj]
  exact e _ _ _

section
open Cert.ReferenceIdeal.Value (out_main_v22 out_main_v24 out_main_v26 out_main_v28 out_main_v30 STEP preI)
open Cert.KernelIdeal (cfg0)
open Cert.KernelIdeal.Gen (dats)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → ℓ.ty.Contents (Elt Ideal)} {c : Fin 1}
  (e : KernelBlocks.inputs m c = RefLoop.inputs m' c)
include e

theorem dq_eq : ((dats m 0 c).arrAt 8 cfg0.N : (⟨2, ![4160, 1024]⟩ : Shape).Idx → EReal)
    = out_main_v22 (STEP^[65] (StableHlo.entryContents preI m' c)) :=
  ext_rows fun n h i d => by
    rw [KernelArrays.dq_value, e]
    exact (RefLoop.dq_value m' c n h i d).symm

theorem dk_eq : ((dats m 0 c).arrAt 9 cfg0.N : (⟨2, ![4160, 1024]⟩ : Shape).Idx → EReal)
    = out_main_v24 (STEP^[65] (StableHlo.entryContents preI m' c)) :=
  ext_rows fun n h i d => by
    rw [KernelArrays.dk_value, e]
    exact (RefLoop.dk_value m' c n h i d).symm

theorem dv_eq : ((dats m 0 c).arrAt 10 cfg0.N : (⟨2, ![4160, 1024]⟩ : Shape).Idx → EReal)
    = out_main_v26 (STEP^[65] (StableHlo.entryContents preI m' c)) :=
  ext_rows fun n h i d => by
    rw [KernelArrays.dv_value, e]
    exact (RefLoop.dv_value m' c n h i d).symm

theorem dbeta_eq : ((dats m 0 c).arrAt 11 cfg0.N : (⟨4, ![8, 65, 1, 64]⟩ : Shape).Idx → EReal)
    = out_main_v28 (STEP^[65] (StableHlo.entryContents preI m' c)) :=
  ext_heads fun h n i => by
    rw [KernelArrays.dbeta_value, e]
    exact (RefLoop.dbeta_value m' c n h i).symm

theorem dg_eq : ((dats m 0 c).arrAt 12 cfg0.N : (⟨4, ![8, 65, 1, 64]⟩ : Shape).Idx → EReal)
    = out_main_v30 (STEP^[65] (StableHlo.entryContents preI m' c)) :=
  ext_heads fun h n i => by
    rw [KernelArrays.dg_value, e]
    exact (RefLoop.dg_value m' c n h i).symm

end
end Cert.Delta
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Equations.DAct
public import proofs.«01_k».proof.Proof.Equations.DWDown
public import proofs.«01_k».proof.Proof.Equations.DWGate
public import proofs.«01_k».proof.Proof.Equations.DWUp
public import proofs.«01_k».proof.Proof.Equations.DXnGate
public import proofs.«01_k».proof.Proof.Equations.DXnUp
public import proofs.«01_k».proof.Proof.Equations.DRms
public import proofs.«01_k».proof.Proof.Equations.DWIn
public import proofs.«01_k».proof.Proof.Equations.DU
public import proofs.«01_k».proof.Proof.Equations.DWOut
public import proofs.«01_k».proof.Proof.Equations.DMerged
public import proofs.«01_k».proof.Proof.Equations.Down
public import proofs.«01_k».proof.Proof.Equations.InProj
public import proofs.«01_k».proof.Proof.Equations.OutProj
public import proofs.«01_k».proof.Proof.Equations.Rms
public import proofs.«01_k».proof.Proof.Equations.GateUp
public import proofs.«01_k».proof.Proof.Equations.DQuery
public import proofs.«01_k».proof.Proof.Equations.DKey
public import proofs.«01_k».proof.Proof.Equations.DValue
public import proofs.«01_k».proof.Proof.Equations.DShift
public import proofs.«01_k».proof.Proof.Equations.DSmallShift
public import proofs.«01_k».proof.Proof.Equations.Query
public import proofs.«01_k».proof.Proof.Equations.Key
public import proofs.«01_k».proof.Proof.Equations.Value
public import proofs.«01_k».proof.Proof.Equations.Shifted
public import proofs.«01_k».proof.Proof.Equations.Step
public import proofs.«01_k».proof.Proof.Delta.Equation
public import Idealize.ShloMosaic.Adequacy
public import Idealize.ShloMosaic.Init

@[expose] public section

noncomputable section

namespace Cert.Proof

open Idealize.ShloMosaic Idealize.SL.Sem

/-- The reference declares no semaphore, and its run ends with its arguments as they were. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- Both runs end with the same five gradients: `Cert.Delta.dq_eq` and its companions. -/
theorem gradients : Cert.algebraic_KernelIdeal_ReferenceIdeal := by
  intro m g m' g' _ hargs
  have e : ∀ c : Dev Cert.KernelIdeal.nD, Cert.Delta.KernelBlocks.inputs m c = Cert.Delta.RefLoop.inputs m' c := fun c => by
    obtain ⟨h0, h1, h2, h3, h4, h5, h6, h7⟩ := hargs c
    simp only [Cert.Delta.KernelBlocks.inputs, Cert.Delta.RefLoop.inputs]
    rw [h0, h1, h2, h3, h4, h5, h6, h7]
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks m g,
    (θ_run Cert.ReferenceIdeal.defs _ _).mono (fun r h c => ?_) (Cert.ReferenceIdeal.Value.run (F := Ideal) m' g')⟩
  obtain ⟨r0, r1, r2, r3, r4, rest⟩ := h c
  exact ⟨r0.trans (Cert.Delta.dq_eq (e c)).symm, r1.trans (Cert.Delta.dk_eq (e c)).symm, r2.trans (Cert.Delta.dv_eq (e c)).symm,
    r3.trans (Cert.Delta.dbeta_eq (e c)).symm, r4.trans (Cert.Delta.dg_eq (e c)).symm, rest⟩

/-- The claim: the facts of the programs, every run's frame, and of each kernel its idealization and its equation. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel28.Gen.facts, Cert.Kernel28Ideal.Gen.facts, Cert.Reference28Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, Cert.Products.DAct.frame_reference,
    fun m ρ _ => Cert.Kernel3.Gen.frame m ρ, fun m ρ _ => Cert.Kernel3Ideal.Gen.frame m ρ, Cert.Products.DWDown.frame_reference,
    fun m ρ _ => Cert.Kernel4.Gen.frame m ρ, fun m ρ _ => Cert.Kernel4Ideal.Gen.frame m ρ, Cert.Products.DWGate.frame_reference,
    fun m ρ _ => Cert.Kernel5.Gen.frame m ρ, fun m ρ _ => Cert.Kernel5Ideal.Gen.frame m ρ, Cert.Products.DWUp.frame_reference,
    fun m ρ _ => Cert.Kernel6.Gen.frame m ρ, fun m ρ _ => Cert.Kernel6Ideal.Gen.frame m ρ, Cert.Products.DXnGate.frame_reference,
    fun m ρ _ => Cert.Kernel7.Gen.frame m ρ, fun m ρ _ => Cert.Kernel7Ideal.Gen.frame m ρ, Cert.Products.DXnUp.frame_reference,
    fun m ρ _ => Cert.Kernel8.Gen.frame m ρ, fun m ρ _ => Cert.Kernel8Ideal.Gen.frame m ρ, Cert.Products.DRms.frame_reference,
    fun m ρ _ => Cert.Kernel9.Gen.frame m ρ, fun m ρ _ => Cert.Kernel9Ideal.Gen.frame m ρ, Cert.Products.DWIn.frame_reference,
    fun m ρ _ => Cert.Kernel10.Gen.frame m ρ, fun m ρ _ => Cert.Kernel10Ideal.Gen.frame m ρ, Cert.Products.DU.frame_reference,
    fun m ρ _ => Cert.Kernel11.Gen.frame m ρ, fun m ρ _ => Cert.Kernel11Ideal.Gen.frame m ρ, Cert.Products.DWOut.frame_reference,
    fun m ρ _ => Cert.Kernel12.Gen.frame m ρ, fun m ρ _ => Cert.Kernel12Ideal.Gen.frame m ρ, Cert.Products.DMerged.frame_reference,
    fun m ρ _ => Cert.Kernel13.Gen.frame m ρ, fun m ρ _ => Cert.Kernel13Ideal.Gen.frame m ρ, Cert.Products.Down.frame_reference,
    fun m ρ _ => Cert.Kernel14.Gen.frame m ρ, fun m ρ _ => Cert.Kernel14Ideal.Gen.frame m ρ, Cert.Products.InProj.frame_reference,
    fun m ρ _ => Cert.Kernel15.Gen.frame m ρ, fun m ρ _ => Cert.Kernel15Ideal.Gen.frame m ρ, Cert.Products.OutProj.frame_reference,
    fun m ρ _ => Cert.Kernel16.Gen.frame m ρ, fun m ρ _ => Cert.Kernel16Ideal.Gen.frame m ρ, Cert.Products.Rms.frame_reference,
    fun m ρ _ => Cert.Kernel17.Gen.frame m ρ, fun m ρ _ => Cert.Kernel17Ideal.Gen.frame m ρ, Cert.Products.GateUp.frame_reference,
    fun m ρ _ => Cert.Kernel18.Gen.frame m ρ, fun m ρ _ => Cert.Kernel18Ideal.Gen.frame m ρ, Cert.Convolution.DQuery.frame_reference,
    fun m ρ _ => Cert.Kernel19.Gen.frame m ρ, fun m ρ _ => Cert.Kernel19Ideal.Gen.frame m ρ, Cert.Convolution.DKey.frame_reference,
    fun m ρ _ => Cert.Kernel20.Gen.frame m ρ, fun m ρ _ => Cert.Kernel20Ideal.Gen.frame m ρ, Cert.Convolution.DValue.frame_reference,
    fun m ρ _ => Cert.Kernel21.Gen.frame m ρ, fun m ρ _ => Cert.Kernel21Ideal.Gen.frame m ρ, Cert.Convolution.DShift.frame_reference,
    fun m ρ _ => Cert.Kernel22.Gen.frame m ρ, fun m ρ _ => Cert.Kernel22Ideal.Gen.frame m ρ, Cert.Convolution.DSmallShift.frame_reference,
    fun m ρ _ => Cert.Kernel23.Gen.frame m ρ, fun m ρ _ => Cert.Kernel23Ideal.Gen.frame m ρ, Cert.Convolution.Query.frame_reference,
    fun m ρ _ => Cert.Kernel24.Gen.frame m ρ, fun m ρ _ => Cert.Kernel24Ideal.Gen.frame m ρ, Cert.Convolution.Key.frame_reference,
    fun m ρ _ => Cert.Kernel25.Gen.frame m ρ, fun m ρ _ => Cert.Kernel25Ideal.Gen.frame m ρ, Cert.Convolution.Value.frame_reference,
    fun m ρ _ => Cert.Kernel26.Gen.frame m ρ, fun m ρ _ => Cert.Kernel26Ideal.Gen.frame m ρ, Cert.Convolution.Shifted.frame_reference,
    fun m ρ _ => Cert.Kernel28.Gen.frame m ρ, fun m ρ _ => Cert.Kernel28Ideal.Gen.frame m ρ, Cert.Optimiser.Step.frame_reference,
    trivial, gradients, trivial, Cert.Products.DAct.equation, trivial, Cert.Products.DWDown.equation, trivial, Cert.Products.DWGate.equation,
    trivial, Cert.Products.DWUp.equation, trivial, Cert.Products.DXnGate.equation, trivial, Cert.Products.DXnUp.equation, trivial, Cert.Products.DRms.equation,
    trivial, Cert.Products.DWIn.equation, trivial, Cert.Products.DU.equation, trivial, Cert.Products.DWOut.equation, trivial, Cert.Products.DMerged.equation,
    trivial, Cert.Products.Down.equation, trivial, Cert.Products.InProj.equation, trivial, Cert.Products.OutProj.equation, trivial, Cert.Products.Rms.equation,
    trivial, Cert.Products.GateUp.equation,
    trivial, Cert.Convolution.DQuery.equation,
    trivial, Cert.Convolution.DKey.equation,
    trivial, Cert.Convolution.DValue.equation,
    trivial, Cert.Convolution.DShift.equation,
    trivial, Cert.Convolution.DSmallShift.equation,
    trivial, Cert.Convolution.Query.equation,
    trivial, Cert.Convolution.Key.equation,
    trivial, Cert.Convolution.Value.equation,
    trivial, Cert.Convolution.Shifted.equation,
    trivial, Cert.Optimiser.Step.equation⟩

end Cert.Proof

end
